-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 256, 16, 64]⟩ ⟨4, ![2, 1024, 16, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 16, 64]⟩ ⟨4, ![2, 1024, 16, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x256x512 : Shape := ⟨3, ![2, 256, 512]⟩
abbrev S512x256 : Shape := ⟨2, ![512, 256]⟩
abbrev S2x256x16x64 : Shape := ⟨4, ![2, 256, 16, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x256x16x64 : S_.BroadcastsInDim S2x256x16x64 (![] : Fin 0 → Fin S2x256x16x64.rank)
  reducesTo_S2x256x16x64_S_d0_1_2_3 : S2x256x16x64.ReducesTo [0, 1, 2, 3] S_

variable [Facts]

def fn {F : FTy → Type} [FloatOps F] (main_arg0 : FVec F S2x256x512 .f32) (main_arg1 : FVec F S512x256 .f32) (main_arg2 : FVec F S2x256x16x64 .f32) (main_arg3 : FVec F S2x256x16x64 .f32) (main_arg4 : FVec F S256x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x256x16x64 .f32 := Host.absf main_arg2
  let main_cst_2 : FVec F S_ .f32 := constant S_ .f32 0x7F800000#32
  let main_v10 : FVec F S2x256x16x64 .f32 := broadcastInDim S2x256x16x64 ![] bcast_S_S2x256x16x64 main_cst_2
  let main_v11 : IVec S2x256x16x64 1 := cmpf .olt main_v9 main_v10
  let main_c_3 : IVec S_ 1 := constantI S_ 1 1#1
  let main_v12 : IVec S_ 1 := (fun x v => Host.reduce IntOp.andi x v reducesTo_S2x256x16x64_S_d0_1_2_3 h_S_) main_v11 main_c_3
  let main_v13 : IVec S_ 1 := andi main_v8 main_v12
  main_v13
-- ==== Pre_finite_scores_ReferenceIdeal.lean ====
abbrev S2x256x512 : Shape := ⟨3, ![2, 256, 512]⟩
abbrev S512x1024 : Shape := ⟨2, ![512, 1024]⟩
abbrev S2x1024x16x64 : Shape := ⟨4, ![2, 1024, 16, 64]⟩
abbrev S1024x512 : Shape := ⟨2, ![1024, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S2x1024x16x64 : S_.BroadcastsInDim S2x1024x16x64 (![] : Fin 0 → Fin S2x1024x16x64.rank)
  reducesTo_S2x1024x16x64_S_d0_1_2_3 : S2x1024x16x64.ReducesTo [0, 1, 2, 3] S_

variable [Facts]

def fn {F : FTy → Type} [FloatOps F] (main_arg0 : FVec F S2x256x512 .f32) (main_arg1 : FVec F S512x1024 .f32) (main_arg2 : FVec F S2x1024x16x64 .f32) (main_arg3 : FVec F S2x1024x16x64 .f32) (main_arg4 : FVec F S1024x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S2x1024x16x64 .f32 := Host.absf main_arg2
  let main_cst_2 : FVec F S_ .f32 := constant S_ .f32 0x7F800000#32
  let main_v10 : FVec F S2x1024x16x64 .f32 := broadcastInDim S2x1024x16x64 ![] bcast_S_S2x1024x16x64 main_cst_2
  let main_v11 : IVec S2x1024x16x64 1 := cmpf .olt main_v9 main_v10
  let main_c_3 : IVec S_ 1 := constantI S_ 1 1#1
  let main_v12 : IVec S_ 1 := (fun x v => Host.reduce IntOp.andi x v reducesTo_S2x1024x16x64_S_d0_1_2_3 h_S_) main_v11 main_c_3
  let main_v13 : IVec S_ 1 := andi main_v8 main_v12
  main_v13
-- ==== Kernel.lean ====
abbrev S2x256x512 : Shape := ⟨3, ![2, 256, 512]⟩
abbrev S512x256 : Shape := ⟨2, ![512, 256]⟩
abbrev S2x256x16x64 : Shape := ⟨4, ![2, 256, 16, 64]⟩
abbrev S256x512 : Shape := ⟨2, ![256, 512]⟩
abbrev S2x256x1024 : Shape := ⟨3, ![2, 256, 1024]⟩
abbrev S2x256x256 : Shape := ⟨3, ![2, 256, 256]⟩
abbrev S2x128x256 : Shape := ⟨3, ![2, 128, 256]⟩
abbrev S3x2x64x512 : Shape := ⟨4, ![3, 2, 64, 512]⟩
abbrev S2x64x512 : Shape := ⟨3, ![2, 64, 512]⟩
abbrev S3x2 : Shape := ⟨2, ![3, 2]⟩
abbrev S2x2 : Shape := ⟨2, ![2, 2]⟩
abbrev S_ : Shape := ⟨0, ![]⟩
abbrev S2x256x4x64 : Shape := ⟨4, ![2, 256, 4, 64]⟩
abbrev S1x1 : Shape := ⟨2, ![1, 1]⟩
abbrev S2x128x4x64 : Shape := ⟨4, ![2, 128, 4, 64]⟩
abbrev S1x256x512 : Shape := ⟨3, ![1, 256, 512]⟩
abbrev S256x256 : Shape := ⟨2, ![256, 256]⟩
abbrev S256x64 : Shape := ⟨2, ![256, 64]⟩
abbrev S1x256x256 : Shape := ⟨3, ![1, 256, 256]⟩
abbrev S256 : Shape := ⟨1, ![256]⟩
abbrev S256x1 : Shape := ⟨2, ![256, 1]⟩
abbrev S256x128 : Shape := ⟨2, ![256, 128]⟩
abbrev S1x128x256 : Shape := ⟨3, ![1, 128, 256]⟩
abbrev S128x256 : Shape := ⟨2, ![128, 256]⟩
abbrev S128x64 : Shape := ⟨2, ![128, 64]⟩
abbrev S1x1x64x512 : Shape := ⟨4, ![1, 1, 64, 512]⟩
abbrev S64x512 : Shape := ⟨2, ![64, 512]⟩
abbrev S1x64x512 : Shape := ⟨3, ![1, 64, 512]⟩

abbrev nBuf : Space → Nat
  | .hbm => 6
  | .vmem => 16
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x256x16x64, .f32⟩
  | .hbm, ⟨3, _⟩ => ⟨S2x256x16x64, .f32⟩
  | .hbm, ⟨4, _⟩ => ⟨S256x512, .f32⟩
  | .hbm, ⟨5, _⟩ => ⟨S2x256x512, .f32⟩
  | .local _ .vmem, ⟨0, _⟩ => ⟨S2x256x512, .f32⟩
  | .local _ .vmem, ⟨1, _⟩ => ⟨S512x256, .f32⟩
  | .local _ .vmem, ⟨2, _⟩ => ⟨S2x256x16x64, .f32⟩
  | .local _ .vmem, ⟨3, _⟩ => ⟨S2x256x16x64, .f32⟩
  | .local _ .vmem, ⟨4, _⟩ => ⟨S256x512, .f32⟩
  | .local _ .vmem, ⟨5, _⟩ => ⟨S2x256x512, .f32⟩
  | .local _ .vmem, ⟨6, _⟩ => ⟨S2x256x1024, .bf16⟩
  | .local _ .vmem, ⟨7, _⟩ => ⟨S2x256x1024, .bf16⟩
  | .local _ .vmem, ⟨8, _⟩ => ⟨S2x256x256, .bf16⟩
  | .local _ .vmem, ⟨9, _⟩ => ⟨S2x256x256, .bf16⟩
  | .local _ .vmem, ⟨10, _⟩ => ⟨S2x128x256, .bf16⟩
  | .local _ .vmem, ⟨11, _⟩ => ⟨S2x128x256, .bf16⟩
  | .local _ .vmem, ⟨12, _⟩ => ⟨S2x256x512, .bf16⟩
  | .local _ .vmem, ⟨13, _⟩ => ⟨S3x2x64x512, .bf16⟩
  | .local _ .vmem, ⟨14, _⟩ => ⟨S2x64x512, .bf16⟩
  | .local _ .vmem, ⟨15, _⟩ => ⟨S3x2x64x512, .bf16⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 1 40 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_28 : BitVec 32 := 0#32
  let v43 : BitVec 1 := Scalar.cmpi .eq v2 c0_i32_28
  let v44 : BitVec 32 := Scalar.extui v43
  let c0_i32_29 : BitVec 32 := 0#32
  let v45 : BitVec 1 := Scalar.cmpi .ne v44 c0_i32_29
  v45

def k0_dev4 : Nat :=
  let c0_i32_788 : BitVec 32 := 0#32
  let c1_i32_786 : BitVec 32 := 1#32
  let c1_i32_787 : BitVec 32 := 1#32
  let v897 : BitVec 32 := Scalar.muli c1_i32_786 c1_i32_787
  let v898 : BitVec 32 := Scalar.addi c0_i32_788 v897
  v898.toNat
def k0_dev5 : Nat :=
  let c0_i32_803 : BitVec 32 := 0#32
  let c2_i32_801 : BitVec 32 := 2#32
  let c1_i32_802 : BitVec 32 := 1#32
  let v911 : BitVec 32 := Scalar.muli c2_i32_801 c1_i32_802
  let v912 : BitVec 32 := Scalar.addi c0_i32_803 v911
  v912.toNat
def k0_dev6 : Nat :=
  let c0_i32_817 : BitVec 32 := 0#32
  let c3_i32_815 : BitVec 32 := 3#32
  let c1_i32_816 : BitVec 32 := 1#32
  let v925 : BitVec 32 := Scalar.muli c3_i32_815 c1_i32_816
  let v926 : BitVec 32 := Scalar.addi c0_i32_817 v925
  v926.toNat
def k0_dev7 : Nat :=
  let c0_i32_833 : BitVec 32 := 0#32
  let c1_i32_831 : BitVec 32 := 1#32
  let c1_i32_832 : BitVec 32 := 1#32
  let v939 : BitVec 32 := Scalar.muli c1_i32_831 c1_i32_832
  let v940 : BitVec 32 := Scalar.addi c0_i32_833 v939
  v940.toNat
def k0_dev8 : Nat :=
  let c0_i32_850 : BitVec 32 := 0#32
  let c2_i32_848 : BitVec 32 := 2#32
  let c1_i32_849 : BitVec 32 := 1#32
  let v953 : BitVec 32 := Scalar.muli c2_i32_848 c1_i32_849
  let v954 : BitVec 32 := Scalar.addi c0_i32_850 v953
  v954.toNat
def k0_dev9 : Nat :=
  let c0_i32_867 : BitVec 32 := 0#32
  let c3_i32_865 : BitVec 32 := 3#32
  let c1_i32_866 : BitVec 32 := 1#32
  let v967 : BitVec 32 := Scalar.muli c3_i32_865 c1_i32_866
  let v968 : BitVec 32 := Scalar.addi c0_i32_867 v967
  v968.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_30 : BitVec 32 := 1#32
  let v46 : BitVec 1 := Scalar.cmpi .eq v2 c1_i32_30
  let v47 : BitVec 32 := Scalar.extui v46
  let c0_i32_31 : BitVec 32 := 0#32
  let v48 : BitVec 1 := Scalar.cmpi .ne v47 c0_i32_31
  v48

def k0_dev10 : Nat :=
  let c0_i32_790 : BitVec 32 := 0#32
  let c0_i32_788 : BitVec 32 := 0#32
  let c1_i32_789 : BitVec 32 := 1#32
  let v897 : BitVec 32 := Scalar.muli c0_i32_788 c1_i32_789
  let v898 : BitVec 32 := Scalar.addi c0_i32_790 v897
  v898.toNat
def k0_dev11 : Nat :=
  let c0_i32_805 : BitVec 32 := 0#32
  let c2_i32_803 : BitVec 32 := 2#32
  let c1_i32_804 : BitVec 32 := 1#32
  let v911 : BitVec 32 := Scalar.muli c2_i32_803 c1_i32_804
  let v912 : BitVec 32 := Scalar.addi c0_i32_805 v911
  v912.toNat
def k0_dev12 : Nat :=
  let c0_i32_819 : BitVec 32 := 0#32
  let c3_i32_817 : BitVec 32 := 3#32
  let c1_i32_818 : BitVec 32 := 1#32
  let v925 : BitVec 32 := Scalar.muli c3_i32_817 c1_i32_818
  let v926 : BitVec 32 := Scalar.addi c0_i32_819 v925
  v926.toNat
def k0_dev13 : Nat :=
  let c0_i32_835 : BitVec 32 := 0#32
  let c0_i32_833 : BitVec 32 := 0#32
  let c1_i32_834 : BitVec 32 := 1#32
  let v939 : BitVec 32 := Scalar.muli c0_i32_833 c1_i32_834
  let v940 : BitVec 32 := Scalar.addi c0_i32_835 v939
  v940.toNat
def k0_dev14 : Nat :=
  let c0_i32_852 : BitVec 32 := 0#32
  let c2_i32_850 : BitVec 32 := 2#32
  let c1_i32_851 : BitVec 32 := 1#32
  let v953 : BitVec 32 := Scalar.muli c2_i32_850 c1_i32_851
  let v954 : BitVec 32 := Scalar.addi c0_i32_852 v953
  v954.toNat
def k0_dev15 : Nat :=
  let c0_i32_869 : BitVec 32 := 0#32
  let c3_i32_867 : BitVec 32 := 3#32
  let c1_i32_868 : BitVec 32 := 1#32
  let v967 : BitVec 32 := Scalar.muli c3_i32_867 c1_i32_868
  let v968 : BitVec 32 := Scalar.addi c0_i32_869 v967
  v968.toNat
def k0_off1 (d0 : Dev nD) (c1_i32_128 : BitVec 32) : Fin 3 → Nat :=
  let c0_i32_151 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v295 : BitVec 32 := Scalar.addi v2 c1_i32_128
  let c4_i32_129 : BitVec 32 := 4#32
  let c0_i32_130 : BitVec 32 := 0#32
  let v296 : BitVec 1 := Scalar.cmpi .eq c4_i32_129 c0_i32_130
  let c1_i32_131 : BitVec 32 := 1#32
  let v297 : BitVec 32 := Scalar.select v296 c1_i32_131 c4_i32_129
  let v298 : BitVec 32 := Scalar.remsi v295 v297
  let c0_i32_133 : BitVec 32 := 0#32
  let v300 : BitVec 1 := Scalar.cmpi .slt v298 c0_i32_133
  let c0_i32_134 : BitVec 32 := 0#32
  let v301 : BitVec 1 := Scalar.cmpi .slt v297 c0_i32_134
  let v302 : BitVec 1 := Scalar.xori v300 v301
  let c0_i32_132 : BitVec 32 := 0#32
  let v299 : BitVec 1 := Scalar.cmpi .ne v298 c0_i32_132
  let v303 : BitVec 1 := Scalar.andi v302 v299
  let v304 : BitVec 32 := Scalar.addi v298 v297
  let v305 : BitVec 32 := Scalar.select v303 v304 v298
  let c64_i32 : BitVec 32 := 64#32
  let v306 : BitVec 32 := Scalar.muli v305 c64_i32
  let c0_i32_162 : BitVec 32 := 0#32
  ![0, v306.toNat, 0]
def k0_dev16 (d0 : Dev nD) : Nat :=
  let c0_i32_159 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_128 : BitVec 32 := 1#32
  let v295 : BitVec 32 := Scalar.addi v2 c1_i32_128
  let c4_i32_129 : BitVec 32 := 4#32
  let c0_i32_130 : BitVec 32 := 0#32
  let v296 : BitVec 1 := Scalar.cmpi .eq c4_i32_129 c0_i32_130
  let c1_i32_131 : BitVec 32 := 1#32
  let v297 : BitVec 32 := Scalar.select v296 c1_i32_131 c4_i32_129
  let v298 : BitVec 32 := Scalar.remsi v295 v297
  let c0_i32_133 : BitVec 32 := 0#32
  let v300 : BitVec 1 := Scalar.cmpi .slt v298 c0_i32_133
  let c0_i32_134 : BitVec 32 := 0#32
  let v301 : BitVec 1 := Scalar.cmpi .slt v297 c0_i32_134
  let v302 : BitVec 1 := Scalar.xori v300 v301
  let c0_i32_132 : BitVec 32 := 0#32
  let v299 : BitVec 1 := Scalar.cmpi .ne v298 c0_i32_132
  let v303 : BitVec 1 := Scalar.andi v302 v299
  let v304 : BitVec 32 := Scalar.addi v298 v297
  let v305 : BitVec 32 := Scalar.select v303 v304 v298
  let c1_i32_158 : BitVec 32 := 1#32
  let v331 : BitVec 32 := Scalar.muli v305 c1_i32_158
  let v332 : BitVec 32 := Scalar.addi c0_i32_159 v331
  v332.toNat
def k0_dev17 (d0 : Dev nD) : Nat :=
  let c0_i32_171 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_135 : BitVec 32 := 2#32
  let v307 : BitVec 32 := Scalar.addi v2 c2_i32_135
  let c4_i32_136 : BitVec 32 := 4#32
  let c0_i32_137 : BitVec 32 := 0#32
  let v308 : BitVec 1 := Scalar.cmpi .eq c4_i32_136 c0_i32_137
  let c1_i32_138 : BitVec 32 := 1#32
  let v309 : BitVec 32 := Scalar.select v308 c1_i32_138 c4_i32_136
  let v310 : BitVec 32 := Scalar.remsi v307 v309
  let c0_i32_140 : BitVec 32 := 0#32
  let v312 : BitVec 1 := Scalar.cmpi .slt v310 c0_i32_140
  let c0_i32_141 : BitVec 32 := 0#32
  let v313 : BitVec 1 := Scalar.cmpi .slt v309 c0_i32_141
  let v314 : BitVec 1 := Scalar.xori v312 v313
  let c0_i32_139 : BitVec 32 := 0#32
  let v311 : BitVec 1 := Scalar.cmpi .ne v310 c0_i32_139
  let v315 : BitVec 1 := Scalar.andi v314 v311
  let v316 : BitVec 32 := Scalar.addi v310 v309
  let v317 : BitVec 32 := Scalar.select v315 v316 v310
  let c1_i32_170 : BitVec 32 := 1#32
  let v341 : BitVec 32 := Scalar.muli v317 c1_i32_170
  let v342 : BitVec 32 := Scalar.addi c0_i32_171 v341
  v342.toNat
def k0_dev18 (d0 : Dev nD) : Nat :=
  let c0_i32_183 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_143 : BitVec 32 := 3#32
  let v319 : BitVec 32 := Scalar.addi v2 c3_i32_143
  let c4_i32_144 : BitVec 32 := 4#32
  let c0_i32_145 : BitVec 32 := 0#32
  let v320 : BitVec 1 := Scalar.cmpi .eq c4_i32_144 c0_i32_145
  let c1_i32_146 : BitVec 32 := 1#32
  let v321 : BitVec 32 := Scalar.select v320 c1_i32_146 c4_i32_144
  let v322 : BitVec 32 := Scalar.remsi v319 v321
  let c0_i32_148 : BitVec 32 := 0#32
  let v324 : BitVec 1 := Scalar.cmpi .slt v322 c0_i32_148
  let c0_i32_149 : BitVec 32 := 0#32
  let v325 : BitVec 1 := Scalar.cmpi .slt v321 c0_i32_149
  let v326 : BitVec 1 := Scalar.xori v324 v325
  let c0_i32_147 : BitVec 32 := 0#32
  let v323 : BitVec 1 := Scalar.cmpi .ne v322 c0_i32_147
  let v327 : BitVec 1 := Scalar.andi v326 v323
  let v328 : BitVec 32 := Scalar.addi v322 v321
  let v329 : BitVec 32 := Scalar.select v327 v328 v322
  let c1_i32_182 : BitVec 32 := 1#32
  let v351 : BitVec 32 := Scalar.muli v329 c1_i32_182
  let v352 : BitVec 32 := Scalar.addi c0_i32_183 v351
  v352.toNat
def k0_off2 (d0 : Dev nD) (c1_i32_201 : BitVec 32) : Fin 3 → Nat :=
  let c1_i32_225 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v393 : BitVec 32 := Scalar.addi v2 c1_i32_201
  let c4_i32_202 : BitVec 32 := 4#32
  let c0_i32_203 : BitVec 32 := 0#32
  let v394 : BitVec 1 := Scalar.cmpi .eq c4_i32_202 c0_i32_203
  let c1_i32_204 : BitVec 32 := 1#32
  let v395 : BitVec 32 := Scalar.select v394 c1_i32_204 c4_i32_202
  let v396 : BitVec 32 := Scalar.remsi v393 v395
  let c0_i32_206 : BitVec 32 := 0#32
  let v398 : BitVec 1 := Scalar.cmpi .slt v396 c0_i32_206
  let c0_i32_207 : BitVec 32 := 0#32
  let v399 : BitVec 1 := Scalar.cmpi .slt v395 c0_i32_207
  let v400 : BitVec 1 := Scalar.xori v398 v399
  let c0_i32_205 : BitVec 32 := 0#32
  let v397 : BitVec 1 := Scalar.cmpi .ne v396 c0_i32_205
  let v401 : BitVec 1 := Scalar.andi v400 v397
  let v402 : BitVec 32 := Scalar.addi v396 v395
  let v403 : BitVec 32 := Scalar.select v401 v402 v396
  let c64_i32_208 : BitVec 32 := 64#32
  let v404 : BitVec 32 := Scalar.muli v403 c64_i32_208
  let c0_i32_236 : BitVec 32 := 0#32
  ![1, v404.toNat, 0]
def k0_dev19 (d0 : Dev nD) : Nat :=
  let c0_i32_233 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_201 : BitVec 32 := 1#32
  let v393 : BitVec 32 := Scalar.addi v2 c1_i32_201
  let c4_i32_202 : BitVec 32 := 4#32
  let c0_i32_203 : BitVec 32 := 0#32
  let v394 : BitVec 1 := Scalar.cmpi .eq c4_i32_202 c0_i32_203
  let c1_i32_204 : BitVec 32 := 1#32
  let v395 : BitVec 32 := Scalar.select v394 c1_i32_204 c4_i32_202
  let v396 : BitVec 32 := Scalar.remsi v393 v395
  let c0_i32_206 : BitVec 32 := 0#32
  let v398 : BitVec 1 := Scalar.cmpi .slt v396 c0_i32_206
  let c0_i32_207 : BitVec 32 := 0#32
  let v399 : BitVec 1 := Scalar.cmpi .slt v395 c0_i32_207
  let v400 : BitVec 1 := Scalar.xori v398 v399
  let c0_i32_205 : BitVec 32 := 0#32
  let v397 : BitVec 1 := Scalar.cmpi .ne v396 c0_i32_205
  let v401 : BitVec 1 := Scalar.andi v400 v397
  let v402 : BitVec 32 := Scalar.addi v396 v395
  let v403 : BitVec 32 := Scalar.select v401 v402 v396
  let c1_i32_232 : BitVec 32 := 1#32
  let v429 : BitVec 32 := Scalar.muli v403 c1_i32_232
  let v430 : BitVec 32 := Scalar.addi c0_i32_233 v429
  v430.toNat
def k0_dev20 (d0 : Dev nD) : Nat :=
  let c0_i32_245 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_209 : BitVec 32 := 2#32
  let v405 : BitVec 32 := Scalar.addi v2 c2_i32_209
  let c4_i32_210 : BitVec 32 := 4#32
  let c0_i32_211 : BitVec 32 := 0#32
  let v406 : BitVec 1 := Scalar.cmpi .eq c4_i32_210 c0_i32_211
  let c1_i32_212 : BitVec 32 := 1#32
  let v407 : BitVec 32 := Scalar.select v406 c1_i32_212 c4_i32_210
  let v408 : BitVec 32 := Scalar.remsi v405 v407
  let c0_i32_214 : BitVec 32 := 0#32
  let v410 : BitVec 1 := Scalar.cmpi .slt v408 c0_i32_214
  let c0_i32_215 : BitVec 32 := 0#32
  let v411 : BitVec 1 := Scalar.cmpi .slt v407 c0_i32_215
  let v412 : BitVec 1 := Scalar.xori v410 v411
  let c0_i32_213 : BitVec 32 := 0#32
  let v409 : BitVec 1 := Scalar.cmpi .ne v408 c0_i32_213
  let v413 : BitVec 1 := Scalar.andi v412 v409
  let v414 : BitVec 32 := Scalar.addi v408 v407
  let v415 : BitVec 32 := Scalar.select v413 v414 v408
  let c1_i32_244 : BitVec 32 := 1#32
  let v439 : BitVec 32 := Scalar.muli v415 c1_i32_244
  let v440 : BitVec 32 := Scalar.addi c0_i32_245 v439
  v440.toNat
def k0_dev21 (d0 : Dev nD) : Nat :=
  let c0_i32_257 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_217 : BitVec 32 := 3#32
  let v417 : BitVec 32 := Scalar.addi v2 c3_i32_217
  let c4_i32_218 : BitVec 32 := 4#32
  let c0_i32_219 : BitVec 32 := 0#32
  let v418 : BitVec 1 := Scalar.cmpi .eq c4_i32_218 c0_i32_219
  let c1_i32_220 : BitVec 32 := 1#32
  let v419 : BitVec 32 := Scalar.select v418 c1_i32_220 c4_i32_218
  let v420 : BitVec 32 := Scalar.remsi v417 v419
  let c0_i32_222 : BitVec 32 := 0#32
  let v422 : BitVec 1 := Scalar.cmpi .slt v420 c0_i32_222
  let c0_i32_223 : BitVec 32 := 0#32
  let v423 : BitVec 1 := Scalar.cmpi .slt v419 c0_i32_223
  let v424 : BitVec 1 := Scalar.xori v422 v423
  let c0_i32_221 : BitVec 32 := 0#32
  let v421 : BitVec 1 := Scalar.cmpi .ne v420 c0_i32_221
  let v425 : BitVec 1 := Scalar.andi v424 v421
  let v426 : BitVec 32 := Scalar.addi v420 v419
  let v427 : BitVec 32 := Scalar.select v425 v426 v420
  let c1_i32_256 : BitVec 32 := 1#32
  let v449 : BitVec 32 := Scalar.muli v427 c1_i32_256
  let v450 : BitVec 32 := Scalar.addi c0_i32_257 v449
  v450.toNat
def k0_off3 (d0 : Dev nD) : Fin 3 → Nat :=
  let c0_302 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_301 : BitVec 32 := 64#32
  let v489 : BitVec 32 := Scalar.muli v2 c64_i32_301
  let v490 : Index := Scalar.indexCast v489
  let c0_303 : Index := 0#32
  ![0, v490.toNat, 0]
def k0_dev22 (d0 : Dev nD) : Nat :=
  let c0_i32_336 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_321 : BitVec 32 := 1#32
  let v514 : BitVec 32 := Scalar.addi v2 c1_i32_321
  let c4_i32_322 : BitVec 32 := 4#32
  let c0_i32_323 : BitVec 32 := 0#32
  let v515 : BitVec 1 := Scalar.cmpi .eq c4_i32_322 c0_i32_323
  let c1_i32_324 : BitVec 32 := 1#32
  let v516 : BitVec 32 := Scalar.select v515 c1_i32_324 c4_i32_322
  let v517 : BitVec 32 := Scalar.remsi v514 v516
  let c0_i32_326 : BitVec 32 := 0#32
  let v519 : BitVec 1 := Scalar.cmpi .slt v517 c0_i32_326
  let c0_i32_327 : BitVec 32 := 0#32
  let v520 : BitVec 1 := Scalar.cmpi .slt v516 c0_i32_327
  let v521 : BitVec 1 := Scalar.xori v519 v520
  let c0_i32_325 : BitVec 32 := 0#32
  let v518 : BitVec 1 := Scalar.cmpi .ne v517 c0_i32_325
  let v522 : BitVec 1 := Scalar.andi v521 v518
  let v523 : BitVec 32 := Scalar.addi v517 v516
  let v524 : BitVec 32 := Scalar.select v522 v523 v517
  let c1_i32_335 : BitVec 32 := 1#32
  let v525 : BitVec 32 := Scalar.muli v524 c1_i32_335
  let v526 : BitVec 32 := Scalar.addi c0_i32_336 v525
  v526.toNat
def k0_dev23 (d0 : Dev nD) : Nat :=
  let c0_i32_356 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_341 : BitVec 32 := 2#32
  let v535 : BitVec 32 := Scalar.addi v2 c2_i32_341
  let c4_i32_342 : BitVec 32 := 4#32
  let c0_i32_343 : BitVec 32 := 0#32
  let v536 : BitVec 1 := Scalar.cmpi .eq c4_i32_342 c0_i32_343
  let c1_i32_344 : BitVec 32 := 1#32
  let v537 : BitVec 32 := Scalar.select v536 c1_i32_344 c4_i32_342
  let v538 : BitVec 32 := Scalar.remsi v535 v537
  let c0_i32_346 : BitVec 32 := 0#32
  let v540 : BitVec 1 := Scalar.cmpi .slt v538 c0_i32_346
  let c0_i32_347 : BitVec 32 := 0#32
  let v541 : BitVec 1 := Scalar.cmpi .slt v537 c0_i32_347
  let v542 : BitVec 1 := Scalar.xori v540 v541
  let c0_i32_345 : BitVec 32 := 0#32
  let v539 : BitVec 1 := Scalar.cmpi .ne v538 c0_i32_345
  let v543 : BitVec 1 := Scalar.andi v542 v539
  let v544 : BitVec 32 := Scalar.addi v538 v537
  let v545 : BitVec 32 := Scalar.select v543 v544 v538
  let c1_i32_355 : BitVec 32 := 1#32
  let v546 : BitVec 32 := Scalar.muli v545 c1_i32_355
  let v547 : BitVec 32 := Scalar.addi c0_i32_356 v546
  v547.toNat
def k0_dev24 (d0 : Dev nD) : Nat :=
  let c0_i32_376 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_361 : BitVec 32 := 3#32
  let v556 : BitVec 32 := Scalar.addi v2 c3_i32_361
  let c4_i32_362 : BitVec 32 := 4#32
  let c0_i32_363 : BitVec 32 := 0#32
  let v557 : BitVec 1 := Scalar.cmpi .eq c4_i32_362 c0_i32_363
  let c1_i32_364 : BitVec 32 := 1#32
  let v558 : BitVec 32 := Scalar.select v557 c1_i32_364 c4_i32_362
  let v559 : BitVec 32 := Scalar.remsi v556 v558
  let c0_i32_366 : BitVec 32 := 0#32
  let v561 : BitVec 1 := Scalar.cmpi .slt v559 c0_i32_366
  let c0_i32_367 : BitVec 32 := 0#32
  let v562 : BitVec 1 := Scalar.cmpi .slt v558 c0_i32_367
  let v563 : BitVec 1 := Scalar.xori v561 v562
  let c0_i32_365 : BitVec 32 := 0#32
  let v560 : BitVec 1 := Scalar.cmpi .ne v559 c0_i32_365
  let v564 : BitVec 1 := Scalar.andi v563 v560
  let v565 : BitVec 32 := Scalar.addi v559 v558
  let v566 : BitVec 32 := Scalar.select v564 v565 v559
  let c1_i32_375 : BitVec 32 := 1#32
  let v567 : BitVec 32 := Scalar.muli v566 c1_i32_375
  let v568 : BitVec 32 := Scalar.addi c0_i32_376 v567
  v568.toNat
def k0_off4 (d0 : Dev nD) : Fin 3 → Nat :=
  let c1_418 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_417 : BitVec 32 := 64#32
  let v601 : BitVec 32 := Scalar.muli v2 c64_i32_417
  let v602 : Index := Scalar.indexCast v601
  let c0_419 : Index := 0#32
  ![1, v602.toNat, 0]
def k0_dev25 (d0 : Dev nD) : Nat :=
  let c0_i32_453 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_438 : BitVec 32 := 1#32
  let v626 : BitVec 32 := Scalar.addi v2 c1_i32_438
  let c4_i32_439 : BitVec 32 := 4#32
  let c0_i32_440 : BitVec 32 := 0#32
  let v627 : BitVec 1 := Scalar.cmpi .eq c4_i32_439 c0_i32_440
  let c1_i32_441 : BitVec 32 := 1#32
  let v628 : BitVec 32 := Scalar.select v627 c1_i32_441 c4_i32_439
  let v629 : BitVec 32 := Scalar.remsi v626 v628
  let c0_i32_443 : BitVec 32 := 0#32
  let v631 : BitVec 1 := Scalar.cmpi .slt v629 c0_i32_443
  let c0_i32_444 : BitVec 32 := 0#32
  let v632 : BitVec 1 := Scalar.cmpi .slt v628 c0_i32_444
  let v633 : BitVec 1 := Scalar.xori v631 v632
  let c0_i32_442 : BitVec 32 := 0#32
  let v630 : BitVec 1 := Scalar.cmpi .ne v629 c0_i32_442
  let v634 : BitVec 1 := Scalar.andi v633 v630
  let v635 : BitVec 32 := Scalar.addi v629 v628
  let v636 : BitVec 32 := Scalar.select v634 v635 v629
  let c1_i32_452 : BitVec 32 := 1#32
  let v637 : BitVec 32 := Scalar.muli v636 c1_i32_452
  let v638 : BitVec 32 := Scalar.addi c0_i32_453 v637
  v638.toNat
def k0_dev26 (d0 : Dev nD) : Nat :=
  let c0_i32_473 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_458 : BitVec 32 := 2#32
  let v647 : BitVec 32 := Scalar.addi v2 c2_i32_458
  let c4_i32_459 : BitVec 32 := 4#32
  let c0_i32_460 : BitVec 32 := 0#32
  let v648 : BitVec 1 := Scalar.cmpi .eq c4_i32_459 c0_i32_460
  let c1_i32_461 : BitVec 32 := 1#32
  let v649 : BitVec 32 := Scalar.select v648 c1_i32_461 c4_i32_459
  let v650 : BitVec 32 := Scalar.remsi v647 v649
  let c0_i32_463 : BitVec 32 := 0#32
  let v652 : BitVec 1 := Scalar.cmpi .slt v650 c0_i32_463
  let c0_i32_464 : BitVec 32 := 0#32
  let v653 : BitVec 1 := Scalar.cmpi .slt v649 c0_i32_464
  let v654 : BitVec 1 := Scalar.xori v652 v653
  let c0_i32_462 : BitVec 32 := 0#32
  let v651 : BitVec 1 := Scalar.cmpi .ne v650 c0_i32_462
  let v655 : BitVec 1 := Scalar.andi v654 v651
  let v656 : BitVec 32 := Scalar.addi v650 v649
  let v657 : BitVec 32 := Scalar.select v655 v656 v650
  let c1_i32_472 : BitVec 32 := 1#32
  let v658 : BitVec 32 := Scalar.muli v657 c1_i32_472
  let v659 : BitVec 32 := Scalar.addi c0_i32_473 v658
  v659.toNat
def k0_dev27 (d0 : Dev nD) : Nat :=
  let c0_i32_493 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_478 : BitVec 32 := 3#32
  let v668 : BitVec 32 := Scalar.addi v2 c3_i32_478
  let c4_i32_479 : BitVec 32 := 4#32
  let c0_i32_480 : BitVec 32 := 0#32
  let v669 : BitVec 1 := Scalar.cmpi .eq c4_i32_479 c0_i32_480
  let c1_i32_481 : BitVec 32 := 1#32
  let v670 : BitVec 32 := Scalar.select v669 c1_i32_481 c4_i32_479
  let v671 : BitVec 32 := Scalar.remsi v668 v670
  let c0_i32_483 : BitVec 32 := 0#32
  let v673 : BitVec 1 := Scalar.cmpi .slt v671 c0_i32_483
  let c0_i32_484 : BitVec 32 := 0#32
  let v674 : BitVec 1 := Scalar.cmpi .slt v670 c0_i32_484
  let v675 : BitVec 1 := Scalar.xori v673 v674
  let c0_i32_482 : BitVec 32 := 0#32
  let v672 : BitVec 1 := Scalar.cmpi .ne v671 c0_i32_482
  let v676 : BitVec 1 := Scalar.andi v675 v672
  let v677 : BitVec 32 := Scalar.addi v671 v670
  let v678 : BitVec 32 := Scalar.select v676 v677 v671
  let c1_i32_492 : BitVec 32 := 1#32
  let v679 : BitVec 32 := Scalar.muli v678 c1_i32_492
  let v680 : BitVec 32 := Scalar.addi c0_i32_493 v679
  v680.toNat
def k0_off5 (d0 : Dev nD) (c1_i32_576 : BitVec 32) : Fin 3 → Nat :=
  let c0_588 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v737 : BitVec 32 := Scalar.subi v2 c1_i32_576
  let c4_i32_577 : BitVec 32 := 4#32
  let c0_i32_578 : BitVec 32 := 0#32
  let v738 : BitVec 1 := Scalar.cmpi .eq c4_i32_577 c0_i32_578
  let c1_i32_579 : BitVec 32 := 1#32
  let v739 : BitVec 32 := Scalar.select v738 c1_i32_579 c4_i32_577
  let v740 : BitVec 32 := Scalar.remsi v737 v739
  let c0_i32_581 : BitVec 32 := 0#32
  let v742 : BitVec 1 := Scalar.cmpi .slt v740 c0_i32_581
  let c0_i32_582 : BitVec 32 := 0#32
  let v743 : BitVec 1 := Scalar.cmpi .slt v739 c0_i32_582
  let v744 : BitVec 1 := Scalar.xori v742 v743
  let c0_i32_580 : BitVec 32 := 0#32
  let v741 : BitVec 1 := Scalar.cmpi .ne v740 c0_i32_580
  let v745 : BitVec 1 := Scalar.andi v744 v741
  let v746 : BitVec 32 := Scalar.addi v740 v739
  let v747 : BitVec 32 := Scalar.select v745 v746 v740
  let c64_i32_587 : BitVec 32 := 64#32
  let v751 : BitVec 32 := Scalar.muli v747 c64_i32_587
  let v752 : Index := Scalar.indexCast v751
  let c0_589 : Index := 0#32
  ![0, v752.toNat, 0]
def k0_off6 (d0 : Dev nD) (c1_i32_576 : BitVec 32) : Fin 3 → Nat :=
  let c1_595 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v737 : BitVec 32 := Scalar.subi v2 c1_i32_576
  let c4_i32_577 : BitVec 32 := 4#32
  let c0_i32_578 : BitVec 32 := 0#32
  let v738 : BitVec 1 := Scalar.cmpi .eq c4_i32_577 c0_i32_578
  let c1_i32_579 : BitVec 32 := 1#32
  let v739 : BitVec 32 := Scalar.select v738 c1_i32_579 c4_i32_577
  let v740 : BitVec 32 := Scalar.remsi v737 v739
  let c0_i32_581 : BitVec 32 := 0#32
  let v742 : BitVec 1 := Scalar.cmpi .slt v740 c0_i32_581
  let c0_i32_582 : BitVec 32 := 0#32
  let v743 : BitVec 1 := Scalar.cmpi .slt v739 c0_i32_582
  let v744 : BitVec 1 := Scalar.xori v742 v743
  let c0_i32_580 : BitVec 32 := 0#32
  let v741 : BitVec 1 := Scalar.cmpi .ne v740 c0_i32_580
  let v745 : BitVec 1 := Scalar.andi v744 v741
  let v746 : BitVec 32 := Scalar.addi v740 v739
  let v747 : BitVec 32 := Scalar.select v745 v746 v740
  let c64_i32_594 : BitVec 32 := 64#32
  let v759 : BitVec 32 := Scalar.muli v747 c64_i32_594
  let v760 : Index := Scalar.indexCast v759
  let c0_596 : Index := 0#32
  ![1, v760.toNat, 0]
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x256x512 : Shape := ⟨3, ![2, 256, 512]⟩
abbrev S512x1024 : Shape := ⟨2, ![512, 1024]⟩
abbrev S2x1024x16x64 : Shape := ⟨4, ![2, 1024, 16, 64]⟩
abbrev S1024x512 : Shape := ⟨2, ![1024, 512]⟩
abbrev S2x256x1024 : Shape := ⟨3, ![2, 256, 1024]⟩
abbrev S2x256x16x64 : Shape := ⟨4, ![2, 256, 16, 64]⟩
abbrev S256 : Shape := ⟨1, ![256]⟩
abbrev S256x1 : Shape := ⟨2, ![256, 1]⟩
abbrev S1024 : Shape := ⟨1, ![1024]⟩
abbrev S1x1024 : Shape := ⟨2, ![1, 1024]⟩
abbrev S256x1024 : Shape := ⟨2, ![256, 1024]⟩
abbrev S_ : Shape := ⟨0, ![]⟩
abbrev S2x16x256x1024 : Shape := ⟨4, ![2, 16, 256, 1024]⟩
abbrev S1x1x256x1024 : Shape := ⟨4, ![1, 1, 256, 1024]⟩
abbrev S2x16x256 : Shape := ⟨3, ![2, 16, 256]⟩
abbrev S2x16x256x1 : Shape := ⟨4, ![2, 16, 256, 1]⟩
abbrev S1x1x256x1 : Shape := ⟨4, ![1, 1, 256, 1]⟩
abbrev S2x16x64x256 : Shape := ⟨4, ![2, 16, 64, 256]⟩

abbrev nBuf : Space → Nat
  | .hbm => 57
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S512x1024, .f32⟩
  | .hbm, ⟨2, _⟩ => ⟨S2x1024x16x64, .f32⟩
  | .hbm, ⟨3, _⟩ => ⟨S2x1024x16x64, .f32⟩
  | .hbm, ⟨4, _⟩ => ⟨S1024x512, .f32⟩
  | .hbm, ⟨5, _⟩ => ⟨S2x256x1024, .f32⟩
  | .hbm, ⟨6, _⟩ => ⟨S2x256x16x64, .f32⟩
  | .hbm, ⟨7, _⟩ => ⟨S256, .i32⟩
  | .hbm, ⟨8, _⟩ => ⟨S256x1, .i32⟩
  | .hbm, ⟨9, _⟩ => ⟨S1024, .i32⟩
  | .hbm, ⟨10, _⟩ => ⟨S1x1024, .i32⟩
  | .hbm, ⟨11, _⟩ => ⟨S256x1024, .i32⟩
  | .hbm, ⟨12, _⟩ => ⟨S256x1024, .i32⟩
  | .hbm, ⟨13, _⟩ => ⟨S256x1024, .i32⟩
  | .hbm, ⟨14, _⟩ => ⟨S256x1024, .i32⟩
  | .hbm, ⟨15, _⟩ => ⟨S_, .i32⟩
  | .hbm, ⟨16, _⟩ => ⟨S256x1024, .i32⟩
  | .hbm, ⟨17, _⟩ => ⟨S256x1024, .i1⟩
  | .hbm, ⟨18, _⟩ => ⟨S2x16x256x1024, .f32⟩
  | .hbm, ⟨19, _⟩ => ⟨S_, .f32⟩
  | .hbm, ⟨20, _⟩ => ⟨S2x16x256x1024, .f32⟩
  | .hbm, ⟨21, _⟩ => ⟨S2x16x256x1024, .f32⟩
  | .hbm, ⟨22, _⟩ => ⟨S1x1x256x1024, .i1⟩
  | .hbm, ⟨23, _⟩ => ⟨S_, .f32⟩
  | .hbm, ⟨24, _⟩ => ⟨S_, .f32⟩
  | .hbm, ⟨25, _⟩ => ⟨S2x16x256x1024, .i1⟩
  | .hbm, ⟨26, _⟩ => ⟨S2x16x256x1024, .f32⟩
  | .hbm, ⟨27, _⟩ => ⟨S2x16x256x1024, .f32⟩
  | .hbm, ⟨28, _⟩ => ⟨S_, .f32⟩
  | .hbm, ⟨29, _⟩ => ⟨S2x16x256, .f32⟩
  | .hbm, ⟨30, _⟩ => ⟨S2x16x256x1, .f32⟩
  | .hbm, ⟨31, _⟩ => ⟨S2x16x256x1024, .f32⟩
  | .hbm, ⟨32, _⟩ => ⟨S2x16x256x1024, .f32⟩
  | .hbm, ⟨33, _⟩ => ⟨S2x16x256x1024, .f32⟩
  | .hbm, ⟨34, _⟩ => ⟨S_, .i1⟩
  | .hbm, ⟨35, _⟩ => ⟨S256, .i1⟩
  | .hbm, ⟨36, _⟩ => ⟨S1x1x256x1, .i1⟩
  | .hbm, ⟨37, _⟩ => ⟨S_, .f32⟩
  | .hbm, ⟨38, _⟩ => ⟨S2x16x256, .f32⟩
  | .hbm, ⟨39, _⟩ => ⟨S2x16x256x1, .f32⟩
  | .hbm, ⟨40, _⟩ => ⟨S_, .f32⟩
  | .hbm, ⟨41, _⟩ => ⟨S_, .f32⟩
  | .hbm, ⟨42, _⟩ => ⟨S2x16x256x1, .i1⟩
  | .hbm, ⟨43, _⟩ => ⟨S2x16x256x1, .f32⟩
  | .hbm, ⟨44, _⟩ => ⟨S2x16x256x1, .f32⟩
  | .hbm, ⟨45, _⟩ => ⟨S2x16x256x1024, .f32⟩
  | .hbm, ⟨46, _⟩ => ⟨S2x16x256x1024, .f32⟩
  | .hbm, ⟨47, _⟩ => ⟨S1x1x256x1, .i1⟩
  | .hbm, ⟨48, _⟩ => ⟨S_, .f32⟩
  | .hbm, ⟨49, _⟩ => ⟨S_, .f32⟩
  | .hbm, ⟨50, _⟩ => ⟨S2x16x256x1024, .i1⟩
  | .hbm, ⟨51, _⟩ => ⟨S2x16x256x1024, .f32⟩
  | .hbm, ⟨52, _⟩ => ⟨S2x16x256x1024, .f32⟩
  | .hbm, ⟨53, _⟩ => ⟨S2x16x64x256, .f32⟩
  | .hbm, ⟨54, _⟩ => ⟨S2x256x16x64, .f32⟩
  | .hbm, ⟨55, _⟩ => ⟨S2x256x1024, .f32⟩
  | .hbm, ⟨56, _⟩ => ⟨S2x256x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.Values.lean ====
/- What each device computes, step by step: the key and value blocks it reads, the vectors of the attention, the
   partial sums it scatters, the blocks it receives and sums, the blocks it gathers, and its output's contents. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.Sem

/-! ## The buffers -/

abbrev xM : Memref sig .tc .vmem S2x256x512 .f32 := Memref.whole cc0_stg0_0
abbrev wqM : Memref sig .tc .vmem S512x256 .f32 := Memref.whole cc0_stg1_0
abbrev kM : Memref sig .tc .vmem S2x256x16x64 .f32 := Memref.whole cc0_stg2_0
abbrev vM : Memref sig .tc .vmem S2x256x16x64 .f32 := Memref.whole cc0_stg3_0
abbrev woM : Memref sig .tc .vmem S256x512 .f32 := Memref.whole cc0_stg4_0
abbrev oM : Memref sig .tc .vmem S2x256x512 .f32 := Memref.whole cc0_stg5_0
abbrev ksM : Memref sig .tc .vmem S2x256x1024 .bf16 := Memref.whole cc0_scratch0
abbrev vsM : Memref sig .tc .vmem S2x256x1024 .bf16 := Memref.whole cc0_scratch1
abbrev kb0M : Memref sig .tc .vmem S2x256x256 .bf16 := Memref.whole cc0_scratch2
abbrev vb0M : Memref sig .tc .vmem S2x256x256 .bf16 := Memref.whole cc0_scratch3
abbrev kb1M : Memref sig .tc .vmem S2x128x256 .bf16 := Memref.whole cc0_scratch4
abbrev vb1M : Memref sig .tc .vmem S2x128x256 .bf16 := Memref.whole cc0_scratch5
abbrev rsM : Memref sig .tc .vmem S2x256x512 .bf16 := Memref.whole cc0_scratch6
abbrev rrM : Memref sig .tc .vmem S3x2x64x512 .bf16 := Memref.whole cc0_scratch7
abbrev agM : Memref sig .tc .vmem S2x64x512 .bf16 := Memref.whole cc0_scratch8
abbrev arM : Memref sig .tc .vmem S3x2x64x512 .bf16 := Memref.whole cc0_scratch9

/-! ## The rectangles -/

theorem half_inb (b : Fin 2) : ∀ a, (![b.val, 0, 0] : Fin 3 → ℕ) a + S1x256x512.size a ≤ S2x256x512.size a := by
  revert b; decide
/-- Batch `b` of a [2, 256, 512] buffer. -/
abbrev half (b : Fin 2) : Rect S2x256x512 := Rect.unit (s := S2x256x512) ![b.val, 0, 0] S1x256x512.size (half_inb b)
theorem agHalf_inb (b : Fin 2) : ∀ a, (![b.val, 0, 0] : Fin 3 → ℕ) a + S1x64x512.size a ≤ S2x64x512.size a := by
  revert b; decide
/-- Batch `b` of a [2, 64, 512] buffer. -/
abbrev agHalf (b : Fin 2) : Rect S2x64x512 := Rect.unit (s := S2x64x512) ![b.val, 0, 0] S1x64x512.size (agHalf_inb b)
theorem slot_inb (p : Fin 3) (b : Fin 2) :
    ∀ a, (![p.val, b.val, 0, 0] : Fin 4 → ℕ) a + S1x1x64x512.size a ≤ S3x2x64x512.size a := by revert p b; decide
/-- Slot `(p, b)` of a [3, 2, 64, 512] buffer. -/
abbrev slotR (p : Fin 3) (b : Fin 2) : Rect S3x2x64x512 :=
  Rect.unit (s := S3x2x64x512) ![p.val, b.val, 0, 0] S1x1x64x512.size (slot_inb p b)

/-! ## The views the transfers move -/

/-- The scatter's landing slot `(p, b)`. -/
abbrev rrSlot (p : Fin 3) (b : Fin 2) : Memref sig .tc .vmem S64x512 .bf16 :=
  (rrM.slice (slotR p b) (fun _ => rfl)).squeeze S64x512 squeezes_S1x1x64x512_S64x512
/-- The gather's landing slot `(p, b)`. -/
abbrev arSlot (p : Fin 3) (b : Fin 2) : Memref sig .tc .vmem S64x512 .bf16 :=
  (arM.slice (slotR p b) (fun _ => rfl)).squeeze S64x512 squeezes_S1x1x64x512_S64x512
/-- Where batch `b`'s rows of the device `p + 1` places on from `c` start. -/
def rsOff (c : Dev nD) (p : Fin 3) : Fin 2 → Fin 3 → ℕ
  | 0 => k0_off1 c (BitVec.ofNat 32 (1 + p.val))
  | 1 => k0_off2 c (BitVec.ofNat 32 (1 + p.val))
theorem rsOff_inb (c : Dev nD) (p : Fin 3) : ∀ (b : Fin 2) a, rsOff c p b a + S1x64x512.size a ≤ S2x256x512.size a
  | 0 => k0_off1_inb c p
  | 1 => k0_off2_inb c p
/-- The scatter's source: batch `b`'s rows of the device `p + 1` places on. -/
abbrev rsSrc (c : Dev nD) (p : Fin 3) (b : Fin 2) : Memref sig .tc .vmem S64x512 .bf16 :=
  (rsM.slice (Rect.unit (s := S2x256x512) (rsOff c p b) S1x64x512.size (rsOff_inb c p b)) (fun _ => rfl)).squeeze S64x512 squeezes_S1x64x512_S64x512
/-- The gather's source: batch `b`. -/
abbrev agSrc (b : Fin 2) : Memref sig .tc .vmem S64x512 .bf16 :=
  (agM.slice (agHalf b) (fun _ => rfl)).squeeze S64x512 squeezes_S1x64x512_S64x512

/-- The device `k` places on, around the mesh. -/
def fwd (c : Dev nD) (k : ℕ) : Dev nD := ⟨(c.val + k) % 4, Nat.mod_lt _ (by decide)⟩
/-- The device slot `p` of device `c` is filled by: `p + 1` places back. -/
abbrev srcOf (c : Dev nD) (p : Fin 3) : Dev nD := fwd c (3 - p.val)

variable {F : FTy → Type} [FloatOps F] [Named F]
variable (m : (ℓ : Loc nD τ sig) → Buf (Elt F) ℓ)

/-! ## The staged arguments -/

def xb (c : Dev nD) : cc0_stg0_0.ty.Contents (Elt F) := (win0_0.blk (0 : Fin 1)).view.read (Elt F) (m ((c : Thread nD τ).loc main_arg0))
def wqb (c : Dev nD) : cc0_stg1_0.ty.Contents (Elt F) := (win0_1.blk (0 : Fin 1)).view.read (Elt F) (m ((c : Thread nD τ).loc main_arg1))
def kb (c : Dev nD) : cc0_stg2_0.ty.Contents (Elt F) := (win0_2.blk (0 : Fin 1)).view.read (Elt F) (m ((c : Thread nD τ).loc main_arg2))
def vb (c : Dev nD) : cc0_stg3_0.ty.Contents (Elt F) := (win0_3.blk (0 : Fin 1)).view.read (Elt F) (m ((c : Thread nD τ).loc main_arg3))
def wob (c : Dev nD) : cc0_stg4_0.ty.Contents (Elt F) := (win0_4.blk (0 : Fin 1)).view.read (Elt F) (m ((c : Thread nD τ).loc main_arg4))

/-! ## The key and value blocks: the first 256 keys are device 0's, the next 128 device 1's -/

theorem h256_inb (h : Fin 4) : ∀ a, (![0, 0, 4 * h.val, 0] : Fin 4 → ℕ) a + S2x256x4x64.size a ≤ S2x256x16x64.size a := by revert h; decide
theorem h128_inb (h : Fin 4) : ∀ a, (![0, 0, 4 * h.val, 0] : Fin 4 → ℕ) a + S2x128x4x64.size a ≤ S2x256x16x64.size a := by revert h; decide
/-- The four heads of group `h`, all rows / the first 128 rows, of a staged key or value block. -/
abbrev heads256 (f : S2x256x16x64.Idx → Elt F .f32) (h : Fin 4) : Vec F S2x256x4x64 .f32 :=
  kM.view.readAt (Elt F) (Rect.unit (s := S2x256x16x64) ![0, 0, 4 * h.val, 0] S2x256x4x64.size (h256_inb h)).toLoadRect f
abbrev heads128 (f : S2x256x16x64.Idx → Elt F .f32) (h : Fin 4) : Vec F S2x128x4x64 .f32 :=
  kM.view.readAt (Elt F) (Rect.unit (s := S2x256x16x64) ![0, 0, 4 * h.val, 0] S2x128x4x64.size (h128_inb h)).toLoadRect f
def KB0 (c : Dev nD) : cc0_scratch2.ty.Contents (Elt F) :=
  ![k0_pay13 (heads256 (kb m 0) 0), k0_pay1 (heads256 (kb m 0) 1), k0_pay2 (heads256 (kb m 0) 2), k0_pay3 (heads256 (kb m 0) 3)] c
def VB0 (c : Dev nD) : cc0_scratch3.ty.Contents (Elt F) :=
  ![k0_pay14 (heads256 (vb m 0) 0), k0_pay4 (heads256 (vb m 0) 1), k0_pay5 (heads256 (vb m 0) 2), k0_pay6 (heads256 (vb m 0) 3)] c
def KB1 (c : Dev nD) : cc0_scratch4.ty.Contents (Elt F) :=
  ![k0_pay7 (heads128 (kb m 1) 0), k0_pay15 (heads128 (kb m 1) 1), k0_pay8 (heads128 (kb m 1) 2), k0_pay9 (heads128 (kb m 1) 3)] c
def VB1 (c : Dev nD) : cc0_scratch5.ty.Contents (Elt F) :=
  ![k0_pay10 (heads128 (vb m 1) 0), k0_pay16 (heads128 (vb m 1) 1), k0_pay11 (heads128 (vb m 1) 2), k0_pay12 (heads128 (vb m 1) 3)] c

/-! ## The vectors, in program order -/

def V49 (c : Dev nD) : Vec F S512x256 .f32 := (wqM).view.readAt (Elt F) (Rect.unit (s := S512x256) ![0, 0] S512x256.size inb_S512x256_S512x256_0_0).toLoadRect (wqb m c)
def V54 (c : Dev nD) : Vec F S256x512 .f32 := (woM).view.readAt (Elt F) (Rect.unit (s := S256x512) ![0, 0] S256x512.size inb_S256x512_S256x512_0_0).toLoadRect (wob m c)
def V57 (c : Dev nD) : Vec F S1x256x512 .f32 := (xM).view.readAt (Elt F) (Rect.unit (s := S2x256x512) ![0, 0, 0] S1x256x512.size inb_S2x256x512_S1x256x512_0_0_0).toLoadRect (xb m c)
def V61 (c : Dev nD) : Vec F S1x256x512 .f32 := (xM).view.readAt (Elt F) (Rect.unit (s := S2x256x512) ![1, 0, 0] S1x256x512.size inb_S2x256x512_S1x256x512_1_0_0).toLoadRect (xb m c)
def V53 (c : Dev nD) : FVec F S512x256 .bf16 := k0_pay17 (V49 m c)
def V56 (c : Dev nD) : FVec F S256x512 .bf16 := k0_pay18 (V54 m c)
def V60 (c : Dev nD) : FVec F S256x256 .f32 := k0_pay19 (V49 m c) (V57 m c)
def V62 (c : Dev nD) : FVec F S256x512 .f32 := k0_pay20 (V61 m c)
def V95 (c : Dev nD) : Vec F S1x256x256 .bf16 := (kb0M).view.readAt (Elt F) (Rect.unit (s := S2x256x256) ![0, 0, 0] S1x256x256.size inb_S2x256x256_S1x256x256_0_0_0).toLoadRect (KB0 m c)
def V66 (c : Dev nD) : FVec F S256x64 .bf16 := k0_pay22 (V60 m c)
def V68 (c : Dev nD) : FVec F S256x64 .bf16 := k0_pay23 (V60 m c)
def V70 (c : Dev nD) : FVec F S256x64 .bf16 := k0_pay24 (V60 m c)
def V72 (c : Dev nD) : FVec F S256x64 .bf16 := k0_pay25 (V60 m c)
def V74 (c : Dev nD) : FVec F S256x64 .bf16 := k0_pay26 (V53 m c) (V62 m c)
def V76 (c : Dev nD) : FVec F S256x64 .bf16 := k0_pay27 (V53 m c) (V62 m c)
def V78 (c : Dev nD) : FVec F S256x64 .bf16 := k0_pay28 (V53 m c) (V62 m c)
def V80 (c : Dev nD) : FVec F S256x64 .bf16 := k0_pay29 (V53 m c) (V62 m c)
def V94 (c : Dev nD) : FVec F S256x256 .f32 := k0_pay30 (F := F)
def V96 (c : Dev nD) : FVec F S256x256 .bf16 := k0_pay31 (V95 m c)
def V102 (c : Dev nD) : FVec F S256x1 .f32 := k0_pay33 (V60 m c) (V95 m c)
def V103 (c : Dev nD) : FVec F S256x256 .bf16 := k0_pay34 (V60 m c) (V95 m c)
def V107 (c : Dev nD) : FVec F S256x256 .f32 := k0_pay35 (V60 m c) (V95 m c)
def V125 (c : Dev nD) : Vec F S1x256x256 .bf16 := (kb0M).view.readAt (Elt F) (Rect.unit (s := S2x256x256) ![1, 0, 0] S1x256x256.size inb_S2x256x256_S1x256x256_1_0_0).toLoadRect (KB0 m c)
def V109 (c : Dev nD) : FVec F S256x1 .f32 := k0_pay36 (V107 m c)
def V110 (c : Dev nD) : FVec F S256x256 .bf16 := k0_pay37 (V107 m c)
def V116 (c : Dev nD) : FVec F S256x1 .f32 := k0_pay39 (V70 m c) (V94 (F := F) c) (V96 m c)
def V117 (c : Dev nD) : FVec F S256x256 .bf16 := k0_pay40 (V70 m c) (V94 (F := F) c) (V96 m c)
def V123 (c : Dev nD) : FVec F S256x1 .f32 := k0_pay42 (V72 m c) (V94 (F := F) c) (V96 m c)
def V124 (c : Dev nD) : FVec F S256x256 .bf16 := k0_pay43 (V72 m c) (V94 (F := F) c) (V96 m c)
def V132 (c : Dev nD) : FVec F S256x1 .f32 := k0_pay46 (V74 m c) (V94 (F := F) c) (V125 m c)
def V133 (c : Dev nD) : FVec F S256x256 .bf16 := k0_pay47 (V74 m c) (V94 (F := F) c) (V125 m c)
def V139 (c : Dev nD) : FVec F S256x1 .f32 := k0_pay49 (V76 m c) (V94 (F := F) c) (V125 m c)
def V140 (c : Dev nD) : FVec F S256x256 .bf16 := k0_pay50 (V76 m c) (V94 (F := F) c) (V125 m c)
def V146 (c : Dev nD) : FVec F S256x1 .f32 := k0_pay52 (V78 m c) (V94 (F := F) c) (V125 m c)
def V147 (c : Dev nD) : FVec F S256x256 .bf16 := k0_pay53 (V78 m c) (V94 (F := F) c) (V125 m c)
def V151 (c : Dev nD) : FVec F S256x256 .f32 := k0_pay54 (V80 m c) (V94 (F := F) c) (V125 m c)
def V152 (c : Dev nD) : FVec F S256 .f32 := k0_pay55 (V80 m c) (V94 (F := F) c) (V125 m c)
def V169 (c : Dev nD) : Vec F S1x128x256 .bf16 := (kb1M).view.readAt (Elt F) (Rect.unit (s := S2x128x256) ![0, 0, 0] S1x128x256.size inb_S2x128x256_S1x128x256_0_0_0).toLoadRect (KB1 m c)
def V153 (c : Dev nD) : FVec F S256x1 .f32 := k0_pay56 (V152 m c)
def V154 (c : Dev nD) : FVec F S256x256 .bf16 := k0_pay57 (V151 m c)
def V168 (c : Dev nD) : FVec F S256x128 .f32 := k0_pay58 (F := F)
def V176 (c : Dev nD) : FVec F S256x1 .f32 := k0_pay61 (V66 m c) (V169 m c)
def V177 (c : Dev nD) : FVec F S256x128 .bf16 := k0_pay62 (V66 m c) (V169 m c)
def V183 (c : Dev nD) : FVec F S256x1 .f32 := k0_pay64 (V68 m c) (V169 m c)
def V184 (c : Dev nD) : FVec F S256x128 .bf16 := k0_pay65 (V68 m c) (V169 m c)
def V190 (c : Dev nD) : FVec F S256x1 .f32 := k0_pay67 (V70 m c) (V169 m c)
def V191 (c : Dev nD) : FVec F S256x128 .bf16 := k0_pay68 (V70 m c) (V169 m c)
def V195 (c : Dev nD) : FVec F S256x128 .f32 := k0_pay69 (V72 m c) (V169 m c)
def V199 (c : Dev nD) : Vec F S1x128x256 .bf16 := (kb1M).view.readAt (Elt F) (Rect.unit (s := S2x128x256) ![1, 0, 0] S1x128x256.size inb_S2x128x256_S1x128x256_1_0_0).toLoadRect (KB1 m c)
def V198 (c : Dev nD) : FVec F S256x128 .bf16 := k0_pay70 (V195 m c)
def V207 (c : Dev nD) : FVec F S256x128 .bf16 := k0_pay73 (V74 m c) (V168 (F := F) c) (V199 m c)
def V214 (c : Dev nD) : FVec F S256x128 .bf16 := k0_pay75 (V76 m c) (V168 (F := F) c) (V199 m c)
def V221 (c : Dev nD) : FVec F S256x128 .bf16 := k0_pay77 (V78 m c) (V168 (F := F) c) (V199 m c)
def V228 (c : Dev nD) : FVec F S256x128 .bf16 := k0_pay79 (V80 m c) (V168 (F := F) c) (V199 m c)
def V229 (c : Dev nD) : FVec F S256x1 .f32 := k0_pay80 (V102 m c) (V176 m c)
def V230 (c : Dev nD) : FVec F S256x1 .f32 := k0_pay81 (V109 m c) (V183 m c)
def V231 (c : Dev nD) : FVec F S256x1 .f32 := k0_pay82 (V116 m c) (V190 m c)
def V232 (c : Dev nD) : FVec F S256x1 .f32 := k0_pay83 (V123 m c) (V195 m c)
def V233 (c : Dev nD) : FVec F S256x1 .f32 := k0_pay84 (V74 m c) (V132 m c) (V168 (F := F) c) (V199 m c)
def V234 (c : Dev nD) : FVec F S256x1 .f32 := k0_pay85 (V76 m c) (V139 m c) (V168 (F := F) c) (V199 m c)
def V235 (c : Dev nD) : FVec F S256x1 .f32 := k0_pay86 (V78 m c) (V146 m c) (V168 (F := F) c) (V199 m c)
def V236 (c : Dev nD) : FVec F S256x1 .f32 := k0_pay87 (V80 m c) (V153 m c) (V168 (F := F) c) (V199 m c)
def V240 (c : Dev nD) : Vec F S1x256x256 .bf16 := (vb0M).view.readAt (Elt F) (Rect.unit (s := S2x256x256) ![0, 0, 0] S1x256x256.size inb_S2x256x256_S1x256x256_0_0_0).toLoadRect (VB0 m c)
def V250 (c : Dev nD) : Vec F S1x256x256 .bf16 := (vb0M).view.readAt (Elt F) (Rect.unit (s := S2x256x256) ![1, 0, 0] S1x256x256.size inb_S2x256x256_S1x256x256_1_0_0).toLoadRect (VB0 m c)
def V263 (c : Dev nD) : Vec F S1x128x256 .bf16 := (vb1M).view.readAt (Elt F) (Rect.unit (s := S2x128x256) ![0, 0, 0] S1x128x256.size inb_S2x128x256_S1x128x256_0_0_0).toLoadRect (VB1 m c)
def V249 (c : Dev nD) : FVec F S256x64 .f32 := k0_pay89 (V124 m c) (V240 m c)
def V253 (c : Dev nD) : FVec F S256x64 .f32 := k0_pay91 (V133 m c) (V250 m c)
def V255 (c : Dev nD) : FVec F S256x64 .f32 := k0_pay92 (V140 m c) (V250 m c)
def V257 (c : Dev nD) : FVec F S256x64 .f32 := k0_pay93 (V147 m c) (V250 m c)
def V259 (c : Dev nD) : FVec F S256x64 .f32 := k0_pay94 (V154 m c) (V250 m c)
def V264 (c : Dev nD) : FVec F S128x256 .bf16 := k0_pay95 (V263 m c)
def V269 (c : Dev nD) : FVec F S256x64 .f32 := k0_pay96 (V103 m c) (V177 m c) (V229 m c) (V240 m c) (V263 m c)
def V274 (c : Dev nD) : FVec F S256x64 .f32 := k0_pay97 (V110 m c) (V184 m c) (V230 m c) (V240 m c) (V263 m c)
def V277 (c : Dev nD) : FVec F S256x64 .f32 := k0_pay98 (V117 m c) (V191 m c) (V240 m c) (V263 m c)
def P100 (c : Dev nD) : Vec F S1x256x512 .bf16 := (k0_pay100 (V56 m c) (V198 m c) (V231 m c) (V232 m c) (V249 m c) (V264 m c) (V269 m c) (V274 m c) (V277 m c))
def P101 (c : Dev nD) : Vec F S1x256x512 .f32 := (k0_pay101 (V56 m c) (V198 m c) (V231 m c) (V232 m c) (V249 m c) (V264 m c) (V269 m c) (V274 m c) (V277 m c))
def V361 (c : Dev nD) : Vec F S1x128x256 .bf16 := (vb1M).view.readAt (Elt F) (Rect.unit (s := S2x128x256) ![1, 0, 0] S1x128x256.size inb_S2x128x256_S1x128x256_1_0_0).toLoadRect (VB1 m c)
def V367 (c : Dev nD) : FVec F S256x64 .f32 := k0_pay103 (V207 m c) (V233 m c) (V253 m c) (V361 m c)
def V372 (c : Dev nD) : FVec F S256x64 .f32 := k0_pay104 (V214 m c) (V234 m c) (V255 m c) (V361 m c)
def V377 (c : Dev nD) : FVec F S256x64 .f32 := k0_pay105 (V221 m c) (V235 m c) (V257 m c) (V361 m c)
def V378 (c : Dev nD) : FVec F S128x64 .bf16 := k0_pay106 (V361 m c)
def P108 (c : Dev nD) : Vec F S1x256x512 .bf16 := (k0_pay108 (V56 m c) (V228 m c) (V236 m c) (V259 m c) (V367 m c) (V372 m c) (V377 m c) (V378 m c))
def P109 (c : Dev nD) : Vec F S1x256x512 .f32 := (k0_pay109 (V56 m c) (V228 m c) (V236 m c) (V259 m c) (V367 m c) (V372 m c) (V377 m c) (V378 m c))
/-- The partial sums staged for the scatter: batch `b` is the payload stored for it. -/
def RS (c : Dev nD) : cc0_scratch6.ty.Contents (Elt F) := fun i =>
  if (i 0).val = 0 then (rsM.access (half 0)).write (Elt F) (m ((c : Thread nD τ).loc cc0_scratch6)) (P100 m c) Finset.univ i
  else (rsM.access (half 1)).write (Elt F) (m ((c : Thread nD τ).loc cc0_scratch6)) (P108 m c) Finset.univ i
/-- What the scatter lands on device `c`: slot `(p, b)` is the block of `src c p`'s partial sums that is `c`'s. -/
def RR (c : Dev nD) : cc0_scratch7.ty.Contents (Elt F) := fun i =>
  (rrSlot (i 0) (i 1)).view.write (Elt F) (m ((c : Thread nD τ).loc cc0_scratch7))
    ((rsSrc (srcOf c (i 0)) (i 0) (i 1)).view.read (Elt F) (RS m (srcOf c (i 0)))) Finset.univ i
/-- The output after the two partial sums are stored. -/
def O1 (c : Dev nD) : cc0_stg5_0.ty.Contents (Elt F) := fun i =>
  if (i 0).val = 0 then (oM.access (half 0)).write (Elt F) (fun _ => FloatOps.ofBits .f32 0#32) (P101 m c) Finset.univ i
  else (oM.access (half 1)).write (Elt F) (fun _ => FloatOps.ofBits .f32 0#32) (P109 m c) Finset.univ i
def V491 (c : Dev nD) : Vec F S1x64x512 .f32 := (oM).view.readAt (Elt F) (Rect.unit (s := S2x256x512) (k0_off3 c) S1x64x512.size (k0_off3_inb c)).toLoadRect (O1 m c)
def V493 (c : Dev nD) : Vec F S1x1x64x512 .bf16 := (rrM).view.readAt (Elt F) (Rect.unit (s := S3x2x64x512) ![0, 0, 0, 0] S1x1x64x512.size inb_S3x2x64x512_S1x1x64x512_0_0_0_0).toLoadRect (RR m c)
def V492 (c : Dev nD) : FVec F S64x512 .f32 := k0_pay110 (V491 m c)
def V497 (c : Dev nD) : Vec F S1x1x64x512 .bf16 := (rrM).view.readAt (Elt F) (Rect.unit (s := S3x2x64x512) ![1, 0, 0, 0] S1x1x64x512.size inb_S3x2x64x512_S1x1x64x512_1_0_0_0).toLoadRect (RR m c)
def V501 (c : Dev nD) : Vec F S1x1x64x512 .bf16 := (rrM).view.readAt (Elt F) (Rect.unit (s := S3x2x64x512) ![2, 0, 0, 0] S1x1x64x512.size inb_S3x2x64x512_S1x1x64x512_2_0_0_0).toLoadRect (RR m c)
def P112 (c : Dev nD) : Vec F S1x64x512 .f32 := (k0_pay112 (V492 m c) (V493 m c) (V497 m c) (V501 m c))
def O2 (c : Dev nD) : cc0_stg5_0.ty.Contents (Elt F) := (oM.access (Rect.unit (s := S2x256x512) (k0_off3 c) S1x64x512.size (k0_off3_inb c))).write (Elt F) (O1 m c) (P112 m c) Finset.univ
def P113 (c : Dev nD) : Vec F S1x64x512 .bf16 := (k0_pay113 (V492 m c) (V493 m c) (V497 m c) (V501 m c))
def V603 (c : Dev nD) : Vec F S1x64x512 .f32 := (oM).view.readAt (Elt F) (Rect.unit (s := S2x256x512) (k0_off4 c) S1x64x512.size (k0_off4_inb c)).toLoadRect (O2 m c)
def V605 (c : Dev nD) : Vec F S1x1x64x512 .bf16 := (rrM).view.readAt (Elt F) (Rect.unit (s := S3x2x64x512) ![0, 1, 0, 0] S1x1x64x512.size inb_S3x2x64x512_S1x1x64x512_0_1_0_0).toLoadRect (RR m c)
def V608 (c : Dev nD) : FVec F S64x512 .f32 := k0_pay114 (V603 m c) (V605 m c)
def V609 (c : Dev nD) : Vec F S1x1x64x512 .bf16 := (rrM).view.readAt (Elt F) (Rect.unit (s := S3x2x64x512) ![1, 1, 0, 0] S1x1x64x512.size inb_S3x2x64x512_S1x1x64x512_1_1_0_0).toLoadRect (RR m c)
def V613 (c : Dev nD) : Vec F S1x1x64x512 .bf16 := (rrM).view.readAt (Elt F) (Rect.unit (s := S3x2x64x512) ![2, 1, 0, 0] S1x1x64x512.size inb_S3x2x64x512_S1x1x64x512_2_1_0_0).toLoadRect (RR m c)
def P116 (c : Dev nD) : Vec F S1x64x512 .f32 := (k0_pay116 (V608 m c) (V609 m c) (V613 m c))
def O3 (c : Dev nD) : cc0_stg5_0.ty.Contents (Elt F) := (oM.access (Rect.unit (s := S2x256x512) (k0_off4 c) S1x64x512.size (k0_off4_inb c))).write (Elt F) (O2 m c) (P116 m c) Finset.univ
def P117 (c : Dev nD) : Vec F S1x64x512 .bf16 := (k0_pay117 (V608 m c) (V609 m c) (V613 m c))
/-- The summed blocks staged for the gather. -/
def AG (c : Dev nD) : cc0_scratch8.ty.Contents (Elt F) := fun i =>
  if (i 0).val = 0 then (agM.access (agHalf 0)).write (Elt F) (m ((c : Thread nD τ).loc cc0_scratch8)) (P113 m c) Finset.univ i
  else (agM.access (agHalf 1)).write (Elt F) (m ((c : Thread nD τ).loc cc0_scratch8)) (P117 m c) Finset.univ i
/-- What the gather lands on device `c`: slot `(p, b)` is `src c p`'s summed block of batch `b`. -/
def AR (c : Dev nD) : cc0_scratch9.ty.Contents (Elt F) := fun i =>
  (arSlot (i 0) (i 1)).view.write (Elt F) (m ((c : Thread nD τ).loc cc0_scratch9))
    ((agSrc (i 1)).view.read (Elt F) (AG m (srcOf c (i 0)))) Finset.univ i
def V748 (c : Dev nD) : Vec F S1x1x64x512 .bf16 := (arM).view.readAt (Elt F) (Rect.unit (s := S3x2x64x512) ![0, 0, 0, 0] S1x1x64x512.size inb_S3x2x64x512_S1x1x64x512_0_0_0_0).toLoadRect (AR m c)
def V756 (c : Dev nD) : Vec F S1x1x64x512 .bf16 := (arM).view.readAt (Elt F) (Rect.unit (s := S3x2x64x512) ![0, 1, 0, 0] S1x1x64x512.size inb_S3x2x64x512_S1x1x64x512_0_1_0_0).toLoadRect (AR m c)
def O4 (c : Dev nD) : cc0_stg5_0.ty.Contents (Elt F) := (oM.access (Rect.unit (s := S2x256x512) (k0_off5 c 1#32) S1x64x512.size (k0_off5_inb c 0))).write (Elt F) (O3 m c) (k0_pay118 (V748 m c)) Finset.univ
def O5 (c : Dev nD) : cc0_stg5_0.ty.Contents (Elt F) := (oM.access (Rect.unit (s := S2x256x512) (k0_off6 c 1#32) S1x64x512.size (k0_off6_inb c 0))).write (Elt F) (O4 m c) (k0_pay119 (V756 m c)) Finset.univ
def V775 (c : Dev nD) : Vec F S1x1x64x512 .bf16 := (arM).view.readAt (Elt F) (Rect.unit (s := S3x2x64x512) ![1, 0, 0, 0] S1x1x64x512.size inb_S3x2x64x512_S1x1x64x512_1_0_0_0).toLoadRect (AR m c)
def V783 (c : Dev nD) : Vec F S1x1x64x512 .bf16 := (arM).view.readAt (Elt F) (Rect.unit (s := S3x2x64x512) ![1, 1, 0, 0] S1x1x64x512.size inb_S3x2x64x512_S1x1x64x512_1_1_0_0).toLoadRect (AR m c)
def V802 (c : Dev nD) : Vec F S1x1x64x512 .bf16 := (arM).view.readAt (Elt F) (Rect.unit (s := S3x2x64x512) ![2, 0, 0, 0] S1x1x64x512.size inb_S3x2x64x512_S1x1x64x512_2_0_0_0).toLoadRect (AR m c)
def V804 (c : Dev nD) : FVec F S64x512 .f32 := k0_pay122 (V802 m c)
def O6 (c : Dev nD) : cc0_stg5_0.ty.Contents (Elt F) := (oM.access (Rect.unit (s := S2x256x512) (k0_off5 c 2#32) S1x64x512.size (k0_off5_inb c 1))).write (Elt F) (O5 m c) (k0_pay120 (V775 m c)) Finset.univ
def O7 (c : Dev nD) : cc0_stg5_0.ty.Contents (Elt F) := (oM.access (Rect.unit (s := S2x256x512) (k0_off6 c 2#32) S1x64x512.size (k0_off6_inb c 1))).write (Elt F) (O6 m c) (k0_pay121 (V783 m c)) Finset.univ
def V810 (c : Dev nD) : Vec F S1x1x64x512 .bf16 := (arM).view.readAt (Elt F) (Rect.unit (s := S3x2x64x512) ![2, 1, 0, 0] S1x1x64x512.size inb_S3x2x64x512_S1x1x64x512_2_1_0_0).toLoadRect (AR m c)
def O8 (c : Dev nD) : cc0_stg5_0.ty.Contents (Elt F) := (oM.access (Rect.unit (s := S2x256x512) (k0_off5 c 3#32) S1x64x512.size (k0_off5_inb c 2))).write (Elt F) (O7 m c) (k0_pay123 (V804 m c)) Finset.univ
def O9 (c : Dev nD) : cc0_stg5_0.ty.Contents (Elt F) := (oM.access (Rect.unit (s := S2x256x512) (k0_off6 c 3#32) S1x64x512.size (k0_off6_inb c 2))).write (Elt F) (O8 m c) (k0_pay124 (V810 m c)) Finset.univ

end Cert.KernelIdeal.Gen

end
-- ==== Proof.Proto.lean ====
/- The protocol: the kernel's semaphores by name, who credits each and with what, the order in which a device pays
   what it owes, and the three rules its body is stepped by — a signal, a transfer, a wait. -/
module

public import proofs.«01_k».proof.Proof.Values
public import Idealize.ShloMosaic.Lib.Ring.Trips

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The semaphores -/

/-- The kernel's semaphores: the barrier; the key/value sends `(target, K or V)` and receives `(source, K or V)`; the
    scatter's and the gather's sends and receives `(place, batch)`. -/
inductive Kind where
  | bar
  | kvS (j : Fin 3) (t : Fin 2)
  | kvR (s t : Fin 2)
  | rsS (p : Fin 3) (b : Fin 2)
  | rsR (p : Fin 3) (b : Fin 2)
  | agS (p : Fin 3) (b : Fin 2)
  | agR (p : Fin 3) (b : Fin 2)
  deriving DecidableEq, Fintype

abbrev barS : Sem sig := (SemArray.scalar (sig.barrier 0 rfl) : Sems sig S_).sem

/-- The number of a transfer's semaphore (the barrier's is not one). -/
def semNo : Kind → Fin 40
  | .bar => 0
  | .kvS j t => ⟨6 + 2 * j.val + t.val, by omega⟩
  | .kvR s t => ⟨12 + 2 * s.val + t.val, by omega⟩
  | .rsS p b => ⟨16 + 2 * p.val + b.val, by omega⟩
  | .rsR p b => ⟨22 + 2 * p.val + b.val, by omega⟩
  | .agS p b => ⟨28 + 2 * p.val + b.val, by omega⟩
  | .agR p b => ⟨34 + 2 * p.val + b.val, by omega⟩

def dsem (k : Kind) : DmaSem sig := semNo k
def sem : Kind → SemLoc sig
  | .bar => .reg barS
  | .kvS j t => .dma (dsem (.kvS j t))
  | .kvR s t => .dma (dsem (.kvR s t))
  | .rsS p b => .dma (dsem (.rsS p b))
  | .rsR p b => .dma (dsem (.rsR p b))
  | .agS p b => .dma (dsem (.agS p b))
  | .agR p b => .dma (dsem (.agR p b))

/-- The transfers' semaphores in order, the staging copies' left out. -/
def kindTab : List (Option Kind) :=
  [none, none, none, none, none, none,
   some (.kvS 0 0), some (.kvS 0 1), some (.kvS 1 0), some (.kvS 1 1), some (.kvS 2 0), some (.kvS 2 1),
   some (.kvR 0 0), some (.kvR 0 1), some (.kvR 1 0), some (.kvR 1 1),
   some (.rsS 0 0), some (.rsS 0 1), some (.rsS 1 0), some (.rsS 1 1), some (.rsS 2 0), some (.rsS 2 1),
   some (.rsR 0 0), some (.rsR 0 1), some (.rsR 1 0), some (.rsR 1 1), some (.rsR 2 0), some (.rsR 2 1),
   some (.agS 0 0), some (.agS 0 1), some (.agS 1 0), some (.agS 1 1), some (.agS 2 0), some (.agS 2 1),
   some (.agR 0 0), some (.agR 0 1), some (.agR 1 0), some (.agR 1 1), some (.agR 2 0), some (.agR 2 1)]

def kindOf : SemLoc sig → Option Kind
  | .reg _ => some .bar
  | .dma q => kindTab.getD (q : Fin 40).val none

theorem kindOf_sem (k : Kind) : kindOf (sem k) = some k := by revert k; decide

theorem sem_injective : Function.Injective sem := fun a b h => by
  have := congrArg kindOf h; rw [kindOf_sem, kindOf_sem] at this; exact Option.some.inj this

abbrev cell (c : Dev nD) (k : Kind) : GSem nD τ sig := ((c : Thread nD τ), sem k)

/-! ## Credits -/

abbrev N256 : ℕ := (kb0M : Memref sig .tc .vmem S2x256x256 .bf16).view.dmaCredit
abbrev N128 : ℕ := (kb1M : Memref sig .tc .vmem S2x128x256 .bf16).view.dmaCredit
abbrev N64 : ℕ := (rrSlot 0 0).view.dmaCredit

/-- What one duty of the semaphore credits. -/
def amt (c : Dev nD) : Kind → ℕ
  | .bar => 1
  | .kvS _ _ => if c = 0 then N256 else N128
  | .kvR 0 _ => N256
  | .kvR 1 _ => N128
  | _ => N64

theorem N256_pos : 0 < N256 := View.dmaCredit_pos _ (by decide)
theorem N128_pos : 0 < N128 := View.dmaCredit_pos _ (by decide)
theorem N64_pos : 0 < N64 := View.dmaCredit_pos _ (by decide)

theorem amt_pos (c : Dev nD) (k : Kind) : 0 < amt c k := by
  unfold amt
  split
  · exact Nat.one_pos
  · split
    · exact N256_pos
    · exact N128_pos
  · exact N256_pos
  · exact N128_pos
  · exact N64_pos

/-- The duties of a device's semaphore: the barrier's three; a transfer semaphore's one, where a transfer uses it. -/
def dutiesK (c : Dev nD) : Kind → Finset (Fin 3)
  | .bar => Finset.univ
  | .kvS _ _ => if c = 0 ∨ c = 1 then {0} else ∅
  | .kvR s _ => if c.val = s.val then ∅ else {0}
  | _ => {0}

/-! ## The payloads -/

/-- The section of the key / value staging buffer sent to target `j`: from device 0 (all rows), from device 1 (128). -/
theorem sec0_inb (j : Fin 3) : ∀ a, (![0, 0, 256 * (j.val + 1)] : Fin 3 → ℕ) a + S2x256x256.size a ≤ S2x256x1024.size a := by revert j; decide
def sec1Off : Fin 3 → ℕ | 0 => 0 | 1 => 512 | 2 => 768
theorem sec1_inb (j : Fin 3) : ∀ a, (![0, 0, sec1Off j] : Fin 3 → ℕ) a + S2x128x256.size a ≤ S2x256x1024.size a := by revert j; decide
def stgRef : Fin 2 → Ref sig .tc | 0 => cc0_scratch0 | 1 => cc0_scratch1
abbrev stgM (t : Fin 2) : Memref sig .tc .vmem S2x256x1024 .bf16 := match t with | 0 => ksM | 1 => vsM
abbrev sec0 (t : Fin 2) (j : Fin 3) : Memref sig .tc .vmem S2x256x256 .bf16 :=
  (stgM t).slice (Rect.unit (s := S2x256x1024) ![0, 0, 256 * (j.val + 1)] S2x256x256.size (sec0_inb j)) (fun _ => rfl)
abbrev sec1 (t : Fin 2) (j : Fin 3) : Memref sig .tc .vmem S2x128x256 .bf16 :=
  (stgM t).slice (Rect.unit (s := S2x256x1024) ![0, 0, sec1Off j] S2x128x256.size (sec1_inb j)) (fun _ => rfl)

/-- A memref's elements on device `c`, at some contents. -/
abbrev anyM {s : Shape} {e : EltTy} (M : Memref sig .tc .vmem s e) (c : Dev nD) : sProp 𝕄 :=
  iprop(∃ f : Buf (Elt F) (M.view.loc (c : Thread nD τ)), M.view.loc (c : Thread nD τ) ↦[M.view.set]{fullShare} f)

/-- The landing buffers device `e` hands device `c` for keys and values: `c` sends them where it is device 0 or 1. -/
def kvHand (c e : Dev nD) : sProp 𝕄 :=
  if c = 0 then iprop(anyM kb0M e ∗ anyM vb0M e) else if c = 1 then iprop(anyM kb1M e ∗ anyM vb1M e) else iprop(emp)

/-- What duty `d` of `c`'s barrier hands `c`: the landing places on the device `d + 1` on. -/
def barPay (c : Dev nD) (d : Fin 3) : sProp 𝕄 :=
  iprop((anyM (rrSlot d 0) (fwd c (d.val + 1)) ∗ anyM (rrSlot d 1) (fwd c (d.val + 1))
      ∗ anyM (arSlot d 0) (fwd c (d.val + 1)) ∗ anyM (arSlot d 1) (fwd c (d.val + 1))) ∗ kvHand c (fwd c (d.val + 1)))

set_option synthInstance.maxHeartbeats 200000 in
instance kvHand_storable (c e : Dev nD) : BI.Storable (upEmb : UEmb _ 𝕄) (kvHand (F := F) c e) := by
  unfold kvHand; (repeat' split) <;> infer_instance
set_option synthInstance.maxHeartbeats 200000 in
instance barPay_storable (c : Dev nD) (d : Fin 3) : BI.Storable (upEmb : UEmb _ 𝕄) (barPay (F := F) c d) := by
  unfold barPay; infer_instance

variable (m : (ℓ : Loc nD τ sig) → Buf (Elt F) ℓ)

def pay (c : Dev nD) (d : Fin 3) : Kind → sProp 𝕄
  | .bar => barPay c d
  | .kvS j t => if c = 0 then anyM (sec0 t j) c else anyM (sec1 t j) c
  | .kvR 0 0 => iprop(kb0M.view.loc (c : Thread nD τ) ↦[kb0M.view.set]{fullShare} KB0 m c)
  | .kvR 0 1 => iprop(vb0M.view.loc (c : Thread nD τ) ↦[vb0M.view.set]{fullShare} VB0 m c)
  | .kvR 1 0 => iprop(kb1M.view.loc (c : Thread nD τ) ↦[kb1M.view.set]{fullShare} KB1 m c)
  | .kvR 1 1 => iprop(vb1M.view.loc (c : Thread nD τ) ↦[vb1M.view.set]{fullShare} VB1 m c)
  | .rsS p b => anyM (rsSrc c p b) c
  | .rsR p b => iprop((rrSlot p b).view.loc (c : Thread nD τ) ↦[(rrSlot p b).view.set]{fullShare} RR m c)
  | .agS p b => iprop((agSrc b).view.loc (c : Thread nD τ) ↦[(agSrc b).view.set]{Ring.shares3 fullShare p} AG m c)
  | .agR p b => iprop((arSlot p b).view.loc (c : Thread nD τ) ↦[(arSlot p b).view.set]{fullShare} AR m c)

instance pay_storable (c : Dev nD) (d : Fin 3) (k : Kind) : BI.Storable (upEmb : UEmb _ 𝕄) (pay (F := F) m c d k) := by
  unfold pay
  split <;> (repeat' split) <;> infer_instance

/-! ## The schedule: one round -/

def Rd : Rounds.Schedule (GSem nD τ sig) (Fin 3) 𝕄 where
  duties g r := if r = 0 ∧ g.1.2 = .tc then (match kindOf g.2 with | some k => dutiesK g.1.1 k | none => ∅) else ∅
  unitless _ := False
  amount g _ _ := match kindOf g.2 with | some k => amt g.1.1 k | none => 1
  payload g _ d := match kindOf g.2 with | some k => pay m g.1.1 d k | none => iprop(emp)
  amount_pos g _ _ _ := by
    split
    · exact amt_pos _ _
    · exact Nat.one_pos

instance Rd_storable (g : GSem nD τ sig) (r : ℕ) (d : Fin 3) : BI.Storable (upEmb : UEmb _ 𝕄) ((Rd (F := F) m).payload g r d) := by
  show BI.Storable upEmb (match kindOf g.2 with | some k => pay m g.1.1 d k | none => iprop(emp))
  split <;> infer_instance

theorem Rd_duties (c : Dev nD) (k : Kind) : (Rd (F := F) m).duties (cell c k) 0 = dutiesK c k := by
  dsimp only [Rd, cell]; rw [if_pos ⟨rfl, rfl⟩, kindOf_sem]
theorem Rd_later (g : GSem nD τ sig) : ∀ r, 1 ≤ r → (Rd (F := F) m).duties g r = ∅ := fun r h => by
  dsimp only [Rd]; exact if_neg fun h' => by omega
theorem Rd_amount (c : Dev nD) (k : Kind) (r : ℕ) (d : Fin 3) : (Rd (F := F) m).amount (cell c k) r d = amt c k := by
  dsimp only [Rd, cell]; rw [kindOf_sem]
theorem Rd_payload (c : Dev nD) (k : Kind) (r : ℕ) (d : Fin 3) : (Rd (F := F) m).payload (cell c k) r d = pay m c d k := by
  dsimp only [Rd, cell]; rw [kindOf_sem]
theorem Rd_expect (c : Dev nD) (k : Kind) (h : dutiesK c k = {0}) : (Rd (F := F) m).expect (cell c k) 0 = amt c k := by
  unfold Schedule.expect Schedule.amountOf; rw [Rd_duties, h, Finset.sum_singleton, Rd_amount]
theorem Rd_expect_bar (c : Dev nD) : (Rd (F := F) m).expect (cell c .bar) 0 = 3 := by
  unfold Schedule.expect Schedule.amountOf; rw [Rd_duties]
  rw [Finset.sum_congr rfl fun d _ => Rd_amount m c .bar 0 d]; rfl

/-! ## What a device owes, in the order it pays -/

def owedL (l : List (Dev nD × Kind)) : CellTallies nD τ sig Unit :=
  (l.map fun x => tallyAt (cell x.1 x.2) () (amt x.1 x.2)).sum

theorem owedL_nil : owedL [] = 0 := rfl
theorem owedL_cons (x : Dev nD × Kind) (l : List (Dev nD × Kind)) :
    owedL (x :: l) = owedL l + tallyAt (cell x.1 x.2) () (amt x.1 x.2) := by
  unfold owedL; rw [List.map_cons, List.sum_cons, add_comm]

theorem owedL_pos {l : List (Dev nD × Kind)} {g : GSem nD τ sig} {u : Unit} (h : 0 < owedL l g u) : ∃ x ∈ l, g = cell x.1 x.2 := by
  induction l with
  | nil => exact absurd h (Nat.lt_irrefl 0)
  | cons x l ih =>
    rw [owedL_cons, Pi.add_apply, Finsupp.add_apply, tallyAt_apply] at h
    by_cases hg : g = cell x.1 x.2 ∧ u = ()
    · exact ⟨x, List.mem_cons_self, hg.1⟩
    · rw [if_neg hg, Nat.add_zero] at h
      obtain ⟨y, hy, e⟩ := ih h
      exact ⟨y, List.mem_cons_of_mem _ hy, e⟩

def barL (c : Dev nD) : List (Dev nD × Kind) := [(fwd c 1, .bar), (fwd c 2, .bar), (fwd c 3, .bar)]
def kvL0 : List (Dev nD × Kind) :=
  [(1, .kvR 0 0), (2, .kvR 0 0), (3, .kvR 0 0), (1, .kvR 0 1), (2, .kvR 0 1), (3, .kvR 0 1)]
def kvL1 : List (Dev nD × Kind) :=
  [(0, .kvR 1 0), (2, .kvR 1 0), (3, .kvR 1 0), (0, .kvR 1 1), (2, .kvR 1 1), (3, .kvR 1 1)]
def kvL (c : Dev nD) : List (Dev nD × Kind) := if c = 0 then kvL0 else if c = 1 then kvL1 else []
def rsL (c : Dev nD) (b : Fin 2) : List (Dev nD × Kind) := [(fwd c 1, .rsR 0 b), (fwd c 2, .rsR 1 b), (fwd c 3, .rsR 2 b)]
def agL (c : Dev nD) (b : Fin 2) : List (Dev nD × Kind) := [(fwd c 1, .agR 0 b), (fwd c 2, .agR 1 b), (fwd c 3, .agR 2 b)]
/-- What is owed after the key/value sends. -/
def L2 (c : Dev nD) : List (Dev nD × Kind) := rsL c 0 ++ (rsL c 1 ++ (agL c 0 ++ agL c 1))
def L0 (c : Dev nD) : List (Dev nD × Kind) := barL c ++ (kvL c ++ L2 c)

/-! ## Levels -/

def lvK : Kind → ℕ
  | .bar => 1 | .kvR _ _ => 2 | .rsR _ _ => 3 | .agR _ _ => 4 | _ => 0
def L (g : GSem nD τ sig) : Finset Unit := if g.1.2 = .tc then {()} else ∅
def lv (g : GSem nD τ sig) (_ : Unit) : ℕ := match kindOf g.2 with | some k => lvK k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Kind) (u : Unit) : lv (cell c k) u = lvK k := by
  dsimp only [lv, cell]; rw [kindOf_sem]

omit [FloatOps F] [Named F] in
theorem mayWait_at (c : Dev nD) (s : SemLoc sig) (l : List (Dev nD × Kind))
    (h : ∀ x ∈ l, lv ((c : Thread nD τ), s) () < lvK x.2) :
    (levAts L lv : sProp 𝕄) ⊢ MayWait (c : Thread nD τ) s () (owedL l) :=
  Pipeline.mayWait_of_levAts (L := L) (lev := lv) (by rw [L_tc]; exact Finset.mem_singleton_self _)
    (fun g u hg => by
      obtain ⟨x, hx, rfl⟩ := owedL_pos hg
      refine ⟨by rw [L_tc]; exact Finset.mem_singleton_self _, ?_⟩
      rw [lv_cell]; exact h x hx)

/-! ## What a device's body keeps at hand -/

/-- Every semaphore's record: its invariant at some name, and that it has reached round 0. -/
def recs (K : Dev nD × Kind → ℕ) : sProp 𝕄 :=
  iprop((bigSep Finset.univ fun ck : Dev nD × Kind => cellInv ER (Rd m) (K ck) (cell ck.1 ck.2))
    ∗ (bigSep Finset.univ fun ck : Dev nD × Kind => reached ER (cell ck.1 ck.2) 0))

instance recs_persistent (K : Dev nD × Kind → ℕ) : BI.Persistent (recs (F := F) m K) := by unfold recs; infer_instance

def env (K : Dev nD × Kind → ℕ) : sProp 𝕄 := iprop(recs m K ∗ levAts L lv)
instance env_persistent (K : Dev nD × Kind → ℕ) : BI.Persistent (env (F := F) m K) := by unfold env; infer_instance

theorem recs_inv (K : Dev nD × Kind → ℕ) (c : Dev nD) (k : Kind) :
    (bigSep Finset.univ fun ck : Dev nD × Kind => (cellInv ER (Rd m) (K ck) (cell ck.1 ck.2) : sProp 𝕄)) ⊢ cellInv ER (Rd m) (K (c, k)) (cell c k) :=
  bigSep_elim (Finset.mem_univ (c, k))
omit [FloatOps F] [Named F] in
theorem recs_reached (c : Dev nD) (k : Kind) :
    (bigSep Finset.univ fun ck : Dev nD × Kind => (reached ER (cell ck.1 ck.2) 0 : sProp 𝕄)) ⊢ reached ER (cell c k) 0 :=
  bigSep_elim (Finset.mem_univ (c, k))
theorem env_inv (K : Dev nD × Kind → ℕ) (c : Dev nD) (k : Kind) : env (F := F) m K ⊢ cellInv ER (Rd m) (K (c, k)) (cell c k) := by
  unfold env recs
  iintro ⟨⟨#H, -⟩, -⟩
  iapply (recs_inv m K c k); iexact H
theorem env_reached (K : Dev nD × Kind → ℕ) (c : Dev nD) (k : Kind) : env (F := F) m K ⊢ reached ER (cell c k) 0 := by
  unfold env recs
  iintro ⟨⟨-, #H⟩, -⟩
  iapply (recs_reached c k); iexact H
theorem env_lev (K : Dev nD × Kind → ℕ) : env (F := F) m K ⊢ levAts L lv := by
  unfold env; iintro ⟨-, #H⟩; iexact H

/-- What device `c` still owes, whatever it has waited for. -/
def owesL (c : Dev nD) (l : List (Dev nD × Kind)) : sProp 𝕄 := iprop(∃ W, owes (c : Thread nD τ) (owedL l) W)
/-- The owner's place at a semaphore. -/
abbrev pos (c : Dev nD) (k : Kind) : sProp 𝕄 := atPos ER (cell c k) 0 ∅ 0
/-- The right to credit a transfer's semaphore. -/
abbrev tok (c : Dev nD) (k : Kind) (d : Fin 3 := 0) : sProp 𝕄 := dutyTok ER (cell c k) 0 d
/-- What a wait spends. -/
abbrev waitTok (c : Dev nD) (k : Kind) : sProp 𝕄 := iprop(cred (tallyAt (cell c k) () (amt c k)) ∗ pos c k)
abbrev done (c : Dev nD) (k : Kind) : sProp 𝕄 := semVal (cell c k) 0

abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The rules -/

theorem rest_one (c : Dev nD) (k : Kind) (h : dutiesK c k = {0}) :
    bigSep ((Rd (F := F) m).duties (cell c k) 0 \ ∅) (fun d => (Rd (F := F) m).payload (cell c k) 0 d) = pay m c 0 k := by
  rw [Rd_duties, h, Finset.sdiff_empty, bigSep_singleton, Rd_payload]
theorem rest_bar (c : Dev nD) :
    bigSep ((Rd (F := F) m).duties (cell c .bar) 0 \ ∅) (fun d => (Rd (F := F) m).payload (cell c .bar) 0 d)
      = iprop(barPay c 0 ∗ barPay c 1 ∗ barPay c 2) := by
  rw [Rd_duties, Finset.sdiff_empty, show dutiesK c .bar = Finset.univ from rfl,
    bigSep_univ_eq_bigSepL [(0 : Fin 3), 1, 2] (by decide) (by decide)]
  show iprop((Rd m).payload (cell c .bar) 0 0 ∗ (Rd m).payload (cell c .bar) 0 1 ∗ (Rd m).payload (cell c .bar) 0 2) = _
  rw [Rd_payload, Rd_payload, Rd_payload]; rfl
theorem payload_bar (c : Dev nD) (d : Fin 3) :
    barPay c d ⊢ (Rd (F := F) m).payload ((c : Thread nD τ), .reg barS) 0 d :=
  Entails.of_eq (Rd_payload m c .bar 0 d).symm

/-- A transfer: the source's elements and the landing's are spent, the next item owed is paid. -/
theorem send (K : Dev nD × Kind → ℕ) (c c' n : Dev nD) (ks kr : Kind) (hn : n = c') {s : Shape} {e : EltTy}
    {src dst : Memref sig .tc .vmem s e} (src' dst' : Memref sig .tc .vmem s e) (hs : src = src') (hd : dst = dst')
    {sS sR : SemLoc sig} (hS : sS = sem ks) (hR : sR = sem kr)
    {hsc : (show Memref sig (Dev.tc n : Thread nD τ).2.kind .vmem s e from dst).view.ref.isScScratch = false} {hsrc : src.view.WordExact} {hdst : dst.view.WordExact}
    {hsem : DmaTarget.Typed .vmem sR (.remote (Dev.tc n : Thread nD τ) dst sS hsc)}
    {α : Type} {Q : α → sProp 𝕄} {k : PUnit → Prog (TpuEff nD τ sig (Elt F) Λ₀ .tc) α}
    (l : List (Dev nD × Kind)) (q : PosShare TreeShare) (fs : Buf (Elt F) (src'.view.loc (c : Thread nD τ))) (fd : Buf (Elt F) (dst'.view.loc (c' : Thread nD τ)))
    (hdk : 0 ∈ dutiesK c ks) (hdr : 0 ∈ dutiesK c' kr)
    (hN : dst'.view.amount (sem kr) = amt c' kr) (hN' : amt c ks = amt c' kr)
    (hp₁ : (src'.view.loc (c : Thread nD τ) ↦[src'.view.set]{q} fs) ⊢ pay m c 0 ks)
    (hp₂ : (dst'.view.loc (c' : Thread nD τ) ↦[dst'.view.set]{fullShare} (dst'.view.write (Elt F) fd (src'.view.read (Elt F) fs) Finset.univ)) ⊢ pay m c' 0 kr) :
    iprop(env m K ∗ (src'.view.loc (c : Thread nD τ) ↦[src'.view.set]{q} fs) ∗ (dst'.view.loc (c' : Thread nD τ) ↦[dst'.view.set]{fullShare} fd)
        ∗ owesL c ((c', kr) :: l) ∗ (tok c ks ∗ pos c ks) ∗ tok c' kr)
      ⊢ iprop(((waitTok c ks ∗ owesL c l) -∗ WP c (k ⟨⟩) Q)
          -∗ WP c (.op (.enqueueDma src (.remote (Dev.tc n : Thread nD τ) dst sS hsc) sR hsrc hdst hsem) k) Q) := by
  subst hn hs hd hS hR
  unfold owesL
  iintro ⟨#He, Hs, Hd, ⟨%W, HO⟩, ⟨Ht, Hp⟩, Ht'⟩ Hk
  iapply (Rounds.wp_send_pointsTo 𝒱₀ ER (Rd m) (c : Thread nD τ) none (κ₁ := K (c, ks)) (κ₂ := K (n, kr))
    (r₁ := 0) (r₂ := 0) (d₁ := 0) (d₂ := 0) (fs := fs) (fd := fd) (q := q)
    (by rw [Rd_duties]; exact hdk) (by rw [Rd_duties]; exact hdr)
    () () (amt n kr) hN ((Rd_amount m c ks 0 0).trans hN') (Rd_amount m n kr 0 0) (O₀ := owedL ((n, kr) :: l)) (owedL l) (owedL_cons (n, kr) l) (W := W)
    (by rw [Rd_payload]; exact hp₁) (by rw [Rd_payload]; exact hp₂)) $$ [Hs Hd HO Ht Ht']
  · isplitr; · iapply (env_inv m K c ks); iexact He
    isplitr; · iapply (env_inv m K n kr); iexact He
    isplitl [Hs]; · iexact Hs
    isplitl [Hd]; · iexact Hd
    isplitl [HO]; · iexact HO
    isplitl [Ht]; · iexact Ht
    isplitr; · iapply (env_reached m K c ks); iexact He
    isplitl [Ht']; · iexact Ht'
    iapply (env_reached m K n kr); iexact He
  iintro ⟨Hc, HO⟩
  iapply Hk
  isplitl [Hc Hp]
  · isplitl [Hc]; · rw [hN']; iexact Hc
    iexact Hp
  · iexists W; iexact HO

/-- A transfer's wait: its payload is the device's, its semaphore closed. -/
theorem wait (K : Dev nD × Kind → ℕ) (c : Dev nD) (kd : Kind) {sm : DmaSem sig} (hS : SemLoc.dma sm = sem kd) {s s' : Shape} {e e' : EltTy}
    {src : Memref sig .tc .vmem s' e'} {dst : Memref sig .tc .vmem s e} {hsrc : src.view.WordExact} {hdst : dst.view.WordExact}
    {α : Type} {Q : α → sProp 𝕄} {k : PUnit → Prog (TpuEff nD τ sig (Elt F) Λ₀ .tc) α}
    (l : List (Dev nD × Kind)) (hd : dutiesK c kd = {0}) (hN : dst.view.dmaCredit = amt c kd)
    (hl : ∀ x ∈ l, lvK kd < lvK x.2) :
    iprop(env m K ∗ waitTok c kd ∗ owesL c l)
      ⊢ iprop(((done c kd ∗ owesL c l ∗ pay m c 0 kd) -∗ WP c (k ⟨⟩) Q)
          -∗ WP c (.op (.waitDma2 sm src dst hsrc hdst) k) Q) := by
  unfold owesL
  iintro ⟨#He, ⟨Hc, Hp⟩, ⟨%W, HO⟩⟩ Hk
  have hw : ∀ K' : PUnit → sProp 𝕄, wpE (defs₀ (F := F)) 𝒱₀ (c : Thread nD τ) none Set.univ (.waitDma2 sm src dst hsrc hdst) K'
      = waitSpec (c : Thread nD τ) Set.univ (sem kd) (amt c kd) K' := fun K' => by
    rw [← hS, ← hN]; rfl
  iapply (Rounds.wp_wait_rest_token 𝒱₀ ER (Rd m) (c : Thread nD τ) none (κ := K (c, kd)) hw (Set.mem_univ _) ()
      (O := owedL l) (W := W) (R := 0) (m := 0) (T := ∅) (by rw [Nat.zero_add]; exact (Rd_expect m c kd hd).symm)) $$ [Hc HO Hp]
  · isplitr; · iapply (env_inv m K c kd); iexact He
    isplitl [Hc]; · iexact Hc
    isplitl [HO]; · iexact HO
    isplitr
    · iapply (mayWait_at c (sem kd) l (fun x hx => by rw [show lv ((c : Thread nD τ), sem kd) () = lvK kd from lv_cell c kd ()]; exact hl x hx))
      iapply (env_lev m K); iexact He
    iexact Hp
  iintro ⟨HO, Hp, -, Hpay⟩
  ihave Hpay := (Entails.of_eq (rest_one m c kd hd)) $$ Hpay
  imod (Rounds.cell_close ER (Rd m) (Set.mem_univ (K (c, kd))) (fun h => h) (R := 0 + 1) (Rd_later m (cell c kd))) $$ [Hp] with Hz
  · isplitr; · iapply (env_inv m K c kd); iexact He
    iexact Hp
  iapply Hk
  isplitl [Hz]; · iexact Hz
  isplitl [HO]
  · iexists _; iexact HO
  iexact Hpay

/-- A semaphore nothing credits is closed at once. -/
theorem close (K : Dev nD × Kind → ℕ) (c : Dev nD) (kd : Kind) (hd : dutiesK c kd = ∅) :
    iprop(env m K ∗ pos c kd) ⊢ (|={Set.univ}=> done c kd : sProp 𝕄) := by
  iintro ⟨#He, Hp⟩
  imod (Rounds.cell_close ER (Rd m) (Set.mem_univ (K (c, kd))) (fun h => h) (R := 0) (fun r _ => by
      rcases Nat.eq_zero_or_pos r with rfl | h
      · rw [Rd_duties]; exact hd
      · exact Rd_later m _ r h)) $$ [Hp] with Hz
  · isplitr; · iapply (env_inv m K c kd); iexact He
    iexact Hp
  imodintro; iexact Hz

/-- A barrier signal. -/
theorem signal (K : Dev nD × Kind → ℕ) (c c' n : Dev nD) (d : Fin 3) (hn : n = c') {sm : Sem sig} (hS : SemLoc.reg sm = sem .bar)
    {α : Type} {Q : α → sProp 𝕄} {k : PUnit → Prog (TpuEff nD τ sig (Elt F) Λ₀ .tc) α} (l : List (Dev nD × Kind)) :
    iprop(env m K ∗ owesL c ((c', .bar) :: l) ∗ tok c' .bar d ∗ barPay c' d)
      ⊢ iprop((owesL c l -∗ WP c (k ⟨⟩) Q) -∗ WP c (.op (.semSignal (Dev.tc n : Thread nD τ) sm 1) k) Q) := by
  subst hn
  obtain rfl : sm = barS := by injection hS
  unfold owesL
  iintro ⟨#He, ⟨%W, HO⟩, Ht, Hp⟩ Hk
  iapply (Rounds.wp_signal 𝒱₀ ER (Rd m) (c : Thread nD τ) none (dst := (n : Thread nD τ)) (κ := K (n, .bar)) (r := 0) (d := d)
      (by show d ∈ (Rd m).duties (cell n .bar) 0; rw [Rd_duties]; exact Finset.mem_univ _) (Rd_amount m n .bar 0 d) () (O₀ := owedL ((n, .bar) :: l)) (owedL l) (owedL_cons (n, .bar) l) (W := W)) $$ [HO Ht Hp]
  · isplitr; · iapply (env_inv m K n .bar); iexact He
    isplitl [HO]; · iexact HO
    isplitl [Ht]; · iexact Ht
    isplitl [Hp]
    · iapply (payload_bar m n d); iexact Hp
    iapply (env_reached m K n .bar); iexact He
  iintro HO
  iapply Hk
  iexists W; iexact HO

/-- The barrier's wait: the landing places of the three other devices. -/
theorem waitBar (K : Dev nD × Kind → ℕ) (c : Dev nD) {sm : Sem sig} (hS : SemLoc.reg sm = sem .bar)
    {α : Type} {Q : α → sProp 𝕄} {k : PUnit → Prog (TpuEff nD τ sig (Elt F) Λ₀ .tc) α} (l : List (Dev nD × Kind))
    (hl : ∀ x ∈ l, 1 < lvK x.2) :
    iprop(env m K ∗ (cred (tallyAt (cell c .bar) () 3) ∗ pos c .bar) ∗ owesL c l)
      ⊢ iprop(((done c .bar ∗ owesL c l ∗ barPay c 0 ∗ barPay c 1 ∗ barPay c 2) -∗ WP c (k ⟨⟩) Q)
          -∗ WP c (.op (.semWait sm 3) k) Q) := by
  obtain rfl : sm = barS := by injection hS
  unfold owesL
  iintro ⟨#He, ⟨Hc, Hp⟩, ⟨%W, HO⟩⟩ Hk
  iapply (Rounds.wp_wait_rest_token 𝒱₀ ER (Rd m) (c : Thread nD τ) none (κ := K (c, .bar)) (sm := sem .bar)
      (wpE_semWait_eq 𝒱₀ (c : Thread nD τ) none Set.univ) (Set.mem_univ _) ()
      (O := owedL l) (W := W) (R := 0) (m := 0) (T := ∅) (by rw [Nat.zero_add]; exact (Rd_expect_bar m c).symm)) $$ [Hc HO Hp]
  · isplitr; · iapply (env_inv m K c .bar); iexact He
    isplitl [Hc]; · iexact Hc
    isplitl [HO]; · iexact HO
    isplitr
    · iapply (mayWait_at c (sem .bar) l (fun x hx => by rw [show lv ((c : Thread nD τ), sem .bar) () = 1 from lv_cell c .bar ()]; exact hl x hx))
      iapply (env_lev m K); iexact He
    iexact Hp
  iintro ⟨HO, Hp, -, Hpay⟩
  ihave Hpay := (Entails.of_eq (rest_bar m c)) $$ Hpay
  imod (Rounds.cell_close ER (Rd m) (Set.mem_univ (K (c, .bar))) (fun h => h) (R := 0 + 1) (Rd_later m (cell c .bar))) $$ [Hp] with Hz
  · isplitr; · iapply (env_inv m K c .bar); iexact He
    iexact Hp
  iapply Hk
  isplitl [Hz]; · iexact Hz
  isplitl [HO]
  · iexists _; iexact HO
  iexact Hpay

end Cert.KernelIdeal.Gen

end
-- ==== Proof.Sets.lean ====
/- Which elements the transfers' views cover, which of them are disjoint, what the stores and the landings leave
   there, and the cutting and joining of a buffer along them. -/
module

public import proofs.«01_k».proof.Proof.Proto

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

/-! ## Elements of the views -/

theorem rsOff_eq : ∀ (c : Dev nD) (p : Fin 3) (b : Fin 2), rsOff c p b = ![b.val, 64 * ((c.val + (p.val + 1)) % 4), 0] := by decide +kernel
theorem off5_eq : ∀ (c : Dev nD) (p : Fin 3), k0_off5 c (BitVec.ofNat 32 (1 + p.val)) = ![0, 64 * ((c.val + (3 - p.val)) % 4), 0] := by decide +kernel
theorem off6_eq : ∀ (c : Dev nD) (p : Fin 3), k0_off6 c (BitVec.ofNat 32 (1 + p.val)) = ![1, 64 * ((c.val + (3 - p.val)) % 4), 0] := by decide +kernel

/-- An element of the scatter's source `(p, b)`: of batch `b`, in the rows of the device `p + 1` places on. -/
theorem mem_rsSrc {c : Dev nD} {p : Fin 3} {b : Fin 2} {i : S2x256x512.Idx} (h : i ∈ (rsSrc c p b).view.set) :
    (i 0).val = b.val ∧ (i 1).val / 64 = (c.val + (p.val + 1)) % 4 := by
  simp only [Memref.squeeze, Memref.slice, View.set_reshape, Memref.view_whole, View.set_slice_whole] at h
  have h' := Rect.mem_set_unit.1 h
  have h0 := h' 0
  have h1 := h' 1
  rw [rsOff_eq] at h0 h1
  simp only [Matrix.cons_val_zero, Matrix.cons_val_one, S1x64x512] at h0 h1
  constructor <;> omega
theorem mem_rrSlot {p : Fin 3} {b : Fin 2} {i : S3x2x64x512.Idx} (h : i ∈ (rrSlot p b).view.set) : i 0 = p ∧ i 1 = b := by
  simp only [Memref.squeeze, Memref.slice, View.set_reshape, Memref.view_whole, View.set_slice_whole] at h
  have h' := Rect.mem_set_unit.1 h
  have h0 := h' 0
  have h1 := h' 1
  simp only [Matrix.cons_val_zero, Matrix.cons_val_one, S1x1x64x512] at h0 h1
  constructor <;> ext <;> omega
theorem mem_arSlot {p : Fin 3} {b : Fin 2} {i : S3x2x64x512.Idx} (h : i ∈ (arSlot p b).view.set) : i 0 = p ∧ i 1 = b := by
  simp only [Memref.squeeze, Memref.slice, View.set_reshape, Memref.view_whole, View.set_slice_whole] at h
  have h' := Rect.mem_set_unit.1 h
  have h0 := h' 0
  have h1 := h' 1
  simp only [Matrix.cons_val_zero, Matrix.cons_val_one, S1x1x64x512] at h0 h1
  constructor <;> ext <;> omega
theorem mem_agSrc {b : Fin 2} {i : S2x64x512.Idx} : i ∈ (agSrc b).view.set ↔ i 0 = b := by
  simp only [Memref.squeeze, Memref.slice, View.set_reshape, Memref.view_whole, View.set_slice_whole]
  rw [Rect.mem_set_unit]
  constructor
  · intro h
    have h0 := h 0
    simp only [Matrix.cons_val_zero, S1x64x512] at h0
    ext; omega
  · intro h a
    have h0 : (i 0).val = b.val := congrArg Fin.val h
    have h1 : (i 1).val < 64 := (i 1).isLt
    have h2 : (i 2).val < 512 := (i 2).isLt
    fin_cases a
    · show b.val ≤ (i 0).val ∧ (i 0).val < b.val + 1
      omega
    · show 0 ≤ (i 1).val ∧ (i 1).val < 0 + 64
      omega
    · show 0 ≤ (i 2).val ∧ (i 2).val < 0 + 512
      omega
theorem mem_agHalf {b : Fin 2} {i : S2x64x512.Idx} : i ∈ (agM.access (agHalf b)).set ↔ i 0 = b := by
  rw [← mem_agSrc (b := b)]; simp only [Memref.squeeze, Memref.slice, View.set_reshape]
theorem mem_half {b : Fin 2} {i : S2x256x512.Idx} : i ∈ (rsM.access (half b)).set ↔ i 0 = b := by
  simp only [Memref.access, Memref.view_whole, View.set_slice_whole]
  rw [Rect.mem_set_unit]
  constructor
  · intro h
    have h0 := h 0
    simp only [Matrix.cons_val_zero, S1x256x512] at h0
    ext; omega
  · intro h a
    have h0 : (i 0).val = b.val := congrArg Fin.val h
    have h1 : (i 1).val < 256 := (i 1).isLt
    have h2 : (i 2).val < 512 := (i 2).isLt
    fin_cases a
    · show b.val ≤ (i 0).val ∧ (i 0).val < b.val + 1
      omega
    · show 0 ≤ (i 1).val ∧ (i 1).val < 0 + 256
      omega
    · show 0 ≤ (i 2).val ∧ (i 2).val < 0 + 512
      omega
theorem mem_oHalf {b : Fin 2} {i : S2x256x512.Idx} : i ∈ (oM.access (half b)).set ↔ i 0 = b := by
  rw [← mem_half (b := b)]; simp only [Memref.access, Memref.view_whole, View.set_slice_whole]
theorem mem_sec0 {t : Fin 2} {j : Fin 3} {i : S2x256x1024.Idx} :
    i ∈ (Rect.unit (s := S2x256x1024) ![0, 0, 256 * (j.val + 1)] S2x256x256.size (sec0_inb j)).set → (i 2).val / 256 = j.val + 1 := fun h => by
  have h2 := Rect.mem_set_unit.1 h 2
  simp only [S2x256x256] at h2
  have : 256 * (j.val + 1) ≤ (i 2).val ∧ (i 2).val < 256 * (j.val + 1) + 256 := h2
  omega
theorem sec1Off_mul : ∀ j, sec1Off j = 256 * (sec1Off j / 256) := by decide
theorem mem_sec1 {j : Fin 3} {i : S2x256x1024.Idx} :
    i ∈ (Rect.unit (s := S2x256x1024) ![0, 0, sec1Off j] S2x128x256.size (sec1_inb j)).set → (i 2).val / 256 = sec1Off j / 256 := fun h => by
  have h2 := Rect.mem_set_unit.1 h 2
  have : sec1Off j ≤ (i 2).val ∧ (i 2).val < sec1Off j + 256 := h2
  have := sec1Off_mul j
  omega

/-- The sections' elements. -/
abbrev S0 (j : Fin 3) : Finset S2x256x1024.Idx := (Rect.unit (s := S2x256x1024) ![0, 0, 256 * (j.val + 1)] S2x256x256.size (sec0_inb j)).set
abbrev S1 (j : Fin 3) : Finset S2x256x1024.Idx := (Rect.unit (s := S2x256x1024) ![0, 0, sec1Off j] S2x128x256.size (sec1_inb j)).set
theorem S0_disj {j j' : Fin 3} (h : j ≠ j') : Disjoint (S0 j) (S0 j') := by
  rw [Finset.disjoint_left]; intro i hi hi'
  have a := mem_sec0 (t := 0) hi; have b := mem_sec0 (t := 0) hi'
  exact h (Fin.ext (by omega))
theorem sec1Off_inj : ∀ j j' : Fin 3, sec1Off j / 256 = sec1Off j' / 256 → j = j' := by decide
theorem S1_disj {j j' : Fin 3} (h : j ≠ j') : Disjoint (S1 j) (S1 j') := by
  rw [Finset.disjoint_left]; intro i hi hi'
  have a := mem_sec1 hi; have b := mem_sec1 hi'
  exact h (sec1Off_inj j j' (by omega))

/-- The scatter's sources, the slots and the gather's sources, as families of elements. -/
abbrev IS (c : Dev nD) (p : Fin 3) (b : Fin 2) : Finset S2x256x512.Idx := (rsSrc c p b).view.set
abbrev IR (p : Fin 3) (b : Fin 2) : Finset S3x2x64x512.Idx := (rrSlot p b).view.set
abbrev IA (p : Fin 3) (b : Fin 2) : Finset S3x2x64x512.Idx := (arSlot p b).view.set
abbrev IG (b : Fin 2) : Finset S2x64x512.Idx := (agSrc b).view.set
theorem IS_disj (c : Dev nD) (p : Fin 3) (b : Fin 2) (p' : Fin 3) (b' : Fin 2) (h : (p, b) ≠ (p', b')) : Disjoint (IS c p b) (IS c p' b') := by
  rw [Finset.disjoint_left]; intro i hi hi'
  have x := mem_rsSrc hi; have y := mem_rsSrc hi'
  refine h (Prod.ext (Fin.ext ?_) (Fin.ext ?_)) <;> dsimp only <;> have := c.isLt <;> simp only [nD] at this <;> omega
theorem IR_disj (p : Fin 3) (b : Fin 2) (p' : Fin 3) (b' : Fin 2) (h : (p, b) ≠ (p', b')) : Disjoint (IR p b) (IR p' b') := by
  rw [Finset.disjoint_left]; intro i hi hi'
  have x := mem_rrSlot hi; have y := mem_rrSlot hi'
  exact h (Prod.ext (x.1.symm.trans y.1) (x.2.symm.trans y.2))
theorem IA_disj (p : Fin 3) (b : Fin 2) (p' : Fin 3) (b' : Fin 2) (h : (p, b) ≠ (p', b')) : Disjoint (IA p b) (IA p' b') := by
  rw [Finset.disjoint_left]; intro i hi hi'
  have x := mem_arSlot hi; have y := mem_arSlot hi'
  exact h (Prod.ext (x.1.symm.trans y.1) (x.2.symm.trans y.2))
theorem IG_disj {b b' : Fin 2} (h : b ≠ b') : Disjoint (IG b) (IG b') := by
  rw [Finset.disjoint_left]; intro i hi hi'
  exact h ((mem_agSrc.1 hi).symm.trans (mem_agSrc.1 hi'))

/-! ## Cutting and joining -/

theorem sub_sdiff {α : Type} [DecidableEq α] {I J S : Finset α} (h : I ⊆ S) (d : Disjoint I J) : I ⊆ S \ J := fun i hi =>
  Finset.mem_sdiff.2 ⟨h hi, Finset.disjoint_left.1 d hi⟩

section Cut
variable {ℓ : Loc nD τ sig}
omit [FloatOps F] [Named F] in
/-- A cut along a subset, and its inverse up to contents. -/
theorem cut {I S : Finset (Idx ℓ)} (h : I ⊆ S) (f : Buf (Elt F) ℓ) :
    (ℓ ↦[S]{fullShare} f : sProp 𝕄) ⊢ iprop((ℓ ↦[I]{fullShare} f) ∗ ℓ ↦[S \ I]{fullShare} f) := (pointsTo_split_subset h).1
omit [FloatOps F] [Named F] in
theorem uncut {I S : Finset (Idx ℓ)} (h : I ⊆ S) :
    iprop((∃ f : Buf (Elt F) ℓ, ℓ ↦[I]{fullShare} f) ∗ (∃ f : Buf (Elt F) ℓ, ℓ ↦[S \ I]{fullShare} f)) ⊢ (iprop(∃ f : Buf (Elt F) ℓ, ℓ ↦[S]{fullShare} f) : sProp 𝕄) := by
  iintro ⟨⟨%g, Hg⟩, ⟨%f, Hf⟩⟩
  iexists I.piecewise g f
  iapply (pointsTo_join_subset h)
  isplitl [Hg]; · iexact Hg
  iexact Hf

variable (I : Fin 3 → Fin 2 → Finset (Idx ℓ))
/-- What is left of a buffer when batch 0's three pieces, then batch 1's, are out. -/
abbrev left3 (S : Finset (Idx ℓ)) (b : Fin 2) : Finset (Idx ℓ) := ((S \ I 0 b) \ I 1 b) \ I 2 b
abbrev left6 : Finset (Idx ℓ) := left3 I (left3 I Finset.univ 0) 1

variable {I} (hI : ∀ p b p' b', (p, b) ≠ (p', b') → Disjoint (I p b) (I p' b'))
include hI
theorem sub00 {S : Finset (Idx ℓ)} {b : Fin 2} (h : ∀ p, I p b ⊆ S) : I 1 b ⊆ S \ I 0 b := sub_sdiff (h 1) (hI _ _ _ _ (by simp))
theorem sub01 {S : Finset (Idx ℓ)} {b : Fin 2} (h : ∀ p, I p b ⊆ S) : I 2 b ⊆ (S \ I 0 b) \ I 1 b :=
  sub_sdiff (sub_sdiff (h 2) (hI _ _ _ _ (by simp))) (hI _ _ _ _ (by simp))
theorem sub10 (p : Fin 3) : I p 1 ⊆ left3 I Finset.univ 0 :=
  sub_sdiff (sub_sdiff (sub_sdiff (Finset.subset_univ _) (hI _ _ _ _ (by simp))) (hI _ _ _ _ (by simp))) (hI _ _ _ _ (by simp))

omit [FloatOps F] [Named F] in
theorem cut3 {S : Finset (Idx ℓ)} {b : Fin 2} (h : ∀ p, I p b ⊆ S) (f : Buf (Elt F) ℓ) :
    (ℓ ↦[S]{fullShare} f : sProp 𝕄)
      ⊢ iprop((ℓ ↦[I 0 b]{fullShare} f) ∗ (ℓ ↦[I 1 b]{fullShare} f) ∗ (ℓ ↦[I 2 b]{fullShare} f) ∗ ℓ ↦[left3 I S b]{fullShare} f) := by
  iintro H
  ihave H' := (cut (h 0) f) $$ H
  icases H' with ⟨A, H⟩
  ihave H' := (cut (sub00 hI h) f) $$ H
  icases H' with ⟨B, H⟩
  ihave H' := (cut (sub01 hI h) f) $$ H
  icases H' with ⟨C, H⟩
  isplitl [A]; · iexact A
  isplitl [B]; · iexact B
  isplitl [C]; · iexact C
  iexact H
omit [FloatOps F] [Named F] in
theorem uncut3 {S : Finset (Idx ℓ)} {b : Fin 2} (h : ∀ p, I p b ⊆ S) :
    iprop((∃ f : Buf (Elt F) ℓ, ℓ ↦[I 0 b]{fullShare} f) ∗ (∃ f : Buf (Elt F) ℓ, ℓ ↦[I 1 b]{fullShare} f) ∗ (∃ f : Buf (Elt F) ℓ, ℓ ↦[I 2 b]{fullShare} f)
        ∗ ∃ f : Buf (Elt F) ℓ, ℓ ↦[left3 I S b]{fullShare} f)
      ⊢ (iprop(∃ f : Buf (Elt F) ℓ, ℓ ↦[S]{fullShare} f) : sProp 𝕄) := by
  iintro ⟨A, B, C, H⟩
  iapply (uncut (h 0))
  isplitl [A]; · iexact A
  iapply (uncut (sub00 hI h))
  isplitl [B]; · iexact B
  iapply (uncut (sub01 hI h))
  isplitl [C]; · iexact C
  iexact H
end Cut

/-! ## What stores and landings leave -/

theorem write_at {κ : Idealize.ShloMosaic.Kind} {sp : Space} {s : Shape} {e : EltTy} (v : View sig κ sp s e) (f g : v.ty.Contents (Elt F)) (w : s.Idx → Elt F e)
    {i : v.ty.Idx} (h : i ∈ v.set) : v.write (Elt F) f w Finset.univ i = v.write (Elt F) g w Finset.univ i := by
  obtain ⟨x, -, rfl⟩ := Finset.mem_map.1 h
  rw [View.write_emb_of_mem _ _ (Finset.mem_univ x), View.write_emb_of_mem _ _ (Finset.mem_univ x)]
theorem write_off {κ : Idealize.ShloMosaic.Kind} {sp : Space} {s : Shape} {e : EltTy} (v : View sig κ sp s e) (f : v.ty.Contents (Elt F)) (w : s.Idx → Elt F e)
    {i : v.ty.Idx} (h : i ∉ v.set) : v.write (Elt F) f w Finset.univ i = f i := View.write_of_not_mem _ _ _ (by rwa [View.setOn_univ])

variable (m : (ℓ : Loc nD τ sig) → Buf (Elt F) ℓ)

theorem two : ∀ b : Fin 2, b = 0 ∨ b = 1 := by decide
/-- Reading a scatter source after its batch's store. -/
theorem read_RS (c : Dev nD) (p : Fin 3) (f : cc0_scratch6.ty.Contents (Elt F)) (b : Fin 2) (w : Vec F S1x256x512 .bf16) (hw : w = if b.val = 0 then P100 m c else P108 m c) :
    (rsSrc c p b).view.read (Elt F) ((rsM.access (half b)).write (Elt F) f w Finset.univ) = (rsSrc c p b).view.read (Elt F) (RS m c) := by
  refine View.read_congr fun i hi => ?_
  have h0 := (mem_rsSrc hi).1
  have hh : i ∈ (rsM.access (half b)).set := mem_half.2 (Fin.ext h0)
  subst hw
  unfold RS
  rcases two b with rfl | rfl
  · rw [if_pos (show ((0 : Fin 2).val = 0) from rfl), if_pos (show (i 0).val = 0 from h0)]; exact write_at _ _ _ _ hh
  · rw [if_neg (show ¬ ((1 : Fin 2).val = 0) by decide), if_neg (show ¬ (i 0).val = 0 by rw [h0]; decide)]; exact write_at _ _ _ _ hh
/-- The scatter's landing. -/
theorem land_RR (c : Dev nD) (p : Fin 3) (b : Fin 2) (f : cc0_scratch7.ty.Contents (Elt F)) {i : S3x2x64x512.Idx} (hi : i ∈ (rrSlot p b).view.set) :
    (rrSlot p b).view.write (Elt F) f ((rsSrc (srcOf c p) p b).view.read (Elt F) (RS m (srcOf c p))) Finset.univ i = RR m c i := by
  obtain ⟨h0, h1⟩ := mem_rrSlot hi
  subst h0 h1
  unfold RR; exact write_at _ _ _ _ hi
/-- The gather's landing. -/
theorem land_AR (c : Dev nD) (p : Fin 3) (b : Fin 2) (f : cc0_scratch9.ty.Contents (Elt F)) {i : S3x2x64x512.Idx} (hi : i ∈ (arSlot p b).view.set) :
    (arSlot p b).view.write (Elt F) f ((agSrc b).view.read (Elt F) (AG m (srcOf c p))) Finset.univ i = AR m c i := by
  obtain ⟨h0, h1⟩ := mem_arSlot hi
  subst h0 h1
  unfold AR; exact write_at _ _ _ _ hi
/-- A gather source after its batch's store. -/
theorem store_AG (c : Dev nD) (f : cc0_scratch8.ty.Contents (Elt F)) (b : Fin 2) (w : Vec F S1x64x512 .bf16) (hw : w = if b.val = 0 then P113 m c else P117 m c)
    {i : S2x64x512.Idx} (hi : i ∈ (agSrc b).view.set) :
    (agM.access (agHalf b)).write (Elt F) f w Finset.univ i = AG m c i := by
  have h0 : i 0 = b := mem_agSrc.1 hi
  have hh := mem_agHalf.2 h0
  have hv : (i 0).val = b.val := congrArg Fin.val h0
  subst hw
  unfold AG
  rcases two b with rfl | rfl
  · rw [if_pos (show ((0 : Fin 2).val = 0) from rfl), if_pos (show (i 0).val = 0 from hv)]; exact write_at _ _ _ _ hh
  · rw [if_neg (show ¬ ((1 : Fin 2).val = 0) by decide), if_neg (show ¬ (i 0).val = 0 by rw [hv]; decide)]; exact write_at _ _ _ _ hh
/-- The output after its two stores. -/
theorem store_O1 (c : Dev nD) (f : cc0_stg5_0.ty.Contents (Elt F)) :
    (oM.access (half 1)).write (Elt F) ((oM.access (half 0)).write (Elt F) f (P101 m c) Finset.univ) (P109 m c) Finset.univ = O1 m c := by
  funext i
  unfold O1
  split <;> rename_i h
  · rw [write_off _ _ _ (fun hi => by have := mem_oHalf.1 hi; rw [this] at h; exact absurd h (by decide))]
    exact write_at _ _ _ _ (mem_oHalf.2 (Fin.ext h))
  · refine write_at _ _ _ _ (mem_oHalf.2 ?_)
    have : (i 0).val < 2 := (i 0).isLt
    ext; show (i 0).val = 1; omega

end Cert.KernelIdeal.Gen

end
-- ==== Proof.Steps.lean ====
/- The transfers one by one: what each spends and what it gives back, with the contents it moves; and the waits a
   device skips for its own keys and values. -/
module

public import proofs.«01_k».proof.Proof.Sets

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

/-- Elements `S` of a memref's buffer on device `c`, all of the share, holding `f`. -/
abbrev own {s : Shape} {e : EltTy} (M : Memref sig .tc .vmem s e) (c : Dev nD) (S : Finset (Idx (M.view.loc (c : Thread nD τ))))
    (f : Buf (Elt F) (M.view.loc (c : Thread nD τ))) : sProp 𝕄 :=
  M.view.loc (c : Thread nD τ) ↦[S]{fullShare} f

/-- The devices device 0 / device 1 sends keys and values to, in order. -/
def tgt0 : Fin 3 → Dev nD | 0 => 1 | 1 => 2 | 2 => 3
def tgt1 : Fin 3 → Dev nD | 0 => 0 | 1 => 2 | 2 => 3

theorem tgt0_ne : ∀ j : Fin 3, ¬ (tgt0 j).val = ((0 : Fin 2) : ℕ) := by decide
theorem tgt1_ne : ∀ j : Fin 3, ¬ (tgt1 j).val = ((1 : Fin 2) : ℕ) := by decide

theorem WP_ret {α : Type} (c : Dev nD) (a : α) (Q : α → sProp 𝕄) : WP c (.ret a) Q = iprop(|={Set.univ}=> Q a) := wp_ret ..
theorem WP_bind {α β : Type} (c : Dev nD) (p : Prog (TpuEff nD τ sig (Elt F) Λ₀ .tc) α) (k : α → Prog (TpuEff nD τ sig (Elt F) Λ₀ .tc) β) (Q : β → sProp 𝕄) :
    WP c (p >>= k) Q = WP c p (fun a => WP c (k a) Q) := wp_bind ..

variable (m : (ℓ : Loc nD τ sig) → Buf (Elt F) ℓ)

theorem fwd_back (c : Dev nD) (p : Fin 3) : srcOf (fwd c (p.val + 1)) p = c := by revert c p; decide
theorem fwd_fwd (c : Dev nD) (p : Fin 3) : fwd (fwd c (3 - p.val)) (p.val + 1) = c := by revert c p; decide
theorem whole_sub {b : Ref sig .tc} (X : Finset b.ty.Idx) : X ⊆ (Memref.whole b).view.set := by
  simp only [Memref.view_whole, View.set_whole]; exact Finset.subset_univ _

/-- Device 0 sends target `j` its block of the keys. -/
theorem sendK0 (K : Dev nD × Kind → ℕ) (n : Dev nD) (j : Fin 3) (hn : n = tgt0 j)
    {src dst : Memref sig .tc .vmem S2x256x256 .bf16} (hs : src = sec0 0 j) (hd : dst = kb0M)
    {sS sR : SemLoc sig} (hS : sS = sem (.kvS j 0)) (hR : sR = sem (.kvR 0 0))
    {hsc : (show Memref sig (Dev.tc n : Thread nD τ).2.kind .vmem S2x256x256 .bf16 from dst).view.ref.isScScratch = false} {hsrc : src.view.WordExact} {hdst : dst.view.WordExact}
    {hsem : DmaTarget.Typed .vmem sR (.remote (Dev.tc n : Thread nD τ) dst sS hsc)}
    {α : Type} {Q : α → sProp 𝕄} {k : PUnit → Prog (TpuEff nD τ sig (Elt F) Λ₀ .tc) α}
    (l : List (Dev nD × Kind))
    (f : Buf (Elt F) (ksM.view.loc ((0 : Dev nD) : Thread nD τ))) (w : Vec F S2x256x256 .bf16) (hw : w = KB0 m (tgt0 j)) (fd : Buf (Elt F) (kb0M.view.loc (tgt0 j : Thread nD τ))) :
    iprop(env m K ∗ own ksM 0 (S0 j) ((ksM.access (Rect.unit (s := S2x256x1024) ![0, 0, 256 * (j.val + 1)] S2x256x256.size (sec0_inb j))).write (Elt F) f w Finset.univ)
        ∗ own kb0M (tgt0 j) kb0M.view.set fd ∗ owesL 0 ((tgt0 j, .kvR 0 0) :: l) ∗ (tok 0 (.kvS j 0) ∗ pos 0 (.kvS j 0)) ∗ tok (tgt0 j) (.kvR 0 0))
      ⊢ iprop(((waitTok 0 (.kvS j 0) ∗ owesL 0 l) -∗ WP 0 (k ⟨⟩) Q)
          -∗ WP 0 (.op (.enqueueDma src (.remote (Dev.tc n : Thread nD τ) dst sS hsc) sR hsrc hdst hsem) k) Q) := by
  have e : (sec0 0 j).view.set = S0 j := by simp only [sec0, stgM, Memref.slice, Memref.view_whole, View.set_slice_whole]
  unfold own; rw [← e]
  refine send m K 0 (tgt0 j) n (.kvS j 0) (.kvR 0 0) hn (sec0 0 j) kb0M hs hd hS hR l fullShare _ fd ?_ ?_ ?_ ?_ ?_ ?_
  · show 0 ∈ (if (0 : Dev nD) = 0 ∨ (0 : Dev nD) = 1 then ({0} : Finset (Fin 3)) else ∅); rw [if_pos (by decide)]; exact Finset.mem_singleton_self 0
  · show 0 ∈ (if (tgt0 j).val = (0 : Fin 2).val then (∅ : Finset (Fin 3)) else {0}); rw [if_neg (tgt0_ne j)]; exact Finset.mem_singleton_self 0
  · rfl
  · show (if (0 : Dev nD) = 0 then N256 else N128) = N256; rw [if_pos rfl]
  · show _ ⊢ (if (0 : Dev nD) = 0 then anyM (sec0 0 j) 0 else anyM (sec1 0 j) 0); rw [if_pos rfl]
    iintro H; iexists _; iexact H
  · show _ ⊢ iprop(kb0M.view.loc (tgt0 j : Thread nD τ) ↦[kb0M.view.set]{fullShare} KB0 m (tgt0 j))
    rw [← hw]
    refine Entails.of_eq (pointsTo_congr fun i _ => ?_)
    rw [show (sec0 0 j).view.read (Elt F) ((ksM.access (Rect.unit (s := S2x256x1024) ![0, 0, 256 * (j.val + 1)] S2x256x256.size (sec0_inb j))).write (Elt F) f w Finset.univ) = w
      from View.read_write_univ _ _]
    exact congrFun (View.write_whole_univ _ _ _) i

/-- Device 0 sends target `j` its block of the values. -/
theorem sendV0 (K : Dev nD × Kind → ℕ) (n : Dev nD) (j : Fin 3) (hn : n = tgt0 j)
    {src dst : Memref sig .tc .vmem S2x256x256 .bf16} (hs : src = sec0 1 j) (hd : dst = vb0M)
    {sS sR : SemLoc sig} (hS : sS = sem (.kvS j 1)) (hR : sR = sem (.kvR 0 1))
    {hsc : (show Memref sig (Dev.tc n : Thread nD τ).2.kind .vmem S2x256x256 .bf16 from dst).view.ref.isScScratch = false} {hsrc : src.view.WordExact} {hdst : dst.view.WordExact}
    {hsem : DmaTarget.Typed .vmem sR (.remote (Dev.tc n : Thread nD τ) dst sS hsc)}
    {α : Type} {Q : α → sProp 𝕄} {k : PUnit → Prog (TpuEff nD τ sig (Elt F) Λ₀ .tc) α}
    (l : List (Dev nD × Kind))
    (f : Buf (Elt F) (vsM.view.loc ((0 : Dev nD) : Thread nD τ))) (w : Vec F S2x256x256 .bf16) (hw : w = VB0 m (tgt0 j)) (fd : Buf (Elt F) (vb0M.view.loc (tgt0 j : Thread nD τ))) :
    iprop(env m K ∗ own vsM 0 (S0 j) ((vsM.access (Rect.unit (s := S2x256x1024) ![0, 0, 256 * (j.val + 1)] S2x256x256.size (sec0_inb j))).write (Elt F) f w Finset.univ)
        ∗ own vb0M (tgt0 j) vb0M.view.set fd ∗ owesL 0 ((tgt0 j, .kvR 0 1) :: l) ∗ (tok 0 (.kvS j 1) ∗ pos 0 (.kvS j 1)) ∗ tok (tgt0 j) (.kvR 0 1))
      ⊢ iprop(((waitTok 0 (.kvS j 1) ∗ owesL 0 l) -∗ WP 0 (k ⟨⟩) Q)
          -∗ WP 0 (.op (.enqueueDma src (.remote (Dev.tc n : Thread nD τ) dst sS hsc) sR hsrc hdst hsem) k) Q) := by
  have e : (sec0 1 j).view.set = S0 j := by simp only [sec0, stgM, Memref.slice, Memref.view_whole, View.set_slice_whole]
  unfold own; rw [← e]
  refine send m K 0 (tgt0 j) n (.kvS j 1) (.kvR 0 1) hn (sec0 1 j) vb0M hs hd hS hR l fullShare _ fd ?_ ?_ ?_ ?_ ?_ ?_
  · show 0 ∈ (if (0 : Dev nD) = 0 ∨ (0 : Dev nD) = 1 then ({0} : Finset (Fin 3)) else ∅); rw [if_pos (by decide)]; exact Finset.mem_singleton_self 0
  · show 0 ∈ (if (tgt0 j).val = (0 : Fin 2).val then (∅ : Finset (Fin 3)) else {0}); rw [if_neg (tgt0_ne j)]; exact Finset.mem_singleton_self 0
  · rfl
  · show (if (0 : Dev nD) = 0 then N256 else N128) = N256; rw [if_pos rfl]
  · show _ ⊢ (if (0 : Dev nD) = 0 then anyM (sec0 1 j) 0 else anyM (sec1 1 j) 0); rw [if_pos rfl]
    iintro H; iexists _; iexact H
  · show _ ⊢ iprop(vb0M.view.loc (tgt0 j : Thread nD τ) ↦[vb0M.view.set]{fullShare} VB0 m (tgt0 j))
    rw [← hw]
    refine Entails.of_eq (pointsTo_congr fun i _ => ?_)
    rw [show (sec0 1 j).view.read (Elt F) ((vsM.access (Rect.unit (s := S2x256x1024) ![0, 0, 256 * (j.val + 1)] S2x256x256.size (sec0_inb j))).write (Elt F) f w Finset.univ) = w
      from View.read_write_univ _ _]
    exact congrFun (View.write_whole_univ _ _ _) i

/-- Device 1 sends target `j` its block of the keys. -/
theorem sendK1 (K : Dev nD × Kind → ℕ) (n : Dev nD) (j : Fin 3) (hn : n = tgt1 j)
    {src dst : Memref sig .tc .vmem S2x128x256 .bf16} (hs : src = sec1 0 j) (hd : dst = kb1M)
    {sS sR : SemLoc sig} (hS : sS = sem (.kvS j 0)) (hR : sR = sem (.kvR 1 0))
    {hsc : (show Memref sig (Dev.tc n : Thread nD τ).2.kind .vmem S2x128x256 .bf16 from dst).view.ref.isScScratch = false} {hsrc : src.view.WordExact} {hdst : dst.view.WordExact}
    {hsem : DmaTarget.Typed .vmem sR (.remote (Dev.tc n : Thread nD τ) dst sS hsc)}
    {α : Type} {Q : α → sProp 𝕄} {k : PUnit → Prog (TpuEff nD τ sig (Elt F) Λ₀ .tc) α}
    (l : List (Dev nD × Kind))
    (f : Buf (Elt F) (ksM.view.loc ((1 : Dev nD) : Thread nD τ))) (w : Vec F S2x128x256 .bf16) (hw : w = KB1 m (tgt1 j)) (fd : Buf (Elt F) (kb1M.view.loc (tgt1 j : Thread nD τ))) :
    iprop(env m K ∗ own ksM 1 (S1 j) ((ksM.access (Rect.unit (s := S2x256x1024) ![0, 0, sec1Off j] S2x128x256.size (sec1_inb j))).write (Elt F) f w Finset.univ)
        ∗ own kb1M (tgt1 j) kb1M.view.set fd ∗ owesL 1 ((tgt1 j, .kvR 1 0) :: l) ∗ (tok 1 (.kvS j 0) ∗ pos 1 (.kvS j 0)) ∗ tok (tgt1 j) (.kvR 1 0))
      ⊢ iprop(((waitTok 1 (.kvS j 0) ∗ owesL 1 l) -∗ WP 1 (k ⟨⟩) Q)
          -∗ WP 1 (.op (.enqueueDma src (.remote (Dev.tc n : Thread nD τ) dst sS hsc) sR hsrc hdst hsem) k) Q) := by
  have e : (sec1 0 j).view.set = S1 j := by simp only [sec1, stgM, Memref.slice, Memref.view_whole, View.set_slice_whole]
  unfold own; rw [← e]
  refine send m K 1 (tgt1 j) n (.kvS j 0) (.kvR 1 0) hn (sec1 0 j) kb1M hs hd hS hR l fullShare _ fd ?_ ?_ ?_ ?_ ?_ ?_
  · show 0 ∈ (if (1 : Dev nD) = 0 ∨ (1 : Dev nD) = 1 then ({0} : Finset (Fin 3)) else ∅); rw [if_pos (by decide)]; exact Finset.mem_singleton_self 0
  · show 0 ∈ (if (tgt1 j).val = (1 : Fin 2).val then (∅ : Finset (Fin 3)) else {0}); rw [if_neg (tgt1_ne j)]; exact Finset.mem_singleton_self 0
  · rfl
  · show (if (1 : Dev nD) = 0 then N256 else N128) = N128; rw [if_neg (by decide)]
  · show _ ⊢ (if (1 : Dev nD) = 0 then anyM (sec0 0 j) 1 else anyM (sec1 0 j) 1); rw [if_neg (by decide)]
    iintro H; iexists _; iexact H
  · show _ ⊢ iprop(kb1M.view.loc (tgt1 j : Thread nD τ) ↦[kb1M.view.set]{fullShare} KB1 m (tgt1 j))
    rw [← hw]
    refine Entails.of_eq (pointsTo_congr fun i _ => ?_)
    rw [show (sec1 0 j).view.read (Elt F) ((ksM.access (Rect.unit (s := S2x256x1024) ![0, 0, sec1Off j] S2x128x256.size (sec1_inb j))).write (Elt F) f w Finset.univ) = w
      from View.read_write_univ _ _]
    exact congrFun (View.write_whole_univ _ _ _) i

/-- Device 1 sends target `j` its block of the values. -/
theorem sendV1 (K : Dev nD × Kind → ℕ) (n : Dev nD) (j : Fin 3) (hn : n = tgt1 j)
    {src dst : Memref sig .tc .vmem S2x128x256 .bf16} (hs : src = sec1 1 j) (hd : dst = vb1M)
    {sS sR : SemLoc sig} (hS : sS = sem (.kvS j 1)) (hR : sR = sem (.kvR 1 1))
    {hsc : (show Memref sig (Dev.tc n : Thread nD τ).2.kind .vmem S2x128x256 .bf16 from dst).view.ref.isScScratch = false} {hsrc : src.view.WordExact} {hdst : dst.view.WordExact}
    {hsem : DmaTarget.Typed .vmem sR (.remote (Dev.tc n : Thread nD τ) dst sS hsc)}
    {α : Type} {Q : α → sProp 𝕄} {k : PUnit → Prog (TpuEff nD τ sig (Elt F) Λ₀ .tc) α}
    (l : List (Dev nD × Kind))
    (f : Buf (Elt F) (vsM.view.loc ((1 : Dev nD) : Thread nD τ))) (w : Vec F S2x128x256 .bf16) (hw : w = VB1 m (tgt1 j)) (fd : Buf (Elt F) (vb1M.view.loc (tgt1 j : Thread nD τ))) :
    iprop(env m K ∗ own vsM 1 (S1 j) ((vsM.access (Rect.unit (s := S2x256x1024) ![0, 0, sec1Off j] S2x128x256.size (sec1_inb j))).write (Elt F) f w Finset.univ)
        ∗ own vb1M (tgt1 j) vb1M.view.set fd ∗ owesL 1 ((tgt1 j, .kvR 1 1) :: l) ∗ (tok 1 (.kvS j 1) ∗ pos 1 (.kvS j 1)) ∗ tok (tgt1 j) (.kvR 1 1))
      ⊢ iprop(((waitTok 1 (.kvS j 1) ∗ owesL 1 l) -∗ WP 1 (k ⟨⟩) Q)
          -∗ WP 1 (.op (.enqueueDma src (.remote (Dev.tc n : Thread nD τ) dst sS hsc) sR hsrc hdst hsem) k) Q) := by
  have e : (sec1 1 j).view.set = S1 j := by simp only [sec1, stgM, Memref.slice, Memref.view_whole, View.set_slice_whole]
  unfold own; rw [← e]
  refine send m K 1 (tgt1 j) n (.kvS j 1) (.kvR 1 1) hn (sec1 1 j) vb1M hs hd hS hR l fullShare _ fd ?_ ?_ ?_ ?_ ?_ ?_
  · show 0 ∈ (if (1 : Dev nD) = 0 ∨ (1 : Dev nD) = 1 then ({0} : Finset (Fin 3)) else ∅); rw [if_pos (by decide)]; exact Finset.mem_singleton_self 0
  · show 0 ∈ (if (tgt1 j).val = (1 : Fin 2).val then (∅ : Finset (Fin 3)) else {0}); rw [if_neg (tgt1_ne j)]; exact Finset.mem_singleton_self 0
  · rfl
  · show (if (1 : Dev nD) = 0 then N256 else N128) = N128; rw [if_neg (by decide)]
  · show _ ⊢ (if (1 : Dev nD) = 0 then anyM (sec0 1 j) 1 else anyM (sec1 1 j) 1); rw [if_neg (by decide)]
    iintro H; iexists _; iexact H
  · show _ ⊢ iprop(vb1M.view.loc (tgt1 j : Thread nD τ) ↦[vb1M.view.set]{fullShare} VB1 m (tgt1 j))
    rw [← hw]
    refine Entails.of_eq (pointsTo_congr fun i _ => ?_)
    rw [show (sec1 1 j).view.read (Elt F) ((vsM.access (Rect.unit (s := S2x256x1024) ![0, 0, sec1Off j] S2x128x256.size (sec1_inb j))).write (Elt F) f w Finset.univ) = w
      from View.read_write_univ _ _]
    exact congrFun (View.write_whole_univ _ _ _) i

/-- The scatter's transfer `(p, b)`: to the device `p + 1` places on. -/
theorem sendRS (K : Dev nD × Kind → ℕ) (c n : Dev nD) (p : Fin 3) (b : Fin 2) (hn : n = fwd c (p.val + 1))
    {src dst : Memref sig .tc .vmem S64x512 .bf16} (hs : src = rsSrc c p b) (hd : dst = rrSlot p b)
    {sS sR : SemLoc sig} (hS : sS = sem (.rsS p b)) (hR : sR = sem (.rsR p b))
    {hsc : (show Memref sig (Dev.tc n : Thread nD τ).2.kind .vmem S64x512 .bf16 from dst).view.ref.isScScratch = false} {hsrc : src.view.WordExact} {hdst : dst.view.WordExact}
    {hsem : DmaTarget.Typed .vmem sR (.remote (Dev.tc n : Thread nD τ) dst sS hsc)}
    {α : Type} {Q : α → sProp 𝕄} {k : PUnit → Prog (TpuEff nD τ sig (Elt F) Λ₀ .tc) α}
    (l : List (Dev nD × Kind))
    (f : Buf (Elt F) (rsM.view.loc (c : Thread nD τ))) (w : Vec F S1x256x512 .bf16) (hw : w = if b.val = 0 then P100 m c else P108 m c)
    (fd : Buf (Elt F) ((rrSlot p b).view.loc (fwd c (p.val + 1) : Thread nD τ))) :
    iprop(env m K ∗ own rsM c (IS c p b) ((rsM.access (half b)).write (Elt F) f w Finset.univ)
        ∗ own (rrSlot p b) (fwd c (p.val + 1)) (rrSlot p b).view.set fd ∗ owesL c ((fwd c (p.val + 1), .rsR p b) :: l) ∗ (tok c (.rsS p b) ∗ pos c (.rsS p b)) ∗ tok (fwd c (p.val + 1)) (.rsR p b))
      ⊢ iprop(((waitTok c (.rsS p b) ∗ owesL c l) -∗ WP c (k ⟨⟩) Q)
          -∗ WP c (.op (.enqueueDma src (.remote (Dev.tc n : Thread nD τ) dst sS hsc) sR hsrc hdst hsem) k) Q) := by
  refine send m K c (fwd c (p.val + 1)) n (.rsS p b) (.rsR p b) hn (rsSrc c p b) (rrSlot p b) hs hd hS hR l fullShare _ fd
    (Finset.mem_singleton_self 0) (Finset.mem_singleton_self 0) rfl rfl ?_ ?_
  · show _ ⊢ anyM (rsSrc c p b) c
    iintro H; iexists _; iexact H
  · show _ ⊢ iprop((rrSlot p b).view.loc (fwd c (p.val + 1) : Thread nD τ) ↦[(rrSlot p b).view.set]{fullShare} RR m (fwd c (p.val + 1)))
    refine Entails.of_eq (pointsTo_congr fun i hi => ?_)
    rw [read_RS m c p f b w hw]
    have h := land_RR m (fwd c (p.val + 1)) p b fd hi
    rw [fwd_back] at h; exact h

/-- The gather's transfer `(p, b)`: a share of batch `b`'s summed block, to the device `p + 1` places on. -/
theorem sendAG (K : Dev nD × Kind → ℕ) (c n : Dev nD) (p : Fin 3) (b : Fin 2) (hn : n = fwd c (p.val + 1))
    {src dst : Memref sig .tc .vmem S64x512 .bf16} (hs : src = agSrc b) (hd : dst = arSlot p b)
    {sS sR : SemLoc sig} (hS : sS = sem (.agS p b)) (hR : sR = sem (.agR p b))
    {hsc : (show Memref sig (Dev.tc n : Thread nD τ).2.kind .vmem S64x512 .bf16 from dst).view.ref.isScScratch = false} {hsrc : src.view.WordExact} {hdst : dst.view.WordExact}
    {hsem : DmaTarget.Typed .vmem sR (.remote (Dev.tc n : Thread nD τ) dst sS hsc)}
    {α : Type} {Q : α → sProp 𝕄} {k : PUnit → Prog (TpuEff nD τ sig (Elt F) Λ₀ .tc) α}
    (l : List (Dev nD × Kind))
    (fd : Buf (Elt F) ((arSlot p b).view.loc (fwd c (p.val + 1) : Thread nD τ))) :
    iprop(env m K ∗ ((agSrc b).view.loc (c : Thread nD τ) ↦[(agSrc b).view.set]{Ring.shares3 fullShare p} AG m c)
        ∗ own (arSlot p b) (fwd c (p.val + 1)) (arSlot p b).view.set fd ∗ owesL c ((fwd c (p.val + 1), .agR p b) :: l) ∗ (tok c (.agS p b) ∗ pos c (.agS p b)) ∗ tok (fwd c (p.val + 1)) (.agR p b))
      ⊢ iprop(((waitTok c (.agS p b) ∗ owesL c l) -∗ WP c (k ⟨⟩) Q)
          -∗ WP c (.op (.enqueueDma src (.remote (Dev.tc n : Thread nD τ) dst sS hsc) sR hsrc hdst hsem) k) Q) := by
  refine send m K c (fwd c (p.val + 1)) n (.agS p b) (.agR p b) hn (agSrc b) (arSlot p b) hs hd hS hR l (Ring.shares3 fullShare p) (AG m c) fd
    (Finset.mem_singleton_self 0) (Finset.mem_singleton_self 0) rfl rfl (Entails.of_eq rfl) ?_
  show _ ⊢ iprop((arSlot p b).view.loc (fwd c (p.val + 1) : Thread nD τ) ↦[(arSlot p b).view.set]{fullShare} AR m (fwd c (p.val + 1)))
  refine Entails.of_eq (pointsTo_congr fun i hi => ?_)
  have h := land_AR m (fwd c (p.val + 1)) p b fd hi
  rw [fwd_back] at h; exact h

/-! ## The keys' and values' receives -/

/-- A landing buffer's receive before its wait: on the source device the block is there and the semaphore closed. -/
def kvPend (c : Dev nD) (s t : Fin 2) : sProp 𝕄 :=
  if c.val = s.val then iprop(done c (.kvR s t) ∗ pay m c 0 (.kvR s t)) else waitTok c (.kvR s t)

/-- The wait, skipped on the source device. -/
theorem kvWait (K : Dev nD × Kind → ℕ) (c : Dev nD) (s t : Fin 2) {cond : Prop} [Decidable cond] (hc : cond ↔ c.val ≠ s.val)
    {sm : DmaSem sig} (hS : SemLoc.dma sm = sem (.kvR s t)) {sh sh' : Shape} {e e' : EltTy}
    {src : Memref sig .tc .vmem sh' e'} {dst : Memref sig .tc .vmem sh e} {hsrc : src.view.WordExact} {hdst : dst.view.WordExact}
    {Q : PUnit → sProp 𝕄} (l : List (Dev nD × Kind)) (hN : dst.view.dmaCredit = amt c (.kvR s t)) (hl : ∀ x ∈ l, 2 < lvK x.2) :
    iprop(env m K ∗ kvPend m c s t ∗ owesL c l)
      ⊢ iprop(((done c (.kvR s t) ∗ owesL c l ∗ pay m c 0 (.kvR s t)) -∗ Q ⟨⟩)
          -∗ WP c (if h : cond then .op (.waitDma2 sm src dst hsrc hdst) (fun _ => .ret ⟨⟩) else .ret ⟨⟩) Q) := by
  unfold kvPend
  by_cases h : c.val = s.val
  · rw [if_pos h, dif_neg (fun hh => hc.1 hh h)]
    iintro ⟨-, ⟨Hd, Hp⟩, HO⟩ Hk
    rw [WP_ret]; imodintro
    iapply Hk
    isplitl [Hd]; · iexact Hd
    isplitl [HO]; · iexact HO
    iexact Hp
  · rw [if_neg h, dif_pos (hc.2 h)]
    iintro ⟨#He, Hw, HO⟩ Hk
    iapply (wait m K c (.kvR s t) hS l (by show (if c.val = s.val then ∅ else {0}) = ({0} : Finset (Fin 3)); rw [if_neg h]) hN hl) $$ [Hw HO]
    · isplitr; · iexact He
      isplitl [Hw]; · iexact Hw
      iexact HO
    iintro H
    rw [WP_ret]; imodintro
    iapply Hk; iexact H

/-! ## Handing the landing buffers over -/

theorem hand_split (e : Dev nD) :
    iprop(anyM (F := F) kb0M e ∗ anyM (F := F) vb0M e ∗ anyM (F := F) kb1M e ∗ anyM (F := F) vb1M e)
      ⊢ iprop(kvHand (F := F) (fwd e 1) e ∗ kvHand (F := F) (fwd e 2) e ∗ kvHand (F := F) (fwd e 3) e ∗ kvHand (F := F) e e) := by
  have h0 : ∀ e, kvHand (F := F) 0 e = iprop(anyM kb0M e ∗ anyM vb0M e) := fun e => if_pos rfl
  have h1 : ∀ e, kvHand (F := F) 1 e = iprop(anyM kb1M e ∗ anyM vb1M e) := fun e => (if_neg (by decide)).trans (if_pos rfl)
  have h2 : ∀ e, kvHand (F := F) 2 e = iprop(emp) := fun e => (if_neg (by decide)).trans (if_neg (by decide))
  have h3 : ∀ e, kvHand (F := F) 3 e = iprop(emp) := fun e => (if_neg (by decide)).trans (if_neg (by decide))
  have he : e = 0 ∨ e = 1 ∨ e = 2 ∨ e = 3 := by revert e; decide
  rcases he with rfl | rfl | rfl | rfl
  · rw [show fwd 0 1 = 1 from rfl, show fwd 0 2 = 2 from rfl, show fwd 0 3 = 3 from rfl, h0, h1, h2, h3]
    iintro ⟨A, B, C, D⟩
    isplitl [C D]; · isplitl [C] <;> iassumption
    isplitr; · iempintro
    isplitr; · iempintro
    isplitl [A] <;> iassumption
  · rw [show fwd 1 1 = 2 from rfl, show fwd 1 2 = 3 from rfl, show fwd 1 3 = 0 from rfl, h0, h1, h2, h3]
    iintro ⟨A, B, C, D⟩
    isplitr; · iempintro
    isplitr; · iempintro
    isplitl [A B]; · isplitl [A] <;> iassumption
    isplitl [C] <;> iassumption
  · rw [show fwd 2 1 = 3 from rfl, show fwd 2 2 = 0 from rfl, show fwd 2 3 = 1 from rfl, h0, h1, h2, h3]
    iintro ⟨A, B, C, D⟩
    isplitr; · iempintro
    isplitl [A B]; · isplitl [A] <;> iassumption
    isplitl [C D]; · isplitl [C] <;> iassumption
    iempintro
  · rw [show fwd 3 1 = 0 from rfl, show fwd 3 2 = 1 from rfl, show fwd 3 3 = 2 from rfl, h0, h1, h2, h3]
    iintro ⟨A, B, C, D⟩
    isplitl [A B]; · isplitl [A] <;> iassumption
    isplitl [C D]; · isplitl [C] <;> iassumption
    isplitr <;> iempintro

end Cert.KernelIdeal.Gen

end
-- ==== Proof.PartsB.lean ====
/- The kernel's steps: the attention between the barrier and the scatter. -/
module

public import proofs.«01_k».proof.Proof.Steps

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

variable (m : (ℓ : Loc nD τ sig) → Buf (Elt F) ℓ)

/-! ## Loads and stores -/

/-- A load: holding elements that include the ones read, the program continues at what is read. -/
theorem ld (c : Dev nD) {s : Shape} {e : EltTy} {M : Memref sig .tc .vmem s e} {r : LoadRect s} {hl : M.view.LoadsAt r}
    {α : Type} {Q : α → sProp 𝕄} {k : (r.shape.Idx → Elt F e) → Prog (TpuEff nD τ sig (Elt F) Λ₀ .tc) α}
    {S : Finset (Idx (M.view.loc (c : Thread nD τ)))} {q : PosShare TreeShare} {f : Buf (Elt F) (M.view.loc (c : Thread nD τ))}
    (hS : M.view.setOn r.set ⊆ S) :
    (M.view.loc (c : Thread nD τ) ↦[S]{q} f)
      ⊢ iprop(((M.view.loc (c : Thread nD τ) ↦[S]{q} f) -∗ WP c (k (M.view.readAt (Elt F) r f)) Q) -∗ WP c (.op (.load M r hl) k) Q) :=
  wp_load 𝒱₀ (c : Thread nD τ) none Set.univ hS

/-- A store: holding the elements written, the program continues with them written. -/
theorem st (c : Dev nD) {s : Shape} {e : EltTy} {M : Memref sig .tc .vmem s e} {r : Rect s} {w : r.shape.Idx → Elt F e}
    {hx : (M.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α}
    {S : Finset (Idx (M.view.loc (c : Thread nD τ)))} {f : Buf (Elt F) (M.view.loc (c : Thread nD τ))}
    (hS : (M.access r).setOn Finset.univ ⊆ S) :
    (M.view.loc (c : Thread nD τ) ↦[S]{fullShare} f)
      ⊢ iprop(((M.view.loc (c : Thread nD τ) ↦[S]{fullShare} ((M.access r).write (Elt F) f w Finset.univ)) -∗ WP c (k ⟨⟩) Q)
          -∗ WP c (.op (.store M r w Finset.univ hx hm) k) Q) :=
  wp_store 𝒱₀ (c : Thread nD τ) none Set.univ (m := M) (r := r) hS

theorem stU (c : Dev nD) {s : Shape} {e : EltTy} (M : Memref sig .tc .vmem s e) {r : Rect s} {w : r.shape.Idx → Elt F e}
    {hx : (M.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α} {f : Buf (Elt F) (M.view.loc (c : Thread nD τ))} :
    (M.view.loc (c : Thread nD τ) ↦[Finset.univ]{fullShare} f)
      ⊢ iprop(((M.view.loc (c : Thread nD τ) ↦[Finset.univ]{fullShare} ((M.access r).write (Elt F) f w Finset.univ)) -∗ WP c (k ⟨⟩) Q)
          -∗ WP c (.op (.store M r w Finset.univ hx hm) k) Q) :=
  st c (M := M) (r := r) (S := Finset.univ) (Finset.subset_univ _)

/-! ## The words and devices the program computes -/

/-- The device's number, as the program computes it. -/
abbrev W2 (c : Dev nD) : BitVec 32 := Scalar.remsi (Scalar.divsi (Dev.word c) 1#32) 4#32

theorem cond0 (c : Dev nD) : Scalar.cmpi .ne (Scalar.extui (Scalar.cmpi .ne (W2 c) 0#32) : BitVec 32) 0#32 = 1#1 ↔ c.val ≠ ((0 : Fin 2) : ℕ) := by revert c; decide
theorem cond1 (c : Dev nD) : Scalar.cmpi .ne (Scalar.extui (Scalar.cmpi .ne (W2 c) 1#32) : BitVec 32) 0#32 = 1#1 ↔ c.val ≠ ((1 : Fin 2) : ℕ) := by revert c; decide

/-- The same wait, followed by the rest of the program. -/
theorem kvWait' (K : Dev nD × Kind → ℕ) (c : Dev nD) (s t : Fin 2) {cond : Prop} [Decidable cond] (hc : cond ↔ c.val ≠ s.val)
    {sm : DmaSem sig} (hS : SemLoc.dma sm = sem (.kvR s t)) {sh sh' : Shape} {e e' : EltTy}
    {src : Memref sig .tc .vmem sh' e'} {dst : Memref sig .tc .vmem sh e} {hsrc : src.view.WordExact} {hdst : dst.view.WordExact}
    {α : Type} {Q : α → sProp 𝕄} {k : Prog (TpuEff nD τ sig (Elt F) Λ₀ .tc) α}
    (l : List (Dev nD × Kind)) (hN : dst.view.dmaCredit = amt c (.kvR s t)) (hl : ∀ x ∈ l, 2 < lvK x.2) :
    iprop(env m K ∗ kvPend m c s t ∗ owesL c l)
      ⊢ iprop(((done c (.kvR s t) ∗ owesL c l ∗ pay m c 0 (.kvR s t)) -∗ WP c k Q)
          -∗ WP c (if h : cond then .op (.waitDma2 sm src dst hsrc hdst) (fun _ => k) else k) Q) := by
  have e : (if h : cond then .op (.waitDma2 sm src dst hsrc hdst) (fun _ => k) else k : Prog (TpuEff nD τ sig (Elt F) Λ₀ .tc) α)
      = (if h : cond then .op (.waitDma2 sm src dst hsrc hdst) (fun _ => .ret ⟨⟩) else .ret ⟨⟩ : Prog (TpuEff nD τ sig (Elt F) Λ₀ .tc) PUnit) >>= fun _ => k := by
    by_cases h : cond
    · rw [dif_pos h, dif_pos h]; rfl
    · rw [dif_neg h, dif_neg h]; rfl
  rw [e, WP_bind]
  exact kvWait (Q := fun _ => WP c k Q) m K c s t hc hS l hN hl

theorem dev1 (c : Dev nD) : (⟨k0_dev1 c, k0_dev1_lt c⟩ : Dev nD) = fwd c 1 := by revert c; decide +kernel
theorem dev2 (c : Dev nD) : (⟨k0_dev2 c, k0_dev2_lt c⟩ : Dev nD) = fwd c 2 := by revert c; decide +kernel
theorem dev3 (c : Dev nD) : (⟨k0_dev3 c, k0_dev3_lt c⟩ : Dev nD) = fwd c 3 := by revert c; decide +kernel
theorem dev16 (c : Dev nD) : (⟨k0_dev16 c, k0_dev16_lt c⟩ : Dev nD) = fwd c 1 := by revert c; decide +kernel
theorem dev17 (c : Dev nD) : (⟨k0_dev17 c, k0_dev17_lt c⟩ : Dev nD) = fwd c 2 := by revert c; decide +kernel
theorem dev18 (c : Dev nD) : (⟨k0_dev18 c, k0_dev18_lt c⟩ : Dev nD) = fwd c 3 := by revert c; decide +kernel
theorem dev19 (c : Dev nD) : (⟨k0_dev19 c, k0_dev19_lt c⟩ : Dev nD) = fwd c 1 := by revert c; decide +kernel
theorem dev20 (c : Dev nD) : (⟨k0_dev20 c, k0_dev20_lt c⟩ : Dev nD) = fwd c 2 := by revert c; decide +kernel
theorem dev21 (c : Dev nD) : (⟨k0_dev21 c, k0_dev21_lt c⟩ : Dev nD) = fwd c 3 := by revert c; decide +kernel
theorem dev22 (c : Dev nD) : (⟨k0_dev22 c, k0_dev22_lt c⟩ : Dev nD) = fwd c 1 := by revert c; decide +kernel
theorem dev23 (c : Dev nD) : (⟨k0_dev23 c, k0_dev23_lt c⟩ : Dev nD) = fwd c 2 := by revert c; decide +kernel
theorem dev24 (c : Dev nD) : (⟨k0_dev24 c, k0_dev24_lt c⟩ : Dev nD) = fwd c 3 := by revert c; decide +kernel
theorem dev25 (c : Dev nD) : (⟨k0_dev25 c, k0_dev25_lt c⟩ : Dev nD) = fwd c 1 := by revert c; decide +kernel
theorem dev26 (c : Dev nD) : (⟨k0_dev26 c, k0_dev26_lt c⟩ : Dev nD) = fwd c 2 := by revert c; decide +kernel
theorem dev27 (c : Dev nD) : (⟨k0_dev27 c, k0_dev27_lt c⟩ : Dev nD) = fwd c 3 := by revert c; decide +kernel

/-! ## The attention: waiting for keys and values -/

/-- Waiting for device 0's keys; the scores' first half. -/
theorem part11 (K : Dev nD × Kind → ℕ) (c : Dev nD) (l : List (Dev nD × Kind)) (hl : ∀ x ∈ l, 2 < lvK x.2)
    {Q : _ → sProp 𝕄} :
    iprop(env m K ∗ kvPend m c 0 0 ∗ owesL c l)
      ⊢ iprop(((done c (.kvR 0 0) ∗ owesL c l ∗ own kb0M c kb0M.view.set (KB0 m c)) -∗ Q ⟨V66 m c, V68 m c, V70 m c, V72 m c, V74 m c, V76 m c, V78 m c, V80 m c, V94 (F := F) c, V96 m c, V102 m c, V103 m c, V107 m c⟩)
        -∗ WP c (k0_part11 xM (Memref.isWhole_whole _) wqM (Memref.isWhole_whole _) kM (Memref.isWhole_whole _) vM (Memref.isWhole_whole _) woM (Memref.isWhole_whole _) oM (Memref.isWhole_whole _) ksM (Memref.isWhole_whole _) vsM (Memref.isWhole_whole _) kb0M (Memref.isWhole_whole _) vb0M (Memref.isWhole_whole _) kb1M (Memref.isWhole_whole _) vb1M (Memref.isWhole_whole _) rsM (Memref.isWhole_whole _) rrM (Memref.isWhole_whole _) agM (Memref.isWhole_whole _) arM (Memref.isWhole_whole _) cc0_scratch10 cc0_scratch11 cc0_scratch12 cc0_scratch13 cc0_scratch14 cc0_scratch15 (W2 c) (V53 m c) (V60 m c) (V62 m c)) Q) := by
  rw [k0_part11_eq_skeleton]; unfold k0_part11_skel
  simp only [semSignalWord, semWaitWord, Prog.lift, Prog.bind_op, Prog.bind_ret, Prog.pure_eq_ret, wp_deviceId, V66, V68, V70, V72, V74, V76, V78, V80, V94, V96, V102, V103, V107, V95]
  iintro ⟨#He, W00, HO⟩ Hk
  iapply (kvWait' m K c 0 0 (dst := kb0M) (cond0 c) rfl l rfl hl) $$ [W00 HO]
  · isplitr; · iexact He
    isplitl [W00]; · iexact W00
    iexact HO
  iintro ⟨D00, HO, K0⟩
  ihave K0 := (Entails.of_eq (show pay m c 0 (.kvR 0 0) = own kb0M c kb0M.view.set (KB0 m c) from rfl)) $$ K0
  iapply (ld c (M := kb0M) (whole_sub (b := cc0_scratch2) _)) $$ K0
  iintro K0
  rw [WP_ret]
  imodintro
  iapply Hk
  isplitl [D00]; · iexact D00
  isplitl [HO]; · iexact HO
  iexact K0

/-- More scores. -/
theorem part12 (K : Dev nD × Kind → ℕ) (c : Dev nD)
    {Q : _ → sProp 𝕄} :
    iprop(own kb0M c kb0M.view.set (KB0 m c))
      ⊢ iprop(((own kb0M c kb0M.view.set (KB0 m c)) -∗ Q ⟨V109 m c, V110 m c, V116 m c, V117 m c, V123 m c, V124 m c, V132 m c, V133 m c, V139 m c, V140 m c, V146 m c, V147 m c, V151 m c, V152 m c⟩)
        -∗ WP c (k0_part12 xM (Memref.isWhole_whole _) wqM (Memref.isWhole_whole _) kM (Memref.isWhole_whole _) vM (Memref.isWhole_whole _) woM (Memref.isWhole_whole _) oM (Memref.isWhole_whole _) ksM (Memref.isWhole_whole _) vsM (Memref.isWhole_whole _) kb0M (Memref.isWhole_whole _) vb0M (Memref.isWhole_whole _) kb1M (Memref.isWhole_whole _) vb1M (Memref.isWhole_whole _) rsM (Memref.isWhole_whole _) rrM (Memref.isWhole_whole _) agM (Memref.isWhole_whole _) arM (Memref.isWhole_whole _) cc0_scratch10 cc0_scratch11 cc0_scratch12 cc0_scratch13 cc0_scratch14 cc0_scratch15 (V70 m c) (V72 m c) (V74 m c) (V76 m c) (V78 m c) (V80 m c) (V94 (F := F) c) (V96 m c) (V107 m c)) Q) := by
  rw [k0_part12_eq_skeleton]; unfold k0_part12_skel
  simp only [semSignalWord, semWaitWord, Prog.lift, Prog.bind_op, Prog.bind_ret, Prog.pure_eq_ret, wp_deviceId, V109, V110, V116, V117, V123, V124, V132, V133, V139, V140, V146, V147, V151, V152, V125]
  iintro ⟨K0⟩ Hk
  iapply (ld c (M := kb0M) (whole_sub (b := cc0_scratch2) _)) $$ K0
  iintro K0
  rw [WP_ret]
  imodintro
  iapply Hk
  iexact K0

/-- Waiting for device 1's keys; their scores. -/
theorem part13 (K : Dev nD × Kind → ℕ) (c : Dev nD) (l : List (Dev nD × Kind)) (hl : ∀ x ∈ l, 2 < lvK x.2)
    {Q : _ → sProp 𝕄} :
    iprop(env m K ∗ kvPend m c 1 0 ∗ owesL c l)
      ⊢ iprop(((done c (.kvR 1 0) ∗ owesL c l ∗ own kb1M c kb1M.view.set (KB1 m c)) -∗ Q ⟨V153 m c, V154 m c, V168 (F := F) c, V176 m c, V177 m c, V183 m c, V184 m c, V190 m c, V191 m c, V195 m c⟩)
        -∗ WP c (k0_part13 xM (Memref.isWhole_whole _) wqM (Memref.isWhole_whole _) kM (Memref.isWhole_whole _) vM (Memref.isWhole_whole _) woM (Memref.isWhole_whole _) oM (Memref.isWhole_whole _) ksM (Memref.isWhole_whole _) vsM (Memref.isWhole_whole _) kb0M (Memref.isWhole_whole _) vb0M (Memref.isWhole_whole _) kb1M (Memref.isWhole_whole _) vb1M (Memref.isWhole_whole _) rsM (Memref.isWhole_whole _) rrM (Memref.isWhole_whole _) agM (Memref.isWhole_whole _) arM (Memref.isWhole_whole _) cc0_scratch10 cc0_scratch11 cc0_scratch12 cc0_scratch13 cc0_scratch14 cc0_scratch15 (W2 c) (V66 m c) (V68 m c) (V70 m c) (V72 m c) (V151 m c) (V152 m c)) Q) := by
  rw [k0_part13_eq_skeleton]; unfold k0_part13_skel
  simp only [semSignalWord, semWaitWord, Prog.lift, Prog.bind_op, Prog.bind_ret, Prog.pure_eq_ret, wp_deviceId, V153, V154, V168, V176, V177, V183, V184, V190, V191, V195, V169]
  iintro ⟨#He, W10, HO⟩ Hk
  iapply (kvWait' m K c 1 0 (dst := kb1M) (cond1 c) rfl l rfl hl) $$ [W10 HO]
  · isplitr; · iexact He
    isplitl [W10]; · iexact W10
    iexact HO
  iintro ⟨D10, HO, K1⟩
  ihave K1 := (Entails.of_eq (show pay m c 0 (.kvR 1 0) = own kb1M c kb1M.view.set (KB1 m c) from rfl)) $$ K1
  iapply (ld c (M := kb1M) (whole_sub (b := cc0_scratch4) _)) $$ K1
  iintro K1
  rw [WP_ret]
  imodintro
  iapply Hk
  isplitl [D10]; · iexact D10
  isplitl [HO]; · iexact HO
  iexact K1

/-- The rest of the scores; waiting for device 0's values. -/
theorem part14 (K : Dev nD × Kind → ℕ) (c : Dev nD) (l : List (Dev nD × Kind)) (hl : ∀ x ∈ l, 2 < lvK x.2)
    {Q : _ → sProp 𝕄} :
    iprop(env m K ∗ own kb1M c kb1M.view.set (KB1 m c) ∗ kvPend m c 0 1 ∗ owesL c l)
      ⊢ iprop(((own kb1M c kb1M.view.set (KB1 m c) ∗ done c (.kvR 0 1) ∗ owesL c l ∗ own vb0M c vb0M.view.set (VB0 m c)) -∗ Q ⟨V198 m c, V207 m c, V214 m c, V221 m c, V228 m c, V229 m c, V230 m c, V231 m c, V232 m c, V233 m c, V234 m c, V235 m c, V236 m c⟩)
        -∗ WP c (k0_part14 xM (Memref.isWhole_whole _) wqM (Memref.isWhole_whole _) kM (Memref.isWhole_whole _) vM (Memref.isWhole_whole _) woM (Memref.isWhole_whole _) oM (Memref.isWhole_whole _) ksM (Memref.isWhole_whole _) vsM (Memref.isWhole_whole _) kb0M (Memref.isWhole_whole _) vb0M (Memref.isWhole_whole _) kb1M (Memref.isWhole_whole _) vb1M (Memref.isWhole_whole _) rsM (Memref.isWhole_whole _) rrM (Memref.isWhole_whole _) agM (Memref.isWhole_whole _) arM (Memref.isWhole_whole _) cc0_scratch10 cc0_scratch11 cc0_scratch12 cc0_scratch13 cc0_scratch14 cc0_scratch15 (W2 c) (V74 m c) (V76 m c) (V78 m c) (V80 m c) (V102 m c) (V109 m c) (V116 m c) (V123 m c) (V132 m c) (V139 m c) (V146 m c) (V153 m c) (V168 (F := F) c) (V176 m c) (V183 m c) (V190 m c) (V195 m c)) Q) := by
  rw [k0_part14_eq_skeleton]; unfold k0_part14_skel
  simp only [semSignalWord, semWaitWord, Prog.lift, Prog.bind_op, Prog.bind_ret, Prog.pure_eq_ret, wp_deviceId, V198, V207, V214, V221, V228, V229, V230, V231, V232, V233, V234, V235, V236, V199]
  iintro ⟨#He, K1, W01, HO⟩ Hk
  iapply (ld c (M := kb1M) (whole_sub (b := cc0_scratch4) _)) $$ K1
  iintro K1
  iapply (kvWait' m K c 0 1 (dst := vb0M) (cond0 c) rfl l rfl hl) $$ [W01 HO]
  · isplitr; · iexact He
    isplitl [W01]; · iexact W01
    iexact HO
  iintro ⟨D01, HO, V0⟩
  ihave V0 := (Entails.of_eq (show pay m c 0 (.kvR 0 1) = own vb0M c vb0M.view.set (VB0 m c) from rfl)) $$ V0
  rw [WP_ret]
  imodintro
  iapply Hk
  isplitl [K1]; · iexact K1
  isplitl [D01]; · iexact D01
  isplitl [HO]; · iexact HO
  iexact V0

/-- Waiting for device 1's values; the weighted sums. -/
theorem part15 (K : Dev nD × Kind → ℕ) (c : Dev nD) (l : List (Dev nD × Kind)) (hl : ∀ x ∈ l, 2 < lvK x.2)
    {Q : _ → sProp 𝕄} :
    iprop(env m K ∗ own vb0M c vb0M.view.set (VB0 m c) ∗ kvPend m c 1 1 ∗ owesL c l)
      ⊢ iprop(((own vb0M c vb0M.view.set (VB0 m c) ∗ done c (.kvR 1 1) ∗ owesL c l ∗ own vb1M c vb1M.view.set (VB1 m c)) -∗ Q ⟨V249 m c, V253 m c, V255 m c, V257 m c, V259 m c, V264 m c, V269 m c, V274 m c, V277 m c⟩)
        -∗ WP c (k0_part15 xM (Memref.isWhole_whole _) wqM (Memref.isWhole_whole _) kM (Memref.isWhole_whole _) vM (Memref.isWhole_whole _) woM (Memref.isWhole_whole _) oM (Memref.isWhole_whole _) ksM (Memref.isWhole_whole _) vsM (Memref.isWhole_whole _) kb0M (Memref.isWhole_whole _) vb0M (Memref.isWhole_whole _) kb1M (Memref.isWhole_whole _) vb1M (Memref.isWhole_whole _) rsM (Memref.isWhole_whole _) rrM (Memref.isWhole_whole _) agM (Memref.isWhole_whole _) arM (Memref.isWhole_whole _) cc0_scratch10 cc0_scratch11 cc0_scratch12 cc0_scratch13 cc0_scratch14 cc0_scratch15 (W2 c) (V103 m c) (V110 m c) (V117 m c) (V124 m c) (V133 m c) (V140 m c) (V147 m c) (V154 m c) (V177 m c) (V184 m c) (V191 m c) (V229 m c) (V230 m c)) Q) := by
  rw [k0_part15_eq_skeleton]; unfold k0_part15_skel
  simp only [semSignalWord, semWaitWord, Prog.lift, Prog.bind_op, Prog.bind_ret, Prog.pure_eq_ret, wp_deviceId, V249, V253, V255, V257, V259, V264, V269, V274, V277, V240, V250, V263]
  iintro ⟨#He, V0, W11, HO⟩ Hk
  iapply (ld c (M := vb0M) (whole_sub (b := cc0_scratch3) _)) $$ V0
  iintro V0
  iapply (ld c (M := vb0M) (whole_sub (b := cc0_scratch3) _)) $$ V0
  iintro V0
  iapply (kvWait' m K c 1 1 (dst := vb1M) (cond1 c) rfl l rfl hl) $$ [W11 HO]
  · isplitr; · iexact He
    isplitl [W11]; · iexact W11
    iexact HO
  iintro ⟨D11, HO, V1⟩
  ihave V1 := (Entails.of_eq (show pay m c 0 (.kvR 1 1) = own vb1M c vb1M.view.set (VB1 m c) from rfl)) $$ V1
  iapply (ld c (M := vb1M) (whole_sub (b := cc0_scratch5) _)) $$ V1
  iintro V1
  rw [WP_ret]
  imodintro
  iapply Hk
  isplitl [V0]; · iexact V0
  isplitl [D11]; · iexact D11
  isplitl [HO]; · iexact HO
  iexact V1

end Cert.KernelIdeal.Gen

end
-- ==== Proof.PartsA.lean ====
/- The kernel's steps: the barrier, and the sends of keys and values. -/
module

public import proofs.«01_k».proof.Proof.PartsB

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

variable (m : (ℓ : Loc nD τ sig) → Buf (Elt F) ℓ)

/-! ## The blocks of keys and values sent -/

theorem valK0_0 : (k0_pay1 (kM.view.readAt (Elt F) (Rect.unit (s := S2x256x16x64) ![0, 0, 4, 0] S2x256x4x64.size inb_S2x256x16x64_S2x256x4x64_0_0_4_0).toLoadRect (kb m (0 : Dev nD)))) = KB0 m (tgt0 0) := rfl
theorem valK0_1 : (k0_pay2 (kM.view.readAt (Elt F) (Rect.unit (s := S2x256x16x64) ![0, 0, 8, 0] S2x256x4x64.size inb_S2x256x16x64_S2x256x4x64_0_0_8_0).toLoadRect (kb m (0 : Dev nD)))) = KB0 m (tgt0 1) := rfl
theorem valK0_2 : (k0_pay3 (kM.view.readAt (Elt F) (Rect.unit (s := S2x256x16x64) ![0, 0, 12, 0] S2x256x4x64.size inb_S2x256x16x64_S2x256x4x64_0_0_12_0).toLoadRect (kb m (0 : Dev nD)))) = KB0 m (tgt0 2) := rfl
theorem valK0_3 : (k0_pay13 (kM.view.readAt (Elt F) (Rect.unit (s := S2x256x16x64) ![0, 0, 0, 0] S2x256x4x64.size inb_S2x256x16x64_S2x256x4x64_0_0_0_0).toLoadRect (kb m (0 : Dev nD)))) = KB0 m (0 : Dev nD) := rfl
theorem ownK0 (f w : kb0M.view.ty.Contents (Elt F)) :
    (kb0M.access (Rect.unit (s := S2x256x256) ![0, 0, 0] S2x256x256.size inb_S2x256x256_S2x256x256_0_0_0)).write (Elt F) f w Finset.univ = w :=
  Memref.write_access_unit_zero_univ (Elt F) cc0_scratch2 (by decide) _ f w
theorem valV0_0 : (k0_pay4 (vM.view.readAt (Elt F) (Rect.unit (s := S2x256x16x64) ![0, 0, 4, 0] S2x256x4x64.size inb_S2x256x16x64_S2x256x4x64_0_0_4_0).toLoadRect (vb m (0 : Dev nD)))) = VB0 m (tgt0 0) := rfl
theorem valV0_1 : (k0_pay5 (vM.view.readAt (Elt F) (Rect.unit (s := S2x256x16x64) ![0, 0, 8, 0] S2x256x4x64.size inb_S2x256x16x64_S2x256x4x64_0_0_8_0).toLoadRect (vb m (0 : Dev nD)))) = VB0 m (tgt0 1) := rfl
theorem valV0_2 : (k0_pay6 (vM.view.readAt (Elt F) (Rect.unit (s := S2x256x16x64) ![0, 0, 12, 0] S2x256x4x64.size inb_S2x256x16x64_S2x256x4x64_0_0_12_0).toLoadRect (vb m (0 : Dev nD)))) = VB0 m (tgt0 2) := rfl
theorem valV0_3 : (k0_pay14 (vM.view.readAt (Elt F) (Rect.unit (s := S2x256x16x64) ![0, 0, 0, 0] S2x256x4x64.size inb_S2x256x16x64_S2x256x4x64_0_0_0_0).toLoadRect (vb m (0 : Dev nD)))) = VB0 m (0 : Dev nD) := rfl
theorem ownV0 (f w : vb0M.view.ty.Contents (Elt F)) :
    (vb0M.access (Rect.unit (s := S2x256x256) ![0, 0, 0] S2x256x256.size inb_S2x256x256_S2x256x256_0_0_0)).write (Elt F) f w Finset.univ = w :=
  Memref.write_access_unit_zero_univ (Elt F) cc0_scratch3 (by decide) _ f w
theorem valK1_0 : (k0_pay7 (kM.view.readAt (Elt F) (Rect.unit (s := S2x256x16x64) ![0, 0, 0, 0] S2x128x4x64.size inb_S2x256x16x64_S2x128x4x64_0_0_0_0).toLoadRect (kb m (1 : Dev nD)))) = KB1 m (tgt1 0) := rfl
theorem valK1_1 : (k0_pay8 (kM.view.readAt (Elt F) (Rect.unit (s := S2x256x16x64) ![0, 0, 8, 0] S2x128x4x64.size inb_S2x256x16x64_S2x128x4x64_0_0_8_0).toLoadRect (kb m (1 : Dev nD)))) = KB1 m (tgt1 1) := rfl
theorem valK1_2 : (k0_pay9 (kM.view.readAt (Elt F) (Rect.unit (s := S2x256x16x64) ![0, 0, 12, 0] S2x128x4x64.size inb_S2x256x16x64_S2x128x4x64_0_0_12_0).toLoadRect (kb m (1 : Dev nD)))) = KB1 m (tgt1 2) := rfl
theorem valK1_3 : (k0_pay15 (kM.view.readAt (Elt F) (Rect.unit (s := S2x256x16x64) ![0, 0, 4, 0] S2x128x4x64.size inb_S2x256x16x64_S2x128x4x64_0_0_4_0).toLoadRect (kb m (1 : Dev nD)))) = KB1 m (1 : Dev nD) := rfl
theorem ownK1 (f w : kb1M.view.ty.Contents (Elt F)) :
    (kb1M.access (Rect.unit (s := S2x128x256) ![0, 0, 0] S2x128x256.size inb_S2x128x256_S2x128x256_0_0_0)).write (Elt F) f w Finset.univ = w :=
  Memref.write_access_unit_zero_univ (Elt F) cc0_scratch4 (by decide) _ f w
theorem valV1_0 : (k0_pay10 (vM.view.readAt (Elt F) (Rect.unit (s := S2x256x16x64) ![0, 0, 0, 0] S2x128x4x64.size inb_S2x256x16x64_S2x128x4x64_0_0_0_0).toLoadRect (vb m (1 : Dev nD)))) = VB1 m (tgt1 0) := rfl
theorem valV1_1 : (k0_pay11 (vM.view.readAt (Elt F) (Rect.unit (s := S2x256x16x64) ![0, 0, 8, 0] S2x128x4x64.size inb_S2x256x16x64_S2x128x4x64_0_0_8_0).toLoadRect (vb m (1 : Dev nD)))) = VB1 m (tgt1 1) := rfl
theorem valV1_2 : (k0_pay12 (vM.view.readAt (Elt F) (Rect.unit (s := S2x256x16x64) ![0, 0, 12, 0] S2x128x4x64.size inb_S2x256x16x64_S2x128x4x64_0_0_12_0).toLoadRect (vb m (1 : Dev nD)))) = VB1 m (tgt1 2) := rfl
theorem valV1_3 : (k0_pay16 (vM.view.readAt (Elt F) (Rect.unit (s := S2x256x16x64) ![0, 0, 4, 0] S2x128x4x64.size inb_S2x256x16x64_S2x128x4x64_0_0_4_0).toLoadRect (vb m (1 : Dev nD)))) = VB1 m (1 : Dev nD) := rfl
theorem ownV1 (f w : vb1M.view.ty.Contents (Elt F)) :
    (vb1M.access (Rect.unit (s := S2x128x256) ![0, 0, 0] S2x128x256.size inb_S2x128x256_S2x128x256_0_0_0)).write (Elt F) f w Finset.univ = w :=
  Memref.write_access_unit_zero_univ (Elt F) cc0_scratch5 (by decide) _ f w
theorem dev4 (h : k0_cond1 (0 : Dev nD) = 1#1) : (⟨k0_dev4, k0_dev4_lt (0 : Dev nD) h⟩ : Dev nD) = tgt0 0 := by revert h; decide +kernel
theorem dev7 (h : k0_cond1 (0 : Dev nD) = 1#1) : (⟨k0_dev7, k0_dev7_lt (0 : Dev nD) h⟩ : Dev nD) = tgt0 0 := by revert h; decide +kernel
theorem dev5 (h : k0_cond1 (0 : Dev nD) = 1#1) : (⟨k0_dev5, k0_dev5_lt (0 : Dev nD) h⟩ : Dev nD) = tgt0 1 := by revert h; decide +kernel
theorem dev8 (h : k0_cond1 (0 : Dev nD) = 1#1) : (⟨k0_dev8, k0_dev8_lt (0 : Dev nD) h⟩ : Dev nD) = tgt0 1 := by revert h; decide +kernel
theorem dev6 (h : k0_cond1 (0 : Dev nD) = 1#1) : (⟨k0_dev6, k0_dev6_lt (0 : Dev nD) h⟩ : Dev nD) = tgt0 2 := by revert h; decide +kernel
theorem dev9 (h : k0_cond1 (0 : Dev nD) = 1#1) : (⟨k0_dev9, k0_dev9_lt (0 : Dev nD) h⟩ : Dev nD) = tgt0 2 := by revert h; decide +kernel
theorem dev10 (h : k0_cond2 (1 : Dev nD) = 1#1) : (⟨k0_dev10, k0_dev10_lt (1 : Dev nD) h⟩ : Dev nD) = tgt1 0 := by revert h; decide +kernel
theorem dev13 (h : k0_cond2 (1 : Dev nD) = 1#1) : (⟨k0_dev13, k0_dev13_lt (1 : Dev nD) h⟩ : Dev nD) = tgt1 0 := by revert h; decide +kernel
theorem dev11 (h : k0_cond2 (1 : Dev nD) = 1#1) : (⟨k0_dev11, k0_dev11_lt (1 : Dev nD) h⟩ : Dev nD) = tgt1 1 := by revert h; decide +kernel
theorem dev14 (h : k0_cond2 (1 : Dev nD) = 1#1) : (⟨k0_dev14, k0_dev14_lt (1 : Dev nD) h⟩ : Dev nD) = tgt1 1 := by revert h; decide +kernel
theorem dev12 (h : k0_cond2 (1 : Dev nD) = 1#1) : (⟨k0_dev12, k0_dev12_lt (1 : Dev nD) h⟩ : Dev nD) = tgt1 2 := by revert h; decide +kernel
theorem dev15 (h : k0_cond2 (1 : Dev nD) = 1#1) : (⟨k0_dev15, k0_dev15_lt (1 : Dev nD) h⟩ : Dev nD) = tgt1 2 := by revert h; decide +kernel
theorem stK0 (j : Fin 3) : (ksM.access (Rect.unit (s := S2x256x1024) ![0, 0, 256 * ((j : Fin 3).val + 1)] S2x256x256.size (sec0_inb j))).setOn Finset.univ ⊆ S0 j := by
  simp only [View.setOn_univ, Memref.access, Memref.view_whole, View.set_slice_whole]; exact Finset.Subset.refl _
theorem ldK0 (j : Fin 3) : ksM.view.setOn (Rect.unit (s := S2x256x1024) ![0, 0, 256 * ((j : Fin 3).val + 1)] S2x256x256.size (sec0_inb j)).toLoadRect.set ⊆ S0 j := by
  rw [View.setOn, ← View.set_slice]; exact stK0 j
theorem stV0 (j : Fin 3) : (vsM.access (Rect.unit (s := S2x256x1024) ![0, 0, 256 * ((j : Fin 3).val + 1)] S2x256x256.size (sec0_inb j))).setOn Finset.univ ⊆ S0 j := by
  simp only [View.setOn_univ, Memref.access, Memref.view_whole, View.set_slice_whole]; exact Finset.Subset.refl _
theorem ldV0 (j : Fin 3) : vsM.view.setOn (Rect.unit (s := S2x256x1024) ![0, 0, 256 * ((j : Fin 3).val + 1)] S2x256x256.size (sec0_inb j)).toLoadRect.set ⊆ S0 j := by
  rw [View.setOn, ← View.set_slice]; exact stV0 j
theorem stK1 (j : Fin 3) : (ksM.access (Rect.unit (s := S2x256x1024) ![0, 0, sec1Off j] S2x128x256.size (sec1_inb j))).setOn Finset.univ ⊆ S1 j := by
  simp only [View.setOn_univ, Memref.access, Memref.view_whole, View.set_slice_whole]; exact Finset.Subset.refl _
theorem ldK1 (j : Fin 3) : ksM.view.setOn (Rect.unit (s := S2x256x1024) ![0, 0, sec1Off j] S2x128x256.size (sec1_inb j)).toLoadRect.set ⊆ S1 j := by
  rw [View.setOn, ← View.set_slice]; exact stK1 j
theorem stV1 (j : Fin 3) : (vsM.access (Rect.unit (s := S2x256x1024) ![0, 0, sec1Off j] S2x128x256.size (sec1_inb j))).setOn Finset.univ ⊆ S1 j := by
  simp only [View.setOn_univ, Memref.access, Memref.view_whole, View.set_slice_whole]; exact Finset.Subset.refl _
theorem ldV1 (j : Fin 3) : vsM.view.setOn (Rect.unit (s := S2x256x1024) ![0, 0, sec1Off j] S2x128x256.size (sec1_inb j)).toLoadRect.set ⊆ S1 j := by
  rw [View.setOn, ← View.set_slice]; exact stV1 j

/-! ## The key and value sends -/

/-- Device 0 sends the first target its keys, and stages the second's. -/
theorem part1 (K : Dev nD × Kind → ℕ) (k0_h1 : k0_cond1 (0 : Dev nD) = 1#1) (l : List (Dev nD × Kind)) (fK : Buf (Elt F) (ksM.view.loc ((0 : Dev nD) : Thread nD τ))) (fdK0 : Buf (Elt F) (kb0M.view.loc (tgt0 0 : Thread nD τ)))
    {Q : _ → sProp 𝕄} :
    iprop(env m K ∗ own kM (0 : Dev nD) Finset.univ (kb m (0 : Dev nD)) ∗ own ksM (0 : Dev nD) (S0 0) fK ∗ own ksM (0 : Dev nD) (S0 1) fK ∗ own kb0M (tgt0 0) kb0M.view.set fdK0 ∗ (tok (0 : Dev nD) (.kvS 0 0) ∗ pos (0 : Dev nD) (.kvS 0 0)) ∗ tok (tgt0 0) (.kvR 0 0) ∗ owesL (0 : Dev nD) ((tgt0 0, .kvR 0 0) :: l))
      ⊢ iprop(((owesL (0 : Dev nD) l ∗ own kM (0 : Dev nD) Finset.univ (kb m (0 : Dev nD)) ∗ own ksM (0 : Dev nD) (S0 1) ((ksM.access (Rect.unit (s := S2x256x1024) ![0, 0, 256 * ((1 : Fin 3).val + 1)] S2x256x256.size (sec0_inb 1))).write (Elt F) fK (k0_pay2 (kM.view.readAt (Elt F) (Rect.unit (s := S2x256x16x64) ![0, 0, 8, 0] S2x256x4x64.size inb_S2x256x16x64_S2x256x4x64_0_0_8_0).toLoadRect (kb m (0 : Dev nD)))) Finset.univ) ∗ waitTok (0 : Dev nD) (.kvS 0 0)) -∗ Q PUnit.unit)
        -∗ WP (0 : Dev nD) (k0_part1 xM (Memref.isWhole_whole _) wqM (Memref.isWhole_whole _) kM (Memref.isWhole_whole _) vM (Memref.isWhole_whole _) woM (Memref.isWhole_whole _) oM (Memref.isWhole_whole _) ksM (Memref.isWhole_whole _) vsM (Memref.isWhole_whole _) kb0M (Memref.isWhole_whole _) vb0M (Memref.isWhole_whole _) kb1M (Memref.isWhole_whole _) vb1M (Memref.isWhole_whole _) rsM (Memref.isWhole_whole _) rrM (Memref.isWhole_whole _) agM (Memref.isWhole_whole _) arM (Memref.isWhole_whole _) cc0_scratch10 cc0_scratch11 cc0_scratch12 cc0_scratch13 cc0_scratch14 cc0_scratch15 (0 : Dev nD) k0_h1) Q) := by
  rw [k0_part1_eq_skeleton]; unfold k0_part1_skel
  simp only [semSignalWord, semWaitWord, Prog.lift, Prog.bind_op, Prog.bind_ret, Prog.pure_eq_ret, wp_deviceId]
  iintro ⟨#He, HK, AK0, AK1, BK0, TK0, UK0, HO⟩ Hk
  iapply (ld (0 : Dev nD) (M := kM) (Finset.subset_univ _)) $$ HK
  iintro HK
  iapply (ld (0 : Dev nD) (M := ksM) (r := (Rect.unit (s := S2x256x1024) ![0, 0, 256 * ((0 : Fin 3).val + 1)] S2x256x256.size (sec0_inb 0)).toLoadRect) (ldK0 0)) $$ AK0
  iintro AK0
  iapply (st (0 : Dev nD) (M := ksM) (r := (Rect.unit (s := S2x256x1024) ![0, 0, 256 * ((0 : Fin 3).val + 1)] S2x256x256.size (sec0_inb 0))) (stK0 0)) $$ AK0
  iintro AK0
  iapply (sendK0 m K _ 0 (dev4 k0_h1) rfl rfl rfl rfl (l) fK (k0_pay1 (kM.view.readAt (Elt F) (Rect.unit (s := S2x256x16x64) ![0, 0, 4, 0] S2x256x4x64.size inb_S2x256x16x64_S2x256x4x64_0_0_4_0).toLoadRect (kb m (0 : Dev nD)))) (valK0_0 m) fdK0) $$ [AK0 BK0 HO TK0 UK0]
  · isplitr; · iexact He
    isplitl [AK0]; · iexact AK0
    isplitl [BK0]; · iexact BK0
    isplitl [HO]; · iexact HO
    isplitl [TK0]; · iexact TK0
    iexact UK0
  iintro ⟨WK0, HO⟩
  iapply (ld (0 : Dev nD) (M := kM) (Finset.subset_univ _)) $$ HK
  iintro HK
  iapply (ld (0 : Dev nD) (M := ksM) (r := (Rect.unit (s := S2x256x1024) ![0, 0, 256 * ((1 : Fin 3).val + 1)] S2x256x256.size (sec0_inb 1)).toLoadRect) (ldK0 1)) $$ AK1
  iintro AK1
  iapply (st (0 : Dev nD) (M := ksM) (r := (Rect.unit (s := S2x256x1024) ![0, 0, 256 * ((1 : Fin 3).val + 1)] S2x256x256.size (sec0_inb 1))) (stK0 1)) $$ AK1
  iintro AK1
  rw [WP_ret]
  imodintro
  iapply Hk
  isplitl [HO]; · iexact HO
  isplitl [HK]; · iexact HK
  isplitl [AK1]; · iexact AK1
  iexact WK0

/-- Device 0 sends the other targets their keys, and stages the first one's values. -/
theorem part2 (K : Dev nD × Kind → ℕ) (k0_h1 : k0_cond1 (0 : Dev nD) = 1#1) (l : List (Dev nD × Kind)) (fK : Buf (Elt F) (ksM.view.loc ((0 : Dev nD) : Thread nD τ))) (fV : Buf (Elt F) (vsM.view.loc ((0 : Dev nD) : Thread nD τ))) (fdK1 : Buf (Elt F) (kb0M.view.loc (tgt0 1 : Thread nD τ))) (fdK2 : Buf (Elt F) (kb0M.view.loc (tgt0 2 : Thread nD τ)))
    {Q : _ → sProp 𝕄} :
    iprop(env m K ∗ own kM (0 : Dev nD) Finset.univ (kb m (0 : Dev nD)) ∗ own vM (0 : Dev nD) Finset.univ (vb m (0 : Dev nD)) ∗ own ksM (0 : Dev nD) (S0 2) fK ∗ own vsM (0 : Dev nD) (S0 0) fV ∗ own ksM (0 : Dev nD) (S0 1) ((ksM.access (Rect.unit (s := S2x256x1024) ![0, 0, 256 * ((1 : Fin 3).val + 1)] S2x256x256.size (sec0_inb 1))).write (Elt F) fK (k0_pay2 (kM.view.readAt (Elt F) (Rect.unit (s := S2x256x16x64) ![0, 0, 8, 0] S2x256x4x64.size inb_S2x256x16x64_S2x256x4x64_0_0_8_0).toLoadRect (kb m (0 : Dev nD)))) Finset.univ) ∗ own kb0M (tgt0 1) kb0M.view.set fdK1 ∗ (tok (0 : Dev nD) (.kvS 1 0) ∗ pos (0 : Dev nD) (.kvS 1 0)) ∗ tok (tgt0 1) (.kvR 0 0) ∗ own kb0M (tgt0 2) kb0M.view.set fdK2 ∗ (tok (0 : Dev nD) (.kvS 2 0) ∗ pos (0 : Dev nD) (.kvS 2 0)) ∗ tok (tgt0 2) (.kvR 0 0) ∗ owesL (0 : Dev nD) ((tgt0 1, .kvR 0 0) :: (tgt0 2, .kvR 0 0) :: l))
      ⊢ iprop(((owesL (0 : Dev nD) l ∗ own kM (0 : Dev nD) Finset.univ (kb m (0 : Dev nD)) ∗ own vM (0 : Dev nD) Finset.univ (vb m (0 : Dev nD)) ∗ own vsM (0 : Dev nD) (S0 0) ((vsM.access (Rect.unit (s := S2x256x1024) ![0, 0, 256 * ((0 : Fin 3).val + 1)] S2x256x256.size (sec0_inb 0))).write (Elt F) fV (k0_pay4 (vM.view.readAt (Elt F) (Rect.unit (s := S2x256x16x64) ![0, 0, 4, 0] S2x256x4x64.size inb_S2x256x16x64_S2x256x4x64_0_0_4_0).toLoadRect (vb m (0 : Dev nD)))) Finset.univ) ∗ waitTok (0 : Dev nD) (.kvS 1 0) ∗ waitTok (0 : Dev nD) (.kvS 2 0)) -∗ Q ⟨1#32, 1#32⟩)
        -∗ WP (0 : Dev nD) (k0_part2 xM (Memref.isWhole_whole _) wqM (Memref.isWhole_whole _) kM (Memref.isWhole_whole _) vM (Memref.isWhole_whole _) woM (Memref.isWhole_whole _) oM (Memref.isWhole_whole _) ksM (Memref.isWhole_whole _) vsM (Memref.isWhole_whole _) kb0M (Memref.isWhole_whole _) vb0M (Memref.isWhole_whole _) kb1M (Memref.isWhole_whole _) vb1M (Memref.isWhole_whole _) rsM (Memref.isWhole_whole _) rrM (Memref.isWhole_whole _) agM (Memref.isWhole_whole _) arM (Memref.isWhole_whole _) cc0_scratch10 cc0_scratch11 cc0_scratch12 cc0_scratch13 cc0_scratch14 cc0_scratch15 (0 : Dev nD) k0_h1) Q) := by
  rw [k0_part2_eq_skeleton]; unfold k0_part2_skel
  simp only [semSignalWord, semWaitWord, Prog.lift, Prog.bind_op, Prog.bind_ret, Prog.pure_eq_ret, wp_deviceId]
  iintro ⟨#He, HK, HV, AK2, AV0, AK1, BK1, TK1, UK1, BK2, TK2, UK2, HO⟩ Hk
  iapply (sendK0 m K _ 1 (dev5 k0_h1) rfl rfl rfl rfl ((tgt0 2, .kvR 0 0) :: l) fK (k0_pay2 (kM.view.readAt (Elt F) (Rect.unit (s := S2x256x16x64) ![0, 0, 8, 0] S2x256x4x64.size inb_S2x256x16x64_S2x256x4x64_0_0_8_0).toLoadRect (kb m (0 : Dev nD)))) (valK0_1 m) fdK1) $$ [AK1 BK1 HO TK1 UK1]
  · isplitr; · iexact He
    isplitl [AK1]; · iexact AK1
    isplitl [BK1]; · iexact BK1
    isplitl [HO]; · iexact HO
    isplitl [TK1]; · iexact TK1
    iexact UK1
  iintro ⟨WK1, HO⟩
  iapply (ld (0 : Dev nD) (M := kM) (Finset.subset_univ _)) $$ HK
  iintro HK
  iapply (ld (0 : Dev nD) (M := ksM) (r := (Rect.unit (s := S2x256x1024) ![0, 0, 256 * ((2 : Fin 3).val + 1)] S2x256x256.size (sec0_inb 2)).toLoadRect) (ldK0 2)) $$ AK2
  iintro AK2
  iapply (st (0 : Dev nD) (M := ksM) (r := (Rect.unit (s := S2x256x1024) ![0, 0, 256 * ((2 : Fin 3).val + 1)] S2x256x256.size (sec0_inb 2))) (stK0 2)) $$ AK2
  iintro AK2
  iapply (sendK0 m K _ 2 (dev6 k0_h1) rfl rfl rfl rfl (l) fK (k0_pay3 (kM.view.readAt (Elt F) (Rect.unit (s := S2x256x16x64) ![0, 0, 12, 0] S2x256x4x64.size inb_S2x256x16x64_S2x256x4x64_0_0_12_0).toLoadRect (kb m (0 : Dev nD)))) (valK0_2 m) fdK2) $$ [AK2 BK2 HO TK2 UK2]
  · isplitr; · iexact He
    isplitl [AK2]; · iexact AK2
    isplitl [BK2]; · iexact BK2
    isplitl [HO]; · iexact HO
    isplitl [TK2]; · iexact TK2
    iexact UK2
  iintro ⟨WK2, HO⟩
  iapply (ld (0 : Dev nD) (M := vM) (Finset.subset_univ _)) $$ HV
  iintro HV
  iapply (ld (0 : Dev nD) (M := vsM) (r := (Rect.unit (s := S2x256x1024) ![0, 0, 256 * ((0 : Fin 3).val + 1)] S2x256x256.size (sec0_inb 0)).toLoadRect) (ldV0 0)) $$ AV0
  iintro AV0
  iapply (st (0 : Dev nD) (M := vsM) (r := (Rect.unit (s := S2x256x1024) ![0, 0, 256 * ((0 : Fin 3).val + 1)] S2x256x256.size (sec0_inb 0))) (stV0 0)) $$ AV0
  iintro AV0
  rw [WP_ret]
  imodintro
  iapply Hk
  isplitl [HO]; · iexact HO
  isplitl [HK]; · iexact HK
  isplitl [HV]; · iexact HV
  isplitl [AV0]; · iexact AV0
  isplitl [WK1]; · iexact WK1
  iexact WK2

/-- Device 0 sends two targets their values, and stages the third's. -/
theorem part3 (K : Dev nD × Kind → ℕ) (k0_h1 : k0_cond1 (0 : Dev nD) = 1#1) (c1_i32_831 : BitVec 32) (c1_i32_832 : BitVec 32) (l : List (Dev nD × Kind)) (fV : Buf (Elt F) (vsM.view.loc ((0 : Dev nD) : Thread nD τ))) (fdV0 : Buf (Elt F) (vb0M.view.loc (tgt0 0 : Thread nD τ))) (fdV1 : Buf (Elt F) (vb0M.view.loc (tgt0 1 : Thread nD τ)))
    {Q : _ → sProp 𝕄} :
    iprop(env m K ∗ own vM (0 : Dev nD) Finset.univ (vb m (0 : Dev nD)) ∗ own vsM (0 : Dev nD) (S0 1) fV ∗ own vsM (0 : Dev nD) (S0 2) fV ∗ own vsM (0 : Dev nD) (S0 0) ((vsM.access (Rect.unit (s := S2x256x1024) ![0, 0, 256 * ((0 : Fin 3).val + 1)] S2x256x256.size (sec0_inb 0))).write (Elt F) fV (k0_pay4 (vM.view.readAt (Elt F) (Rect.unit (s := S2x256x16x64) ![0, 0, 4, 0] S2x256x4x64.size inb_S2x256x16x64_S2x256x4x64_0_0_4_0).toLoadRect (vb m (0 : Dev nD)))) Finset.univ) ∗ own vb0M (tgt0 0) vb0M.view.set fdV0 ∗ (tok (0 : Dev nD) (.kvS 0 1) ∗ pos (0 : Dev nD) (.kvS 0 1)) ∗ tok (tgt0 0) (.kvR 0 1) ∗ own vb0M (tgt0 1) vb0M.view.set fdV1 ∗ (tok (0 : Dev nD) (.kvS 1 1) ∗ pos (0 : Dev nD) (.kvS 1 1)) ∗ tok (tgt0 1) (.kvR 0 1) ∗ owesL (0 : Dev nD) ((tgt0 0, .kvR 0 1) :: (tgt0 1, .kvR 0 1) :: l))
      ⊢ iprop(((owesL (0 : Dev nD) l ∗ own vM (0 : Dev nD) Finset.univ (vb m (0 : Dev nD)) ∗ own vsM (0 : Dev nD) (S0 2) ((vsM.access (Rect.unit (s := S2x256x1024) ![0, 0, 256 * ((2 : Fin 3).val + 1)] S2x256x256.size (sec0_inb 2))).write (Elt F) fV (k0_pay6 (vM.view.readAt (Elt F) (Rect.unit (s := S2x256x16x64) ![0, 0, 12, 0] S2x256x4x64.size inb_S2x256x16x64_S2x256x4x64_0_0_12_0).toLoadRect (vb m (0 : Dev nD)))) Finset.univ) ∗ waitTok (0 : Dev nD) (.kvS 0 1) ∗ waitTok (0 : Dev nD) (.kvS 1 1)) -∗ Q PUnit.unit)
        -∗ WP (0 : Dev nD) (k0_part3 xM (Memref.isWhole_whole _) wqM (Memref.isWhole_whole _) kM (Memref.isWhole_whole _) vM (Memref.isWhole_whole _) woM (Memref.isWhole_whole _) oM (Memref.isWhole_whole _) ksM (Memref.isWhole_whole _) vsM (Memref.isWhole_whole _) kb0M (Memref.isWhole_whole _) vb0M (Memref.isWhole_whole _) kb1M (Memref.isWhole_whole _) vb1M (Memref.isWhole_whole _) rsM (Memref.isWhole_whole _) rrM (Memref.isWhole_whole _) agM (Memref.isWhole_whole _) arM (Memref.isWhole_whole _) cc0_scratch10 cc0_scratch11 cc0_scratch12 cc0_scratch13 cc0_scratch14 cc0_scratch15 (0 : Dev nD) k0_h1 c1_i32_831 c1_i32_832) Q) := by
  rw [k0_part3_eq_skeleton]; unfold k0_part3_skel
  simp only [semSignalWord, semWaitWord, Prog.lift, Prog.bind_op, Prog.bind_ret, Prog.pure_eq_ret, wp_deviceId]
  iintro ⟨#He, HV, AV1, AV2, AV0, BV0, TV0, UV0, BV1, TV1, UV1, HO⟩ Hk
  iapply (sendV0 m K _ 0 (dev7 k0_h1) rfl rfl rfl rfl ((tgt0 1, .kvR 0 1) :: l) fV (k0_pay4 (vM.view.readAt (Elt F) (Rect.unit (s := S2x256x16x64) ![0, 0, 4, 0] S2x256x4x64.size inb_S2x256x16x64_S2x256x4x64_0_0_4_0).toLoadRect (vb m (0 : Dev nD)))) (valV0_0 m) fdV0) $$ [AV0 BV0 HO TV0 UV0]
  · isplitr; · iexact He
    isplitl [AV0]; · iexact AV0
    isplitl [BV0]; · iexact BV0
    isplitl [HO]; · iexact HO
    isplitl [TV0]; · iexact TV0
    iexact UV0
  iintro ⟨WV0, HO⟩
  iapply (ld (0 : Dev nD) (M := vM) (Finset.subset_univ _)) $$ HV
  iintro HV
  iapply (ld (0 : Dev nD) (M := vsM) (r := (Rect.unit (s := S2x256x1024) ![0, 0, 256 * ((1 : Fin 3).val + 1)] S2x256x256.size (sec0_inb 1)).toLoadRect) (ldV0 1)) $$ AV1
  iintro AV1
  iapply (st (0 : Dev nD) (M := vsM) (r := (Rect.unit (s := S2x256x1024) ![0, 0, 256 * ((1 : Fin 3).val + 1)] S2x256x256.size (sec0_inb 1))) (stV0 1)) $$ AV1
  iintro AV1
  iapply (sendV0 m K _ 1 (dev8 k0_h1) rfl rfl rfl rfl (l) fV (k0_pay5 (vM.view.readAt (Elt F) (Rect.unit (s := S2x256x16x64) ![0, 0, 8, 0] S2x256x4x64.size inb_S2x256x16x64_S2x256x4x64_0_0_8_0).toLoadRect (vb m (0 : Dev nD)))) (valV0_1 m) fdV1) $$ [AV1 BV1 HO TV1 UV1]
  · isplitr; · iexact He
    isplitl [AV1]; · iexact AV1
    isplitl [BV1]; · iexact BV1
    isplitl [HO]; · iexact HO
    isplitl [TV1]; · iexact TV1
    iexact UV1
  iintro ⟨WV1, HO⟩
  iapply (ld (0 : Dev nD) (M := vM) (Finset.subset_univ _)) $$ HV
  iintro HV
  iapply (ld (0 : Dev nD) (M := vsM) (r := (Rect.unit (s := S2x256x1024) ![0, 0, 256 * ((2 : Fin 3).val + 1)] S2x256x256.size (sec0_inb 2)).toLoadRect) (ldV0 2)) $$ AV2
  iintro AV2
  iapply (st (0 : Dev nD) (M := vsM) (r := (Rect.unit (s := S2x256x1024) ![0, 0, 256 * ((2 : Fin 3).val + 1)] S2x256x256.size (sec0_inb 2))) (stV0 2)) $$ AV2
  iintro AV2
  rw [WP_ret]
  imodintro
  iapply Hk
  isplitl [HO]; · iexact HO
  isplitl [HV]; · iexact HV
  isplitl [AV2]; · iexact AV2
  isplitl [WV0]; · iexact WV0
  iexact WV1

/-- Device 1 sends the first target its keys, and stages the second's. -/
theorem part4 (K : Dev nD × Kind → ℕ) (k0_h2 : k0_cond2 (1 : Dev nD) = 1#1) (l : List (Dev nD × Kind)) (fK : Buf (Elt F) (ksM.view.loc ((1 : Dev nD) : Thread nD τ))) (fdK0 : Buf (Elt F) (kb1M.view.loc (tgt1 0 : Thread nD τ)))
    {Q : _ → sProp 𝕄} :
    iprop(env m K ∗ own kM (1 : Dev nD) Finset.univ (kb m (1 : Dev nD)) ∗ own ksM (1 : Dev nD) (S1 0) fK ∗ own ksM (1 : Dev nD) (S1 1) fK ∗ own kb1M (tgt1 0) kb1M.view.set fdK0 ∗ (tok (1 : Dev nD) (.kvS 0 0) ∗ pos (1 : Dev nD) (.kvS 0 0)) ∗ tok (tgt1 0) (.kvR 1 0) ∗ owesL (1 : Dev nD) ((tgt1 0, .kvR 1 0) :: l))
      ⊢ iprop(((owesL (1 : Dev nD) l ∗ own kM (1 : Dev nD) Finset.univ (kb m (1 : Dev nD)) ∗ own ksM (1 : Dev nD) (S1 1) ((ksM.access (Rect.unit (s := S2x256x1024) ![0, 0, sec1Off 1] S2x128x256.size (sec1_inb 1))).write (Elt F) fK (k0_pay8 (kM.view.readAt (Elt F) (Rect.unit (s := S2x256x16x64) ![0, 0, 8, 0] S2x128x4x64.size inb_S2x256x16x64_S2x128x4x64_0_0_8_0).toLoadRect (kb m (1 : Dev nD)))) Finset.univ) ∗ waitTok (1 : Dev nD) (.kvS 0 0)) -∗ Q PUnit.unit)
        -∗ WP (1 : Dev nD) (k0_part4 xM (Memref.isWhole_whole _) wqM (Memref.isWhole_whole _) kM (Memref.isWhole_whole _) vM (Memref.isWhole_whole _) woM (Memref.isWhole_whole _) oM (Memref.isWhole_whole _) ksM (Memref.isWhole_whole _) vsM (Memref.isWhole_whole _) kb0M (Memref.isWhole_whole _) vb0M (Memref.isWhole_whole _) kb1M (Memref.isWhole_whole _) vb1M (Memref.isWhole_whole _) rsM (Memref.isWhole_whole _) rrM (Memref.isWhole_whole _) agM (Memref.isWhole_whole _) arM (Memref.isWhole_whole _) cc0_scratch10 cc0_scratch11 cc0_scratch12 cc0_scratch13 cc0_scratch14 cc0_scratch15 (1 : Dev nD) k0_h2) Q) := by
  rw [k0_part4_eq_skeleton]; unfold k0_part4_skel
  simp only [semSignalWord, semWaitWord, Prog.lift, Prog.bind_op, Prog.bind_ret, Prog.pure_eq_ret, wp_deviceId]
  iintro ⟨#He, HK, AK0, AK1, BK0, TK0, UK0, HO⟩ Hk
  iapply (ld (1 : Dev nD) (M := kM) (Finset.subset_univ _)) $$ HK
  iintro HK
  iapply (ld (1 : Dev nD) (M := ksM) (r := (Rect.unit (s := S2x256x1024) ![0, 0, sec1Off 0] S2x128x256.size (sec1_inb 0)).toLoadRect) (ldK1 0)) $$ AK0
  iintro AK0
  iapply (st (1 : Dev nD) (M := ksM) (r := (Rect.unit (s := S2x256x1024) ![0, 0, sec1Off 0] S2x128x256.size (sec1_inb 0))) (stK1 0)) $$ AK0
  iintro AK0
  iapply (sendK1 m K _ 0 (dev10 k0_h2) rfl rfl rfl rfl (l) fK (k0_pay7 (kM.view.readAt (Elt F) (Rect.unit (s := S2x256x16x64) ![0, 0, 0, 0] S2x128x4x64.size inb_S2x256x16x64_S2x128x4x64_0_0_0_0).toLoadRect (kb m (1 : Dev nD)))) (valK1_0 m) fdK0) $$ [AK0 BK0 HO TK0 UK0]
  · isplitr; · iexact He
    isplitl [AK0]; · iexact AK0
    isplitl [BK0]; · iexact BK0
    isplitl [HO]; · iexact HO
    isplitl [TK0]; · iexact TK0
    iexact UK0
  iintro ⟨WK0, HO⟩
  iapply (ld (1 : Dev nD) (M := kM) (Finset.subset_univ _)) $$ HK
  iintro HK
  iapply (ld (1 : Dev nD) (M := ksM) (r := (Rect.unit (s := S2x256x1024) ![0, 0, sec1Off 1] S2x128x256.size (sec1_inb 1)).toLoadRect) (ldK1 1)) $$ AK1
  iintro AK1
  iapply (st (1 : Dev nD) (M := ksM) (r := (Rect.unit (s := S2x256x1024) ![0, 0, sec1Off 1] S2x128x256.size (sec1_inb 1))) (stK1 1)) $$ AK1
  iintro AK1
  rw [WP_ret]
  imodintro
  iapply Hk
  isplitl [HO]; · iexact HO
  isplitl [HK]; · iexact HK
  isplitl [AK1]; · iexact AK1
  iexact WK0

/-- Device 1 sends the other targets their keys, and stages the first one's values. -/
theorem part5 (K : Dev nD × Kind → ℕ) (k0_h2 : k0_cond2 (1 : Dev nD) = 1#1) (l : List (Dev nD × Kind)) (fK : Buf (Elt F) (ksM.view.loc ((1 : Dev nD) : Thread nD τ))) (fV : Buf (Elt F) (vsM.view.loc ((1 : Dev nD) : Thread nD τ))) (fdK1 : Buf (Elt F) (kb1M.view.loc (tgt1 1 : Thread nD τ))) (fdK2 : Buf (Elt F) (kb1M.view.loc (tgt1 2 : Thread nD τ)))
    {Q : _ → sProp 𝕄} :
    iprop(env m K ∗ own kM (1 : Dev nD) Finset.univ (kb m (1 : Dev nD)) ∗ own vM (1 : Dev nD) Finset.univ (vb m (1 : Dev nD)) ∗ own ksM (1 : Dev nD) (S1 2) fK ∗ own vsM (1 : Dev nD) (S1 0) fV ∗ own ksM (1 : Dev nD) (S1 1) ((ksM.access (Rect.unit (s := S2x256x1024) ![0, 0, sec1Off 1] S2x128x256.size (sec1_inb 1))).write (Elt F) fK (k0_pay8 (kM.view.readAt (Elt F) (Rect.unit (s := S2x256x16x64) ![0, 0, 8, 0] S2x128x4x64.size inb_S2x256x16x64_S2x128x4x64_0_0_8_0).toLoadRect (kb m (1 : Dev nD)))) Finset.univ) ∗ own kb1M (tgt1 1) kb1M.view.set fdK1 ∗ (tok (1 : Dev nD) (.kvS 1 0) ∗ pos (1 : Dev nD) (.kvS 1 0)) ∗ tok (tgt1 1) (.kvR 1 0) ∗ own kb1M (tgt1 2) kb1M.view.set fdK2 ∗ (tok (1 : Dev nD) (.kvS 2 0) ∗ pos (1 : Dev nD) (.kvS 2 0)) ∗ tok (tgt1 2) (.kvR 1 0) ∗ owesL (1 : Dev nD) ((tgt1 1, .kvR 1 0) :: (tgt1 2, .kvR 1 0) :: l))
      ⊢ iprop(((owesL (1 : Dev nD) l ∗ own kM (1 : Dev nD) Finset.univ (kb m (1 : Dev nD)) ∗ own vM (1 : Dev nD) Finset.univ (vb m (1 : Dev nD)) ∗ own vsM (1 : Dev nD) (S1 0) ((vsM.access (Rect.unit (s := S2x256x1024) ![0, 0, sec1Off 0] S2x128x256.size (sec1_inb 0))).write (Elt F) fV (k0_pay10 (vM.view.readAt (Elt F) (Rect.unit (s := S2x256x16x64) ![0, 0, 0, 0] S2x128x4x64.size inb_S2x256x16x64_S2x128x4x64_0_0_0_0).toLoadRect (vb m (1 : Dev nD)))) Finset.univ) ∗ waitTok (1 : Dev nD) (.kvS 1 0) ∗ waitTok (1 : Dev nD) (.kvS 2 0)) -∗ Q ⟨0#32, 1#32⟩)
        -∗ WP (1 : Dev nD) (k0_part5 xM (Memref.isWhole_whole _) wqM (Memref.isWhole_whole _) kM (Memref.isWhole_whole _) vM (Memref.isWhole_whole _) woM (Memref.isWhole_whole _) oM (Memref.isWhole_whole _) ksM (Memref.isWhole_whole _) vsM (Memref.isWhole_whole _) kb0M (Memref.isWhole_whole _) vb0M (Memref.isWhole_whole _) kb1M (Memref.isWhole_whole _) vb1M (Memref.isWhole_whole _) rsM (Memref.isWhole_whole _) rrM (Memref.isWhole_whole _) agM (Memref.isWhole_whole _) arM (Memref.isWhole_whole _) cc0_scratch10 cc0_scratch11 cc0_scratch12 cc0_scratch13 cc0_scratch14 cc0_scratch15 (1 : Dev nD) k0_h2) Q) := by
  rw [k0_part5_eq_skeleton]; unfold k0_part5_skel
  simp only [semSignalWord, semWaitWord, Prog.lift, Prog.bind_op, Prog.bind_ret, Prog.pure_eq_ret, wp_deviceId]
  iintro ⟨#He, HK, HV, AK2, AV0, AK1, BK1, TK1, UK1, BK2, TK2, UK2, HO⟩ Hk
  iapply (sendK1 m K _ 1 (dev11 k0_h2) rfl rfl rfl rfl ((tgt1 2, .kvR 1 0) :: l) fK (k0_pay8 (kM.view.readAt (Elt F) (Rect.unit (s := S2x256x16x64) ![0, 0, 8, 0] S2x128x4x64.size inb_S2x256x16x64_S2x128x4x64_0_0_8_0).toLoadRect (kb m (1 : Dev nD)))) (valK1_1 m) fdK1) $$ [AK1 BK1 HO TK1 UK1]
  · isplitr; · iexact He
    isplitl [AK1]; · iexact AK1
    isplitl [BK1]; · iexact BK1
    isplitl [HO]; · iexact HO
    isplitl [TK1]; · iexact TK1
    iexact UK1
  iintro ⟨WK1, HO⟩
  iapply (ld (1 : Dev nD) (M := kM) (Finset.subset_univ _)) $$ HK
  iintro HK
  iapply (ld (1 : Dev nD) (M := ksM) (r := (Rect.unit (s := S2x256x1024) ![0, 0, sec1Off 2] S2x128x256.size (sec1_inb 2)).toLoadRect) (ldK1 2)) $$ AK2
  iintro AK2
  iapply (st (1 : Dev nD) (M := ksM) (r := (Rect.unit (s := S2x256x1024) ![0, 0, sec1Off 2] S2x128x256.size (sec1_inb 2))) (stK1 2)) $$ AK2
  iintro AK2
  iapply (sendK1 m K _ 2 (dev12 k0_h2) rfl rfl rfl rfl (l) fK (k0_pay9 (kM.view.readAt (Elt F) (Rect.unit (s := S2x256x16x64) ![0, 0, 12, 0] S2x128x4x64.size inb_S2x256x16x64_S2x128x4x64_0_0_12_0).toLoadRect (kb m (1 : Dev nD)))) (valK1_2 m) fdK2) $$ [AK2 BK2 HO TK2 UK2]
  · isplitr; · iexact He
    isplitl [AK2]; · iexact AK2
    isplitl [BK2]; · iexact BK2
    isplitl [HO]; · iexact HO
    isplitl [TK2]; · iexact TK2
    iexact UK2
  iintro ⟨WK2, HO⟩
  iapply (ld (1 : Dev nD) (M := vM) (Finset.subset_univ _)) $$ HV
  iintro HV
  iapply (ld (1 : Dev nD) (M := vsM) (r := (Rect.unit (s := S2x256x1024) ![0, 0, sec1Off 0] S2x128x256.size (sec1_inb 0)).toLoadRect) (ldV1 0)) $$ AV0
  iintro AV0
  iapply (st (1 : Dev nD) (M := vsM) (r := (Rect.unit (s := S2x256x1024) ![0, 0, sec1Off 0] S2x128x256.size (sec1_inb 0))) (stV1 0)) $$ AV0
  iintro AV0
  rw [WP_ret]
  imodintro
  iapply Hk
  isplitl [HO]; · iexact HO
  isplitl [HK]; · iexact HK
  isplitl [HV]; · iexact HV
  isplitl [AV0]; · iexact AV0
  isplitl [WK1]; · iexact WK1
  iexact WK2

/-- Device 1 sends two targets their values, and stages the third's. -/
theorem part6 (K : Dev nD × Kind → ℕ) (k0_h2 : k0_cond2 (1 : Dev nD) = 1#1) (c0_i32_833 : BitVec 32) (c1_i32_834 : BitVec 32) (l : List (Dev nD × Kind)) (fV : Buf (Elt F) (vsM.view.loc ((1 : Dev nD) : Thread nD τ))) (fdV0 : Buf (Elt F) (vb1M.view.loc (tgt1 0 : Thread nD τ))) (fdV1 : Buf (Elt F) (vb1M.view.loc (tgt1 1 : Thread nD τ)))
    {Q : _ → sProp 𝕄} :
    iprop(env m K ∗ own vM (1 : Dev nD) Finset.univ (vb m (1 : Dev nD)) ∗ own vsM (1 : Dev nD) (S1 1) fV ∗ own vsM (1 : Dev nD) (S1 2) fV ∗ own vsM (1 : Dev nD) (S1 0) ((vsM.access (Rect.unit (s := S2x256x1024) ![0, 0, sec1Off 0] S2x128x256.size (sec1_inb 0))).write (Elt F) fV (k0_pay10 (vM.view.readAt (Elt F) (Rect.unit (s := S2x256x16x64) ![0, 0, 0, 0] S2x128x4x64.size inb_S2x256x16x64_S2x128x4x64_0_0_0_0).toLoadRect (vb m (1 : Dev nD)))) Finset.univ) ∗ own vb1M (tgt1 0) vb1M.view.set fdV0 ∗ (tok (1 : Dev nD) (.kvS 0 1) ∗ pos (1 : Dev nD) (.kvS 0 1)) ∗ tok (tgt1 0) (.kvR 1 1) ∗ own vb1M (tgt1 1) vb1M.view.set fdV1 ∗ (tok (1 : Dev nD) (.kvS 1 1) ∗ pos (1 : Dev nD) (.kvS 1 1)) ∗ tok (tgt1 1) (.kvR 1 1) ∗ owesL (1 : Dev nD) ((tgt1 0, .kvR 1 1) :: (tgt1 1, .kvR 1 1) :: l))
      ⊢ iprop(((owesL (1 : Dev nD) l ∗ own vM (1 : Dev nD) Finset.univ (vb m (1 : Dev nD)) ∗ own vsM (1 : Dev nD) (S1 2) ((vsM.access (Rect.unit (s := S2x256x1024) ![0, 0, sec1Off 2] S2x128x256.size (sec1_inb 2))).write (Elt F) fV (k0_pay12 (vM.view.readAt (Elt F) (Rect.unit (s := S2x256x16x64) ![0, 0, 12, 0] S2x128x4x64.size inb_S2x256x16x64_S2x128x4x64_0_0_12_0).toLoadRect (vb m (1 : Dev nD)))) Finset.univ) ∗ waitTok (1 : Dev nD) (.kvS 0 1) ∗ waitTok (1 : Dev nD) (.kvS 1 1)) -∗ Q PUnit.unit)
        -∗ WP (1 : Dev nD) (k0_part6 xM (Memref.isWhole_whole _) wqM (Memref.isWhole_whole _) kM (Memref.isWhole_whole _) vM (Memref.isWhole_whole _) woM (Memref.isWhole_whole _) oM (Memref.isWhole_whole _) ksM (Memref.isWhole_whole _) vsM (Memref.isWhole_whole _) kb0M (Memref.isWhole_whole _) vb0M (Memref.isWhole_whole _) kb1M (Memref.isWhole_whole _) vb1M (Memref.isWhole_whole _) rsM (Memref.isWhole_whole _) rrM (Memref.isWhole_whole _) agM (Memref.isWhole_whole _) arM (Memref.isWhole_whole _) cc0_scratch10 cc0_scratch11 cc0_scratch12 cc0_scratch13 cc0_scratch14 cc0_scratch15 (1 : Dev nD) k0_h2 c0_i32_833 c1_i32_834) Q) := by
  rw [k0_part6_eq_skeleton]; unfold k0_part6_skel
  simp only [semSignalWord, semWaitWord, Prog.lift, Prog.bind_op, Prog.bind_ret, Prog.pure_eq_ret, wp_deviceId]
  iintro ⟨#He, HV, AV1, AV2, AV0, BV0, TV0, UV0, BV1, TV1, UV1, HO⟩ Hk
  iapply (sendV1 m K _ 0 (dev13 k0_h2) rfl rfl rfl rfl ((tgt1 1, .kvR 1 1) :: l) fV (k0_pay10 (vM.view.readAt (Elt F) (Rect.unit (s := S2x256x16x64) ![0, 0, 0, 0] S2x128x4x64.size inb_S2x256x16x64_S2x128x4x64_0_0_0_0).toLoadRect (vb m (1 : Dev nD)))) (valV1_0 m) fdV0) $$ [AV0 BV0 HO TV0 UV0]
  · isplitr; · iexact He
    isplitl [AV0]; · iexact AV0
    isplitl [BV0]; · iexact BV0
    isplitl [HO]; · iexact HO
    isplitl [TV0]; · iexact TV0
    iexact UV0
  iintro ⟨WV0, HO⟩
  iapply (ld (1 : Dev nD) (M := vM) (Finset.subset_univ _)) $$ HV
  iintro HV
  iapply (ld (1 : Dev nD) (M := vsM) (r := (Rect.unit (s := S2x256x1024) ![0, 0, sec1Off 1] S2x128x256.size (sec1_inb 1)).toLoadRect) (ldV1 1)) $$ AV1
  iintro AV1
  iapply (st (1 : Dev nD) (M := vsM) (r := (Rect.unit (s := S2x256x1024) ![0, 0, sec1Off 1] S2x128x256.size (sec1_inb 1))) (stV1 1)) $$ AV1
  iintro AV1
  iapply (sendV1 m K _ 1 (dev14 k0_h2) rfl rfl rfl rfl (l) fV (k0_pay11 (vM.view.readAt (Elt F) (Rect.unit (s := S2x256x16x64) ![0, 0, 8, 0] S2x128x4x64.size inb_S2x256x16x64_S2x128x4x64_0_0_8_0).toLoadRect (vb m (1 : Dev nD)))) (valV1_1 m) fdV1) $$ [AV1 BV1 HO TV1 UV1]
  · isplitr; · iexact He
    isplitl [AV1]; · iexact AV1
    isplitl [BV1]; · iexact BV1
    isplitl [HO]; · iexact HO
    isplitl [TV1]; · iexact TV1
    iexact UV1
  iintro ⟨WV1, HO⟩
  iapply (ld (1 : Dev nD) (M := vM) (Finset.subset_univ _)) $$ HV
  iintro HV
  iapply (ld (1 : Dev nD) (M := vsM) (r := (Rect.unit (s := S2x256x1024) ![0, 0, sec1Off 2] S2x128x256.size (sec1_inb 2)).toLoadRect) (ldV1 2)) $$ AV2
  iintro AV2
  iapply (st (1 : Dev nD) (M := vsM) (r := (Rect.unit (s := S2x256x1024) ![0, 0, sec1Off 2] S2x128x256.size (sec1_inb 2))) (stV1 2)) $$ AV2
  iintro AV2
  rw [WP_ret]
  imodintro
  iapply Hk
  isplitl [HO]; · iexact HO
  isplitl [HV]; · iexact HV
  isplitl [AV2]; · iexact AV2
  isplitl [WV0]; · iexact WV0
  iexact WV1

/-! ## The barrier -/

/-- The first two barrier signals. -/
theorem part9 (K : Dev nD × Kind → ℕ) (c : Dev nD) (l : List (Dev nD × Kind))
    {Q : _ → sProp 𝕄} :
    iprop(env m K ∗ owesL c ((fwd c 1, .bar) :: (fwd c 2, .bar) :: l) ∗ tok (fwd c 1) .bar 2 ∗ barPay (F := F) (fwd c 1) 2 ∗ tok (fwd c 2) .bar 1 ∗ barPay (F := F) (fwd c 2) 1)
      ⊢ iprop((∀ (w3 : BitVec 32) (w5 : BitVec 1), (owesL c l) -∗ Q ⟨c, W2 c, SemArray.scalar (sig.barrier 0 rfl), w3, 4#32, w5⟩)
        -∗ WP c (k0_part9 xM (Memref.isWhole_whole _) wqM (Memref.isWhole_whole _) kM (Memref.isWhole_whole _) vM (Memref.isWhole_whole _) woM (Memref.isWhole_whole _) oM (Memref.isWhole_whole _) ksM (Memref.isWhole_whole _) vsM (Memref.isWhole_whole _) kb0M (Memref.isWhole_whole _) vb0M (Memref.isWhole_whole _) kb1M (Memref.isWhole_whole _) vb1M (Memref.isWhole_whole _) rsM (Memref.isWhole_whole _) rrM (Memref.isWhole_whole _) agM (Memref.isWhole_whole _) arM (Memref.isWhole_whole _) cc0_scratch10 cc0_scratch11 cc0_scratch12 cc0_scratch13 cc0_scratch14 cc0_scratch15 ) Q) := by
  rw [k0_part9_eq_skeleton]; unfold k0_part9_skel
  simp only [semSignalWord, semWaitWord, Prog.lift, Prog.bind_op, Prog.bind_ret, Prog.pure_eq_ret, wp_deviceId]
  iintro ⟨#He, HO, T1, P1, T2, P2⟩ Hk
  iapply (signal m K c _ _ 2 (dev1 c) rfl ((fwd c 2, .bar) :: l)) $$ [HO T1 P1]
  · isplitr; · iexact He
    isplitl [HO]; · iexact HO
    isplitl [T1]; · iexact T1
    iexact P1
  iintro HO
  iapply (signal m K c _ _ 1 (dev2 c) rfl l) $$ [HO T2 P2]
  · isplitr; · iexact He
    isplitl [HO]; · iexact HO
    isplitl [T2]; · iexact T2
    iexact P2
  iintro HO
  rw [WP_ret]
  imodintro
  iapply Hk
  iexact HO

end Cert.KernelIdeal.Gen

end
-- ==== Proof.PartsK.lean ====
/- The barrier step, by device: device 0 and device 1 send their keys and values, the others send none. -/
module

public import proofs.«01_k».proof.Proof.PartsA

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

variable (m : (ℓ : Loc nD τ sig) → Buf (Elt F) ℓ)

/-! ## The resources of the key and value sends, by device -/

abbrev six (P : Fin 3 → Fin 2 → sProp 𝕄) : sProp 𝕄 := iprop(P 0 0 ∗ P 1 0 ∗ P 2 0 ∗ P 0 1 ∗ P 1 1 ∗ P 2 1)
/-- A whole buffer, at some contents. -/
abbrev anyW {s : Shape} {e : EltTy} (M : Memref sig .tc .vmem s e) (c : Dev nD) : sProp 𝕄 := iprop(∃ f, own M c Finset.univ f)
/-- What is left of the staging buffer outside the three sections sent. -/
abbrev anyL (M : Memref sig .tc .vmem S2x256x1024 .bf16) (c : Dev nD) (S : Fin 3 → Finset (Idx (M.view.loc (c : Thread nD τ)))) : sProp 𝕄 :=
  iprop(∃ f, own M c (((Finset.univ \ S 0) \ S 1) \ S 2) f)
/-- The rights a device starts with: to send keys and values, or only its places at the unused semaphores. -/
def kvTok (c : Dev nD) : sProp 𝕄 :=
  if c = 0 then six fun j t => iprop((tok 0 (.kvS j t) ∗ pos 0 (.kvS j t)) ∗ tok (tgt0 j) (.kvR 0 t))
  else if c = 1 then six fun j t => iprop((tok 1 (.kvS j t) ∗ pos 1 (.kvS j t)) ∗ tok (tgt1 j) (.kvR 1 t))
  else six fun j t => pos c (.kvS j t)
/-- What the sends leave to wait for, and what remains of the staging buffers. -/
def kvOut (c : Dev nD) : sProp 𝕄 :=
  if c = 0 then iprop((six fun j t => waitTok 0 (.kvS j t)) ∗ anyL ksM 0 S0 ∗ anyL vsM 0 S0)
  else if c = 1 then iprop((six fun j t => waitTok 1 (.kvS j t)) ∗ anyL ksM 1 S1 ∗ anyL vsM 1 S1)
  else iprop((six fun j t => done c (.kvS j t)) ∗ anyW ksM c ∗ anyW vsM c)
/-- After the waits: every send's semaphore closed, the staging buffers whole. -/
def kvIn (c : Dev nD) : sProp 𝕄 := iprop((six fun j t => done c (.kvS j t)) ∗ anyW ksM c ∗ anyW vsM c)
/-- A receive before the barrier: the source's own semaphore is not used. -/
def kvRP (c : Dev nD) (s t : Fin 2) : sProp 𝕄 := if c.val = s.val then pos c (.kvR s t) else waitTok c (.kvR s t)
/-- The slots on the device `d + 1` places on. -/
abbrev slotsP (c : Dev nD) (d : Fin 3) : sProp 𝕄 :=
  iprop(anyM (rrSlot d 0) (fwd c (d.val + 1)) ∗ anyM (rrSlot d 1) (fwd c (d.val + 1))
      ∗ anyM (arSlot d 0) (fwd c (d.val + 1)) ∗ anyM (arSlot d 1) (fwd c (d.val + 1)))

section
variable {ℓ : Loc nD τ sig} {S : Fin 3 → Finset (Idx ℓ)} (hS : ∀ i j, i ≠ j → Disjoint (S i) (S j))
include hS
theorem subF1 : S 1 ⊆ Finset.univ \ S 0 := sub_sdiff (Finset.subset_univ _) (hS _ _ (by decide))
theorem subF2 : S 2 ⊆ (Finset.univ \ S 0) \ S 1 := sub_sdiff (sub_sdiff (Finset.subset_univ _) (hS _ _ (by decide))) (hS _ _ (by decide))
theorem cutF (f : Buf (Elt F) ℓ) :
    (ℓ ↦[Finset.univ]{fullShare} f : sProp 𝕄)
      ⊢ iprop((ℓ ↦[S 0]{fullShare} f) ∗ (ℓ ↦[S 1]{fullShare} f) ∗ (ℓ ↦[S 2]{fullShare} f) ∗ ℓ ↦[((Finset.univ \ S 0) \ S 1) \ S 2]{fullShare} f) := by
  iintro H
  ihave H' := (cut (Finset.subset_univ (S 0)) f) $$ H
  icases H' with ⟨A, H⟩
  ihave H' := (cut (subF1 hS) f) $$ H
  icases H' with ⟨B, H⟩
  ihave H' := (cut (subF2 hS) f) $$ H
  icases H' with ⟨C, H⟩
  isplitl [A]; · iexact A
  isplitl [B]; · iexact B
  isplitl [C]; · iexact C
  iexact H
theorem uncutF :
    iprop((∃ f : Buf (Elt F) ℓ, ℓ ↦[S 0]{fullShare} f) ∗ (∃ f : Buf (Elt F) ℓ, ℓ ↦[S 1]{fullShare} f) ∗ (∃ f : Buf (Elt F) ℓ, ℓ ↦[S 2]{fullShare} f)
        ∗ ∃ f : Buf (Elt F) ℓ, ℓ ↦[((Finset.univ \ S 0) \ S 1) \ S 2]{fullShare} f)
      ⊢ (iprop(∃ f : Buf (Elt F) ℓ, ℓ ↦[Finset.univ]{fullShare} f) : sProp 𝕄) := by
  iintro ⟨A, B, C, H⟩
  iapply (uncut (Finset.subset_univ (S 0)))
  isplitl [A]; · iexact A
  iapply (uncut (subF1 hS))
  isplitl [B]; · iexact B
  iapply (uncut (subF2 hS))
  isplitl [C]; · iexact C
  iexact H
end

theorem S0_fam : ∀ i j, i ≠ j → Disjoint (S0 i) (S0 j) := fun _ _ h => S0_disj h
theorem S1_fam : ∀ i j, i ≠ j → Disjoint (S1 i) (S1 j) := fun _ _ h => S1_disj h
theorem backK0 (j : Fin 3) : pay (F := F) m 0 0 (.kvS j 0) ⊢ iprop(∃ f, own ksM (0 : Dev nD) (S0 j) f) := by
  have e : (sec0 0 j).view.set = S0 j := by simp only [sec0, stgM, Memref.slice, Memref.view_whole, View.set_slice_whole]
  rw [← e]; unfold pay; exact Entails.of_eq (if_pos rfl)
theorem backV0 (j : Fin 3) : pay (F := F) m 0 0 (.kvS j 1) ⊢ iprop(∃ f, own vsM (0 : Dev nD) (S0 j) f) := by
  have e : (sec0 1 j).view.set = S0 j := by simp only [sec0, stgM, Memref.slice, Memref.view_whole, View.set_slice_whole]
  rw [← e]; unfold pay; exact Entails.of_eq (if_pos rfl)
theorem backK1 (j : Fin 3) : pay (F := F) m 1 0 (.kvS j 0) ⊢ iprop(∃ f, own ksM (1 : Dev nD) (S1 j) f) := by
  have e : (sec1 0 j).view.set = S1 j := by simp only [sec1, stgM, Memref.slice, Memref.view_whole, View.set_slice_whole]
  rw [← e]; unfold pay; exact Entails.of_eq (if_neg (by decide))
theorem backV1 (j : Fin 3) : pay (F := F) m 1 0 (.kvS j 1) ⊢ iprop(∃ f, own vsM (1 : Dev nD) (S1 j) f) := by
  have e : (sec1 1 j).view.set = S1 j := by simp only [sec1, stgM, Memref.slice, Memref.view_whole, View.set_slice_whole]
  rw [← e]; unfold pay; exact Entails.of_eq (if_neg (by decide))

theorem place : ∀ c : Dev nD, c = 0 ∨ c = 1 ∨ (c ≠ 0 ∧ c ≠ 1) := by decide
theorem bar_lv : ∀ c : Dev nD, ∀ x ∈ kvL c ++ L2 c, 1 < lvK x.2 := by decide +kernel
theorem kvL_rest : ∀ c : Dev nD, c ≠ 0 ∧ c ≠ 1 → kvL c = [] := by decide
theorem cond10 : k0_cond1 (0 : Dev nD) = 1#1 ∧ ¬ k0_cond2 (0 : Dev nD) = 1#1 := by decide +kernel
theorem cond11 : ¬ k0_cond1 (1 : Dev nD) = 1#1 ∧ k0_cond2 (1 : Dev nD) = 1#1 := by decide +kernel
theorem cond1r : ∀ c : Dev nD, c ≠ 0 ∧ c ≠ 1 → ¬ k0_cond1 c = 1#1 ∧ ¬ k0_cond2 c = 1#1 := by decide +kernel
theorem val_ne : ∀ c : Dev nD, c ≠ 0 ∧ c ≠ 1 → ∀ s : Fin 2, ¬ c.val = s.val := by decide

/-! ## After the barrier -/

theorem pend_wait (c : Dev nD) (s t : Fin 2) (h : ¬ c.val = s.val) : kvRP (F := F) c s t ⊢ kvPend m c s t := by
  unfold kvRP kvPend; rw [if_neg h, if_neg h]
theorem pend_done (c : Dev nD) (s t : Fin 2) (h : c.val = s.val) : iprop(done c (.kvR s t) ∗ pay m c 0 (.kvR s t)) ⊢ kvPend m c s t := by
  unfold kvPend; rw [if_pos h]

/-- Device 0: the barrier, the sends, its own block. -/
theorem part10_0 (K : Dev nD × Kind → ℕ) (v30 : BitVec 32) (c4_i32_18 : BitVec 32) (v31 : BitVec 1)
    {Q : _ → sProp 𝕄} :
    iprop(env m K ∗ owesL (0 : Dev nD) ((fwd (0 : Dev nD) 3, .bar) :: (kvL (0 : Dev nD) ++ L2 (0 : Dev nD))) ∗ tok (fwd (0 : Dev nD) 3) .bar 0 ∗ barPay (F := F) (fwd (0 : Dev nD) 3) 0 ∗ (cred (tallyAt (cell (0 : Dev nD) .bar) () 3) ∗ pos (0 : Dev nD) .bar) ∗ kvHand (F := F) (0 : Dev nD) (0 : Dev nD) ∗ own kM (0 : Dev nD) Finset.univ (kb m (0 : Dev nD)) ∗ own vM (0 : Dev nD) Finset.univ (vb m (0 : Dev nD)) ∗ own wqM (0 : Dev nD) Finset.univ (wqb m (0 : Dev nD)) ∗ own woM (0 : Dev nD) Finset.univ (wob m (0 : Dev nD)) ∗ own xM (0 : Dev nD) Finset.univ (xb m (0 : Dev nD)) ∗ kvTok (F := F) (0 : Dev nD) ∗ kvRP (F := F) (0 : Dev nD) 0 0 ∗ kvRP (F := F) (0 : Dev nD) 0 1 ∗ kvRP (F := F) (0 : Dev nD) 1 0 ∗ kvRP (F := F) (0 : Dev nD) 1 1 ∗ anyW ksM (0 : Dev nD) ∗ anyW vsM (0 : Dev nD))
      ⊢ iprop(((done (0 : Dev nD) .bar ∗ owesL (0 : Dev nD) (L2 (0 : Dev nD)) ∗ slotsP (F := F) (0 : Dev nD) 0 ∗ slotsP (F := F) (0 : Dev nD) 1 ∗ slotsP (F := F) (0 : Dev nD) 2 ∗ own kM (0 : Dev nD) Finset.univ (kb m (0 : Dev nD)) ∗ own vM (0 : Dev nD) Finset.univ (vb m (0 : Dev nD)) ∗ own wqM (0 : Dev nD) Finset.univ (wqb m (0 : Dev nD)) ∗ own woM (0 : Dev nD) Finset.univ (wob m (0 : Dev nD)) ∗ own xM (0 : Dev nD) Finset.univ (xb m (0 : Dev nD)) ∗ kvPend m (0 : Dev nD) 0 0 ∗ kvPend m (0 : Dev nD) 0 1 ∗ kvPend m (0 : Dev nD) 1 0 ∗ kvPend m (0 : Dev nD) 1 1 ∗ kvOut (F := F) (0 : Dev nD)) -∗ Q ⟨V53 m (0 : Dev nD), V56 m (0 : Dev nD), V60 m (0 : Dev nD), V62 m (0 : Dev nD)⟩)
        -∗ WP (0 : Dev nD) (k0_part10 xM (Memref.isWhole_whole _) wqM (Memref.isWhole_whole _) kM (Memref.isWhole_whole _) vM (Memref.isWhole_whole _) woM (Memref.isWhole_whole _) oM (Memref.isWhole_whole _) ksM (Memref.isWhole_whole _) vsM (Memref.isWhole_whole _) kb0M (Memref.isWhole_whole _) vb0M (Memref.isWhole_whole _) kb1M (Memref.isWhole_whole _) vb1M (Memref.isWhole_whole _) rsM (Memref.isWhole_whole _) rrM (Memref.isWhole_whole _) agM (Memref.isWhole_whole _) arM (Memref.isWhole_whole _) cc0_scratch10 cc0_scratch11 cc0_scratch12 cc0_scratch13 cc0_scratch14 cc0_scratch15 (0 : Dev nD) (W2 (0 : Dev nD)) (SemArray.scalar (sig.barrier 0 rfl)) v30 c4_i32_18 v31) Q) := by
  rw [k0_part10_eq_skeleton]; unfold k0_part10_skel
  simp only [semSignalWord, semWaitWord, Prog.lift, Prog.bind_op, Prog.bind_ret, Prog.pure_eq_ret, wp_deviceId, V53, V56, V60, V62, V49, V54, V57, V61]
  iintro ⟨#He, HO, T3, P3, Wb, Hh, HK, HV, Hq, Hw, Hx, HT, E00, E01, E10, E11, Sk, Sv⟩ Hk
  iapply (signal m K (0 : Dev nD) _ _ 0 (dev3 (0 : Dev nD)) rfl (kvL (0 : Dev nD) ++ L2 (0 : Dev nD))) $$ [HO T3 P3]
  · isplitr; · iexact He
    isplitl [HO]; · iexact HO
    isplitl [T3]; · iexact T3
    iexact P3
  iintro HO
  iapply (waitBar m K (0 : Dev nD) rfl (kvL (0 : Dev nD) ++ L2 (0 : Dev nD)) (bar_lv (0 : Dev nD))) $$ [Wb HO]
  · isplitr; · iexact He
    isplitl [Wb]; · iexact Wb
    iexact HO
  iintro ⟨Db, HO, Pb0, Pb1, Pb2⟩
  ihave Pb0 := (Entails.of_eq (show barPay (F := F) (0 : Dev nD) 0 = iprop(slotsP (F := F) (0 : Dev nD) 0 ∗ kvHand (F := F) (0 : Dev nD) (fwd (0 : Dev nD) ((0 : Fin 3).val + 1))) from rfl)) $$ Pb0
  icases Pb0 with ⟨Z0, h0⟩
  ihave Pb1 := (Entails.of_eq (show barPay (F := F) (0 : Dev nD) 1 = iprop(slotsP (F := F) (0 : Dev nD) 1 ∗ kvHand (F := F) (0 : Dev nD) (fwd (0 : Dev nD) ((1 : Fin 3).val + 1))) from rfl)) $$ Pb1
  icases Pb1 with ⟨Z1, h1⟩
  ihave Pb2 := (Entails.of_eq (show barPay (F := F) (0 : Dev nD) 2 = iprop(slotsP (F := F) (0 : Dev nD) 2 ∗ kvHand (F := F) (0 : Dev nD) (fwd (0 : Dev nD) ((2 : Fin 3).val + 1))) from rfl)) $$ Pb2
  icases Pb2 with ⟨Z2, h2⟩
  ihave h0 := (Entails.of_eq (show kvHand (F := F) (0 : Dev nD) (fwd (0 : Dev nD) ((0 : Fin 3).val + 1)) = kvHand (F := F) (0 : Dev nD) (tgt0 0) from congrArg (kvHand (F := F) _) (by decide))) $$ h0
  ihave h0 := (Entails.of_eq (show kvHand (F := F) (0 : Dev nD) (tgt0 0) = iprop(anyM kb0M (tgt0 0) ∗ anyM vb0M (tgt0 0)) from if_pos rfl)) $$ h0
  icases h0 with ⟨⟨%fdK0, BK0⟩, ⟨%fdV0, BV0⟩⟩
  ihave h1 := (Entails.of_eq (show kvHand (F := F) (0 : Dev nD) (fwd (0 : Dev nD) ((1 : Fin 3).val + 1)) = kvHand (F := F) (0 : Dev nD) (tgt0 1) from congrArg (kvHand (F := F) _) (by decide))) $$ h1
  ihave h1 := (Entails.of_eq (show kvHand (F := F) (0 : Dev nD) (tgt0 1) = iprop(anyM kb0M (tgt0 1) ∗ anyM vb0M (tgt0 1)) from if_pos rfl)) $$ h1
  icases h1 with ⟨⟨%fdK1, BK1⟩, ⟨%fdV1, BV1⟩⟩
  ihave h2 := (Entails.of_eq (show kvHand (F := F) (0 : Dev nD) (fwd (0 : Dev nD) ((2 : Fin 3).val + 1)) = kvHand (F := F) (0 : Dev nD) (tgt0 2) from congrArg (kvHand (F := F) _) (by decide))) $$ h2
  ihave h2 := (Entails.of_eq (show kvHand (F := F) (0 : Dev nD) (tgt0 2) = iprop(anyM kb0M (tgt0 2) ∗ anyM vb0M (tgt0 2)) from if_pos rfl)) $$ h2
  icases h2 with ⟨⟨%fdK2, BK2⟩, ⟨%fdV2, BV2⟩⟩
  ihave Hh := (Entails.of_eq (show kvHand (F := F) (0 : Dev nD) (0 : Dev nD) = iprop(anyM kb0M (0 : Dev nD) ∗ anyM vb0M (0 : Dev nD)) from if_pos rfl)) $$ Hh
  icases Hh with ⟨⟨%gK, OK⟩, ⟨%gV, OV⟩⟩
  ihave HT := (Entails.of_eq (show kvTok (F := F) (0 : Dev nD) = six fun j t => iprop((tok 0 (.kvS j t) ∗ pos 0 (.kvS j t)) ∗ tok (tgt0 j) (.kvR 0 t)) from if_pos rfl)) $$ HT
  icases HT with ⟨⟨TK0, UK0⟩, ⟨TK1, UK1⟩, ⟨TK2, UK2⟩, ⟨TV0, UV0⟩, ⟨TV1, UV1⟩, ⟨TV2, UV2⟩⟩
  icases Sk with ⟨%fK, Sk⟩
  ihave Sk := (cutF S0_fam fK) $$ Sk
  icases Sk with ⟨AK0, AK1, AK2, RK⟩
  icases Sv with ⟨%fV, Sv⟩
  ihave Sv := (cutF S0_fam fV) $$ Sv
  icases Sv with ⟨AV0, AV1, AV2, RV⟩
  ihave HO := (Entails.of_eq (show owesL (F := F) (0 : Dev nD) (kvL (0 : Dev nD) ++ L2 (0 : Dev nD)) = owesL (0 : Dev nD) ((tgt0 0, .kvR 0 0) :: (tgt0 1, .kvR 0 0) :: (tgt0 2, .kvR 0 0) :: (tgt0 0, .kvR 0 1) :: (tgt0 1, .kvR 0 1) :: (tgt0 2, .kvR 0 1) :: (L2 (0 : Dev nD))) from rfl)) $$ HO
  ihave HK := (Entails.of_eq (show own kM (0 : Dev nD) Finset.univ (kb m (0 : Dev nD)) = own kM (0 : Dev nD) Finset.univ (kb m (0 : Dev nD)) from rfl)) $$ HK
  ihave HV := (Entails.of_eq (show own vM (0 : Dev nD) Finset.univ (vb m (0 : Dev nD)) = own vM (0 : Dev nD) Finset.univ (vb m (0 : Dev nD)) from rfl)) $$ HV
  rw [dif_pos cond10.1, dif_neg cond10.2]
  rw [WP_bind]
  iapply (part1 m K cond10.1 ((tgt0 1, .kvR 0 0) :: (tgt0 2, .kvR 0 0) :: (tgt0 0, .kvR 0 1) :: (tgt0 1, .kvR 0 1) :: (tgt0 2, .kvR 0 1) :: (L2 (0 : Dev nD))) fK fdK0) $$ [HK AK0 AK1 BK0 TK0 UK0 HO]
  · isplitr; · iexact He
    isplitl [HK]; · iexact HK
    isplitl [AK0]; · iexact AK0
    isplitl [AK1]; · iexact AK1
    isplitl [BK0]; · iexact BK0
    isplitl [TK0]; · iexact TK0
    isplitl [UK0]; · iexact UK0
    iexact HO
  iintro ⟨HO, HK, AK1, WK0⟩
  dsimp only
  rw [WP_bind]
  iapply (part2 m K cond10.1 ((tgt0 0, .kvR 0 1) :: (tgt0 1, .kvR 0 1) :: (tgt0 2, .kvR 0 1) :: (L2 (0 : Dev nD))) fK fV fdK1 fdK2) $$ [HK HV AK2 AV0 AK1 BK1 TK1 UK1 BK2 TK2 UK2 HO]
  · isplitr; · iexact He
    isplitl [HK]; · iexact HK
    isplitl [HV]; · iexact HV
    isplitl [AK2]; · iexact AK2
    isplitl [AV0]; · iexact AV0
    isplitl [AK1]; · iexact AK1
    isplitl [BK1]; · iexact BK1
    isplitl [TK1]; · iexact TK1
    isplitl [UK1]; · iexact UK1
    isplitl [BK2]; · iexact BK2
    isplitl [TK2]; · iexact TK2
    isplitl [UK2]; · iexact UK2
    iexact HO
  iintro ⟨HO, HK, HV, AV0, WK1, WK2⟩
  dsimp only
  rw [WP_bind]
  iapply (part3 m K cond10.1 _ _ ((tgt0 2, .kvR 0 1) :: (L2 (0 : Dev nD))) fV fdV0 fdV1) $$ [HV AV1 AV2 AV0 BV0 TV0 UV0 BV1 TV1 UV1 HO]
  · isplitr; · iexact He
    isplitl [HV]; · iexact HV
    isplitl [AV1]; · iexact AV1
    isplitl [AV2]; · iexact AV2
    isplitl [AV0]; · iexact AV0
    isplitl [BV0]; · iexact BV0
    isplitl [TV0]; · iexact TV0
    isplitl [UV0]; · iexact UV0
    isplitl [BV1]; · iexact BV1
    isplitl [TV1]; · iexact TV1
    isplitl [UV1]; · iexact UV1
    iexact HO
  iintro ⟨HO, HV, AV2, WV0, WV1⟩
  dsimp only
  iapply (sendV0 m K _ 2 (dev9 cond10.1) rfl rfl rfl rfl (L2 (0 : Dev nD)) fV (k0_pay6 (vM.view.readAt (Elt F) (Rect.unit (s := S2x256x16x64) ![0, 0, 12, 0] S2x256x4x64.size inb_S2x256x16x64_S2x256x4x64_0_0_12_0).toLoadRect (vb m (0 : Dev nD)))) (valV0_2 m) fdV2) $$ [AV2 BV2 HO TV2 UV2]
  · isplitr; · iexact He
    isplitl [AV2]; · iexact AV2
    isplitl [BV2]; · iexact BV2
    isplitl [HO]; · iexact HO
    isplitl [TV2]; · iexact TV2
    iexact UV2
  iintro ⟨WV2, HO⟩
  iapply (ld (0 : Dev nD) (M := kM) (Finset.subset_univ _)) $$ HK
  iintro HK
  iapply (ld (0 : Dev nD) (M := kb0M) (whole_sub (b := cc0_scratch2) _)) $$ OK
  iintro OK
  iapply (st (0 : Dev nD) (M := kb0M) (r := (Rect.unit (s := S2x256x256) ![0, 0, 0] S2x256x256.size inb_S2x256x256_S2x256x256_0_0_0)) (whole_sub (b := cc0_scratch2) _)) $$ OK
  iintro OK
  ihave OK := (Entails.of_eq (congrArg (own kb0M (0 : Dev nD) kb0M.view.set) ((ownK0 gK _).trans (valK0_3 m)))) $$ OK
  iapply (ld (0 : Dev nD) (M := vM) (Finset.subset_univ _)) $$ HV
  iintro HV
  iapply (ld (0 : Dev nD) (M := vb0M) (whole_sub (b := cc0_scratch3) _)) $$ OV
  iintro OV
  iapply (st (0 : Dev nD) (M := vb0M) (r := (Rect.unit (s := S2x256x256) ![0, 0, 0] S2x256x256.size inb_S2x256x256_S2x256x256_0_0_0)) (whole_sub (b := cc0_scratch3) _)) $$ OV
  iintro OV
  ihave OV := (Entails.of_eq (congrArg (own vb0M (0 : Dev nD) vb0M.view.set) ((ownV0 gV _).trans (valV0_3 m)))) $$ OV
  ihave E00 := (Entails.of_eq (show kvRP (F := F) (0 : Dev nD) 0 0 = pos (0 : Dev nD) (.kvR 0 0) from if_pos rfl)) $$ E00
  imod (close m K (0 : Dev nD) (.kvR 0 0) rfl) $$ [E00] with E00
  · isplitr; · iexact He
    iexact E00
  ihave E01 := (Entails.of_eq (show kvRP (F := F) (0 : Dev nD) 0 1 = pos (0 : Dev nD) (.kvR 0 1) from if_pos rfl)) $$ E01
  imod (close m K (0 : Dev nD) (.kvR 0 1) rfl) $$ [E01] with E01
  · isplitr; · iexact He
    iexact E01
  iapply (ld (0 : Dev nD) (M := wqM) (Finset.subset_univ _)) $$ Hq
  iintro Hq
  iapply (ld (0 : Dev nD) (M := woM) (Finset.subset_univ _)) $$ Hw
  iintro Hw
  iapply (ld (0 : Dev nD) (M := xM) (Finset.subset_univ _)) $$ Hx
  iintro Hx
  iapply (ld (0 : Dev nD) (M := xM) (Finset.subset_univ _)) $$ Hx
  iintro Hx
  ihave OK := (Entails.of_eq (show own kb0M (0 : Dev nD) kb0M.view.set (KB0 m (0 : Dev nD)) = pay m (0 : Dev nD) 0 (.kvR 0 0) from rfl)) $$ OK
  ihave E00 := (pend_done m (0 : Dev nD) 0 0 rfl) $$ [E00 OK]
  · isplitl [E00]; · iexact E00
    iexact OK
  ihave E10 := (pend_wait m (0 : Dev nD) 1 0 (by decide)) $$ E10
  ihave OV := (Entails.of_eq (show own vb0M (0 : Dev nD) vb0M.view.set (VB0 m (0 : Dev nD)) = pay m (0 : Dev nD) 0 (.kvR 0 1) from rfl)) $$ OV
  ihave E01 := (pend_done m (0 : Dev nD) 0 1 rfl) $$ [E01 OV]
  · isplitl [E01]; · iexact E01
    iexact OV
  ihave E11 := (pend_wait m (0 : Dev nD) 1 1 (by decide)) $$ E11
  ihave Ho := (Entails.of_eq (show iprop((six fun j t => waitTok (0 : Dev nD) (.kvS j t)) ∗ anyL ksM (0 : Dev nD) S0 ∗ anyL vsM (0 : Dev nD) S0) = kvOut (F := F) (0 : Dev nD) from (if_pos rfl).symm)) $$ [WK0 WK1 WK2 WV0 WV1 WV2 RK RV]
  · isplitl [WK0 WK1 WK2 WV0 WV1 WV2]
    · isplitl [WK0]; · iexact WK0
      isplitl [WK1]; · iexact WK1
      isplitl [WK2]; · iexact WK2
      isplitl [WV0]; · iexact WV0
      isplitl [WV1]; · iexact WV1
      iexact WV2
    isplitl [RK]; · iexists _; iexact RK
    iexists _; iexact RV
  rw [WP_ret]
  imodintro
  iapply Hk
  isplitl [Db]; · iexact Db
  isplitl [HO]; · iexact HO
  isplitl [Z0]; · iexact Z0
  isplitl [Z1]; · iexact Z1
  isplitl [Z2]; · iexact Z2
  isplitl [HK]; · iexact HK
  isplitl [HV]; · iexact HV
  isplitl [Hq]; · iexact Hq
  isplitl [Hw]; · iexact Hw
  isplitl [Hx]; · iexact Hx
  isplitl [E00]; · iexact E00
  isplitl [E01]; · iexact E01
  isplitl [E10]; · iexact E10
  isplitl [E11]; · iexact E11
  iexact Ho

/-- Device 1: the barrier, the sends, its own block. -/
theorem part10_1 (K : Dev nD × Kind → ℕ) (v30 : BitVec 32) (c4_i32_18 : BitVec 32) (v31 : BitVec 1)
    {Q : _ → sProp 𝕄} :
    iprop(env m K ∗ owesL (1 : Dev nD) ((fwd (1 : Dev nD) 3, .bar) :: (kvL (1 : Dev nD) ++ L2 (1 : Dev nD))) ∗ tok (fwd (1 : Dev nD) 3) .bar 0 ∗ barPay (F := F) (fwd (1 : Dev nD) 3) 0 ∗ (cred (tallyAt (cell (1 : Dev nD) .bar) () 3) ∗ pos (1 : Dev nD) .bar) ∗ kvHand (F := F) (1 : Dev nD) (1 : Dev nD) ∗ own kM (1 : Dev nD) Finset.univ (kb m (1 : Dev nD)) ∗ own vM (1 : Dev nD) Finset.univ (vb m (1 : Dev nD)) ∗ own wqM (1 : Dev nD) Finset.univ (wqb m (1 : Dev nD)) ∗ own woM (1 : Dev nD) Finset.univ (wob m (1 : Dev nD)) ∗ own xM (1 : Dev nD) Finset.univ (xb m (1 : Dev nD)) ∗ kvTok (F := F) (1 : Dev nD) ∗ kvRP (F := F) (1 : Dev nD) 0 0 ∗ kvRP (F := F) (1 : Dev nD) 0 1 ∗ kvRP (F := F) (1 : Dev nD) 1 0 ∗ kvRP (F := F) (1 : Dev nD) 1 1 ∗ anyW ksM (1 : Dev nD) ∗ anyW vsM (1 : Dev nD))
      ⊢ iprop(((done (1 : Dev nD) .bar ∗ owesL (1 : Dev nD) (L2 (1 : Dev nD)) ∗ slotsP (F := F) (1 : Dev nD) 0 ∗ slotsP (F := F) (1 : Dev nD) 1 ∗ slotsP (F := F) (1 : Dev nD) 2 ∗ own kM (1 : Dev nD) Finset.univ (kb m (1 : Dev nD)) ∗ own vM (1 : Dev nD) Finset.univ (vb m (1 : Dev nD)) ∗ own wqM (1 : Dev nD) Finset.univ (wqb m (1 : Dev nD)) ∗ own woM (1 : Dev nD) Finset.univ (wob m (1 : Dev nD)) ∗ own xM (1 : Dev nD) Finset.univ (xb m (1 : Dev nD)) ∗ kvPend m (1 : Dev nD) 0 0 ∗ kvPend m (1 : Dev nD) 0 1 ∗ kvPend m (1 : Dev nD) 1 0 ∗ kvPend m (1 : Dev nD) 1 1 ∗ kvOut (F := F) (1 : Dev nD)) -∗ Q ⟨V53 m (1 : Dev nD), V56 m (1 : Dev nD), V60 m (1 : Dev nD), V62 m (1 : Dev nD)⟩)
        -∗ WP (1 : Dev nD) (k0_part10 xM (Memref.isWhole_whole _) wqM (Memref.isWhole_whole _) kM (Memref.isWhole_whole _) vM (Memref.isWhole_whole _) woM (Memref.isWhole_whole _) oM (Memref.isWhole_whole _) ksM (Memref.isWhole_whole _) vsM (Memref.isWhole_whole _) kb0M (Memref.isWhole_whole _) vb0M (Memref.isWhole_whole _) kb1M (Memref.isWhole_whole _) vb1M (Memref.isWhole_whole _) rsM (Memref.isWhole_whole _) rrM (Memref.isWhole_whole _) agM (Memref.isWhole_whole _) arM (Memref.isWhole_whole _) cc0_scratch10 cc0_scratch11 cc0_scratch12 cc0_scratch13 cc0_scratch14 cc0_scratch15 (1 : Dev nD) (W2 (1 : Dev nD)) (SemArray.scalar (sig.barrier 0 rfl)) v30 c4_i32_18 v31) Q) := by
  rw [k0_part10_eq_skeleton]; unfold k0_part10_skel
  simp only [semSignalWord, semWaitWord, Prog.lift, Prog.bind_op, Prog.bind_ret, Prog.pure_eq_ret, wp_deviceId, V53, V56, V60, V62, V49, V54, V57, V61]
  iintro ⟨#He, HO, T3, P3, Wb, Hh, HK, HV, Hq, Hw, Hx, HT, E00, E01, E10, E11, Sk, Sv⟩ Hk
  iapply (signal m K (1 : Dev nD) _ _ 0 (dev3 (1 : Dev nD)) rfl (kvL (1 : Dev nD) ++ L2 (1 : Dev nD))) $$ [HO T3 P3]
  · isplitr; · iexact He
    isplitl [HO]; · iexact HO
    isplitl [T3]; · iexact T3
    iexact P3
  iintro HO
  iapply (waitBar m K (1 : Dev nD) rfl (kvL (1 : Dev nD) ++ L2 (1 : Dev nD)) (bar_lv (1 : Dev nD))) $$ [Wb HO]
  · isplitr; · iexact He
    isplitl [Wb]; · iexact Wb
    iexact HO
  iintro ⟨Db, HO, Pb0, Pb1, Pb2⟩
  ihave Pb0 := (Entails.of_eq (show barPay (F := F) (1 : Dev nD) 0 = iprop(slotsP (F := F) (1 : Dev nD) 0 ∗ kvHand (F := F) (1 : Dev nD) (fwd (1 : Dev nD) ((0 : Fin 3).val + 1))) from rfl)) $$ Pb0
  icases Pb0 with ⟨Z0, h0⟩
  ihave Pb1 := (Entails.of_eq (show barPay (F := F) (1 : Dev nD) 1 = iprop(slotsP (F := F) (1 : Dev nD) 1 ∗ kvHand (F := F) (1 : Dev nD) (fwd (1 : Dev nD) ((1 : Fin 3).val + 1))) from rfl)) $$ Pb1
  icases Pb1 with ⟨Z1, h1⟩
  ihave Pb2 := (Entails.of_eq (show barPay (F := F) (1 : Dev nD) 2 = iprop(slotsP (F := F) (1 : Dev nD) 2 ∗ kvHand (F := F) (1 : Dev nD) (fwd (1 : Dev nD) ((2 : Fin 3).val + 1))) from rfl)) $$ Pb2
  icases Pb2 with ⟨Z2, h2⟩
  ihave h0 := (Entails.of_eq (show kvHand (F := F) (1 : Dev nD) (fwd (1 : Dev nD) ((0 : Fin 3).val + 1)) = kvHand (F := F) (1 : Dev nD) (tgt1 1) from congrArg (kvHand (F := F) _) (by decide))) $$ h0
  ihave h0 := (Entails.of_eq (show kvHand (F := F) (1 : Dev nD) (tgt1 1) = iprop(anyM kb1M (tgt1 1) ∗ anyM vb1M (tgt1 1)) from (if_neg (by decide)).trans (if_pos rfl))) $$ h0
  icases h0 with ⟨⟨%fdK1, BK1⟩, ⟨%fdV1, BV1⟩⟩
  ihave h1 := (Entails.of_eq (show kvHand (F := F) (1 : Dev nD) (fwd (1 : Dev nD) ((1 : Fin 3).val + 1)) = kvHand (F := F) (1 : Dev nD) (tgt1 2) from congrArg (kvHand (F := F) _) (by decide))) $$ h1
  ihave h1 := (Entails.of_eq (show kvHand (F := F) (1 : Dev nD) (tgt1 2) = iprop(anyM kb1M (tgt1 2) ∗ anyM vb1M (tgt1 2)) from (if_neg (by decide)).trans (if_pos rfl))) $$ h1
  icases h1 with ⟨⟨%fdK2, BK2⟩, ⟨%fdV2, BV2⟩⟩
  ihave h2 := (Entails.of_eq (show kvHand (F := F) (1 : Dev nD) (fwd (1 : Dev nD) ((2 : Fin 3).val + 1)) = kvHand (F := F) (1 : Dev nD) (tgt1 0) from congrArg (kvHand (F := F) _) (by decide))) $$ h2
  ihave h2 := (Entails.of_eq (show kvHand (F := F) (1 : Dev nD) (tgt1 0) = iprop(anyM kb1M (tgt1 0) ∗ anyM vb1M (tgt1 0)) from (if_neg (by decide)).trans (if_pos rfl))) $$ h2
  icases h2 with ⟨⟨%fdK0, BK0⟩, ⟨%fdV0, BV0⟩⟩
  ihave Hh := (Entails.of_eq (show kvHand (F := F) (1 : Dev nD) (1 : Dev nD) = iprop(anyM kb1M (1 : Dev nD) ∗ anyM vb1M (1 : Dev nD)) from (if_neg (by decide)).trans (if_pos rfl))) $$ Hh
  icases Hh with ⟨⟨%gK, OK⟩, ⟨%gV, OV⟩⟩
  ihave HT := (Entails.of_eq (show kvTok (F := F) (1 : Dev nD) = six fun j t => iprop((tok 1 (.kvS j t) ∗ pos 1 (.kvS j t)) ∗ tok (tgt1 j) (.kvR 1 t)) from (if_neg (by decide)).trans (if_pos rfl))) $$ HT
  icases HT with ⟨⟨TK0, UK0⟩, ⟨TK1, UK1⟩, ⟨TK2, UK2⟩, ⟨TV0, UV0⟩, ⟨TV1, UV1⟩, ⟨TV2, UV2⟩⟩
  icases Sk with ⟨%fK, Sk⟩
  ihave Sk := (cutF S1_fam fK) $$ Sk
  icases Sk with ⟨AK0, AK1, AK2, RK⟩
  icases Sv with ⟨%fV, Sv⟩
  ihave Sv := (cutF S1_fam fV) $$ Sv
  icases Sv with ⟨AV0, AV1, AV2, RV⟩
  ihave HO := (Entails.of_eq (show owesL (F := F) (1 : Dev nD) (kvL (1 : Dev nD) ++ L2 (1 : Dev nD)) = owesL (1 : Dev nD) ((tgt1 0, .kvR 1 0) :: (tgt1 1, .kvR 1 0) :: (tgt1 2, .kvR 1 0) :: (tgt1 0, .kvR 1 1) :: (tgt1 1, .kvR 1 1) :: (tgt1 2, .kvR 1 1) :: (L2 (1 : Dev nD))) from rfl)) $$ HO
  ihave HK := (Entails.of_eq (show own kM (1 : Dev nD) Finset.univ (kb m (1 : Dev nD)) = own kM (1 : Dev nD) Finset.univ (kb m (1 : Dev nD)) from rfl)) $$ HK
  ihave HV := (Entails.of_eq (show own vM (1 : Dev nD) Finset.univ (vb m (1 : Dev nD)) = own vM (1 : Dev nD) Finset.univ (vb m (1 : Dev nD)) from rfl)) $$ HV
  rw [dif_neg cond11.1, dif_pos cond11.2]
  rw [WP_bind]
  iapply (part4 m K cond11.2 ((tgt1 1, .kvR 1 0) :: (tgt1 2, .kvR 1 0) :: (tgt1 0, .kvR 1 1) :: (tgt1 1, .kvR 1 1) :: (tgt1 2, .kvR 1 1) :: (L2 (1 : Dev nD))) fK fdK0) $$ [HK AK0 AK1 BK0 TK0 UK0 HO]
  · isplitr; · iexact He
    isplitl [HK]; · iexact HK
    isplitl [AK0]; · iexact AK0
    isplitl [AK1]; · iexact AK1
    isplitl [BK0]; · iexact BK0
    isplitl [TK0]; · iexact TK0
    isplitl [UK0]; · iexact UK0
    iexact HO
  iintro ⟨HO, HK, AK1, WK0⟩
  dsimp only
  rw [WP_bind]
  iapply (part5 m K cond11.2 ((tgt1 0, .kvR 1 1) :: (tgt1 1, .kvR 1 1) :: (tgt1 2, .kvR 1 1) :: (L2 (1 : Dev nD))) fK fV fdK1 fdK2) $$ [HK HV AK2 AV0 AK1 BK1 TK1 UK1 BK2 TK2 UK2 HO]
  · isplitr; · iexact He
    isplitl [HK]; · iexact HK
    isplitl [HV]; · iexact HV
    isplitl [AK2]; · iexact AK2
    isplitl [AV0]; · iexact AV0
    isplitl [AK1]; · iexact AK1
    isplitl [BK1]; · iexact BK1
    isplitl [TK1]; · iexact TK1
    isplitl [UK1]; · iexact UK1
    isplitl [BK2]; · iexact BK2
    isplitl [TK2]; · iexact TK2
    isplitl [UK2]; · iexact UK2
    iexact HO
  iintro ⟨HO, HK, HV, AV0, WK1, WK2⟩
  dsimp only
  rw [WP_bind]
  iapply (part6 m K cond11.2 _ _ ((tgt1 2, .kvR 1 1) :: (L2 (1 : Dev nD))) fV fdV0 fdV1) $$ [HV AV1 AV2 AV0 BV0 TV0 UV0 BV1 TV1 UV1 HO]
  · isplitr; · iexact He
    isplitl [HV]; · iexact HV
    isplitl [AV1]; · iexact AV1
    isplitl [AV2]; · iexact AV2
    isplitl [AV0]; · iexact AV0
    isplitl [BV0]; · iexact BV0
    isplitl [TV0]; · iexact TV0
    isplitl [UV0]; · iexact UV0
    isplitl [BV1]; · iexact BV1
    isplitl [TV1]; · iexact TV1
    isplitl [UV1]; · iexact UV1
    iexact HO
  iintro ⟨HO, HV, AV2, WV0, WV1⟩
  dsimp only
  iapply (sendV1 m K _ 2 (dev15 cond11.2) rfl rfl rfl rfl (L2 (1 : Dev nD)) fV (k0_pay12 (vM.view.readAt (Elt F) (Rect.unit (s := S2x256x16x64) ![0, 0, 12, 0] S2x128x4x64.size inb_S2x256x16x64_S2x128x4x64_0_0_12_0).toLoadRect (vb m (1 : Dev nD)))) (valV1_2 m) fdV2) $$ [AV2 BV2 HO TV2 UV2]
  · isplitr; · iexact He
    isplitl [AV2]; · iexact AV2
    isplitl [BV2]; · iexact BV2
    isplitl [HO]; · iexact HO
    isplitl [TV2]; · iexact TV2
    iexact UV2
  iintro ⟨WV2, HO⟩
  iapply (ld (1 : Dev nD) (M := kM) (Finset.subset_univ _)) $$ HK
  iintro HK
  iapply (ld (1 : Dev nD) (M := kb1M) (whole_sub (b := cc0_scratch4) _)) $$ OK
  iintro OK
  iapply (st (1 : Dev nD) (M := kb1M) (r := (Rect.unit (s := S2x128x256) ![0, 0, 0] S2x128x256.size inb_S2x128x256_S2x128x256_0_0_0)) (whole_sub (b := cc0_scratch4) _)) $$ OK
  iintro OK
  ihave OK := (Entails.of_eq (congrArg (own kb1M (1 : Dev nD) kb1M.view.set) ((ownK1 gK _).trans (valK1_3 m)))) $$ OK
  iapply (ld (1 : Dev nD) (M := vM) (Finset.subset_univ _)) $$ HV
  iintro HV
  iapply (ld (1 : Dev nD) (M := vb1M) (whole_sub (b := cc0_scratch5) _)) $$ OV
  iintro OV
  iapply (st (1 : Dev nD) (M := vb1M) (r := (Rect.unit (s := S2x128x256) ![0, 0, 0] S2x128x256.size inb_S2x128x256_S2x128x256_0_0_0)) (whole_sub (b := cc0_scratch5) _)) $$ OV
  iintro OV
  ihave OV := (Entails.of_eq (congrArg (own vb1M (1 : Dev nD) vb1M.view.set) ((ownV1 gV _).trans (valV1_3 m)))) $$ OV
  ihave E10 := (Entails.of_eq (show kvRP (F := F) (1 : Dev nD) 1 0 = pos (1 : Dev nD) (.kvR 1 0) from if_pos rfl)) $$ E10
  imod (close m K (1 : Dev nD) (.kvR 1 0) rfl) $$ [E10] with E10
  · isplitr; · iexact He
    iexact E10
  ihave E11 := (Entails.of_eq (show kvRP (F := F) (1 : Dev nD) 1 1 = pos (1 : Dev nD) (.kvR 1 1) from if_pos rfl)) $$ E11
  imod (close m K (1 : Dev nD) (.kvR 1 1) rfl) $$ [E11] with E11
  · isplitr; · iexact He
    iexact E11
  iapply (ld (1 : Dev nD) (M := wqM) (Finset.subset_univ _)) $$ Hq
  iintro Hq
  iapply (ld (1 : Dev nD) (M := woM) (Finset.subset_univ _)) $$ Hw
  iintro Hw
  iapply (ld (1 : Dev nD) (M := xM) (Finset.subset_univ _)) $$ Hx
  iintro Hx
  iapply (ld (1 : Dev nD) (M := xM) (Finset.subset_univ _)) $$ Hx
  iintro Hx
  ihave OK := (Entails.of_eq (show own kb1M (1 : Dev nD) kb1M.view.set (KB1 m (1 : Dev nD)) = pay m (1 : Dev nD) 0 (.kvR 1 0) from rfl)) $$ OK
  ihave E10 := (pend_done m (1 : Dev nD) 1 0 rfl) $$ [E10 OK]
  · isplitl [E10]; · iexact E10
    iexact OK
  ihave E00 := (pend_wait m (1 : Dev nD) 0 0 (by decide)) $$ E00
  ihave OV := (Entails.of_eq (show own vb1M (1 : Dev nD) vb1M.view.set (VB1 m (1 : Dev nD)) = pay m (1 : Dev nD) 0 (.kvR 1 1) from rfl)) $$ OV
  ihave E11 := (pend_done m (1 : Dev nD) 1 1 rfl) $$ [E11 OV]
  · isplitl [E11]; · iexact E11
    iexact OV
  ihave E01 := (pend_wait m (1 : Dev nD) 0 1 (by decide)) $$ E01
  ihave Ho := (Entails.of_eq (show iprop((six fun j t => waitTok (1 : Dev nD) (.kvS j t)) ∗ anyL ksM (1 : Dev nD) S1 ∗ anyL vsM (1 : Dev nD) S1) = kvOut (F := F) (1 : Dev nD) from ((if_neg (by decide)).trans (if_pos rfl)).symm)) $$ [WK0 WK1 WK2 WV0 WV1 WV2 RK RV]
  · isplitl [WK0 WK1 WK2 WV0 WV1 WV2]
    · isplitl [WK0]; · iexact WK0
      isplitl [WK1]; · iexact WK1
      isplitl [WK2]; · iexact WK2
      isplitl [WV0]; · iexact WV0
      isplitl [WV1]; · iexact WV1
      iexact WV2
    isplitl [RK]; · iexists _; iexact RK
    iexists _; iexact RV
  rw [WP_ret]
  imodintro
  iapply Hk
  isplitl [Db]; · iexact Db
  isplitl [HO]; · iexact HO
  isplitl [Z0]; · iexact Z0
  isplitl [Z1]; · iexact Z1
  isplitl [Z2]; · iexact Z2
  isplitl [HK]; · iexact HK
  isplitl [HV]; · iexact HV
  isplitl [Hq]; · iexact Hq
  isplitl [Hw]; · iexact Hw
  isplitl [Hx]; · iexact Hx
  isplitl [E00]; · iexact E00
  isplitl [E01]; · iexact E01
  isplitl [E10]; · iexact E10
  isplitl [E11]; · iexact E11
  iexact Ho

/-- The other devices: the barrier only. -/
theorem part10_r (K : Dev nD × Kind → ℕ) (c : Dev nD) (v30 : BitVec 32) (c4_i32_18 : BitVec 32) (v31 : BitVec 1) (hc : c ≠ 0 ∧ c ≠ 1)
    {Q : _ → sProp 𝕄} :
    iprop(env m K ∗ owesL c ((fwd c 3, .bar) :: (kvL c ++ L2 c)) ∗ tok (fwd c 3) .bar 0 ∗ barPay (F := F) (fwd c 3) 0 ∗ (cred (tallyAt (cell c .bar) () 3) ∗ pos c .bar) ∗ kvHand (F := F) c c ∗ own kM c Finset.univ (kb m c) ∗ own vM c Finset.univ (vb m c) ∗ own wqM c Finset.univ (wqb m c) ∗ own woM c Finset.univ (wob m c) ∗ own xM c Finset.univ (xb m c) ∗ kvTok (F := F) c ∗ kvRP (F := F) c 0 0 ∗ kvRP (F := F) c 0 1 ∗ kvRP (F := F) c 1 0 ∗ kvRP (F := F) c 1 1 ∗ anyW ksM c ∗ anyW vsM c)
      ⊢ iprop(((done c .bar ∗ owesL c (L2 c) ∗ slotsP (F := F) c 0 ∗ slotsP (F := F) c 1 ∗ slotsP (F := F) c 2 ∗ own kM c Finset.univ (kb m c) ∗ own vM c Finset.univ (vb m c) ∗ own wqM c Finset.univ (wqb m c) ∗ own woM c Finset.univ (wob m c) ∗ own xM c Finset.univ (xb m c) ∗ kvPend m c 0 0 ∗ kvPend m c 0 1 ∗ kvPend m c 1 0 ∗ kvPend m c 1 1 ∗ kvOut (F := F) c) -∗ Q ⟨V53 m c, V56 m c, V60 m c, V62 m c⟩)
        -∗ WP c (k0_part10 xM (Memref.isWhole_whole _) wqM (Memref.isWhole_whole _) kM (Memref.isWhole_whole _) vM (Memref.isWhole_whole _) woM (Memref.isWhole_whole _) oM (Memref.isWhole_whole _) ksM (Memref.isWhole_whole _) vsM (Memref.isWhole_whole _) kb0M (Memref.isWhole_whole _) vb0M (Memref.isWhole_whole _) kb1M (Memref.isWhole_whole _) vb1M (Memref.isWhole_whole _) rsM (Memref.isWhole_whole _) rrM (Memref.isWhole_whole _) agM (Memref.isWhole_whole _) arM (Memref.isWhole_whole _) cc0_scratch10 cc0_scratch11 cc0_scratch12 cc0_scratch13 cc0_scratch14 cc0_scratch15 c (W2 c) (SemArray.scalar (sig.barrier 0 rfl)) v30 c4_i32_18 v31) Q) := by
  rw [k0_part10_eq_skeleton]; unfold k0_part10_skel
  simp only [semSignalWord, semWaitWord, Prog.lift, Prog.bind_op, Prog.bind_ret, Prog.pure_eq_ret, wp_deviceId, V53, V56, V60, V62, V49, V54, V57, V61]
  iintro ⟨#He, HO, T3, P3, Wb, Hh, HK, HV, Hq, Hw, Hx, HT, E00, E01, E10, E11, Sk, Sv⟩ Hk
  iapply (signal m K c _ _ 0 (dev3 c) rfl (kvL c ++ L2 c)) $$ [HO T3 P3]
  · isplitr; · iexact He
    isplitl [HO]; · iexact HO
    isplitl [T3]; · iexact T3
    iexact P3
  iintro HO
  iapply (waitBar m K c rfl (kvL c ++ L2 c) (bar_lv c)) $$ [Wb HO]
  · isplitr; · iexact He
    isplitl [Wb]; · iexact Wb
    iexact HO
  iintro ⟨Db, HO, Pb0, Pb1, Pb2⟩
  ihave Pb0 := (Entails.of_eq (show barPay (F := F) c 0 = iprop(slotsP (F := F) c 0 ∗ kvHand (F := F) c (fwd c ((0 : Fin 3).val + 1))) from rfl)) $$ Pb0
  icases Pb0 with ⟨Z0, h0⟩
  ihave Pb1 := (Entails.of_eq (show barPay (F := F) c 1 = iprop(slotsP (F := F) c 1 ∗ kvHand (F := F) c (fwd c ((1 : Fin 3).val + 1))) from rfl)) $$ Pb1
  icases Pb1 with ⟨Z1, h1⟩
  ihave Pb2 := (Entails.of_eq (show barPay (F := F) c 2 = iprop(slotsP (F := F) c 2 ∗ kvHand (F := F) c (fwd c ((2 : Fin 3).val + 1))) from rfl)) $$ Pb2
  icases Pb2 with ⟨Z2, h2⟩
  ihave HT := (Entails.of_eq (show kvTok (F := F) c = six fun j t => pos c (.kvS j t) from (if_neg hc.1).trans (if_neg hc.2))) $$ HT
  icases HT with ⟨DK0, DK1, DK2, DV0, DV1, DV2⟩
  imod (close m K c (.kvS 0 0) (if_neg (not_or.2 hc))) $$ [DK0] with DK0
  · isplitr; · iexact He
    iexact DK0
  imod (close m K c (.kvS 1 0) (if_neg (not_or.2 hc))) $$ [DK1] with DK1
  · isplitr; · iexact He
    iexact DK1
  imod (close m K c (.kvS 2 0) (if_neg (not_or.2 hc))) $$ [DK2] with DK2
  · isplitr; · iexact He
    iexact DK2
  imod (close m K c (.kvS 0 1) (if_neg (not_or.2 hc))) $$ [DV0] with DV0
  · isplitr; · iexact He
    iexact DV0
  imod (close m K c (.kvS 1 1) (if_neg (not_or.2 hc))) $$ [DV1] with DV1
  · isplitr; · iexact He
    iexact DV1
  imod (close m K c (.kvS 2 1) (if_neg (not_or.2 hc))) $$ [DV2] with DV2
  · isplitr; · iexact He
    iexact DV2
  rw [kvL_rest c hc]
  ihave HO := (Entails.of_eq (show owesL (F := F) c ([] ++ L2 c) = owesL c (L2 c) from rfl)) $$ HO
  rw [dif_neg (cond1r c hc).1, dif_neg (cond1r c hc).2]
  iapply (ld c (M := wqM) (Finset.subset_univ _)) $$ Hq
  iintro Hq
  iapply (ld c (M := woM) (Finset.subset_univ _)) $$ Hw
  iintro Hw
  iapply (ld c (M := xM) (Finset.subset_univ _)) $$ Hx
  iintro Hx
  iapply (ld c (M := xM) (Finset.subset_univ _)) $$ Hx
  iintro Hx
  ihave E00 := (pend_wait m c 0 0 (val_ne c hc 0)) $$ E00
  ihave E01 := (pend_wait m c 0 1 (val_ne c hc 0)) $$ E01
  ihave E10 := (pend_wait m c 1 0 (val_ne c hc 1)) $$ E10
  ihave E11 := (pend_wait m c 1 1 (val_ne c hc 1)) $$ E11
  ihave Ho := (Entails.of_eq (show iprop((six fun j t => done c (.kvS j t)) ∗ anyW ksM c ∗ anyW vsM c) = kvOut (F := F) c from ((if_neg hc.1).trans (if_neg hc.2)).symm)) $$ [DK0 DK1 DK2 DV0 DV1 DV2 Sk Sv]
  · isplitl [DK0 DK1 DK2 DV0 DV1 DV2]
    · isplitl [DK0]; · iexact DK0
      isplitl [DK1]; · iexact DK1
      isplitl [DK2]; · iexact DK2
      isplitl [DV0]; · iexact DV0
      isplitl [DV1]; · iexact DV1
      iexact DV2
    isplitl [Sk]; · iexact Sk
    iexact Sv
  rw [WP_ret]
  imodintro
  iapply Hk
  isplitl [Db]; · iexact Db
  isplitl [HO]; · iexact HO
  isplitl [Z0]; · iexact Z0
  isplitl [Z1]; · iexact Z1
  isplitl [Z2]; · iexact Z2
  isplitl [HK]; · iexact HK
  isplitl [HV]; · iexact HV
  isplitl [Hq]; · iexact Hq
  isplitl [Hw]; · iexact Hw
  isplitl [Hx]; · iexact Hx
  isplitl [E00]; · iexact E00
  isplitl [E01]; · iexact E01
  isplitl [E10]; · iexact E10
  isplitl [E11]; · iexact E11
  iexact Ho

/-- The barrier, the sends, the staged arguments. -/
theorem part10 (K : Dev nD × Kind → ℕ) (c : Dev nD) (v30 : BitVec 32) (c4_i32_18 : BitVec 32) (v31 : BitVec 1)
    {Q : _ → sProp 𝕄} :
    iprop(env m K ∗ owesL c ((fwd c 3, .bar) :: (kvL c ++ L2 c)) ∗ tok (fwd c 3) .bar 0 ∗ barPay (F := F) (fwd c 3) 0 ∗ (cred (tallyAt (cell c .bar) () 3) ∗ pos c .bar) ∗ kvHand (F := F) c c ∗ own kM c Finset.univ (kb m c) ∗ own vM c Finset.univ (vb m c) ∗ own wqM c Finset.univ (wqb m c) ∗ own woM c Finset.univ (wob m c) ∗ own xM c Finset.univ (xb m c) ∗ kvTok (F := F) c ∗ kvRP (F := F) c 0 0 ∗ kvRP (F := F) c 0 1 ∗ kvRP (F := F) c 1 0 ∗ kvRP (F := F) c 1 1 ∗ anyW ksM c ∗ anyW vsM c)
      ⊢ iprop(((done c .bar ∗ owesL c (L2 c) ∗ slotsP (F := F) c 0 ∗ slotsP (F := F) c 1 ∗ slotsP (F := F) c 2 ∗ own kM c Finset.univ (kb m c) ∗ own vM c Finset.univ (vb m c) ∗ own wqM c Finset.univ (wqb m c) ∗ own woM c Finset.univ (wob m c) ∗ own xM c Finset.univ (xb m c) ∗ kvPend m c 0 0 ∗ kvPend m c 0 1 ∗ kvPend m c 1 0 ∗ kvPend m c 1 1 ∗ kvOut (F := F) c) -∗ Q ⟨V53 m c, V56 m c, V60 m c, V62 m c⟩)
        -∗ WP c (k0_part10 xM (Memref.isWhole_whole _) wqM (Memref.isWhole_whole _) kM (Memref.isWhole_whole _) vM (Memref.isWhole_whole _) woM (Memref.isWhole_whole _) oM (Memref.isWhole_whole _) ksM (Memref.isWhole_whole _) vsM (Memref.isWhole_whole _) kb0M (Memref.isWhole_whole _) vb0M (Memref.isWhole_whole _) kb1M (Memref.isWhole_whole _) vb1M (Memref.isWhole_whole _) rsM (Memref.isWhole_whole _) rrM (Memref.isWhole_whole _) agM (Memref.isWhole_whole _) arM (Memref.isWhole_whole _) cc0_scratch10 cc0_scratch11 cc0_scratch12 cc0_scratch13 cc0_scratch14 cc0_scratch15 c (W2 c) (SemArray.scalar (sig.barrier 0 rfl)) v30 c4_i32_18 v31) Q) := by
  rcases place c with rfl | rfl | hc
  · exact part10_0 m K v30 c4_i32_18 v31
  · exact part10_1 m K v30 c4_i32_18 v31
  · exact part10_r m K c v30 c4_i32_18 v31 hc

end Cert.KernelIdeal.Gen

end
-- ==== Proof.PartsC.lean ====
/- The kernel's steps: the scatter, the sum and the gather. -/
module

public import proofs.«01_k».proof.Proof.PartsB

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

variable (m : (ℓ : Loc nD τ sig) → Buf (Elt F) ℓ)

/-! ## The elements the vector accesses touch -/

theorem setOn_ld {s : Shape} {e : EltTy} (M : Memref sig .tc .vmem s e) (r : Rect s) : M.view.setOn r.toLoadRect.set = (M.access r).set :=
  (View.set_slice M.view r).symm
theorem half1_st (c : Dev nD) : (rsM.access (half 1)).setOn Finset.univ ⊆ left3 (ℓ := rsM.view.loc (c : Thread nD τ)) (IS c) Finset.univ 0 := fun i hi =>
  have h : (i 0 : Fin 2) = (1 : Fin 2) := mem_half.1 hi
  have h' : ∀ p, i ∉ IS c p 0 := fun p hp => absurd ((congrArg Fin.val h).symm.trans (mem_rsSrc hp).1) (by decide : ¬ ((1 : Fin 2) : ℕ) = ((0 : Fin 2) : ℕ))
  Finset.mem_sdiff.2 ⟨Finset.mem_sdiff.2 ⟨Finset.mem_sdiff.2 ⟨Finset.mem_univ _, h' 0⟩, h' 1⟩, h' 2⟩
theorem half1_ld (c : Dev nD) : rsM.view.setOn (half 1).toLoadRect.set ⊆ left3 (ℓ := rsM.view.loc (c : Thread nD τ)) (IS c) Finset.univ 0 := by rw [setOn_ld]; exact half1_st c
theorem agHalf1_st : (agM.access (agHalf 1)).setOn Finset.univ ⊆ Finset.univ \ IG 0 := fun i hi =>
  have h : (i 0 : Fin 2) = (1 : Fin 2) := mem_agHalf.1 hi
  Finset.mem_sdiff.2 ⟨Finset.mem_univ _, fun hp => absurd (h.symm.trans (mem_agSrc.1 hp)) (by decide : ¬ (1 : Fin 2) = 0)⟩
theorem agHalf1_ld : agM.view.setOn (agHalf 1).toLoadRect.set ⊆ Finset.univ \ IG 0 := by rw [setOn_ld]; exact agHalf1_st
theorem rr_sub (p : Fin 3) (b : Fin 2) : rrM.view.setOn (slotR p b).toLoadRect.set ⊆ IR p b := by
  rw [setOn_ld]; simp only [IR, Memref.squeeze, Memref.slice, View.set_reshape]; exact Finset.Subset.refl _
theorem ar_sub (p : Fin 3) (b : Fin 2) : arM.view.setOn (slotR p b).toLoadRect.set ⊆ IA p b := by
  rw [setOn_ld]; simp only [IA, Memref.squeeze, Memref.slice, View.set_reshape]; exact Finset.Subset.refl _

/-! ## The scatter -/

/-- Storing the first batch's partial sums, staged for the scatter and as output. -/
theorem part16 (K : Dev nD × Kind → ℕ) (c : Dev nD) (f : Buf (Elt F) (rsM.view.loc (c : Thread nD τ))) (g : Buf (Elt F) (oM.view.loc (c : Thread nD τ)))
    {Q : _ → sProp 𝕄} :
    iprop(own rsM c Finset.univ f ∗ own oM c Finset.univ g)
      ⊢ iprop((∀ (w0 : BitVec 32) (w1 : BitVec 32) (w2 : BitVec 32) (w3 : BitVec 1) (w4 : BitVec 1), (own rsM c Finset.univ ((rsM.access (half 0)).write (Elt F) f (P100 m c) Finset.univ) ∗ own oM c Finset.univ ((oM.access (half 0)).write (Elt F) g (P101 m c) Finset.univ)) -∗ Q ⟨w0, w1, w2, w3, w4, 0#32⟩)
        -∗ WP c (k0_part16 xM (Memref.isWhole_whole _) wqM (Memref.isWhole_whole _) kM (Memref.isWhole_whole _) vM (Memref.isWhole_whole _) woM (Memref.isWhole_whole _) oM (Memref.isWhole_whole _) ksM (Memref.isWhole_whole _) vsM (Memref.isWhole_whole _) kb0M (Memref.isWhole_whole _) vb0M (Memref.isWhole_whole _) kb1M (Memref.isWhole_whole _) vb1M (Memref.isWhole_whole _) rsM (Memref.isWhole_whole _) rrM (Memref.isWhole_whole _) agM (Memref.isWhole_whole _) arM (Memref.isWhole_whole _) cc0_scratch10 cc0_scratch11 cc0_scratch12 cc0_scratch13 cc0_scratch14 cc0_scratch15 (W2 c) (V56 m c) (V198 m c) (V231 m c) (V232 m c) (V249 m c) (V264 m c) (V269 m c) (V274 m c) (V277 m c)) Q) := by
  rw [k0_part16_eq_skeleton]; unfold k0_part16_skel
  simp only [semSignalWord, semWaitWord, Prog.lift, Prog.bind_op, Prog.bind_ret, Prog.pure_eq_ret, wp_deviceId, P100, P101]
  iintro ⟨Hs, Ho⟩ Hk
  iapply (ld c (M := rsM) (Finset.subset_univ _)) $$ Hs
  iintro Hs
  iapply (stU c rsM) $$ Hs
  iintro Hs
  iapply (ld c (M := oM) (Finset.subset_univ _)) $$ Ho
  iintro Ho
  iapply (stU c oM) $$ Ho
  iintro Ho
  rw [WP_ret]
  imodintro
  iapply Hk
  isplitl [Hs]; · iexact Hs
  iexact Ho

/-- The first batch: to the next device. -/
theorem part17 (K : Dev nD × Kind → ℕ) (c : Dev nD) (v305 : BitVec 32) (v309 : BitVec 32) (v310 : BitVec 32) (v311 : BitVec 1) (v312 : BitVec 1) (c0_i32_141 : BitVec 32) (l : List (Dev nD × Kind)) (f : Buf (Elt F) (rsM.view.loc (c : Thread nD τ))) (fd0 : Buf (Elt F) ((rrSlot 0 0).view.loc (fwd c 1 : Thread nD τ)))
    {Q : _ → sProp 𝕄} :
    iprop(env m K ∗ own rsM c (IS c 0 0) ((rsM.access (half 0)).write (Elt F) f (P100 m c) Finset.univ) ∗ own (rrSlot 0 0) (fwd c 1) (rrSlot 0 0).view.set fd0 ∗ (tok c (.rsS 0 0) ∗ pos c (.rsS 0 0)) ∗ tok (fwd c 1) (.rsR 0 0) ∗ owesL c ((fwd c 1, .rsR 0 0) :: l))
      ⊢ iprop((∀ (w0 : BitVec 32) (w1 : BitVec 32) (w2 : BitVec 32), (waitTok c (.rsS 0 0) ∗ owesL c l) -∗ Q ⟨w0, w1, w2, 0#32⟩)
        -∗ WP c (k0_part17 xM (Memref.isWhole_whole _) wqM (Memref.isWhole_whole _) kM (Memref.isWhole_whole _) vM (Memref.isWhole_whole _) woM (Memref.isWhole_whole _) oM (Memref.isWhole_whole _) ksM (Memref.isWhole_whole _) vsM (Memref.isWhole_whole _) kb0M (Memref.isWhole_whole _) vb0M (Memref.isWhole_whole _) kb1M (Memref.isWhole_whole _) vb1M (Memref.isWhole_whole _) rsM (Memref.isWhole_whole _) rrM (Memref.isWhole_whole _) agM (Memref.isWhole_whole _) arM (Memref.isWhole_whole _) cc0_scratch10 cc0_scratch11 cc0_scratch12 cc0_scratch13 cc0_scratch14 cc0_scratch15 c (W2 c) v305 v309 v310 v311 v312 c0_i32_141) Q) := by
  rw [k0_part17_eq_skeleton]; unfold k0_part17_skel
  simp only [semSignalWord, semWaitWord, Prog.lift, Prog.bind_op, Prog.bind_ret, Prog.pure_eq_ret, wp_deviceId]
  iintro ⟨#He, S00, L00, T00, U00, HO⟩ Hk
  iapply (sendRS m K c _ 0 0 (dev16 c) rfl rfl rfl rfl (l) f (P100 m c) rfl fd0) $$ [S00 L00 HO T00 U00]
  · isplitr; · iexact He
    isplitl [S00]; · iexact S00
    isplitl [L00]; · iexact L00
    isplitl [HO]; · iexact HO
    isplitl [T00]; · iexact T00
    iexact U00
  iintro ⟨WrsS00, HO⟩
  rw [WP_ret]
  imodintro
  iapply Hk
  isplitl [WrsS00]; · iexact WrsS00
  iexact HO

/-- The first batch: to the other two devices; device 1's second values. -/
theorem part18 (K : Dev nD × Kind → ℕ) (c : Dev nD) (v329 : BitVec 32) (v341 : BitVec 32) (c0_i32_171 : BitVec 32) (l : List (Dev nD × Kind)) (f : Buf (Elt F) (rsM.view.loc (c : Thread nD τ))) (fd1 : Buf (Elt F) ((rrSlot 1 0).view.loc (fwd c 2 : Thread nD τ))) (fd2 : Buf (Elt F) ((rrSlot 2 0).view.loc (fwd c 3 : Thread nD τ)))
    {Q : _ → sProp 𝕄} :
    iprop(env m K ∗ own rsM c (IS c 1 0) ((rsM.access (half 0)).write (Elt F) f (P100 m c) Finset.univ) ∗ own (rrSlot 1 0) (fwd c 2) (rrSlot 1 0).view.set fd1 ∗ (tok c (.rsS 1 0) ∗ pos c (.rsS 1 0)) ∗ tok (fwd c 2) (.rsR 1 0) ∗ own rsM c (IS c 2 0) ((rsM.access (half 0)).write (Elt F) f (P100 m c) Finset.univ) ∗ own (rrSlot 2 0) (fwd c 3) (rrSlot 2 0).view.set fd2 ∗ (tok c (.rsS 2 0) ∗ pos c (.rsS 2 0)) ∗ tok (fwd c 3) (.rsR 2 0) ∗ owesL c ((fwd c 2, .rsR 1 0) :: (fwd c 3, .rsR 2 0) :: l) ∗ own vb1M c vb1M.view.set (VB1 m c))
      ⊢ iprop(((waitTok c (.rsS 1 0) ∗ waitTok c (.rsS 2 0) ∗ owesL c l ∗ own vb1M c vb1M.view.set (VB1 m c)) -∗ Q ⟨V367 m c, V372 m c, V377 m c, V378 m c⟩)
        -∗ WP c (k0_part18 xM (Memref.isWhole_whole _) wqM (Memref.isWhole_whole _) kM (Memref.isWhole_whole _) vM (Memref.isWhole_whole _) woM (Memref.isWhole_whole _) oM (Memref.isWhole_whole _) ksM (Memref.isWhole_whole _) vsM (Memref.isWhole_whole _) kb0M (Memref.isWhole_whole _) vb0M (Memref.isWhole_whole _) kb1M (Memref.isWhole_whole _) vb1M (Memref.isWhole_whole _) rsM (Memref.isWhole_whole _) rrM (Memref.isWhole_whole _) agM (Memref.isWhole_whole _) arM (Memref.isWhole_whole _) cc0_scratch10 cc0_scratch11 cc0_scratch12 cc0_scratch13 cc0_scratch14 cc0_scratch15 c (V207 m c) (V214 m c) (V221 m c) (V233 m c) (V234 m c) (V235 m c) (V253 m c) (V255 m c) (V257 m c) v329 v341 c0_i32_171) Q) := by
  rw [k0_part18_eq_skeleton]; unfold k0_part18_skel
  simp only [semSignalWord, semWaitWord, Prog.lift, Prog.bind_op, Prog.bind_ret, Prog.pure_eq_ret, wp_deviceId, V367, V372, V377, V378, V361]
  iintro ⟨#He, S10, L10, T10, U10, S20, L20, T20, U20, HO, V1⟩ Hk
  iapply (sendRS m K c _ 1 0 (dev17 c) rfl rfl rfl rfl ((fwd c 3, .rsR 2 0) :: l) f (P100 m c) rfl fd1) $$ [S10 L10 HO T10 U10]
  · isplitr; · iexact He
    isplitl [S10]; · iexact S10
    isplitl [L10]; · iexact L10
    isplitl [HO]; · iexact HO
    isplitl [T10]; · iexact T10
    iexact U10
  iintro ⟨WrsS10, HO⟩
  iapply (sendRS m K c _ 2 0 (dev18 c) rfl rfl rfl rfl (l) f (P100 m c) rfl fd2) $$ [S20 L20 HO T20 U20]
  · isplitr; · iexact He
    isplitl [S20]; · iexact S20
    isplitl [L20]; · iexact L20
    isplitl [HO]; · iexact HO
    isplitl [T20]; · iexact T20
    iexact U20
  iintro ⟨WrsS20, HO⟩
  iapply (ld c (M := vb1M) (whole_sub (b := cc0_scratch5) _)) $$ V1
  iintro V1
  rw [WP_ret]
  imodintro
  iapply Hk
  isplitl [WrsS10]; · iexact WrsS10
  isplitl [WrsS20]; · iexact WrsS20
  isplitl [HO]; · iexact HO
  iexact V1

/-- Storing the second batch's partial sums. -/
theorem part19 (K : Dev nD × Kind → ℕ) (c : Dev nD) (f : Buf (Elt F) (rsM.view.loc (c : Thread nD τ))) (g : Buf (Elt F) (oM.view.loc (c : Thread nD τ)))
    {Q : _ → sProp 𝕄} :
    iprop(own rsM c (left3 (IS c) Finset.univ 0) f ∗ own oM c Finset.univ g)
      ⊢ iprop((∀ (w0 : BitVec 32) (w1 : BitVec 32) (w2 : BitVec 32) (w3 : BitVec 1), (own rsM c (left3 (IS c) Finset.univ 0) ((rsM.access (half 1)).write (Elt F) f (P108 m c) Finset.univ) ∗ own oM c Finset.univ ((oM.access (half 1)).write (Elt F) g (P109 m c) Finset.univ)) -∗ Q ⟨w0, w1, w2, w3⟩)
        -∗ WP c (k0_part19 xM (Memref.isWhole_whole _) wqM (Memref.isWhole_whole _) kM (Memref.isWhole_whole _) vM (Memref.isWhole_whole _) woM (Memref.isWhole_whole _) oM (Memref.isWhole_whole _) ksM (Memref.isWhole_whole _) vsM (Memref.isWhole_whole _) kb0M (Memref.isWhole_whole _) vb0M (Memref.isWhole_whole _) kb1M (Memref.isWhole_whole _) vb1M (Memref.isWhole_whole _) rsM (Memref.isWhole_whole _) rrM (Memref.isWhole_whole _) agM (Memref.isWhole_whole _) arM (Memref.isWhole_whole _) cc0_scratch10 cc0_scratch11 cc0_scratch12 cc0_scratch13 cc0_scratch14 cc0_scratch15 (W2 c) (V56 m c) (V228 m c) (V236 m c) (V259 m c) (V367 m c) (V372 m c) (V377 m c) (V378 m c)) Q) := by
  rw [k0_part19_eq_skeleton]; unfold k0_part19_skel
  simp only [semSignalWord, semWaitWord, Prog.lift, Prog.bind_op, Prog.bind_ret, Prog.pure_eq_ret, wp_deviceId, P108, P109]
  iintro ⟨Hs, Ho⟩ Hk
  iapply (ld c (M := rsM) (half1_ld c)) $$ Hs
  iintro Hs
  iapply (st c (M := rsM) (r := half 1) (half1_st c)) $$ Hs
  iintro Hs
  iapply (ld c (M := oM) (Finset.subset_univ _)) $$ Ho
  iintro Ho
  iapply (stU c oM) $$ Ho
  iintro Ho
  rw [WP_ret]
  imodintro
  iapply Hk
  isplitl [Hs]; · iexact Hs
  iexact Ho

/-- The second batch: to the next device. -/
theorem part20 (K : Dev nD × Kind → ℕ) (c : Dev nD) (v403 : BitVec 32) (v407 : BitVec 32) (v408 : BitVec 32) (v413 : BitVec 1) (l : List (Dev nD × Kind)) (f : Buf (Elt F) (rsM.view.loc (c : Thread nD τ))) (fd0 : Buf (Elt F) ((rrSlot 0 0).view.loc (fwd c 1 : Thread nD τ)))
    {Q : _ → sProp 𝕄} :
    iprop(env m K ∗ own rsM c (IS c 0 1) ((rsM.access (half 1)).write (Elt F) f (P108 m c) Finset.univ) ∗ own (rrSlot 0 1) (fwd c 1) (rrSlot 0 1).view.set fd0 ∗ (tok c (.rsS 0 1) ∗ pos c (.rsS 0 1)) ∗ tok (fwd c 1) (.rsR 0 1) ∗ owesL c ((fwd c 1, .rsR 0 1) :: l))
      ⊢ iprop((∀ (w0 : BitVec 32) (w1 : BitVec 32), (waitTok c (.rsS 0 1) ∗ owesL c l) -∗ Q ⟨w0, w1⟩)
        -∗ WP c (k0_part20 xM (Memref.isWhole_whole _) wqM (Memref.isWhole_whole _) kM (Memref.isWhole_whole _) vM (Memref.isWhole_whole _) woM (Memref.isWhole_whole _) oM (Memref.isWhole_whole _) ksM (Memref.isWhole_whole _) vsM (Memref.isWhole_whole _) kb0M (Memref.isWhole_whole _) vb0M (Memref.isWhole_whole _) kb1M (Memref.isWhole_whole _) vb1M (Memref.isWhole_whole _) rsM (Memref.isWhole_whole _) rrM (Memref.isWhole_whole _) agM (Memref.isWhole_whole _) arM (Memref.isWhole_whole _) cc0_scratch10 cc0_scratch11 cc0_scratch12 cc0_scratch13 cc0_scratch14 cc0_scratch15 c (W2 c) v403 v407 v408 v413) Q) := by
  rw [k0_part20_eq_skeleton]; unfold k0_part20_skel
  simp only [semSignalWord, semWaitWord, Prog.lift, Prog.bind_op, Prog.bind_ret, Prog.pure_eq_ret, wp_deviceId]
  iintro ⟨#He, S01, L01, T01, U01, HO⟩ Hk
  iapply (sendRS m K c _ 0 1 (dev19 c) rfl rfl rfl rfl (l) f (P108 m c) rfl fd0) $$ [S01 L01 HO T01 U01]
  · isplitr; · iexact He
    isplitl [S01]; · iexact S01
    isplitl [L01]; · iexact L01
    isplitl [HO]; · iexact HO
    isplitl [T01]; · iexact T01
    iexact U01
  iintro ⟨WrsS01, HO⟩
  rw [WP_ret]
  imodintro
  iapply Hk
  isplitl [WrsS01]; · iexact WrsS01
  iexact HO

/-! ## Summing what the scatter brought, and the gather -/

/-- Waiting for the first batch's slots. -/
theorem part22 (K : Dev nD × Kind → ℕ) (c : Dev nD) (v317 : BitVec 32) (v329 : BitVec 32) (l : List (Dev nD × Kind)) (hl : ∀ x ∈ l, 3 < lvK x.2)
    {Q : _ → sProp 𝕄} :
    iprop(env m K ∗ waitTok c (.rsR 0 0) ∗ waitTok c (.rsR 1 0) ∗ waitTok c (.rsR 2 0) ∗ own oM c Finset.univ (O1 m c) ∗ owesL c l)
      ⊢ iprop(((done c (.rsR 0 0) ∗ done c (.rsR 1 0) ∗ done c (.rsR 2 0) ∗ own rrM c (IR 0 0) (RR m c) ∗ own rrM c (IR 1 0) (RR m c) ∗ own rrM c (IR 2 0) (RR m c) ∗ own oM c Finset.univ (O1 m c) ∗ owesL c l) -∗ Q ⟨V492 m c, V493 m c⟩)
        -∗ WP c (k0_part22 xM (Memref.isWhole_whole _) wqM (Memref.isWhole_whole _) kM (Memref.isWhole_whole _) vM (Memref.isWhole_whole _) woM (Memref.isWhole_whole _) oM (Memref.isWhole_whole _) ksM (Memref.isWhole_whole _) vsM (Memref.isWhole_whole _) kb0M (Memref.isWhole_whole _) vb0M (Memref.isWhole_whole _) kb1M (Memref.isWhole_whole _) vb1M (Memref.isWhole_whole _) rsM (Memref.isWhole_whole _) rrM (Memref.isWhole_whole _) agM (Memref.isWhole_whole _) arM (Memref.isWhole_whole _) cc0_scratch10 cc0_scratch11 cc0_scratch12 cc0_scratch13 cc0_scratch14 cc0_scratch15 c (W2 c) v317 v329) Q) := by
  rw [k0_part22_eq_skeleton]; unfold k0_part22_skel
  simp only [semSignalWord, semWaitWord, Prog.lift, Prog.bind_op, Prog.bind_ret, Prog.pure_eq_ret, wp_deviceId, V492, V493, V491]
  iintro ⟨#He, WrsR00, WrsR10, WrsR20, Ho, HO⟩ Hk
  iapply (wait m K c (.rsR 0 0) (dst := rrSlot 0 0) rfl l rfl rfl hl) $$ [WrsR00 HO]
  · isplitr; · iexact He
    isplitl [WrsR00]; · iexact WrsR00
    iexact HO
  iintro ⟨DrsR00, HO, R00⟩
  ihave R00 := (Entails.of_eq (show pay m c 0 (.rsR 0 0) = own rrM c (IR 0 0) (RR m c) from rfl)) $$ R00
  iapply (wait m K c (.rsR 1 0) (dst := rrSlot 1 0) rfl l rfl rfl hl) $$ [WrsR10 HO]
  · isplitr; · iexact He
    isplitl [WrsR10]; · iexact WrsR10
    iexact HO
  iintro ⟨DrsR10, HO, R10⟩
  ihave R10 := (Entails.of_eq (show pay m c 0 (.rsR 1 0) = own rrM c (IR 1 0) (RR m c) from rfl)) $$ R10
  iapply (wait m K c (.rsR 2 0) (dst := rrSlot 2 0) rfl l rfl rfl hl) $$ [WrsR20 HO]
  · isplitr; · iexact He
    isplitl [WrsR20]; · iexact WrsR20
    iexact HO
  iintro ⟨DrsR20, HO, R20⟩
  ihave R20 := (Entails.of_eq (show pay m c 0 (.rsR 2 0) = own rrM c (IR 2 0) (RR m c) from rfl)) $$ R20
  iapply (ld c (M := oM) (Finset.subset_univ _)) $$ Ho
  iintro Ho
  iapply (ld c (M := rrM) (r := (Rect.unit (s := S3x2x64x512) ![0, 0, 0, 0] S1x1x64x512.size inb_S3x2x64x512_S1x1x64x512_0_0_0_0).toLoadRect) (rr_sub 0 0)) $$ R00
  iintro R00
  rw [WP_ret]
  imodintro
  iapply Hk
  isplitl [DrsR00]; · iexact DrsR00
  isplitl [DrsR10]; · iexact DrsR10
  isplitl [DrsR20]; · iexact DrsR20
  isplitl [R00]; · iexact R00
  isplitl [R10]; · iexact R10
  isplitl [R20]; · iexact R20
  isplitl [Ho]; · iexact Ho
  iexact HO

/-- The first batch's sum, stored as output and staged for the gather. -/
theorem part23 (K : Dev nD × Kind → ℕ) (c : Dev nD) (f : Buf (Elt F) (agM.view.loc (c : Thread nD τ)))
    {Q : _ → sProp 𝕄} :
    iprop(own rrM c (IR 1 0) (RR m c) ∗ own rrM c (IR 2 0) (RR m c) ∗ own oM c Finset.univ (O1 m c) ∗ own agM c Finset.univ f)
      ⊢ iprop((∀ (w0 : BitVec 32), (own rrM c (IR 1 0) (RR m c) ∗ own rrM c (IR 2 0) (RR m c) ∗ own oM c Finset.univ (O2 m c) ∗ own agM c Finset.univ ((agM.access (agHalf 0)).write (Elt F) f (P113 m c) Finset.univ)) -∗ Q (w0))
        -∗ WP c (k0_part23 xM (Memref.isWhole_whole _) wqM (Memref.isWhole_whole _) kM (Memref.isWhole_whole _) vM (Memref.isWhole_whole _) woM (Memref.isWhole_whole _) oM (Memref.isWhole_whole _) ksM (Memref.isWhole_whole _) vsM (Memref.isWhole_whole _) kb0M (Memref.isWhole_whole _) vb0M (Memref.isWhole_whole _) kb1M (Memref.isWhole_whole _) vb1M (Memref.isWhole_whole _) rsM (Memref.isWhole_whole _) rrM (Memref.isWhole_whole _) agM (Memref.isWhole_whole _) arM (Memref.isWhole_whole _) cc0_scratch10 cc0_scratch11 cc0_scratch12 cc0_scratch13 cc0_scratch14 cc0_scratch15 c (W2 c) (V492 m c) (V493 m c)) Q) := by
  rw [k0_part23_eq_skeleton]; unfold k0_part23_skel
  simp only [semSignalWord, semWaitWord, Prog.lift, Prog.bind_op, Prog.bind_ret, Prog.pure_eq_ret, wp_deviceId, V497, V501, O2, P112, P113]
  iintro ⟨R10, R20, Ho, Hg⟩ Hk
  iapply (ld c (M := rrM) (r := (Rect.unit (s := S3x2x64x512) ![1, 0, 0, 0] S1x1x64x512.size inb_S3x2x64x512_S1x1x64x512_1_0_0_0).toLoadRect) (rr_sub 1 0)) $$ R10
  iintro R10
  iapply (ld c (M := rrM) (r := (Rect.unit (s := S3x2x64x512) ![2, 0, 0, 0] S1x1x64x512.size inb_S3x2x64x512_S1x1x64x512_2_0_0_0).toLoadRect) (rr_sub 2 0)) $$ R20
  iintro R20
  iapply (ld c (M := oM) (Finset.subset_univ _)) $$ Ho
  iintro Ho
  iapply (stU c oM) $$ Ho
  iintro Ho
  iapply (ld c (M := agM) (Finset.subset_univ _)) $$ Hg
  iintro Hg
  iapply (stU c agM) $$ Hg
  iintro Hg
  rw [WP_ret]
  imodintro
  iapply Hk
  isplitl [R10]; · iexact R10
  isplitl [R20]; · iexact R20
  isplitl [Ho]; · iexact Ho
  iexact Hg

/-- The first batch's gather: to two devices. -/
theorem part24 (K : Dev nD × Kind → ℕ) (c : Dev nD) (v524 : BitVec 32) (l : List (Dev nD × Kind)) (fd0 : Buf (Elt F) ((arSlot 0 0).view.loc (fwd c 1 : Thread nD τ))) (fd1 : Buf (Elt F) ((arSlot 1 0).view.loc (fwd c 2 : Thread nD τ)))
    {Q : _ → sProp 𝕄} :
    iprop(env m K ∗ ((agSrc 0).view.loc (c : Thread nD τ) ↦[(agSrc 0).view.set]{Ring.shares3 fullShare 0} AG m c) ∗ own (arSlot 0 0) (fwd c 1) (arSlot 0 0).view.set fd0 ∗ (tok c (.agS 0 0) ∗ pos c (.agS 0 0)) ∗ tok (fwd c 1) (.agR 0 0) ∗ ((agSrc 0).view.loc (c : Thread nD τ) ↦[(agSrc 0).view.set]{Ring.shares3 fullShare 1} AG m c) ∗ own (arSlot 1 0) (fwd c 2) (arSlot 1 0).view.set fd1 ∗ (tok c (.agS 1 0) ∗ pos c (.agS 1 0)) ∗ tok (fwd c 2) (.agR 1 0) ∗ owesL c ((fwd c 1, .agR 0 0) :: (fwd c 2, .agR 1 0) :: l))
      ⊢ iprop((∀ (w0 : BitVec 32), (waitTok c (.agS 0 0) ∗ waitTok c (.agS 1 0) ∗ owesL c l) -∗ Q (w0))
        -∗ WP c (k0_part24 xM (Memref.isWhole_whole _) wqM (Memref.isWhole_whole _) kM (Memref.isWhole_whole _) vM (Memref.isWhole_whole _) woM (Memref.isWhole_whole _) oM (Memref.isWhole_whole _) ksM (Memref.isWhole_whole _) vsM (Memref.isWhole_whole _) kb0M (Memref.isWhole_whole _) vb0M (Memref.isWhole_whole _) kb1M (Memref.isWhole_whole _) vb1M (Memref.isWhole_whole _) rsM (Memref.isWhole_whole _) rrM (Memref.isWhole_whole _) agM (Memref.isWhole_whole _) arM (Memref.isWhole_whole _) cc0_scratch10 cc0_scratch11 cc0_scratch12 cc0_scratch13 cc0_scratch14 cc0_scratch15 c (W2 c) v524) Q) := by
  rw [k0_part24_eq_skeleton]; unfold k0_part24_skel
  simp only [semSignalWord, semWaitWord, Prog.lift, Prog.bind_op, Prog.bind_ret, Prog.pure_eq_ret, wp_deviceId]
  iintro ⟨#He, S00, L00, T00, U00, S10, L10, T10, U10, HO⟩ Hk
  iapply (sendAG m K c _ 0 0 (dev22 c) rfl rfl rfl rfl ((fwd c 2, .agR 1 0) :: l) fd0) $$ [S00 L00 HO T00 U00]
  · isplitr; · iexact He
    isplitl [S00]; · iexact S00
    isplitl [L00]; · iexact L00
    isplitl [HO]; · iexact HO
    isplitl [T00]; · iexact T00
    iexact U00
  iintro ⟨WagS00, HO⟩
  iapply (sendAG m K c _ 1 0 (dev23 c) rfl rfl rfl rfl (l) fd1) $$ [S10 L10 HO T10 U10]
  · isplitr; · iexact He
    isplitl [S10]; · iexact S10
    isplitl [L10]; · iexact L10
    isplitl [HO]; · iexact HO
    isplitl [T10]; · iexact T10
    iexact U10
  iintro ⟨WagS10, HO⟩
  rw [WP_ret]
  imodintro
  iapply Hk
  isplitl [WagS00]; · iexact WagS00
  isplitl [WagS10]; · iexact WagS10
  iexact HO

/-- The first batch's gather: to the third. -/
theorem part25 (K : Dev nD × Kind → ℕ) (c : Dev nD) (v403 : BitVec 32) (l : List (Dev nD × Kind)) (fd2 : Buf (Elt F) ((arSlot 2 0).view.loc (fwd c 3 : Thread nD τ)))
    {Q : _ → sProp 𝕄} :
    iprop(env m K ∗ ((agSrc 0).view.loc (c : Thread nD τ) ↦[(agSrc 0).view.set]{Ring.shares3 fullShare 2} AG m c) ∗ own (arSlot 2 0) (fwd c 3) (arSlot 2 0).view.set fd2 ∗ (tok c (.agS 2 0) ∗ pos c (.agS 2 0)) ∗ tok (fwd c 3) (.agR 2 0) ∗ owesL c ((fwd c 3, .agR 2 0) :: l))
      ⊢ iprop((∀ (w0 : BitVec 32), (waitTok c (.agS 2 0) ∗ owesL c l) -∗ Q (w0))
        -∗ WP c (k0_part25 xM (Memref.isWhole_whole _) wqM (Memref.isWhole_whole _) kM (Memref.isWhole_whole _) vM (Memref.isWhole_whole _) woM (Memref.isWhole_whole _) oM (Memref.isWhole_whole _) ksM (Memref.isWhole_whole _) vsM (Memref.isWhole_whole _) kb0M (Memref.isWhole_whole _) vb0M (Memref.isWhole_whole _) kb1M (Memref.isWhole_whole _) vb1M (Memref.isWhole_whole _) rsM (Memref.isWhole_whole _) rrM (Memref.isWhole_whole _) agM (Memref.isWhole_whole _) arM (Memref.isWhole_whole _) cc0_scratch10 cc0_scratch11 cc0_scratch12 cc0_scratch13 cc0_scratch14 cc0_scratch15 c (W2 c) v403) Q) := by
  rw [k0_part25_eq_skeleton]; unfold k0_part25_skel
  simp only [semSignalWord, semWaitWord, Prog.lift, Prog.bind_op, Prog.bind_ret, Prog.pure_eq_ret, wp_deviceId]
  iintro ⟨#He, S20, L20, T20, U20, HO⟩ Hk
  iapply (sendAG m K c _ 2 0 (dev24 c) rfl rfl rfl rfl (l) fd2) $$ [S20 L20 HO T20 U20]
  · isplitr; · iexact He
    isplitl [S20]; · iexact S20
    isplitl [L20]; · iexact L20
    isplitl [HO]; · iexact HO
    isplitl [T20]; · iexact T20
    iexact U20
  iintro ⟨WagS20, HO⟩
  rw [WP_ret]
  imodintro
  iapply Hk
  isplitl [WagS20]; · iexact WagS20
  iexact HO

/-- Waiting for the second batch's slots. -/
theorem part26 (K : Dev nD × Kind → ℕ) (c : Dev nD) (v415 : BitVec 32) (v427 : BitVec 32) (l : List (Dev nD × Kind)) (hl : ∀ x ∈ l, 3 < lvK x.2)
    {Q : _ → sProp 𝕄} :
    iprop(env m K ∗ waitTok c (.rsR 0 1) ∗ waitTok c (.rsR 1 1) ∗ waitTok c (.rsR 2 1) ∗ own oM c Finset.univ (O2 m c) ∗ owesL c l)
      ⊢ iprop(((done c (.rsR 0 1) ∗ done c (.rsR 1 1) ∗ done c (.rsR 2 1) ∗ own rrM c (IR 0 1) (RR m c) ∗ own rrM c (IR 1 1) (RR m c) ∗ own rrM c (IR 2 1) (RR m c) ∗ own oM c Finset.univ (O2 m c) ∗ owesL c l) -∗ Q (V608 m c))
        -∗ WP c (k0_part26 xM (Memref.isWhole_whole _) wqM (Memref.isWhole_whole _) kM (Memref.isWhole_whole _) vM (Memref.isWhole_whole _) woM (Memref.isWhole_whole _) oM (Memref.isWhole_whole _) ksM (Memref.isWhole_whole _) vsM (Memref.isWhole_whole _) kb0M (Memref.isWhole_whole _) vb0M (Memref.isWhole_whole _) kb1M (Memref.isWhole_whole _) vb1M (Memref.isWhole_whole _) rsM (Memref.isWhole_whole _) rrM (Memref.isWhole_whole _) agM (Memref.isWhole_whole _) arM (Memref.isWhole_whole _) cc0_scratch10 cc0_scratch11 cc0_scratch12 cc0_scratch13 cc0_scratch14 cc0_scratch15 c (W2 c) v415 v427) Q) := by
  rw [k0_part26_eq_skeleton]; unfold k0_part26_skel
  simp only [semSignalWord, semWaitWord, Prog.lift, Prog.bind_op, Prog.bind_ret, Prog.pure_eq_ret, wp_deviceId, V608, V603, V605]
  iintro ⟨#He, WrsR01, WrsR11, WrsR21, Ho, HO⟩ Hk
  iapply (wait m K c (.rsR 0 1) (dst := rrSlot 0 1) rfl l rfl rfl hl) $$ [WrsR01 HO]
  · isplitr; · iexact He
    isplitl [WrsR01]; · iexact WrsR01
    iexact HO
  iintro ⟨DrsR01, HO, R01⟩
  ihave R01 := (Entails.of_eq (show pay m c 0 (.rsR 0 1) = own rrM c (IR 0 1) (RR m c) from rfl)) $$ R01
  iapply (wait m K c (.rsR 1 1) (dst := rrSlot 1 1) rfl l rfl rfl hl) $$ [WrsR11 HO]
  · isplitr; · iexact He
    isplitl [WrsR11]; · iexact WrsR11
    iexact HO
  iintro ⟨DrsR11, HO, R11⟩
  ihave R11 := (Entails.of_eq (show pay m c 0 (.rsR 1 1) = own rrM c (IR 1 1) (RR m c) from rfl)) $$ R11
  iapply (wait m K c (.rsR 2 1) (dst := rrSlot 2 1) rfl l rfl rfl hl) $$ [WrsR21 HO]
  · isplitr; · iexact He
    isplitl [WrsR21]; · iexact WrsR21
    iexact HO
  iintro ⟨DrsR21, HO, R21⟩
  ihave R21 := (Entails.of_eq (show pay m c 0 (.rsR 2 1) = own rrM c (IR 2 1) (RR m c) from rfl)) $$ R21
  iapply (ld c (M := oM) (Finset.subset_univ _)) $$ Ho
  iintro Ho
  iapply (ld c (M := rrM) (r := (Rect.unit (s := S3x2x64x512) ![0, 1, 0, 0] S1x1x64x512.size inb_S3x2x64x512_S1x1x64x512_0_1_0_0).toLoadRect) (rr_sub 0 1)) $$ R01
  iintro R01
  rw [WP_ret]
  imodintro
  iapply Hk
  isplitl [DrsR01]; · iexact DrsR01
  isplitl [DrsR11]; · iexact DrsR11
  isplitl [DrsR21]; · iexact DrsR21
  isplitl [R01]; · iexact R01
  isplitl [R11]; · iexact R11
  isplitl [R21]; · iexact R21
  isplitl [Ho]; · iexact Ho
  iexact HO

/-- The second batch's sum, stored as output and staged for the gather. -/
theorem part27 (K : Dev nD × Kind → ℕ) (c : Dev nD) (f : Buf (Elt F) (agM.view.loc (c : Thread nD τ)))
    {Q : _ → sProp 𝕄} :
    iprop(own rrM c (IR 1 1) (RR m c) ∗ own rrM c (IR 2 1) (RR m c) ∗ own oM c Finset.univ (O2 m c) ∗ own agM c (Finset.univ \ IG 0) f)
      ⊢ iprop((∀ (w0 : BitVec 32) (w1 : BitVec 32), (own rrM c (IR 1 1) (RR m c) ∗ own rrM c (IR 2 1) (RR m c) ∗ own oM c Finset.univ (O3 m c) ∗ own agM c (Finset.univ \ IG 0) ((agM.access (agHalf 1)).write (Elt F) f (P117 m c) Finset.univ)) -∗ Q ⟨w0, w1⟩)
        -∗ WP c (k0_part27 xM (Memref.isWhole_whole _) wqM (Memref.isWhole_whole _) kM (Memref.isWhole_whole _) vM (Memref.isWhole_whole _) woM (Memref.isWhole_whole _) oM (Memref.isWhole_whole _) ksM (Memref.isWhole_whole _) vsM (Memref.isWhole_whole _) kb0M (Memref.isWhole_whole _) vb0M (Memref.isWhole_whole _) kb1M (Memref.isWhole_whole _) vb1M (Memref.isWhole_whole _) rsM (Memref.isWhole_whole _) rrM (Memref.isWhole_whole _) agM (Memref.isWhole_whole _) arM (Memref.isWhole_whole _) cc0_scratch10 cc0_scratch11 cc0_scratch12 cc0_scratch13 cc0_scratch14 cc0_scratch15 c (W2 c) (V608 m c)) Q) := by
  rw [k0_part27_eq_skeleton]; unfold k0_part27_skel
  simp only [semSignalWord, semWaitWord, Prog.lift, Prog.bind_op, Prog.bind_ret, Prog.pure_eq_ret, wp_deviceId, V609, V613, O3, P116, P117]
  iintro ⟨R11, R21, Ho, Hg⟩ Hk
  iapply (ld c (M := rrM) (r := (Rect.unit (s := S3x2x64x512) ![1, 1, 0, 0] S1x1x64x512.size inb_S3x2x64x512_S1x1x64x512_1_1_0_0).toLoadRect) (rr_sub 1 1)) $$ R11
  iintro R11
  iapply (ld c (M := rrM) (r := (Rect.unit (s := S3x2x64x512) ![2, 1, 0, 0] S1x1x64x512.size inb_S3x2x64x512_S1x1x64x512_2_1_0_0).toLoadRect) (rr_sub 2 1)) $$ R21
  iintro R21
  iapply (ld c (M := oM) (Finset.subset_univ _)) $$ Ho
  iintro Ho
  iapply (stU c oM) $$ Ho
  iintro Ho
  iapply (ld c (M := agM) (agHalf1_ld)) $$ Hg
  iintro Hg
  iapply (st c (M := agM) (r := agHalf 1) (agHalf1_st)) $$ Hg
  iintro Hg
  rw [WP_ret]
  imodintro
  iapply Hk
  isplitl [R11]; · iexact R11
  isplitl [R21]; · iexact R21
  isplitl [Ho]; · iexact Ho
  iexact Hg

/-- The second batch's gather: to two devices. -/
theorem part28 (K : Dev nD × Kind → ℕ) (c : Dev nD) (v637 : BitVec 32) (l : List (Dev nD × Kind)) (fd0 : Buf (Elt F) ((arSlot 0 0).view.loc (fwd c 1 : Thread nD τ))) (fd1 : Buf (Elt F) ((arSlot 1 0).view.loc (fwd c 2 : Thread nD τ)))
    {Q : _ → sProp 𝕄} :
    iprop(env m K ∗ ((agSrc 1).view.loc (c : Thread nD τ) ↦[(agSrc 1).view.set]{Ring.shares3 fullShare 0} AG m c) ∗ own (arSlot 0 1) (fwd c 1) (arSlot 0 1).view.set fd0 ∗ (tok c (.agS 0 1) ∗ pos c (.agS 0 1)) ∗ tok (fwd c 1) (.agR 0 1) ∗ ((agSrc 1).view.loc (c : Thread nD τ) ↦[(agSrc 1).view.set]{Ring.shares3 fullShare 1} AG m c) ∗ own (arSlot 1 1) (fwd c 2) (arSlot 1 1).view.set fd1 ∗ (tok c (.agS 1 1) ∗ pos c (.agS 1 1)) ∗ tok (fwd c 2) (.agR 1 1) ∗ owesL c ((fwd c 1, .agR 0 1) :: (fwd c 2, .agR 1 1) :: l))
      ⊢ iprop((∀ (w0 : BitVec 32) (w1 : BitVec 32), (waitTok c (.agS 0 1) ∗ waitTok c (.agS 1 1) ∗ owesL c l) -∗ Q ⟨w0, w1, 4#32⟩)
        -∗ WP c (k0_part28 xM (Memref.isWhole_whole _) wqM (Memref.isWhole_whole _) kM (Memref.isWhole_whole _) vM (Memref.isWhole_whole _) woM (Memref.isWhole_whole _) oM (Memref.isWhole_whole _) ksM (Memref.isWhole_whole _) vsM (Memref.isWhole_whole _) kb0M (Memref.isWhole_whole _) vb0M (Memref.isWhole_whole _) kb1M (Memref.isWhole_whole _) vb1M (Memref.isWhole_whole _) rsM (Memref.isWhole_whole _) rrM (Memref.isWhole_whole _) agM (Memref.isWhole_whole _) arM (Memref.isWhole_whole _) cc0_scratch10 cc0_scratch11 cc0_scratch12 cc0_scratch13 cc0_scratch14 cc0_scratch15 c (W2 c) v637) Q) := by
  rw [k0_part28_eq_skeleton]; unfold k0_part28_skel
  simp only [semSignalWord, semWaitWord, Prog.lift, Prog.bind_op, Prog.bind_ret, Prog.pure_eq_ret, wp_deviceId]
  iintro ⟨#He, S01, L01, T01, U01, S11, L11, T11, U11, HO⟩ Hk
  iapply (sendAG m K c _ 0 1 (dev25 c) rfl rfl rfl rfl ((fwd c 2, .agR 1 1) :: l) fd0) $$ [S01 L01 HO T01 U01]
  · isplitr; · iexact He
    isplitl [S01]; · iexact S01
    isplitl [L01]; · iexact L01
    isplitl [HO]; · iexact HO
    isplitl [T01]; · iexact T01
    iexact U01
  iintro ⟨WagS01, HO⟩
  iapply (sendAG m K c _ 1 1 (dev26 c) rfl rfl rfl rfl (l) fd1) $$ [S11 L11 HO T11 U11]
  · isplitr; · iexact He
    isplitl [S11]; · iexact S11
    isplitl [L11]; · iexact L11
    isplitl [HO]; · iexact HO
    isplitl [T11]; · iexact T11
    iexact U11
  iintro ⟨WagS11, HO⟩
  rw [WP_ret]
  imodintro
  iapply Hk
  isplitl [WagS01]; · iexact WagS01
  isplitl [WagS11]; · iexact WagS11
  iexact HO

/-- The second batch's gather: to the third. -/
theorem part29 (K : Dev nD × Kind → ℕ) (c : Dev nD) (v524 : BitVec 32) (v668 : BitVec 32) (c4_i32_479 : BitVec 32) (l : List (Dev nD × Kind)) (fd2 : Buf (Elt F) ((arSlot 2 0).view.loc (fwd c 3 : Thread nD τ)))
    {Q : _ → sProp 𝕄} :
    iprop(env m K ∗ ((agSrc 1).view.loc (c : Thread nD τ) ↦[(agSrc 1).view.set]{Ring.shares3 fullShare 2} AG m c) ∗ own (arSlot 2 1) (fwd c 3) (arSlot 2 1).view.set fd2 ∗ (tok c (.agS 2 1) ∗ pos c (.agS 2 1)) ∗ tok (fwd c 3) (.agR 2 1) ∗ owesL c ((fwd c 3, .agR 2 1) :: l))
      ⊢ iprop((∀ (w0 : BitVec 32), (waitTok c (.agS 2 1) ∗ owesL c l) -∗ Q (w0))
        -∗ WP c (k0_part29 xM (Memref.isWhole_whole _) wqM (Memref.isWhole_whole _) kM (Memref.isWhole_whole _) vM (Memref.isWhole_whole _) woM (Memref.isWhole_whole _) oM (Memref.isWhole_whole _) ksM (Memref.isWhole_whole _) vsM (Memref.isWhole_whole _) kb0M (Memref.isWhole_whole _) vb0M (Memref.isWhole_whole _) kb1M (Memref.isWhole_whole _) vb1M (Memref.isWhole_whole _) rsM (Memref.isWhole_whole _) rrM (Memref.isWhole_whole _) agM (Memref.isWhole_whole _) arM (Memref.isWhole_whole _) cc0_scratch10 cc0_scratch11 cc0_scratch12 cc0_scratch13 cc0_scratch14 cc0_scratch15 c v524 v668 c4_i32_479) Q) := by
  rw [k0_part29_eq_skeleton]; unfold k0_part29_skel
  simp only [semSignalWord, semWaitWord, Prog.lift, Prog.bind_op, Prog.bind_ret, Prog.pure_eq_ret, wp_deviceId]
  iintro ⟨#He, S21, L21, T21, U21, HO⟩ Hk
  iapply (sendAG m K c _ 2 1 (dev27 c) rfl rfl rfl rfl (l) fd2) $$ [S21 L21 HO T21 U21]
  · isplitr; · iexact He
    isplitl [S21]; · iexact S21
    isplitl [L21]; · iexact L21
    isplitl [HO]; · iexact HO
    isplitl [T21]; · iexact T21
    iexact U21
  iintro ⟨WagS21, HO⟩
  rw [WP_ret]
  imodintro
  iapply Hk
  isplitl [WagS21]; · iexact WagS21
  iexact HO

/-- Waiting for the gather's slots of batch 0. -/
theorem part30 (K : Dev nD × Kind → ℕ) (c : Dev nD) (v545 : BitVec 32) (v566 : BitVec 32) (v636 : BitVec 32)
    {Q : _ → sProp 𝕄} :
    iprop(env m K ∗ waitTok c (.agR 0 0) ∗ waitTok c (.agR 1 0) ∗ waitTok c (.agR 2 0) ∗ owesL c [])
      ⊢ iprop(((done c (.agR 0 0) ∗ done c (.agR 1 0) ∗ done c (.agR 2 0) ∗ own arM c (IA 0 0) (AR m c) ∗ own arM c (IA 1 0) (AR m c) ∗ own arM c (IA 2 0) (AR m c) ∗ owesL c []) -∗ Q PUnit.unit)
        -∗ WP c (k0_part30 xM (Memref.isWhole_whole _) wqM (Memref.isWhole_whole _) kM (Memref.isWhole_whole _) vM (Memref.isWhole_whole _) woM (Memref.isWhole_whole _) oM (Memref.isWhole_whole _) ksM (Memref.isWhole_whole _) vsM (Memref.isWhole_whole _) kb0M (Memref.isWhole_whole _) vb0M (Memref.isWhole_whole _) kb1M (Memref.isWhole_whole _) vb1M (Memref.isWhole_whole _) rsM (Memref.isWhole_whole _) rrM (Memref.isWhole_whole _) agM (Memref.isWhole_whole _) arM (Memref.isWhole_whole _) cc0_scratch10 cc0_scratch11 cc0_scratch12 cc0_scratch13 cc0_scratch14 cc0_scratch15 v545 v566 v636) Q) := by
  rw [k0_part30_eq_skeleton]; unfold k0_part30_skel
  simp only [semSignalWord, semWaitWord, Prog.lift, Prog.bind_op, Prog.bind_ret, Prog.pure_eq_ret, wp_deviceId]
  iintro ⟨#He, WagR00, WagR10, WagR20, HO⟩ Hk
  iapply (wait m K c (.agR 0 0) (dst := arSlot 0 0) rfl [] rfl rfl (fun _ h => absurd h List.not_mem_nil)) $$ [WagR00 HO]
  · isplitr; · iexact He
    isplitl [WagR00]; · iexact WagR00
    iexact HO
  iintro ⟨DagR00, HO, A00⟩
  ihave A00 := (Entails.of_eq (show pay m c 0 (.agR 0 0) = own arM c (IA 0 0) (AR m c) from rfl)) $$ A00
  iapply (wait m K c (.agR 1 0) (dst := arSlot 1 0) rfl [] rfl rfl (fun _ h => absurd h List.not_mem_nil)) $$ [WagR10 HO]
  · isplitr; · iexact He
    isplitl [WagR10]; · iexact WagR10
    iexact HO
  iintro ⟨DagR10, HO, A10⟩
  ihave A10 := (Entails.of_eq (show pay m c 0 (.agR 1 0) = own arM c (IA 1 0) (AR m c) from rfl)) $$ A10
  iapply (wait m K c (.agR 2 0) (dst := arSlot 2 0) rfl [] rfl rfl (fun _ h => absurd h List.not_mem_nil)) $$ [WagR20 HO]
  · isplitr; · iexact He
    isplitl [WagR20]; · iexact WagR20
    iexact HO
  iintro ⟨DagR20, HO, A20⟩
  ihave A20 := (Entails.of_eq (show pay m c 0 (.agR 2 0) = own arM c (IA 2 0) (AR m c) from rfl)) $$ A20
  rw [WP_ret]
  imodintro
  iapply Hk
  isplitl [DagR00]; · iexact DagR00
  isplitl [DagR10]; · iexact DagR10
  isplitl [DagR20]; · iexact DagR20
  isplitl [A00]; · iexact A00
  isplitl [A10]; · iexact A10
  isplitl [A20]; · iexact A20
  iexact HO

/-- Waiting for the gather's slots of batch 1. -/
theorem part31 (K : Dev nD × Kind → ℕ) (c : Dev nD) (v657 : BitVec 32) (v678 : BitVec 32)
    {Q : _ → sProp 𝕄} :
    iprop(env m K ∗ waitTok c (.agR 0 1) ∗ waitTok c (.agR 1 1) ∗ waitTok c (.agR 2 1) ∗ owesL c [])
      ⊢ iprop((∀ (w0 : BitVec 32) (w1 : BitVec 32), (done c (.agR 0 1) ∗ done c (.agR 1 1) ∗ done c (.agR 2 1) ∗ own arM c (IA 0 1) (AR m c) ∗ own arM c (IA 1 1) (AR m c) ∗ own arM c (IA 2 1) (AR m c) ∗ owesL c []) -∗ Q ⟨w0, w1, 0#32⟩)
        -∗ WP c (k0_part31 xM (Memref.isWhole_whole _) wqM (Memref.isWhole_whole _) kM (Memref.isWhole_whole _) vM (Memref.isWhole_whole _) woM (Memref.isWhole_whole _) oM (Memref.isWhole_whole _) ksM (Memref.isWhole_whole _) vsM (Memref.isWhole_whole _) kb0M (Memref.isWhole_whole _) vb0M (Memref.isWhole_whole _) kb1M (Memref.isWhole_whole _) vb1M (Memref.isWhole_whole _) rsM (Memref.isWhole_whole _) rrM (Memref.isWhole_whole _) agM (Memref.isWhole_whole _) arM (Memref.isWhole_whole _) cc0_scratch10 cc0_scratch11 cc0_scratch12 cc0_scratch13 cc0_scratch14 cc0_scratch15 (W2 c) v657 v678) Q) := by
  rw [k0_part31_eq_skeleton]; unfold k0_part31_skel
  simp only [semSignalWord, semWaitWord, Prog.lift, Prog.bind_op, Prog.bind_ret, Prog.pure_eq_ret, wp_deviceId]
  iintro ⟨#He, WagR01, WagR11, WagR21, HO⟩ Hk
  iapply (wait m K c (.agR 0 1) (dst := arSlot 0 1) rfl [] rfl rfl (fun _ h => absurd h List.not_mem_nil)) $$ [WagR01 HO]
  · isplitr; · iexact He
    isplitl [WagR01]; · iexact WagR01
    iexact HO
  iintro ⟨DagR01, HO, A01⟩
  ihave A01 := (Entails.of_eq (show pay m c 0 (.agR 0 1) = own arM c (IA 0 1) (AR m c) from rfl)) $$ A01
  iapply (wait m K c (.agR 1 1) (dst := arSlot 1 1) rfl [] rfl rfl (fun _ h => absurd h List.not_mem_nil)) $$ [WagR11 HO]
  · isplitr; · iexact He
    isplitl [WagR11]; · iexact WagR11
    iexact HO
  iintro ⟨DagR11, HO, A11⟩
  ihave A11 := (Entails.of_eq (show pay m c 0 (.agR 1 1) = own arM c (IA 1 1) (AR m c) from rfl)) $$ A11
  iapply (wait m K c (.agR 2 1) (dst := arSlot 2 1) rfl [] rfl rfl (fun _ h => absurd h List.not_mem_nil)) $$ [WagR21 HO]
  · isplitr; · iexact He
    isplitl [WagR21]; · iexact WagR21
    iexact HO
  iintro ⟨DagR21, HO, A21⟩
  ihave A21 := (Entails.of_eq (show pay m c 0 (.agR 2 1) = own arM c (IA 2 1) (AR m c) from rfl)) $$ A21
  rw [WP_ret]
  imodintro
  iapply Hk
  isplitl [DagR01]; · iexact DagR01
  isplitl [DagR11]; · iexact DagR11
  isplitl [DagR21]; · iexact DagR21
  isplitl [A01]; · iexact A01
  isplitl [A11]; · iexact A11
  isplitl [A21]; · iexact A21
  iexact HO

/-- The next device but two's blocks, into the output. -/
theorem part32 (K : Dev nD × Kind → ℕ) (c : Dev nD) (v739 : BitVec 32) (v740 : BitVec 32) (c0_i32_580 : BitVec 32)
    {Q : _ → sProp 𝕄} :
    iprop(own arM c (IA 0 0) (AR m c) ∗ own arM c (IA 0 1) (AR m c) ∗ own oM c Finset.univ (O3 m c))
      ⊢ iprop((∀ (w0 : BitVec 32), (own arM c (IA 0 0) (AR m c) ∗ own arM c (IA 0 1) (AR m c) ∗ own oM c Finset.univ (O5 m c)) -∗ Q (w0))
        -∗ WP c (k0_part32 xM (Memref.isWhole_whole _) wqM (Memref.isWhole_whole _) kM (Memref.isWhole_whole _) vM (Memref.isWhole_whole _) woM (Memref.isWhole_whole _) oM (Memref.isWhole_whole _) ksM (Memref.isWhole_whole _) vsM (Memref.isWhole_whole _) kb0M (Memref.isWhole_whole _) vb0M (Memref.isWhole_whole _) kb1M (Memref.isWhole_whole _) vb1M (Memref.isWhole_whole _) rsM (Memref.isWhole_whole _) rrM (Memref.isWhole_whole _) agM (Memref.isWhole_whole _) arM (Memref.isWhole_whole _) cc0_scratch10 cc0_scratch11 cc0_scratch12 cc0_scratch13 cc0_scratch14 cc0_scratch15 c (W2 c) v739 v740 c0_i32_580) Q) := by
  rw [k0_part32_eq_skeleton]; unfold k0_part32_skel
  simp only [semSignalWord, semWaitWord, Prog.lift, Prog.bind_op, Prog.bind_ret, Prog.pure_eq_ret, wp_deviceId, V748, V756, O5, O4, V748, V756]
  iintro ⟨A00, A01, Ho⟩ Hk
  iapply (ld c (M := arM) (r := (Rect.unit (s := S3x2x64x512) ![0, 0, 0, 0] S1x1x64x512.size inb_S3x2x64x512_S1x1x64x512_0_0_0_0).toLoadRect) (ar_sub 0 0)) $$ A00
  iintro A00
  iapply (ld c (M := oM) (Finset.subset_univ _)) $$ Ho
  iintro Ho
  iapply (stU c oM) $$ Ho
  iintro Ho
  iapply (ld c (M := arM) (r := (Rect.unit (s := S3x2x64x512) ![0, 1, 0, 0] S1x1x64x512.size inb_S3x2x64x512_S1x1x64x512_0_1_0_0).toLoadRect) (ar_sub 0 1)) $$ A01
  iintro A01
  iapply (ld c (M := oM) (Finset.subset_univ _)) $$ Ho
  iintro Ho
  iapply (stU c oM) $$ Ho
  iintro Ho
  rw [WP_ret]
  imodintro
  iapply Hk
  isplitl [A00]; · iexact A00
  isplitl [A01]; · iexact A01
  iexact Ho

/-- The next blocks, into the output. -/
theorem part33 (K : Dev nD × Kind → ℕ) (c : Dev nD) (v774 : BitVec 32)
    {Q : _ → sProp 𝕄} :
    iprop(own arM c (IA 1 0) (AR m c) ∗ own arM c (IA 1 1) (AR m c) ∗ own arM c (IA 2 0) (AR m c) ∗ own oM c Finset.univ (O5 m c))
      ⊢ iprop((∀ (w0 : BitVec 32), (own arM c (IA 1 0) (AR m c) ∗ own arM c (IA 1 1) (AR m c) ∗ own arM c (IA 2 0) (AR m c) ∗ own oM c Finset.univ (O7 m c)) -∗ Q ⟨w0, V804 m c⟩)
        -∗ WP c (k0_part33 xM (Memref.isWhole_whole _) wqM (Memref.isWhole_whole _) kM (Memref.isWhole_whole _) vM (Memref.isWhole_whole _) woM (Memref.isWhole_whole _) oM (Memref.isWhole_whole _) ksM (Memref.isWhole_whole _) vsM (Memref.isWhole_whole _) kb0M (Memref.isWhole_whole _) vb0M (Memref.isWhole_whole _) kb1M (Memref.isWhole_whole _) vb1M (Memref.isWhole_whole _) rsM (Memref.isWhole_whole _) rrM (Memref.isWhole_whole _) agM (Memref.isWhole_whole _) arM (Memref.isWhole_whole _) cc0_scratch10 cc0_scratch11 cc0_scratch12 cc0_scratch13 cc0_scratch14 cc0_scratch15 c (W2 c) v774) Q) := by
  rw [k0_part33_eq_skeleton]; unfold k0_part33_skel
  simp only [semSignalWord, semWaitWord, Prog.lift, Prog.bind_op, Prog.bind_ret, Prog.pure_eq_ret, wp_deviceId, V804, V775, V783, V802, O7, O6]
  iintro ⟨A10, A11, A20, Ho⟩ Hk
  iapply (ld c (M := arM) (r := (Rect.unit (s := S3x2x64x512) ![1, 0, 0, 0] S1x1x64x512.size inb_S3x2x64x512_S1x1x64x512_1_0_0_0).toLoadRect) (ar_sub 1 0)) $$ A10
  iintro A10
  iapply (ld c (M := oM) (Finset.subset_univ _)) $$ Ho
  iintro Ho
  iapply (stU c oM) $$ Ho
  iintro Ho
  iapply (ld c (M := arM) (r := (Rect.unit (s := S3x2x64x512) ![1, 1, 0, 0] S1x1x64x512.size inb_S3x2x64x512_S1x1x64x512_1_1_0_0).toLoadRect) (ar_sub 1 1)) $$ A11
  iintro A11
  iapply (ld c (M := oM) (Finset.subset_univ _)) $$ Ho
  iintro Ho
  iapply (stU c oM) $$ Ho
  iintro Ho
  iapply (ld c (M := arM) (r := (Rect.unit (s := S3x2x64x512) ![2, 0, 0, 0] S1x1x64x512.size inb_S3x2x64x512_S1x1x64x512_2_0_0_0).toLoadRect) (ar_sub 2 0)) $$ A20
  iintro A20
  rw [WP_ret]
  imodintro
  iapply Hk
  isplitl [A10]; · iexact A10
  isplitl [A11]; · iexact A11
  isplitl [A20]; · iexact A20
  iexact Ho

/-- The last blocks, into the output; the first sends are done. -/
theorem part34 (K : Dev nD × Kind → ℕ) (c : Dev nD) (v801 : BitVec 32)
    {Q : _ → sProp 𝕄} :
    iprop(env m K ∗ own arM c (IA 2 1) (AR m c) ∗ own oM c Finset.univ (O7 m c) ∗ owesL c [] ∗ waitTok c (.rsS 0 0) ∗ waitTok c (.rsS 1 0))
      ⊢ iprop(((own arM c (IA 2 1) (AR m c) ∗ own oM c Finset.univ (O9 m c) ∗ owesL c [] ∗ done c (.rsS 0 0) ∗ done c (.rsS 1 0) ∗ pay m c 0 (.rsS 0 0) ∗ pay m c 0 (.rsS 1 0)) -∗ Q PUnit.unit)
        -∗ WP c (k0_part34 xM (Memref.isWhole_whole _) wqM (Memref.isWhole_whole _) kM (Memref.isWhole_whole _) vM (Memref.isWhole_whole _) woM (Memref.isWhole_whole _) oM (Memref.isWhole_whole _) ksM (Memref.isWhole_whole _) vsM (Memref.isWhole_whole _) kb0M (Memref.isWhole_whole _) vb0M (Memref.isWhole_whole _) kb1M (Memref.isWhole_whole _) vb1M (Memref.isWhole_whole _) rsM (Memref.isWhole_whole _) rrM (Memref.isWhole_whole _) agM (Memref.isWhole_whole _) arM (Memref.isWhole_whole _) cc0_scratch10 cc0_scratch11 cc0_scratch12 cc0_scratch13 cc0_scratch14 cc0_scratch15 c v801 (V804 m c)) Q) := by
  rw [k0_part34_eq_skeleton]; unfold k0_part34_skel
  simp only [semSignalWord, semWaitWord, Prog.lift, Prog.bind_op, Prog.bind_ret, Prog.pure_eq_ret, wp_deviceId, V810, O9, O8, V810]
  iintro ⟨#He, A21, Ho, HO, WrsS00, WrsS10⟩ Hk
  iapply (ld c (M := oM) (Finset.subset_univ _)) $$ Ho
  iintro Ho
  iapply (stU c oM) $$ Ho
  iintro Ho
  iapply (ld c (M := arM) (r := (Rect.unit (s := S3x2x64x512) ![2, 1, 0, 0] S1x1x64x512.size inb_S3x2x64x512_S1x1x64x512_2_1_0_0).toLoadRect) (ar_sub 2 1)) $$ A21
  iintro A21
  iapply (ld c (M := oM) (Finset.subset_univ _)) $$ Ho
  iintro Ho
  iapply (stU c oM) $$ Ho
  iintro Ho
  iapply (wait m K c (.rsS 0 0) (dst := rsSrc c 0 0) rfl [] rfl rfl (fun _ h => absurd h List.not_mem_nil)) $$ [WrsS00 HO]
  · isplitr; · iexact He
    isplitl [WrsS00]; · iexact WrsS00
    iexact HO
  iintro ⟨DrsS00, HO, YrsS00⟩
  iapply (wait m K c (.rsS 1 0) (dst := rsSrc c 1 0) rfl [] rfl rfl (fun _ h => absurd h List.not_mem_nil)) $$ [WrsS10 HO]
  · isplitr; · iexact He
    isplitl [WrsS10]; · iexact WrsS10
    iexact HO
  iintro ⟨DrsS10, HO, YrsS10⟩
  rw [WP_ret]
  imodintro
  iapply Hk
  isplitl [A21]; · iexact A21
  isplitl [Ho]; · iexact Ho
  isplitl [HO]; · iexact HO
  isplitl [DrsS00]; · iexact DrsS00
  isplitl [DrsS10]; · iexact DrsS10
  isplitl [YrsS00]; · iexact YrsS00
  iexact YrsS10

/-- More of the sends are done. -/
theorem part35 (K : Dev nD × Kind → ℕ) (c : Dev nD)
    {Q : _ → sProp 𝕄} :
    iprop(env m K ∗ owesL c [] ∗ waitTok c (.rsS 2 0) ∗ waitTok c (.rsS 0 1) ∗ waitTok c (.rsS 1 1))
      ⊢ iprop(((owesL c [] ∗ done c (.rsS 2 0) ∗ done c (.rsS 0 1) ∗ done c (.rsS 1 1) ∗ pay m c 0 (.rsS 2 0) ∗ pay m c 0 (.rsS 0 1) ∗ pay m c 0 (.rsS 1 1)) -∗ Q PUnit.unit)
        -∗ WP c (k0_part35 xM (Memref.isWhole_whole _) wqM (Memref.isWhole_whole _) kM (Memref.isWhole_whole _) vM (Memref.isWhole_whole _) woM (Memref.isWhole_whole _) oM (Memref.isWhole_whole _) ksM (Memref.isWhole_whole _) vsM (Memref.isWhole_whole _) kb0M (Memref.isWhole_whole _) vb0M (Memref.isWhole_whole _) kb1M (Memref.isWhole_whole _) vb1M (Memref.isWhole_whole _) rsM (Memref.isWhole_whole _) rrM (Memref.isWhole_whole _) agM (Memref.isWhole_whole _) arM (Memref.isWhole_whole _) cc0_scratch10 cc0_scratch11 cc0_scratch12 cc0_scratch13 cc0_scratch14 cc0_scratch15 c) Q) := by
  rw [k0_part35_eq_skeleton]; unfold k0_part35_skel
  simp only [semSignalWord, semWaitWord, Prog.lift, Prog.bind_op, Prog.bind_ret, Prog.pure_eq_ret, wp_deviceId]
  iintro ⟨#He, HO, WrsS20, WrsS01, WrsS11⟩ Hk
  iapply (wait m K c (.rsS 2 0) (dst := rsSrc c 2 0) rfl [] rfl rfl (fun _ h => absurd h List.not_mem_nil)) $$ [WrsS20 HO]
  · isplitr; · iexact He
    isplitl [WrsS20]; · iexact WrsS20
    iexact HO
  iintro ⟨DrsS20, HO, YrsS20⟩
  iapply (wait m K c (.rsS 0 1) (dst := rsSrc c 0 1) rfl [] rfl rfl (fun _ h => absurd h List.not_mem_nil)) $$ [WrsS01 HO]
  · isplitr; · iexact He
    isplitl [WrsS01]; · iexact WrsS01
    iexact HO
  iintro ⟨DrsS01, HO, YrsS01⟩
  iapply (wait m K c (.rsS 1 1) (dst := rsSrc c 1 1) rfl [] rfl rfl (fun _ h => absurd h List.not_mem_nil)) $$ [WrsS11 HO]
  · isplitr; · iexact He
    isplitl [WrsS11]; · iexact WrsS11
    iexact HO
  iintro ⟨DrsS11, HO, YrsS11⟩
  rw [WP_ret]
  imodintro
  iapply Hk
  isplitl [HO]; · iexact HO
  isplitl [DrsS20]; · iexact DrsS20
  isplitl [DrsS01]; · iexact DrsS01
  isplitl [DrsS11]; · iexact DrsS11
  isplitl [YrsS20]; · iexact YrsS20
  isplitl [YrsS01]; · iexact YrsS01
  iexact YrsS11

/-- More of the sends are done. -/
theorem part36 (K : Dev nD × Kind → ℕ) (c : Dev nD)
    {Q : _ → sProp 𝕄} :
    iprop(env m K ∗ owesL c [] ∗ waitTok c (.rsS 2 1) ∗ waitTok c (.agS 0 0) ∗ waitTok c (.agS 1 0))
      ⊢ iprop(((owesL c [] ∗ done c (.rsS 2 1) ∗ done c (.agS 0 0) ∗ done c (.agS 1 0) ∗ pay m c 0 (.rsS 2 1) ∗ pay m c 0 (.agS 0 0) ∗ pay m c 0 (.agS 1 0)) -∗ Q PUnit.unit)
        -∗ WP c (k0_part36 xM (Memref.isWhole_whole _) wqM (Memref.isWhole_whole _) kM (Memref.isWhole_whole _) vM (Memref.isWhole_whole _) woM (Memref.isWhole_whole _) oM (Memref.isWhole_whole _) ksM (Memref.isWhole_whole _) vsM (Memref.isWhole_whole _) kb0M (Memref.isWhole_whole _) vb0M (Memref.isWhole_whole _) kb1M (Memref.isWhole_whole _) vb1M (Memref.isWhole_whole _) rsM (Memref.isWhole_whole _) rrM (Memref.isWhole_whole _) agM (Memref.isWhole_whole _) arM (Memref.isWhole_whole _) cc0_scratch10 cc0_scratch11 cc0_scratch12 cc0_scratch13 cc0_scratch14 cc0_scratch15 c) Q) := by
  rw [k0_part36_eq_skeleton]; unfold k0_part36_skel
  simp only [semSignalWord, semWaitWord, Prog.lift, Prog.bind_op, Prog.bind_ret, Prog.pure_eq_ret, wp_deviceId]
  iintro ⟨#He, HO, WrsS21, WagS00, WagS10⟩ Hk
  iapply (wait m K c (.rsS 2 1) (dst := rsSrc c 2 1) rfl [] rfl rfl (fun _ h => absurd h List.not_mem_nil)) $$ [WrsS21 HO]
  · isplitr; · iexact He
    isplitl [WrsS21]; · iexact WrsS21
    iexact HO
  iintro ⟨DrsS21, HO, YrsS21⟩
  iapply (wait m K c (.agS 0 0) (dst := agSrc 0) rfl [] rfl rfl (fun _ h => absurd h List.not_mem_nil)) $$ [WagS00 HO]
  · isplitr; · iexact He
    isplitl [WagS00]; · iexact WagS00
    iexact HO
  iintro ⟨DagS00, HO, YagS00⟩
  iapply (wait m K c (.agS 1 0) (dst := agSrc 0) rfl [] rfl rfl (fun _ h => absurd h List.not_mem_nil)) $$ [WagS10 HO]
  · isplitr; · iexact He
    isplitl [WagS10]; · iexact WagS10
    iexact HO
  iintro ⟨DagS10, HO, YagS10⟩
  rw [WP_ret]
  imodintro
  iapply Hk
  isplitl [HO]; · iexact HO
  isplitl [DrsS21]; · iexact DrsS21
  isplitl [DagS00]; · iexact DagS00
  isplitl [DagS10]; · iexact DagS10
  isplitl [YrsS21]; · iexact YrsS21
  isplitl [YagS00]; · iexact YagS00
  iexact YagS10

/-- More of the sends are done. -/
theorem part37 (K : Dev nD × Kind → ℕ) (c : Dev nD)
    {Q : _ → sProp 𝕄} :
    iprop(env m K ∗ owesL c [] ∗ waitTok c (.agS 2 0) ∗ waitTok c (.agS 0 1) ∗ waitTok c (.agS 1 1))
      ⊢ iprop(((owesL c [] ∗ done c (.agS 2 0) ∗ done c (.agS 0 1) ∗ done c (.agS 1 1) ∗ pay m c 0 (.agS 2 0) ∗ pay m c 0 (.agS 0 1) ∗ pay m c 0 (.agS 1 1)) -∗ Q PUnit.unit)
        -∗ WP c (k0_part37 xM (Memref.isWhole_whole _) wqM (Memref.isWhole_whole _) kM (Memref.isWhole_whole _) vM (Memref.isWhole_whole _) woM (Memref.isWhole_whole _) oM (Memref.isWhole_whole _) ksM (Memref.isWhole_whole _) vsM (Memref.isWhole_whole _) kb0M (Memref.isWhole_whole _) vb0M (Memref.isWhole_whole _) kb1M (Memref.isWhole_whole _) vb1M (Memref.isWhole_whole _) rsM (Memref.isWhole_whole _) rrM (Memref.isWhole_whole _) agM (Memref.isWhole_whole _) arM (Memref.isWhole_whole _) cc0_scratch10 cc0_scratch11 cc0_scratch12 cc0_scratch13 cc0_scratch14 cc0_scratch15 ) Q) := by
  rw [k0_part37_eq_skeleton]; unfold k0_part37_skel
  simp only [semSignalWord, semWaitWord, Prog.lift, Prog.bind_op, Prog.bind_ret, Prog.pure_eq_ret, wp_deviceId]
  iintro ⟨#He, HO, WagS20, WagS01, WagS11⟩ Hk
  iapply (wait m K c (.agS 2 0) (dst := agSrc 0) rfl [] rfl rfl (fun _ h => absurd h List.not_mem_nil)) $$ [WagS20 HO]
  · isplitr; · iexact He
    isplitl [WagS20]; · iexact WagS20
    iexact HO
  iintro ⟨DagS20, HO, YagS20⟩
  iapply (wait m K c (.agS 0 1) (dst := agSrc 1) rfl [] rfl rfl (fun _ h => absurd h List.not_mem_nil)) $$ [WagS01 HO]
  · isplitr; · iexact He
    isplitl [WagS01]; · iexact WagS01
    iexact HO
  iintro ⟨DagS01, HO, YagS01⟩
  iapply (wait m K c (.agS 1 1) (dst := agSrc 1) rfl [] rfl rfl (fun _ h => absurd h List.not_mem_nil)) $$ [WagS11 HO]
  · isplitr; · iexact He
    isplitl [WagS11]; · iexact WagS11
    iexact HO
  iintro ⟨DagS11, HO, YagS11⟩
  rw [WP_ret]
  imodintro
  iapply Hk
  isplitl [HO]; · iexact HO
  isplitl [DagS20]; · iexact DagS20
  isplitl [DagS01]; · iexact DagS01
  isplitl [DagS11]; · iexact DagS11
  isplitl [YagS20]; · iexact YagS20
  isplitl [YagS01]; · iexact YagS01
  iexact YagS11

end Cert.KernelIdeal.Gen

end
-- ==== Proof.PartsD.lean ====
/- The step that ends the key and value sends, by device. -/
module

public import proofs.«01_k».proof.Proof.PartsK
public import proofs.«01_k».proof.Proof.PartsC

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

variable (m : (ℓ : Loc nD τ sig) → Buf (Elt F) ℓ)

/-! ## The waits of the key and value sends -/

/-- Device 0 waits for four of its sends. -/
theorem part7 (K : Dev nD × Kind → ℕ) (l : List (Dev nD × Kind)) (hl : ∀ x ∈ l, 3 < lvK x.2)
    {Q : _ → sProp 𝕄} :
    iprop(env m K ∗ waitTok (0 : Dev nD) (.kvS 0 0) ∗ waitTok (0 : Dev nD) (.kvS 1 0) ∗ waitTok (0 : Dev nD) (.kvS 2 0) ∗ waitTok (0 : Dev nD) (.kvS 0 1) ∗ owesL (0 : Dev nD) l)
      ⊢ iprop(((done (0 : Dev nD) (.kvS 0 0) ∗ done (0 : Dev nD) (.kvS 1 0) ∗ done (0 : Dev nD) (.kvS 2 0) ∗ done (0 : Dev nD) (.kvS 0 1) ∗ owesL (0 : Dev nD) l ∗ (∃ f, own ksM (0 : Dev nD) (S0 0) f) ∗ (∃ f, own ksM (0 : Dev nD) (S0 1) f) ∗ (∃ f, own ksM (0 : Dev nD) (S0 2) f) ∗ (∃ f, own vsM (0 : Dev nD) (S0 0) f)) -∗ Q PUnit.unit)
        -∗ WP (0 : Dev nD) (k0_part7 xM (Memref.isWhole_whole _) wqM (Memref.isWhole_whole _) kM (Memref.isWhole_whole _) vM (Memref.isWhole_whole _) woM (Memref.isWhole_whole _) oM (Memref.isWhole_whole _) ksM (Memref.isWhole_whole _) vsM (Memref.isWhole_whole _) kb0M (Memref.isWhole_whole _) vb0M (Memref.isWhole_whole _) kb1M (Memref.isWhole_whole _) vb1M (Memref.isWhole_whole _) rsM (Memref.isWhole_whole _) rrM (Memref.isWhole_whole _) agM (Memref.isWhole_whole _) arM (Memref.isWhole_whole _) cc0_scratch10 cc0_scratch11 cc0_scratch12 cc0_scratch13 cc0_scratch14 cc0_scratch15 ) Q) := by
  rw [k0_part7_eq_skeleton]; unfold k0_part7_skel
  simp only [semSignalWord, semWaitWord, Prog.lift, Prog.bind_op, Prog.bind_ret, Prog.pure_eq_ret, wp_deviceId]
  iintro ⟨#He, WK0, WK1, WK2, WV0, HO⟩ Hk
  iapply (wait m K (0 : Dev nD) (.kvS 0 0) (dst := sec0 0 0) rfl l rfl rfl (fun x h => lt_trans (by decide) (hl x h))) $$ [WK0 HO]
  · isplitr; · iexact He
    isplitl [WK0]; · iexact WK0
    iexact HO
  iintro ⟨DK0, HO, YK0⟩
  ihave YK0 := (backK0 m 0) $$ YK0
  iapply (wait m K (0 : Dev nD) (.kvS 1 0) (dst := sec0 0 1) rfl l rfl rfl (fun x h => lt_trans (by decide) (hl x h))) $$ [WK1 HO]
  · isplitr; · iexact He
    isplitl [WK1]; · iexact WK1
    iexact HO
  iintro ⟨DK1, HO, YK1⟩
  ihave YK1 := (backK0 m 1) $$ YK1
  iapply (wait m K (0 : Dev nD) (.kvS 2 0) (dst := sec0 0 2) rfl l rfl rfl (fun x h => lt_trans (by decide) (hl x h))) $$ [WK2 HO]
  · isplitr; · iexact He
    isplitl [WK2]; · iexact WK2
    iexact HO
  iintro ⟨DK2, HO, YK2⟩
  ihave YK2 := (backK0 m 2) $$ YK2
  iapply (wait m K (0 : Dev nD) (.kvS 0 1) (dst := sec0 1 0) rfl l rfl rfl (fun x h => lt_trans (by decide) (hl x h))) $$ [WV0 HO]
  · isplitr; · iexact He
    isplitl [WV0]; · iexact WV0
    iexact HO
  iintro ⟨DV0, HO, YV0⟩
  ihave YV0 := (backV0 m 0) $$ YV0
  rw [WP_ret]
  imodintro
  iapply Hk
  isplitl [DK0]; · iexact DK0
  isplitl [DK1]; · iexact DK1
  isplitl [DK2]; · iexact DK2
  isplitl [DV0]; · iexact DV0
  isplitl [HO]; · iexact HO
  isplitl [YK0]; · iexact YK0
  isplitl [YK1]; · iexact YK1
  isplitl [YK2]; · iexact YK2
  iexact YV0

/-- Device 1 waits for four of its sends. -/
theorem part8 (K : Dev nD × Kind → ℕ) (l : List (Dev nD × Kind)) (hl : ∀ x ∈ l, 3 < lvK x.2)
    {Q : _ → sProp 𝕄} :
    iprop(env m K ∗ waitTok (1 : Dev nD) (.kvS 0 0) ∗ waitTok (1 : Dev nD) (.kvS 1 0) ∗ waitTok (1 : Dev nD) (.kvS 2 0) ∗ waitTok (1 : Dev nD) (.kvS 0 1) ∗ owesL (1 : Dev nD) l)
      ⊢ iprop(((done (1 : Dev nD) (.kvS 0 0) ∗ done (1 : Dev nD) (.kvS 1 0) ∗ done (1 : Dev nD) (.kvS 2 0) ∗ done (1 : Dev nD) (.kvS 0 1) ∗ owesL (1 : Dev nD) l ∗ (∃ f, own ksM (1 : Dev nD) (S1 0) f) ∗ (∃ f, own ksM (1 : Dev nD) (S1 1) f) ∗ (∃ f, own ksM (1 : Dev nD) (S1 2) f) ∗ (∃ f, own vsM (1 : Dev nD) (S1 0) f)) -∗ Q PUnit.unit)
        -∗ WP (1 : Dev nD) (k0_part8 xM (Memref.isWhole_whole _) wqM (Memref.isWhole_whole _) kM (Memref.isWhole_whole _) vM (Memref.isWhole_whole _) woM (Memref.isWhole_whole _) oM (Memref.isWhole_whole _) ksM (Memref.isWhole_whole _) vsM (Memref.isWhole_whole _) kb0M (Memref.isWhole_whole _) vb0M (Memref.isWhole_whole _) kb1M (Memref.isWhole_whole _) vb1M (Memref.isWhole_whole _) rsM (Memref.isWhole_whole _) rrM (Memref.isWhole_whole _) agM (Memref.isWhole_whole _) arM (Memref.isWhole_whole _) cc0_scratch10 cc0_scratch11 cc0_scratch12 cc0_scratch13 cc0_scratch14 cc0_scratch15 ) Q) := by
  rw [k0_part8_eq_skeleton]; unfold k0_part8_skel
  simp only [semSignalWord, semWaitWord, Prog.lift, Prog.bind_op, Prog.bind_ret, Prog.pure_eq_ret, wp_deviceId]
  iintro ⟨#He, WK0, WK1, WK2, WV0, HO⟩ Hk
  iapply (wait m K (1 : Dev nD) (.kvS 0 0) (dst := sec1 0 0) rfl l rfl rfl (fun x h => lt_trans (by decide) (hl x h))) $$ [WK0 HO]
  · isplitr; · iexact He
    isplitl [WK0]; · iexact WK0
    iexact HO
  iintro ⟨DK0, HO, YK0⟩
  ihave YK0 := (backK1 m 0) $$ YK0
  iapply (wait m K (1 : Dev nD) (.kvS 1 0) (dst := sec1 0 1) rfl l rfl rfl (fun x h => lt_trans (by decide) (hl x h))) $$ [WK1 HO]
  · isplitr; · iexact He
    isplitl [WK1]; · iexact WK1
    iexact HO
  iintro ⟨DK1, HO, YK1⟩
  ihave YK1 := (backK1 m 1) $$ YK1
  iapply (wait m K (1 : Dev nD) (.kvS 2 0) (dst := sec1 0 2) rfl l rfl rfl (fun x h => lt_trans (by decide) (hl x h))) $$ [WK2 HO]
  · isplitr; · iexact He
    isplitl [WK2]; · iexact WK2
    iexact HO
  iintro ⟨DK2, HO, YK2⟩
  ihave YK2 := (backK1 m 2) $$ YK2
  iapply (wait m K (1 : Dev nD) (.kvS 0 1) (dst := sec1 1 0) rfl l rfl rfl (fun x h => lt_trans (by decide) (hl x h))) $$ [WV0 HO]
  · isplitr; · iexact He
    isplitl [WV0]; · iexact WV0
    iexact HO
  iintro ⟨DV0, HO, YV0⟩
  ihave YV0 := (backV1 m 0) $$ YV0
  rw [WP_ret]
  imodintro
  iapply Hk
  isplitl [DK0]; · iexact DK0
  isplitl [DK1]; · iexact DK1
  isplitl [DK2]; · iexact DK2
  isplitl [DV0]; · iexact DV0
  isplitl [HO]; · iexact HO
  isplitl [YK0]; · iexact YK0
  isplitl [YK1]; · iexact YK1
  isplitl [YK2]; · iexact YK2
  iexact YV0

theorem bit0 : ∀ c : Dev nD, (Scalar.cmpi .ne (Scalar.extui (Scalar.cmpi .eq (W2 c) 0#32)) 0#32 = 1#1) ↔ c = 0 := by decide +kernel
theorem bit1 : ∀ c : Dev nD, (Scalar.cmpi .ne (Scalar.extui (Scalar.cmpi .eq (W2 c) 1#32)) 0#32 = 1#1) ↔ c = 1 := by decide +kernel

/-- Device 0: the second batch to the other two devices; its key and value sends waited for. -/
theorem part21_0 (K : Dev nD × Kind → ℕ) (v305 : BitVec 32) (v427 : BitVec 32) (l : List (Dev nD × Kind)) (hl : ∀ x ∈ l, 3 < lvK x.2) (f : Buf (Elt F) (rsM.view.loc ((0 : Dev nD) : Thread nD τ))) (fd1 : Buf (Elt F) ((rrSlot 1 0).view.loc (fwd (0 : Dev nD) 2 : Thread nD τ))) (fd2 : Buf (Elt F) ((rrSlot 2 0).view.loc (fwd (0 : Dev nD) 3 : Thread nD τ)))
    {Q : _ → sProp 𝕄} :
    iprop(env m K ∗ own rsM (0 : Dev nD) (IS (0 : Dev nD) 1 1) ((rsM.access (half 1)).write (Elt F) f (P108 m (0 : Dev nD)) Finset.univ) ∗ own (rrSlot 1 1) (fwd (0 : Dev nD) 2) (rrSlot 1 1).view.set fd1 ∗ (tok (0 : Dev nD) (.rsS 1 1) ∗ pos (0 : Dev nD) (.rsS 1 1)) ∗ tok (fwd (0 : Dev nD) 2) (.rsR 1 1) ∗ own rsM (0 : Dev nD) (IS (0 : Dev nD) 2 1) ((rsM.access (half 1)).write (Elt F) f (P108 m (0 : Dev nD)) Finset.univ) ∗ own (rrSlot 2 1) (fwd (0 : Dev nD) 3) (rrSlot 2 1).view.set fd2 ∗ (tok (0 : Dev nD) (.rsS 2 1) ∗ pos (0 : Dev nD) (.rsS 2 1)) ∗ tok (fwd (0 : Dev nD) 3) (.rsR 2 1) ∗ owesL (0 : Dev nD) ((fwd (0 : Dev nD) 2, .rsR 1 1) :: (fwd (0 : Dev nD) 3, .rsR 2 1) :: l) ∗ kvOut (F := F) (0 : Dev nD))
      ⊢ iprop(((waitTok (0 : Dev nD) (.rsS 1 1) ∗ waitTok (0 : Dev nD) (.rsS 2 1) ∗ owesL (0 : Dev nD) l ∗ kvIn (F := F) (0 : Dev nD)) -∗ Q PUnit.unit)
        -∗ WP (0 : Dev nD) (k0_part21 xM (Memref.isWhole_whole _) wqM (Memref.isWhole_whole _) kM (Memref.isWhole_whole _) vM (Memref.isWhole_whole _) woM (Memref.isWhole_whole _) oM (Memref.isWhole_whole _) ksM (Memref.isWhole_whole _) vsM (Memref.isWhole_whole _) kb0M (Memref.isWhole_whole _) vb0M (Memref.isWhole_whole _) kb1M (Memref.isWhole_whole _) vb1M (Memref.isWhole_whole _) rsM (Memref.isWhole_whole _) rrM (Memref.isWhole_whole _) agM (Memref.isWhole_whole _) arM (Memref.isWhole_whole _) cc0_scratch10 cc0_scratch11 cc0_scratch12 cc0_scratch13 cc0_scratch14 cc0_scratch15 (0 : Dev nD) (W2 (0 : Dev nD)) v305 v427) Q) := by
  rw [k0_part21_eq_skeleton]; unfold k0_part21_skel
  simp only [semSignalWord, semWaitWord, Prog.lift, Prog.bind_op, Prog.bind_ret, Prog.pure_eq_ret, wp_deviceId]
  iintro ⟨#He, S11, L11, T11, U11, S21, L21, T21, U21, HO, Hv⟩ Hk
  iapply (sendRS m K (0 : Dev nD) _ 1 1 (dev20 (0 : Dev nD)) rfl rfl rfl rfl ((fwd (0 : Dev nD) 3, .rsR 2 1) :: l) f (P108 m (0 : Dev nD)) rfl fd1) $$ [S11 L11 HO T11 U11]
  · isplitr; · iexact He
    isplitl [S11]; · iexact S11
    isplitl [L11]; · iexact L11
    isplitl [HO]; · iexact HO
    isplitl [T11]; · iexact T11
    iexact U11
  iintro ⟨WrsS11, HO⟩
  iapply (sendRS m K (0 : Dev nD) _ 2 1 (dev21 (0 : Dev nD)) rfl rfl rfl rfl (l) f (P108 m (0 : Dev nD)) rfl fd2) $$ [S21 L21 HO T21 U21]
  · isplitr; · iexact He
    isplitl [S21]; · iexact S21
    isplitl [L21]; · iexact L21
    isplitl [HO]; · iexact HO
    isplitl [T21]; · iexact T21
    iexact U21
  iintro ⟨WrsS21, HO⟩
  ihave Hv := (Entails.of_eq (show kvOut (F := F) (0 : Dev nD) = iprop((six fun j t => waitTok (0 : Dev nD) (.kvS j t)) ∗ anyL ksM (0 : Dev nD) S0 ∗ anyL vsM (0 : Dev nD) S0) from if_pos rfl)) $$ Hv
  icases Hv with ⟨⟨WK0, WK1, WK2, WV0, WV1, WV2⟩, RK, RV⟩
  rw [dif_pos ((bit0 (0 : Dev nD)).2 rfl)]
  rw [WP_bind]
  iapply (part7 m K l hl) $$ [WK0 WK1 WK2 WV0 HO]
  · isplitr; · iexact He
    isplitl [WK0]; · iexact WK0
    isplitl [WK1]; · iexact WK1
    isplitl [WK2]; · iexact WK2
    isplitl [WV0]; · iexact WV0
    iexact HO
  iintro ⟨DK0, DK1, DK2, DV0, HO, YK0, YK1, YK2, YV0⟩
  dsimp only
  iapply (wait m K (0 : Dev nD) (.kvS 1 1) (dst := sec0 1 1) rfl l rfl rfl (fun x h => lt_trans (by decide) (hl x h))) $$ [WV1 HO]
  · isplitr; · iexact He
    isplitl [WV1]; · iexact WV1
    iexact HO
  iintro ⟨DV1, HO, YV1⟩
  ihave YV1 := (backV0 m 1) $$ YV1
  iapply (wait m K (0 : Dev nD) (.kvS 2 1) (dst := sec0 1 2) rfl l rfl rfl (fun x h => lt_trans (by decide) (hl x h))) $$ [WV2 HO]
  · isplitr; · iexact He
    isplitl [WV2]; · iexact WV2
    iexact HO
  iintro ⟨DV2, HO, YV2⟩
  ihave YV2 := (backV0 m 2) $$ YV2
  rw [dif_neg (fun h => absurd ((bit1 (0 : Dev nD)).1 h) (by decide))]
  ihave XK := (uncutF (F := F) (ℓ := ksM.view.loc ((0 : Dev nD) : Thread nD τ)) S0_fam) $$ [YK0 YK1 YK2 RK]
  · isplitl [YK0]; · iexact YK0
    isplitl [YK1]; · iexact YK1
    isplitl [YK2]; · iexact YK2
    iexact RK
  ihave XV := (uncutF (F := F) (ℓ := vsM.view.loc ((0 : Dev nD) : Thread nD τ)) S0_fam) $$ [YV0 YV1 YV2 RV]
  · isplitl [YV0]; · iexact YV0
    isplitl [YV1]; · iexact YV1
    isplitl [YV2]; · iexact YV2
    iexact RV
  ihave Hv := (Entails.of_eq (show iprop((six fun j t => done (0 : Dev nD) (.kvS j t)) ∗ anyW ksM (0 : Dev nD) ∗ anyW vsM (0 : Dev nD)) = kvIn (F := F) (0 : Dev nD) from rfl)) $$ [DK0 DK1 DK2 DV0 DV1 DV2 XK XV]
  · isplitl [DK0 DK1 DK2 DV0 DV1 DV2]
    · isplitl [DK0]; · iexact DK0
      isplitl [DK1]; · iexact DK1
      isplitl [DK2]; · iexact DK2
      isplitl [DV0]; · iexact DV0
      isplitl [DV1]; · iexact DV1
      iexact DV2
    isplitl [XK]; · iexact XK
    iexact XV
  rw [WP_ret]
  imodintro
  iapply Hk
  isplitl [WrsS11]; · iexact WrsS11
  isplitl [WrsS21]; · iexact WrsS21
  isplitl [HO]; · iexact HO
  iexact Hv

/-- Device 1: the second batch to the other two devices; its key and value sends waited for. -/
theorem part21_1 (K : Dev nD × Kind → ℕ) (v305 : BitVec 32) (v427 : BitVec 32) (l : List (Dev nD × Kind)) (hl : ∀ x ∈ l, 3 < lvK x.2) (f : Buf (Elt F) (rsM.view.loc ((1 : Dev nD) : Thread nD τ))) (fd1 : Buf (Elt F) ((rrSlot 1 0).view.loc (fwd (1 : Dev nD) 2 : Thread nD τ))) (fd2 : Buf (Elt F) ((rrSlot 2 0).view.loc (fwd (1 : Dev nD) 3 : Thread nD τ)))
    {Q : _ → sProp 𝕄} :
    iprop(env m K ∗ own rsM (1 : Dev nD) (IS (1 : Dev nD) 1 1) ((rsM.access (half 1)).write (Elt F) f (P108 m (1 : Dev nD)) Finset.univ) ∗ own (rrSlot 1 1) (fwd (1 : Dev nD) 2) (rrSlot 1 1).view.set fd1 ∗ (tok (1 : Dev nD) (.rsS 1 1) ∗ pos (1 : Dev nD) (.rsS 1 1)) ∗ tok (fwd (1 : Dev nD) 2) (.rsR 1 1) ∗ own rsM (1 : Dev nD) (IS (1 : Dev nD) 2 1) ((rsM.access (half 1)).write (Elt F) f (P108 m (1 : Dev nD)) Finset.univ) ∗ own (rrSlot 2 1) (fwd (1 : Dev nD) 3) (rrSlot 2 1).view.set fd2 ∗ (tok (1 : Dev nD) (.rsS 2 1) ∗ pos (1 : Dev nD) (.rsS 2 1)) ∗ tok (fwd (1 : Dev nD) 3) (.rsR 2 1) ∗ owesL (1 : Dev nD) ((fwd (1 : Dev nD) 2, .rsR 1 1) :: (fwd (1 : Dev nD) 3, .rsR 2 1) :: l) ∗ kvOut (F := F) (1 : Dev nD))
      ⊢ iprop(((waitTok (1 : Dev nD) (.rsS 1 1) ∗ waitTok (1 : Dev nD) (.rsS 2 1) ∗ owesL (1 : Dev nD) l ∗ kvIn (F := F) (1 : Dev nD)) -∗ Q PUnit.unit)
        -∗ WP (1 : Dev nD) (k0_part21 xM (Memref.isWhole_whole _) wqM (Memref.isWhole_whole _) kM (Memref.isWhole_whole _) vM (Memref.isWhole_whole _) woM (Memref.isWhole_whole _) oM (Memref.isWhole_whole _) ksM (Memref.isWhole_whole _) vsM (Memref.isWhole_whole _) kb0M (Memref.isWhole_whole _) vb0M (Memref.isWhole_whole _) kb1M (Memref.isWhole_whole _) vb1M (Memref.isWhole_whole _) rsM (Memref.isWhole_whole _) rrM (Memref.isWhole_whole _) agM (Memref.isWhole_whole _) arM (Memref.isWhole_whole _) cc0_scratch10 cc0_scratch11 cc0_scratch12 cc0_scratch13 cc0_scratch14 cc0_scratch15 (1 : Dev nD) (W2 (1 : Dev nD)) v305 v427) Q) := by
  rw [k0_part21_eq_skeleton]; unfold k0_part21_skel
  simp only [semSignalWord, semWaitWord, Prog.lift, Prog.bind_op, Prog.bind_ret, Prog.pure_eq_ret, wp_deviceId]
  iintro ⟨#He, S11, L11, T11, U11, S21, L21, T21, U21, HO, Hv⟩ Hk
  iapply (sendRS m K (1 : Dev nD) _ 1 1 (dev20 (1 : Dev nD)) rfl rfl rfl rfl ((fwd (1 : Dev nD) 3, .rsR 2 1) :: l) f (P108 m (1 : Dev nD)) rfl fd1) $$ [S11 L11 HO T11 U11]
  · isplitr; · iexact He
    isplitl [S11]; · iexact S11
    isplitl [L11]; · iexact L11
    isplitl [HO]; · iexact HO
    isplitl [T11]; · iexact T11
    iexact U11
  iintro ⟨WrsS11, HO⟩
  iapply (sendRS m K (1 : Dev nD) _ 2 1 (dev21 (1 : Dev nD)) rfl rfl rfl rfl (l) f (P108 m (1 : Dev nD)) rfl fd2) $$ [S21 L21 HO T21 U21]
  · isplitr; · iexact He
    isplitl [S21]; · iexact S21
    isplitl [L21]; · iexact L21
    isplitl [HO]; · iexact HO
    isplitl [T21]; · iexact T21
    iexact U21
  iintro ⟨WrsS21, HO⟩
  ihave Hv := (Entails.of_eq (show kvOut (F := F) (1 : Dev nD) = iprop((six fun j t => waitTok (1 : Dev nD) (.kvS j t)) ∗ anyL ksM (1 : Dev nD) S1 ∗ anyL vsM (1 : Dev nD) S1) from (if_neg (by decide)).trans (if_pos rfl))) $$ Hv
  icases Hv with ⟨⟨WK0, WK1, WK2, WV0, WV1, WV2⟩, RK, RV⟩
  rw [dif_neg (fun h => absurd ((bit0 (1 : Dev nD)).1 h) (by decide))]
  rw [dif_pos ((bit1 (1 : Dev nD)).2 rfl)]
  rw [WP_bind]
  iapply (part8 m K l hl) $$ [WK0 WK1 WK2 WV0 HO]
  · isplitr; · iexact He
    isplitl [WK0]; · iexact WK0
    isplitl [WK1]; · iexact WK1
    isplitl [WK2]; · iexact WK2
    isplitl [WV0]; · iexact WV0
    iexact HO
  iintro ⟨DK0, DK1, DK2, DV0, HO, YK0, YK1, YK2, YV0⟩
  dsimp only
  iapply (wait m K (1 : Dev nD) (.kvS 1 1) (dst := sec1 1 1) rfl l rfl rfl (fun x h => lt_trans (by decide) (hl x h))) $$ [WV1 HO]
  · isplitr; · iexact He
    isplitl [WV1]; · iexact WV1
    iexact HO
  iintro ⟨DV1, HO, YV1⟩
  ihave YV1 := (backV1 m 1) $$ YV1
  iapply (wait m K (1 : Dev nD) (.kvS 2 1) (dst := sec1 1 2) rfl l rfl rfl (fun x h => lt_trans (by decide) (hl x h))) $$ [WV2 HO]
  · isplitr; · iexact He
    isplitl [WV2]; · iexact WV2
    iexact HO
  iintro ⟨DV2, HO, YV2⟩
  ihave YV2 := (backV1 m 2) $$ YV2
  ihave XK := (uncutF (F := F) (ℓ := ksM.view.loc ((1 : Dev nD) : Thread nD τ)) S1_fam) $$ [YK0 YK1 YK2 RK]
  · isplitl [YK0]; · iexact YK0
    isplitl [YK1]; · iexact YK1
    isplitl [YK2]; · iexact YK2
    iexact RK
  ihave XV := (uncutF (F := F) (ℓ := vsM.view.loc ((1 : Dev nD) : Thread nD τ)) S1_fam) $$ [YV0 YV1 YV2 RV]
  · isplitl [YV0]; · iexact YV0
    isplitl [YV1]; · iexact YV1
    isplitl [YV2]; · iexact YV2
    iexact RV
  ihave Hv := (Entails.of_eq (show iprop((six fun j t => done (1 : Dev nD) (.kvS j t)) ∗ anyW ksM (1 : Dev nD) ∗ anyW vsM (1 : Dev nD)) = kvIn (F := F) (1 : Dev nD) from rfl)) $$ [DK0 DK1 DK2 DV0 DV1 DV2 XK XV]
  · isplitl [DK0 DK1 DK2 DV0 DV1 DV2]
    · isplitl [DK0]; · iexact DK0
      isplitl [DK1]; · iexact DK1
      isplitl [DK2]; · iexact DK2
      isplitl [DV0]; · iexact DV0
      isplitl [DV1]; · iexact DV1
      iexact DV2
    isplitl [XK]; · iexact XK
    iexact XV
  rw [WP_ret]
  imodintro
  iapply Hk
  isplitl [WrsS11]; · iexact WrsS11
  isplitl [WrsS21]; · iexact WrsS21
  isplitl [HO]; · iexact HO
  iexact Hv

/-- The other devices: the second batch to the other two devices. -/
theorem part21_r (K : Dev nD × Kind → ℕ) (c : Dev nD) (v305 : BitVec 32) (v427 : BitVec 32) (hc : c ≠ 0 ∧ c ≠ 1) (l : List (Dev nD × Kind)) (hl : ∀ x ∈ l, 3 < lvK x.2) (f : Buf (Elt F) (rsM.view.loc (c : Thread nD τ))) (fd1 : Buf (Elt F) ((rrSlot 1 0).view.loc (fwd c 2 : Thread nD τ))) (fd2 : Buf (Elt F) ((rrSlot 2 0).view.loc (fwd c 3 : Thread nD τ)))
    {Q : _ → sProp 𝕄} :
    iprop(env m K ∗ own rsM c (IS c 1 1) ((rsM.access (half 1)).write (Elt F) f (P108 m c) Finset.univ) ∗ own (rrSlot 1 1) (fwd c 2) (rrSlot 1 1).view.set fd1 ∗ (tok c (.rsS 1 1) ∗ pos c (.rsS 1 1)) ∗ tok (fwd c 2) (.rsR 1 1) ∗ own rsM c (IS c 2 1) ((rsM.access (half 1)).write (Elt F) f (P108 m c) Finset.univ) ∗ own (rrSlot 2 1) (fwd c 3) (rrSlot 2 1).view.set fd2 ∗ (tok c (.rsS 2 1) ∗ pos c (.rsS 2 1)) ∗ tok (fwd c 3) (.rsR 2 1) ∗ owesL c ((fwd c 2, .rsR 1 1) :: (fwd c 3, .rsR 2 1) :: l) ∗ kvOut (F := F) c)
      ⊢ iprop(((waitTok c (.rsS 1 1) ∗ waitTok c (.rsS 2 1) ∗ owesL c l ∗ kvIn (F := F) c) -∗ Q PUnit.unit)
        -∗ WP c (k0_part21 xM (Memref.isWhole_whole _) wqM (Memref.isWhole_whole _) kM (Memref.isWhole_whole _) vM (Memref.isWhole_whole _) woM (Memref.isWhole_whole _) oM (Memref.isWhole_whole _) ksM (Memref.isWhole_whole _) vsM (Memref.isWhole_whole _) kb0M (Memref.isWhole_whole _) vb0M (Memref.isWhole_whole _) kb1M (Memref.isWhole_whole _) vb1M (Memref.isWhole_whole _) rsM (Memref.isWhole_whole _) rrM (Memref.isWhole_whole _) agM (Memref.isWhole_whole _) arM (Memref.isWhole_whole _) cc0_scratch10 cc0_scratch11 cc0_scratch12 cc0_scratch13 cc0_scratch14 cc0_scratch15 c (W2 c) v305 v427) Q) := by
  rw [k0_part21_eq_skeleton]; unfold k0_part21_skel
  simp only [semSignalWord, semWaitWord, Prog.lift, Prog.bind_op, Prog.bind_ret, Prog.pure_eq_ret, wp_deviceId]
  iintro ⟨#He, S11, L11, T11, U11, S21, L21, T21, U21, HO, Hv⟩ Hk
  iapply (sendRS m K c _ 1 1 (dev20 c) rfl rfl rfl rfl ((fwd c 3, .rsR 2 1) :: l) f (P108 m c) rfl fd1) $$ [S11 L11 HO T11 U11]
  · isplitr; · iexact He
    isplitl [S11]; · iexact S11
    isplitl [L11]; · iexact L11
    isplitl [HO]; · iexact HO
    isplitl [T11]; · iexact T11
    iexact U11
  iintro ⟨WrsS11, HO⟩
  iapply (sendRS m K c _ 2 1 (dev21 c) rfl rfl rfl rfl (l) f (P108 m c) rfl fd2) $$ [S21 L21 HO T21 U21]
  · isplitr; · iexact He
    isplitl [S21]; · iexact S21
    isplitl [L21]; · iexact L21
    isplitl [HO]; · iexact HO
    isplitl [T21]; · iexact T21
    iexact U21
  iintro ⟨WrsS21, HO⟩
  rw [dif_neg (fun h => hc.1 ((bit0 c).1 h)), dif_neg (fun h => hc.2 ((bit1 c).1 h))]
  ihave Hv := (Entails.of_eq (show kvOut (F := F) c = kvIn (F := F) c from (if_neg hc.1).trans (if_neg hc.2))) $$ Hv
  rw [WP_ret]
  imodintro
  iapply Hk
  isplitl [WrsS11]; · iexact WrsS11
  isplitl [WrsS21]; · iexact WrsS21
  isplitl [HO]; · iexact HO
  iexact Hv

/-- The second batch to the other two devices; the key and value sends waited for. -/
theorem part21 (K : Dev nD × Kind → ℕ) (c : Dev nD) (v305 : BitVec 32) (v427 : BitVec 32) (l : List (Dev nD × Kind)) (hl : ∀ x ∈ l, 3 < lvK x.2) (f : Buf (Elt F) (rsM.view.loc (c : Thread nD τ))) (fd1 : Buf (Elt F) ((rrSlot 1 0).view.loc (fwd c 2 : Thread nD τ))) (fd2 : Buf (Elt F) ((rrSlot 2 0).view.loc (fwd c 3 : Thread nD τ)))
    {Q : _ → sProp 𝕄} :
    iprop(env m K ∗ own rsM c (IS c 1 1) ((rsM.access (half 1)).write (Elt F) f (P108 m c) Finset.univ) ∗ own (rrSlot 1 1) (fwd c 2) (rrSlot 1 1).view.set fd1 ∗ (tok c (.rsS 1 1) ∗ pos c (.rsS 1 1)) ∗ tok (fwd c 2) (.rsR 1 1) ∗ own rsM c (IS c 2 1) ((rsM.access (half 1)).write (Elt F) f (P108 m c) Finset.univ) ∗ own (rrSlot 2 1) (fwd c 3) (rrSlot 2 1).view.set fd2 ∗ (tok c (.rsS 2 1) ∗ pos c (.rsS 2 1)) ∗ tok (fwd c 3) (.rsR 2 1) ∗ owesL c ((fwd c 2, .rsR 1 1) :: (fwd c 3, .rsR 2 1) :: l) ∗ kvOut (F := F) c)
      ⊢ iprop(((waitTok c (.rsS 1 1) ∗ waitTok c (.rsS 2 1) ∗ owesL c l ∗ kvIn (F := F) c) -∗ Q PUnit.unit)
        -∗ WP c (k0_part21 xM (Memref.isWhole_whole _) wqM (Memref.isWhole_whole _) kM (Memref.isWhole_whole _) vM (Memref.isWhole_whole _) woM (Memref.isWhole_whole _) oM (Memref.isWhole_whole _) ksM (Memref.isWhole_whole _) vsM (Memref.isWhole_whole _) kb0M (Memref.isWhole_whole _) vb0M (Memref.isWhole_whole _) kb1M (Memref.isWhole_whole _) vb1M (Memref.isWhole_whole _) rsM (Memref.isWhole_whole _) rrM (Memref.isWhole_whole _) agM (Memref.isWhole_whole _) arM (Memref.isWhole_whole _) cc0_scratch10 cc0_scratch11 cc0_scratch12 cc0_scratch13 cc0_scratch14 cc0_scratch15 c (W2 c) v305 v427) Q) := by
  rcases place c with rfl | rfl | hc
  · exact part21_0 m K v305 v427 l hl f fd1 fd2
  · exact part21_1 m K v305 v427 l hl f fd1 fd2
  · exact part21_r m K c v305 v427 hc l hl f fd1 fd2

end Cert.KernelIdeal.Gen

end
-- ==== Proof.Body.lean ====
/- The whole body on one device. -/
module

public import proofs.«01_k».proof.Proof.PartsD

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

variable (m : (ℓ : Loc nD τ sig) → Buf (Elt F) ℓ)

/-! ## What the body starts and ends with -/

/-- The scratch buffers, at some contents. -/
abbrev scr (c : Dev nD) : sProp 𝕄 :=
  iprop(anyW ksM c ∗ anyW vsM c ∗ anyW kb0M c ∗ anyW vb0M c ∗ anyW kb1M c ∗ anyW vb1M c ∗ anyW rsM c ∗ anyW rrM c ∗ anyW agM c ∗ anyW arM c)
/-- The arguments' blocks, as staged. -/
abbrev args (c : Dev nD) : sProp 𝕄 :=
  iprop(own xM c Finset.univ (xb m c) ∗ own wqM c Finset.univ (wqb m c) ∗ own kM c Finset.univ (kb m c) ∗ own vM c Finset.univ (vb m c) ∗ own woM c Finset.univ (wob m c))
/-- The rights to the scatter's and the gather's transfers: to send, to credit the receiver, to receive. -/
abbrev rsTok (c : Dev nD) : sProp 𝕄 := six fun p b => iprop((tok c (.rsS p b) ∗ pos c (.rsS p b)) ∗ tok (fwd c (p.val + 1)) (.rsR p b) ∗ waitTok c (.rsR p b))
abbrev agTok (c : Dev nD) : sProp 𝕄 := six fun p b => iprop((tok c (.agS p b) ∗ pos c (.agS p b)) ∗ tok (fwd c (p.val + 1)) (.agR p b) ∗ waitTok c (.agR p b))
abbrev barTok (c : Dev nD) : sProp 𝕄 :=
  iprop((tok (fwd c 1) .bar 2 ∗ tok (fwd c 2) .bar 1 ∗ tok (fwd c 3) .bar 0) ∗ cred (tallyAt (cell c .bar) () 3) ∗ pos c .bar)
abbrev kvRTok (c : Dev nD) : sProp 𝕄 := iprop(kvRP (F := F) c 0 0 ∗ kvRP (F := F) c 0 1 ∗ kvRP (F := F) c 1 0 ∗ kvRP (F := F) c 1 1)
/-- Everything but the records and the memory. -/
abbrev rights (c : Dev nD) : sProp 𝕄 := iprop(barTok (F := F) c ∗ kvTok (F := F) c ∗ kvRTok (F := F) c ∗ rsTok (F := F) c ∗ agTok (F := F) c)
/-- Every semaphore of the protocol closed, at zero. -/
abbrev doneAll (c : Dev nD) : sProp 𝕄 :=
  iprop(done c .bar ∗ (six fun j t => done c (.kvS j t)) ∗ (done c (.kvR 0 0) ∗ done c (.kvR 0 1) ∗ done c (.kvR 1 0) ∗ done c (.kvR 1 1))
    ∗ (six fun p b => done c (.rsS p b)) ∗ (six fun p b => done c (.rsR p b)) ∗ (six fun p b => done c (.agS p b)) ∗ (six fun p b => done c (.agR p b)))

/-! ## Cutting and joining the slots -/

section
variable {ℓ : Loc nD τ sig} {I : Fin 3 → Fin 2 → Finset (Idx ℓ)} (hI : ∀ p b p' b', (p, b) ≠ (p', b') → Disjoint (I p b) (I p' b'))
include hI
theorem cut6 : (iprop(∃ f : Buf (Elt F) ℓ, ℓ ↦[Finset.univ]{fullShare} f) : sProp 𝕄)
    ⊢ iprop((six fun p b => iprop(∃ f : Buf (Elt F) ℓ, ℓ ↦[I p b]{fullShare} f)) ∗ ∃ f : Buf (Elt F) ℓ, ℓ ↦[left6 I]{fullShare} f) := by
  iintro ⟨%f, H⟩
  ihave H' := (cut3 hI (b := 0) (fun p => Finset.subset_univ _) f) $$ H
  icases H' with ⟨A, B, C, H⟩
  ihave H' := (cut3 hI (b := 1) (sub10 hI) f) $$ H
  icases H' with ⟨A', B', C', H⟩
  isplitr [H]
  · isplitl [A]; · iexists f; iexact A
    isplitl [B]; · iexists f; iexact B
    isplitl [C]; · iexists f; iexact C
    isplitl [A']; · iexists f; iexact A'
    isplitl [B']; · iexists f; iexact B'
    iexists f; iexact C'
  iexists f; iexact H
theorem uncut6 : (iprop((six fun p b => iprop(∃ f : Buf (Elt F) ℓ, ℓ ↦[I p b]{fullShare} f)) ∗ ∃ f : Buf (Elt F) ℓ, ℓ ↦[left6 I]{fullShare} f) : sProp 𝕄)
    ⊢ iprop(∃ f : Buf (Elt F) ℓ, ℓ ↦[Finset.univ]{fullShare} f) := by
  iintro ⟨⟨A, B, C, A', B', C'⟩, H⟩
  iapply (uncut3 hI (b := 0) (fun p => Finset.subset_univ _))
  isplitl [A]; · iexact A
  isplitl [B]; · iexact B
  isplitl [C]; · iexact C
  iapply (uncut3 hI (b := 1) (sub10 hI))
  isplitl [A']; · iexact A'
  isplitl [B']; · iexact B'
  isplitl [C']; · iexact C'
  iexact H
end

theorem rr_cut (c : Dev nD) : anyW (F := F) rrM c ⊢ iprop((six fun p b => anyM (rrSlot p b) c) ∗ ∃ f, own rrM c (left6 (ℓ := rrM.view.loc (c : Thread nD τ)) IR) f) :=
  cut6 (F := F) (ℓ := rrM.view.loc (c : Thread nD τ)) IR_disj
theorem ar_cut (c : Dev nD) : anyW (F := F) arM c ⊢ iprop((six fun p b => anyM (arSlot p b) c) ∗ ∃ f, own arM c (left6 (ℓ := arM.view.loc (c : Thread nD τ)) IA) f) :=
  cut6 (F := F) (ℓ := arM.view.loc (c : Thread nD τ)) IA_disj
theorem rs_join (c : Dev nD) : iprop((six fun p b => pay m c 0 (.rsS p b)) ∗ ∃ f, own rsM c (left6 (ℓ := rsM.view.loc (c : Thread nD τ)) (IS c)) f) ⊢ anyW (F := F) rsM c :=
  uncut6 (F := F) (ℓ := rsM.view.loc (c : Thread nD τ)) (IS_disj c)
theorem rr_join (c : Dev nD) : iprop((six fun p b => own rrM c (IR p b) (RR m c)) ∗ ∃ f, own rrM c (left6 (ℓ := rrM.view.loc (c : Thread nD τ)) IR) f) ⊢ anyW (F := F) rrM c := by
  iintro ⟨⟨A, B, C, A', B', C'⟩, H⟩
  iapply (uncut6 (F := F) (ℓ := rrM.view.loc (c : Thread nD τ)) IR_disj)
  isplitr [H]
  · isplitl [A]; · iexists _; iexact A
    isplitl [B]; · iexists _; iexact B
    isplitl [C]; · iexists _; iexact C
    isplitl [A']; · iexists _; iexact A'
    isplitl [B']; · iexists _; iexact B'
    iexists _; iexact C'
  iexact H
theorem ar_join (c : Dev nD) : iprop((six fun p b => own arM c (IA p b) (AR m c)) ∗ ∃ f, own arM c (left6 (ℓ := arM.view.loc (c : Thread nD τ)) IA) f) ⊢ anyW (F := F) arM c := by
  iintro ⟨⟨A, B, C, A', B', C'⟩, H⟩
  iapply (uncut6 (F := F) (ℓ := arM.view.loc (c : Thread nD τ)) IA_disj)
  isplitr [H]
  · isplitl [A]; · iexists _; iexact A
    isplitl [B]; · iexists _; iexact B
    isplitl [C]; · iexists _; iexact C
    isplitl [A']; · iexists _; iexact A'
    isplitl [B']; · iexists _; iexact B'
    iexists _; iexact C'
  iexact H

/-- Half `b` of the gather staging, as a view and as a share. -/
abbrev agHold (c : Dev nD) (b : Fin 2) (q : PosShare TreeShare) : sProp 𝕄 := iprop((agSrc b).view.loc (c : Thread nD τ) ↦[(agSrc b).view.set]{q} AG m c)
theorem ag_thirds (c : Dev nD) (b : Fin 2) :
    agHold m c b fullShare ⊣⊢ iprop(agHold m c b (Ring.shares3 fullShare 0) ∗ agHold m c b (Ring.shares3 fullShare 1) ∗ agHold m c b (Ring.shares3 fullShare 2)) := Ring.pointsTo_thirds _ _
theorem ag_take0 (c : Dev nD) (f : Buf (Elt F) (agM.view.loc (c : Thread nD τ))) :
    own agM c Finset.univ ((agM.access (agHalf 0)).write (Elt F) f (P113 m c) Finset.univ)
      ⊢ iprop((agHold m c 0 (Ring.shares3 fullShare 0) ∗ agHold m c 0 (Ring.shares3 fullShare 1) ∗ agHold m c 0 (Ring.shares3 fullShare 2)) ∗ ∃ f, own agM c (Finset.univ \ IG 0) f) := by
  iintro H
  ihave H' := (cut (F := F) (ℓ := agM.view.loc (c : Thread nD τ)) (Finset.subset_univ (IG 0)) _) $$ H
  icases H' with ⟨A, H⟩
  isplitl [A]
  · iapply (ag_thirds m c 0).1
    iapply (Entails.of_eq (pointsTo_congr (ℓ := agM.view.loc (c : Thread nD τ)) (I := IG 0) (q := fullShare) fun i hi => store_AG m c f 0 (P113 m c) (if_pos rfl).symm hi))
    iexact A
  iexists _; iexact H
theorem ag_take1 (c : Dev nD) (f : Buf (Elt F) (agM.view.loc (c : Thread nD τ))) :
    own agM c (Finset.univ \ IG 0) ((agM.access (agHalf 1)).write (Elt F) f (P117 m c) Finset.univ)
      ⊢ iprop((agHold m c 1 (Ring.shares3 fullShare 0) ∗ agHold m c 1 (Ring.shares3 fullShare 1) ∗ agHold m c 1 (Ring.shares3 fullShare 2)) ∗ ∃ f, own agM c ((Finset.univ \ IG 0) \ IG 1) f) := by
  iintro H
  ihave H' := (cut (F := F) (ℓ := agM.view.loc (c : Thread nD τ)) (sub_sdiff (Finset.subset_univ (IG 1)) (IG_disj (by decide))) _) $$ H
  icases H' with ⟨A, H⟩
  isplitl [A]
  · iapply (ag_thirds m c 1).1
    iapply (Entails.of_eq (pointsTo_congr (ℓ := agM.view.loc (c : Thread nD τ)) (I := IG 1) (q := fullShare) fun i hi => store_AG m c f 1 (P117 m c) (if_neg (by decide)).symm hi))
    iexact A
  iexists _; iexact H
theorem ag_join (c : Dev nD) : iprop((six fun p b => pay m c 0 (.agS p b)) ∗ ∃ f, own agM c ((Finset.univ \ IG 0) \ IG 1) f) ⊢ anyW (F := F) agM c := by
  iintro ⟨⟨A, B, C, A', B', C'⟩, H⟩
  ihave A := (Entails.of_eq (show pay m c 0 (.agS 0 0) = agHold m c 0 (Ring.shares3 fullShare 0) from rfl)) $$ A
  ihave B := (Entails.of_eq (show pay m c 0 (.agS 1 0) = agHold m c 0 (Ring.shares3 fullShare 1) from rfl)) $$ B
  ihave C := (Entails.of_eq (show pay m c 0 (.agS 2 0) = agHold m c 0 (Ring.shares3 fullShare 2) from rfl)) $$ C
  ihave A' := (Entails.of_eq (show pay m c 0 (.agS 0 1) = agHold m c 1 (Ring.shares3 fullShare 0) from rfl)) $$ A'
  ihave B' := (Entails.of_eq (show pay m c 0 (.agS 1 1) = agHold m c 1 (Ring.shares3 fullShare 1) from rfl)) $$ B'
  ihave C' := (Entails.of_eq (show pay m c 0 (.agS 2 1) = agHold m c 1 (Ring.shares3 fullShare 2) from rfl)) $$ C'
  iapply (uncut (F := F) (ℓ := agM.view.loc (c : Thread nD τ)) (Finset.subset_univ (IG 0)))
  isplitl [A B C]
  · iexists (AG m c)
    iapply (show _ ⊢ own agM c (IG 0) (AG m c) from (ag_thirds m c 0).2)
    isplitl [A]; · iexact A
    isplitl [B]; · iexact B
    iexact C
  iapply (uncut (F := F) (ℓ := agM.view.loc (c : Thread nD τ)) (sub_sdiff (Finset.subset_univ (IG 1)) (IG_disj (by decide))))
  isplitl [A' B' C']
  · iexists (AG m c)
    iapply (show _ ⊢ own agM c (IG 1) (AG m c) from (ag_thirds m c 1).2)
    isplitl [A']; · iexact A'
    isplitl [B']; · iexact B'
    iexact C'
  iexact H

/-- What device `c` hands the device it signals, `3 - d` places on. -/
theorem barGive (c : Dev nD) (d : Fin 3) :
    iprop((anyM (rrSlot d 0) c ∗ anyM (rrSlot d 1) c ∗ anyM (arSlot d 0) c ∗ anyM (arSlot d 1) c) ∗ kvHand (F := F) (fwd c (3 - d.val)) c)
      ⊢ barPay (F := F) (fwd c (3 - d.val)) d := by
  unfold barPay; rw [fwd_fwd]
theorem any_kb0M (c : Dev nD) : anyW (F := F) kb0M c = anyM kb0M c := by unfold anyW anyM; rw [show kb0M.view.set = Finset.univ from View.set_whole _]
theorem any_vb0M (c : Dev nD) : anyW (F := F) vb0M c = anyM vb0M c := by unfold anyW anyM; rw [show vb0M.view.set = Finset.univ from View.set_whole _]
theorem any_kb1M (c : Dev nD) : anyW (F := F) kb1M c = anyM kb1M c := by unfold anyW anyM; rw [show kb1M.view.set = Finset.univ from View.set_whole _]
theorem any_vb1M (c : Dev nD) : anyW (F := F) vb1M c = anyM vb1M c := by unfold anyW anyM; rw [show vb1M.view.set = Finset.univ from View.set_whole _]

theorem lv12 (c : Dev nD) : ∀ x ∈ (((fwd c 1, .rsR 0 0) :: (fwd c 2, .rsR 1 0) :: (fwd c 3, .rsR 2 0) :: (fwd c 1, .rsR 0 1) :: (fwd c 2, .rsR 1 1) :: (fwd c 3, .rsR 2 1) :: (fwd c 1, .agR 0 0) :: (fwd c 2, .agR 1 0) :: (fwd c 3, .agR 2 0) :: (fwd c 1, .agR 0 1) :: (fwd c 2, .agR 1 1) :: (fwd c 3, .agR 2 1) :: []) : List (Dev nD × Kind)), 2 < lvK x.2 := by revert c; decide +kernel
theorem lv6 (c : Dev nD) : ∀ x ∈ (((fwd c 1, .agR 0 0) :: (fwd c 2, .agR 1 0) :: (fwd c 3, .agR 2 0) :: (fwd c 1, .agR 0 1) :: (fwd c 2, .agR 1 1) :: (fwd c 3, .agR 2 1) :: []) : List (Dev nD × Kind)), 3 < lvK x.2 := by revert c; decide +kernel
theorem lv3 (c : Dev nD) : ∀ x ∈ (((fwd c 1, .agR 0 1) :: (fwd c 2, .agR 1 1) :: (fwd c 3, .agR 2 1) :: []) : List (Dev nD × Kind)), 3 < lvK x.2 := by revert c; decide +kernel

/-! ## The body -/

set_option maxHeartbeats 4000000 in
/-- The body on device `c`, from its rights, its arguments and its scratch, to the result and everything else back. -/
theorem body (K : Dev nD × Kind → ℕ) (c : Dev nD) {Q : PUnit → sProp 𝕄} :
    iprop(env m K ∗ owesL c (L0 c) ∗ rights (F := F) c ∗ args m c ∗ anyW oM c ∗ scr (F := F) c)
      ⊢ iprop(((owesL c [] ∗ doneAll (F := F) c ∗ args m c ∗ own oM c Finset.univ (O9 m c) ∗ scr (F := F) c) -∗ Q PUnit.unit)
        -∗ WP c (cc0_body xM (Memref.isWhole_whole _) wqM (Memref.isWhole_whole _) kM (Memref.isWhole_whole _) vM (Memref.isWhole_whole _) woM (Memref.isWhole_whole _) oM (Memref.isWhole_whole _) ksM (Memref.isWhole_whole _) vsM (Memref.isWhole_whole _) kb0M (Memref.isWhole_whole _) vb0M (Memref.isWhole_whole _) kb1M (Memref.isWhole_whole _) vb1M (Memref.isWhole_whole _) rsM (Memref.isWhole_whole _) rrM (Memref.isWhole_whole _) agM (Memref.isWhole_whole _) arM (Memref.isWhole_whole _) cc0_scratch10 cc0_scratch11 cc0_scratch12 cc0_scratch13 cc0_scratch14 cc0_scratch15) Q) := by
  rw [cc0_body_eq_skeleton]; unfold cc0_body_skel
  iintro ⟨#He, HO, ⟨⟨⟨T1, T2, T3⟩, Wb⟩, HT, ⟨E00, E01, E10, E11⟩, Hrs, Hag⟩, ⟨Hx, Hq, HK, HV, Hw⟩, ⟨%g, Ho⟩, ⟨Sk, Sv, K0, V0, K1, V1, ⟨%f, Hs⟩, Hrr, ⟨%fa, Ha⟩, Har⟩⟩ Hk
  icases Hrs with ⟨⟨Trs00, Urs00, WrsR00⟩, ⟨Trs10, Urs10, WrsR10⟩, ⟨Trs20, Urs20, WrsR20⟩, ⟨Trs01, Urs01, WrsR01⟩, ⟨Trs11, Urs11, WrsR11⟩, ⟨Trs21, Urs21, WrsR21⟩⟩
  icases Hag with ⟨⟨Tag00, Uag00, WagR00⟩, ⟨Tag10, Uag10, WagR10⟩, ⟨Tag20, Uag20, WagR20⟩, ⟨Tag01, Uag01, WagR01⟩, ⟨Tag11, Uag11, WagR11⟩, ⟨Tag21, Uag21, WagR21⟩⟩
  ihave Hrr := (rr_cut c) $$ Hrr
  icases Hrr with ⟨⟨R00, R10, R20, R01, R11, R21⟩, Hrr⟩
  ihave Har := (ar_cut c) $$ Har
  icases Har with ⟨⟨A00, A10, A20, A01, A11, A21⟩, Har⟩
  ihave Hh := (hand_split (F := F) c) $$ [K0 V0 K1 V1]
  · isplitl [K0]; · iapply (Entails.of_eq (any_kb0M c)); iexact K0
    isplitl [V0]; · iapply (Entails.of_eq (any_vb0M c)); iexact V0
    isplitl [K1]; · iapply (Entails.of_eq (any_kb1M c)); iexact K1
    iapply (Entails.of_eq (any_vb1M c)); iexact V1
  icases Hh with ⟨h1, h2, h3, Hh⟩
  ihave P3 := (barGive (F := F) c 0) $$ [R00 R01 A00 A01 h3]
  · isplitl [R00 R01 A00 A01]
    · isplitl [R00]; · iexact R00
      isplitl [R01]; · iexact R01
      isplitl [A00]; · iexact A00
      iexact A01
    iexact h3
  ihave P2 := (barGive (F := F) c 1) $$ [R10 R11 A10 A11 h2]
  · isplitl [R10 R11 A10 A11]
    · isplitl [R10]; · iexact R10
      isplitl [R11]; · iexact R11
      isplitl [A10]; · iexact A10
      iexact A11
    iexact h2
  ihave P1 := (barGive (F := F) c 2) $$ [R20 R21 A20 A21 h1]
  · isplitl [R20 R21 A20 A21]
    · isplitl [R20]; · iexact R20
      isplitl [R21]; · iexact R21
      isplitl [A20]; · iexact A20
      iexact A21
    iexact h1
  ihave HO := (Entails.of_eq (show owesL (F := F) c (L0 c) = owesL c ((fwd c 1, .bar) :: (fwd c 2, .bar) :: (fwd c 3, .bar) :: (kvL c ++ L2 c)) from rfl)) $$ HO
  rw [WP_bind]
  iapply (part9 m K c ((fwd c 3, .bar) :: (kvL c ++ L2 c))) $$ [HO T1 P1 T2 P2]
  · isplitr; · iexact He
    isplitl [HO]; · iexact HO
    isplitl [T1]; · iexact T1
    isplitl [P1]; · iexact P1
    isplitl [T2]; · iexact T2
    iexact P2
  iintro %w9_0 %w9_1 HO
  try dsimp only
  rw [WP_bind]
  iapply (part10 m K c _ _ _ ) $$ [HO T3 P3 Wb Hh HK HV Hq Hw Hx HT E00 E01 E10 E11 Sk Sv]
  · isplitr; · iexact He
    isplitl [HO]; · iexact HO
    isplitl [T3]; · iexact T3
    isplitl [P3]; · iexact P3
    isplitl [Wb]; · iexact Wb
    isplitl [Hh]; · iexact Hh
    isplitl [HK]; · iexact HK
    isplitl [HV]; · iexact HV
    isplitl [Hq]; · iexact Hq
    isplitl [Hw]; · iexact Hw
    isplitl [Hx]; · iexact Hx
    isplitl [HT]; · iexact HT
    isplitl [E00]; · iexact E00
    isplitl [E01]; · iexact E01
    isplitl [E10]; · iexact E10
    isplitl [E11]; · iexact E11
    isplitl [Sk]; · iexact Sk
    iexact Sv
  iintro ⟨Db, HO, Z0, Z1, Z2, HK, HV, Hq, Hw, Hx, E00, E01, E10, E11, Hv⟩
  try dsimp only
  ihave HO := (Entails.of_eq (show owesL (F := F) c (L2 c) = owesL c ((fwd c 1, .rsR 0 0) :: (fwd c 2, .rsR 1 0) :: (fwd c 3, .rsR 2 0) :: (fwd c 1, .rsR 0 1) :: (fwd c 2, .rsR 1 1) :: (fwd c 3, .rsR 2 1) :: (fwd c 1, .agR 0 0) :: (fwd c 2, .agR 1 0) :: (fwd c 3, .agR 2 0) :: (fwd c 1, .agR 0 1) :: (fwd c 2, .agR 1 1) :: (fwd c 3, .agR 2 1) :: []) from rfl)) $$ HO
  icases Z0 with ⟨⟨%fr00, Lrs00⟩, ⟨%fr01, Lrs01⟩, ⟨%fa00, Lag00⟩, ⟨%fa01, Lag01⟩⟩
  icases Z1 with ⟨⟨%fr10, Lrs10⟩, ⟨%fr11, Lrs11⟩, ⟨%fa10, Lag10⟩, ⟨%fa11, Lag11⟩⟩
  icases Z2 with ⟨⟨%fr20, Lrs20⟩, ⟨%fr21, Lrs21⟩, ⟨%fa20, Lag20⟩, ⟨%fa21, Lag21⟩⟩
  rw [WP_bind]
  iapply (part11 m K c ((fwd c 1, .rsR 0 0) :: (fwd c 2, .rsR 1 0) :: (fwd c 3, .rsR 2 0) :: (fwd c 1, .rsR 0 1) :: (fwd c 2, .rsR 1 1) :: (fwd c 3, .rsR 2 1) :: (fwd c 1, .agR 0 0) :: (fwd c 2, .agR 1 0) :: (fwd c 3, .agR 2 0) :: (fwd c 1, .agR 0 1) :: (fwd c 2, .agR 1 1) :: (fwd c 3, .agR 2 1) :: []) (lv12 c)) $$ [E00 HO]
  · isplitr; · iexact He
    isplitl [E00]; · iexact E00
    iexact HO
  iintro ⟨Dv00, HO, K0⟩
  try dsimp only
  rw [WP_bind]
  iapply (part12 m K c ) $$ [K0]
  · iexact K0
  iintro K0
  try dsimp only
  rw [WP_bind]
  iapply (part13 m K c ((fwd c 1, .rsR 0 0) :: (fwd c 2, .rsR 1 0) :: (fwd c 3, .rsR 2 0) :: (fwd c 1, .rsR 0 1) :: (fwd c 2, .rsR 1 1) :: (fwd c 3, .rsR 2 1) :: (fwd c 1, .agR 0 0) :: (fwd c 2, .agR 1 0) :: (fwd c 3, .agR 2 0) :: (fwd c 1, .agR 0 1) :: (fwd c 2, .agR 1 1) :: (fwd c 3, .agR 2 1) :: []) (lv12 c)) $$ [E10 HO]
  · isplitr; · iexact He
    isplitl [E10]; · iexact E10
    iexact HO
  iintro ⟨Dv10, HO, K1⟩
  try dsimp only
  rw [WP_bind]
  iapply (part14 m K c ((fwd c 1, .rsR 0 0) :: (fwd c 2, .rsR 1 0) :: (fwd c 3, .rsR 2 0) :: (fwd c 1, .rsR 0 1) :: (fwd c 2, .rsR 1 1) :: (fwd c 3, .rsR 2 1) :: (fwd c 1, .agR 0 0) :: (fwd c 2, .agR 1 0) :: (fwd c 3, .agR 2 0) :: (fwd c 1, .agR 0 1) :: (fwd c 2, .agR 1 1) :: (fwd c 3, .agR 2 1) :: []) (lv12 c)) $$ [K1 E01 HO]
  · isplitr; · iexact He
    isplitl [K1]; · iexact K1
    isplitl [E01]; · iexact E01
    iexact HO
  iintro ⟨K1, Dv01, HO, V0⟩
  try dsimp only
  rw [WP_bind]
  iapply (part15 m K c ((fwd c 1, .rsR 0 0) :: (fwd c 2, .rsR 1 0) :: (fwd c 3, .rsR 2 0) :: (fwd c 1, .rsR 0 1) :: (fwd c 2, .rsR 1 1) :: (fwd c 3, .rsR 2 1) :: (fwd c 1, .agR 0 0) :: (fwd c 2, .agR 1 0) :: (fwd c 3, .agR 2 0) :: (fwd c 1, .agR 0 1) :: (fwd c 2, .agR 1 1) :: (fwd c 3, .agR 2 1) :: []) (lv12 c)) $$ [V0 E11 HO]
  · isplitr; · iexact He
    isplitl [V0]; · iexact V0
    isplitl [E11]; · iexact E11
    iexact HO
  iintro ⟨V0, Dv11, HO, V1⟩
  try dsimp only
  rw [WP_bind]
  iapply (part16 m K c f g) $$ [Hs Ho]
  · isplitl [Hs]; · iexact Hs
    iexact Ho
  iintro %w16_0 %w16_1 %w16_2 %w16_3 %w16_4 ⟨Hs, Ho⟩
  try dsimp only
  ihave Hs := (cut3 (F := F) (ℓ := rsM.view.loc (c : Thread nD τ)) (IS_disj c) (b := 0) (fun p => Finset.subset_univ _) _) $$ Hs
  icases Hs with ⟨S00, S10, S20, Hs⟩
  rw [WP_bind]
  iapply (part17 m K c _ _ _ _ _ _ ((fwd c 2, .rsR 1 0) :: (fwd c 3, .rsR 2 0) :: (fwd c 1, .rsR 0 1) :: (fwd c 2, .rsR 1 1) :: (fwd c 3, .rsR 2 1) :: (fwd c 1, .agR 0 0) :: (fwd c 2, .agR 1 0) :: (fwd c 3, .agR 2 0) :: (fwd c 1, .agR 0 1) :: (fwd c 2, .agR 1 1) :: (fwd c 3, .agR 2 1) :: []) f fr00) $$ [S00 Lrs00 Trs00 Urs00 HO]
  · isplitr; · iexact He
    isplitl [S00]; · iexact S00
    isplitl [Lrs00]; · iexact Lrs00
    isplitl [Trs00]; · iexact Trs00
    isplitl [Urs00]; · iexact Urs00
    iexact HO
  iintro %w17_0 %w17_1 %w17_2 ⟨WrsS00, HO⟩
  try dsimp only
  rw [WP_bind]
  iapply (part18 m K c _ _ _ ((fwd c 1, .rsR 0 1) :: (fwd c 2, .rsR 1 1) :: (fwd c 3, .rsR 2 1) :: (fwd c 1, .agR 0 0) :: (fwd c 2, .agR 1 0) :: (fwd c 3, .agR 2 0) :: (fwd c 1, .agR 0 1) :: (fwd c 2, .agR 1 1) :: (fwd c 3, .agR 2 1) :: []) f fr10 fr20) $$ [S10 Lrs10 Trs10 Urs10 S20 Lrs20 Trs20 Urs20 HO V1]
  · isplitr; · iexact He
    isplitl [S10]; · iexact S10
    isplitl [Lrs10]; · iexact Lrs10
    isplitl [Trs10]; · iexact Trs10
    isplitl [Urs10]; · iexact Urs10
    isplitl [S20]; · iexact S20
    isplitl [Lrs20]; · iexact Lrs20
    isplitl [Trs20]; · iexact Trs20
    isplitl [Urs20]; · iexact Urs20
    isplitl [HO]; · iexact HO
    iexact V1
  iintro ⟨WrsS10, WrsS20, HO, V1⟩
  try dsimp only
  rw [WP_bind]
  iapply (part19 m K c _ _) $$ [Hs Ho]
  · isplitl [Hs]; · iexact Hs
    iexact Ho
  iintro %w19_0 %w19_1 %w19_2 %w19_3 ⟨Hs, Ho⟩
  try dsimp only
  ihave Ho := (Entails.of_eq (congrArg (own oM c Finset.univ) (store_O1 m c g))) $$ Ho
  ihave Hs := (cut3 (F := F) (ℓ := rsM.view.loc (c : Thread nD τ)) (IS_disj c) (b := 1) (sub10 (IS_disj c)) _) $$ Hs
  icases Hs with ⟨S01, S11, S21, Hs⟩
  rw [WP_bind]
  iapply (part20 m K c _ _ _ _ ((fwd c 2, .rsR 1 1) :: (fwd c 3, .rsR 2 1) :: (fwd c 1, .agR 0 0) :: (fwd c 2, .agR 1 0) :: (fwd c 3, .agR 2 0) :: (fwd c 1, .agR 0 1) :: (fwd c 2, .agR 1 1) :: (fwd c 3, .agR 2 1) :: []) _ fr01) $$ [S01 Lrs01 Trs01 Urs01 HO]
  · isplitr; · iexact He
    isplitl [S01]; · iexact S01
    isplitl [Lrs01]; · iexact Lrs01
    isplitl [Trs01]; · iexact Trs01
    isplitl [Urs01]; · iexact Urs01
    iexact HO
  iintro %w20_0 %w20_1 ⟨WrsS01, HO⟩
  try dsimp only
  rw [WP_bind]
  iapply (part21 m K c _ _ ((fwd c 1, .agR 0 0) :: (fwd c 2, .agR 1 0) :: (fwd c 3, .agR 2 0) :: (fwd c 1, .agR 0 1) :: (fwd c 2, .agR 1 1) :: (fwd c 3, .agR 2 1) :: []) (lv6 c) _ fr11 fr21) $$ [S11 Lrs11 Trs11 Urs11 S21 Lrs21 Trs21 Urs21 HO Hv]
  · isplitr; · iexact He
    isplitl [S11]; · iexact S11
    isplitl [Lrs11]; · iexact Lrs11
    isplitl [Trs11]; · iexact Trs11
    isplitl [Urs11]; · iexact Urs11
    isplitl [S21]; · iexact S21
    isplitl [Lrs21]; · iexact Lrs21
    isplitl [Trs21]; · iexact Trs21
    isplitl [Urs21]; · iexact Urs21
    isplitl [HO]; · iexact HO
    iexact Hv
  iintro ⟨WrsS11, WrsS21, HO, Hv⟩
  try dsimp only
  rw [WP_bind]
  iapply (part22 m K c _ _ ((fwd c 1, .agR 0 0) :: (fwd c 2, .agR 1 0) :: (fwd c 3, .agR 2 0) :: (fwd c 1, .agR 0 1) :: (fwd c 2, .agR 1 1) :: (fwd c 3, .agR 2 1) :: []) (lv6 c)) $$ [WrsR00 WrsR10 WrsR20 Ho HO]
  · isplitr; · iexact He
    isplitl [WrsR00]; · iexact WrsR00
    isplitl [WrsR10]; · iexact WrsR10
    isplitl [WrsR20]; · iexact WrsR20
    isplitl [Ho]; · iexact Ho
    iexact HO
  iintro ⟨DrsR00, DrsR10, DrsR20, R00, R10, R20, Ho, HO⟩
  try dsimp only
  rw [WP_bind]
  iapply (part23 m K c fa) $$ [R10 R20 Ho Ha]
  · isplitl [R10]; · iexact R10
    isplitl [R20]; · iexact R20
    isplitl [Ho]; · iexact Ho
    iexact Ha
  iintro %w23_0 ⟨R10, R20, Ho, Ha⟩
  try dsimp only
  ihave Ha := (ag_take0 m c fa) $$ Ha
  icases Ha with ⟨⟨G00, G10, G20⟩, ⟨%fb, Ha⟩⟩
  rw [WP_bind]
  iapply (part24 m K c _ ((fwd c 3, .agR 2 0) :: (fwd c 1, .agR 0 1) :: (fwd c 2, .agR 1 1) :: (fwd c 3, .agR 2 1) :: []) fa00 fa10) $$ [G00 Lag00 Tag00 Uag00 G10 Lag10 Tag10 Uag10 HO]
  · isplitr; · iexact He
    isplitl [G00]; · iexact G00
    isplitl [Lag00]; · iexact Lag00
    isplitl [Tag00]; · iexact Tag00
    isplitl [Uag00]; · iexact Uag00
    isplitl [G10]; · iexact G10
    isplitl [Lag10]; · iexact Lag10
    isplitl [Tag10]; · iexact Tag10
    isplitl [Uag10]; · iexact Uag10
    iexact HO
  iintro %w24_0 ⟨WagS00, WagS10, HO⟩
  try dsimp only
  rw [WP_bind]
  iapply (part25 m K c _ ((fwd c 1, .agR 0 1) :: (fwd c 2, .agR 1 1) :: (fwd c 3, .agR 2 1) :: []) fa20) $$ [G20 Lag20 Tag20 Uag20 HO]
  · isplitr; · iexact He
    isplitl [G20]; · iexact G20
    isplitl [Lag20]; · iexact Lag20
    isplitl [Tag20]; · iexact Tag20
    isplitl [Uag20]; · iexact Uag20
    iexact HO
  iintro %w25_0 ⟨WagS20, HO⟩
  try dsimp only
  rw [WP_bind]
  iapply (part26 m K c _ _ ((fwd c 1, .agR 0 1) :: (fwd c 2, .agR 1 1) :: (fwd c 3, .agR 2 1) :: []) (lv3 c)) $$ [WrsR01 WrsR11 WrsR21 Ho HO]
  · isplitr; · iexact He
    isplitl [WrsR01]; · iexact WrsR01
    isplitl [WrsR11]; · iexact WrsR11
    isplitl [WrsR21]; · iexact WrsR21
    isplitl [Ho]; · iexact Ho
    iexact HO
  iintro ⟨DrsR01, DrsR11, DrsR21, R01, R11, R21, Ho, HO⟩
  try dsimp only
  rw [WP_bind]
  iapply (part27 m K c fb) $$ [R11 R21 Ho Ha]
  · isplitl [R11]; · iexact R11
    isplitl [R21]; · iexact R21
    isplitl [Ho]; · iexact Ho
    iexact Ha
  iintro %w27_0 %w27_1 ⟨R11, R21, Ho, Ha⟩
  try dsimp only
  ihave Ha := (ag_take1 m c fb) $$ Ha
  icases Ha with ⟨⟨G01, G11, G21⟩, Ha⟩
  rw [WP_bind]
  iapply (part28 m K c _ ((fwd c 3, .agR 2 1) :: []) fa01 fa11) $$ [G01 Lag01 Tag01 Uag01 G11 Lag11 Tag11 Uag11 HO]
  · isplitr; · iexact He
    isplitl [G01]; · iexact G01
    isplitl [Lag01]; · iexact Lag01
    isplitl [Tag01]; · iexact Tag01
    isplitl [Uag01]; · iexact Uag01
    isplitl [G11]; · iexact G11
    isplitl [Lag11]; · iexact Lag11
    isplitl [Tag11]; · iexact Tag11
    isplitl [Uag11]; · iexact Uag11
    iexact HO
  iintro %w28_0 %w28_1 ⟨WagS01, WagS11, HO⟩
  try dsimp only
  rw [WP_bind]
  iapply (part29 m K c _ _ _ [] fa21) $$ [G21 Lag21 Tag21 Uag21 HO]
  · isplitr; · iexact He
    isplitl [G21]; · iexact G21
    isplitl [Lag21]; · iexact Lag21
    isplitl [Tag21]; · iexact Tag21
    isplitl [Uag21]; · iexact Uag21
    iexact HO
  iintro %w29_0 ⟨WagS21, HO⟩
  try dsimp only
  rw [WP_bind]
  iapply (part30 m K c _ _ _ ) $$ [WagR00 WagR10 WagR20 HO]
  · isplitr; · iexact He
    isplitl [WagR00]; · iexact WagR00
    isplitl [WagR10]; · iexact WagR10
    isplitl [WagR20]; · iexact WagR20
    iexact HO
  iintro ⟨DagR00, DagR10, DagR20, A00, A10, A20, HO⟩
  try dsimp only
  rw [WP_bind]
  iapply (part31 m K c _ _ ) $$ [WagR01 WagR11 WagR21 HO]
  · isplitr; · iexact He
    isplitl [WagR01]; · iexact WagR01
    isplitl [WagR11]; · iexact WagR11
    isplitl [WagR21]; · iexact WagR21
    iexact HO
  iintro %w31_0 %w31_1 ⟨DagR01, DagR11, DagR21, A01, A11, A21, HO⟩
  try dsimp only
  rw [WP_bind]
  iapply (part32 m K c _ _ _ ) $$ [A00 A01 Ho]
  · isplitl [A00]; · iexact A00
    isplitl [A01]; · iexact A01
    iexact Ho
  iintro %w32_0 ⟨A00, A01, Ho⟩
  try dsimp only
  rw [WP_bind]
  iapply (part33 m K c _ ) $$ [A10 A11 A20 Ho]
  · isplitl [A10]; · iexact A10
    isplitl [A11]; · iexact A11
    isplitl [A20]; · iexact A20
    iexact Ho
  iintro %w33_0 ⟨A10, A11, A20, Ho⟩
  try dsimp only
  rw [WP_bind]
  iapply (part34 m K c _ ) $$ [A21 Ho HO WrsS00 WrsS10]
  · isplitr; · iexact He
    isplitl [A21]; · iexact A21
    isplitl [Ho]; · iexact Ho
    isplitl [HO]; · iexact HO
    isplitl [WrsS00]; · iexact WrsS00
    iexact WrsS10
  iintro ⟨A21, Ho, HO, DrsS00, DrsS10, S00, S10⟩
  try dsimp only
  rw [WP_bind]
  iapply (part35 m K c ) $$ [HO WrsS20 WrsS01 WrsS11]
  · isplitr; · iexact He
    isplitl [HO]; · iexact HO
    isplitl [WrsS20]; · iexact WrsS20
    isplitl [WrsS01]; · iexact WrsS01
    iexact WrsS11
  iintro ⟨HO, DrsS20, DrsS01, DrsS11, S20, S01, S11⟩
  try dsimp only
  rw [WP_bind]
  iapply (part36 m K c ) $$ [HO WrsS21 WagS00 WagS10]
  · isplitr; · iexact He
    isplitl [HO]; · iexact HO
    isplitl [WrsS21]; · iexact WrsS21
    isplitl [WagS00]; · iexact WagS00
    iexact WagS10
  iintro ⟨HO, DrsS21, DagS00, DagS10, S21, G00, G10⟩
  try dsimp only
  rw [WP_bind]
  iapply (part37 m K c ) $$ [HO WagS20 WagS01 WagS11]
  · isplitr; · iexact He
    isplitl [HO]; · iexact HO
    isplitl [WagS20]; · iexact WagS20
    isplitl [WagS01]; · iexact WagS01
    iexact WagS11
  iintro ⟨HO, DagS20, DagS01, DagS11, G20, G01, G11⟩
  try dsimp only
  simp only [Prog.lift, Prog.bind_op, Prog.bind_ret, Prog.pure_eq_ret]
  iapply (wait m K c (.agS 2 1) (dst := agSrc 1) rfl [] rfl rfl (fun _ h => absurd h List.not_mem_nil)) $$ [WagS21 HO]
  · isplitr; · iexact He
    isplitl [WagS21]; · iexact WagS21
    iexact HO
  iintro ⟨DagS21, HO, G21⟩
  rw [WP_ret]
  imodintro
  unfold kvIn
  icases Hv with ⟨Dkv, Sk, Sv⟩
  iapply Hk
  isplitl [HO]; · iexact HO
  isplitl [Db Dkv Dv00 Dv01 Dv10 Dv11 DrsS00 DrsS10 DrsS20 DrsS01 DrsS11 DrsS21 DrsR00 DrsR10 DrsR20 DrsR01 DrsR11 DrsR21 DagS00 DagS10 DagS20 DagS01 DagS11 DagS21 DagR00 DagR10 DagR20 DagR01 DagR11 DagR21]
  · isplitl [Db]; · iexact Db
    isplitl [Dkv]; · iexact Dkv
    isplitl [Dv00 Dv01 Dv10 Dv11]
    · isplitl [Dv00]; · iexact Dv00
      isplitl [Dv01]; · iexact Dv01
      isplitl [Dv10]; · iexact Dv10
      iexact Dv11
    isplitl [DrsS00 DrsS10 DrsS20 DrsS01 DrsS11 DrsS21]
    · isplitl [DrsS00]; · iexact DrsS00
      isplitl [DrsS10]; · iexact DrsS10
      isplitl [DrsS20]; · iexact DrsS20
      isplitl [DrsS01]; · iexact DrsS01
      isplitl [DrsS11]; · iexact DrsS11
      iexact DrsS21
    isplitl [DrsR00 DrsR10 DrsR20 DrsR01 DrsR11 DrsR21]
    · isplitl [DrsR00]; · iexact DrsR00
      isplitl [DrsR10]; · iexact DrsR10
      isplitl [DrsR20]; · iexact DrsR20
      isplitl [DrsR01]; · iexact DrsR01
      isplitl [DrsR11]; · iexact DrsR11
      iexact DrsR21
    isplitl [DagS00 DagS10 DagS20 DagS01 DagS11 DagS21]
    · isplitl [DagS00]; · iexact DagS00
      isplitl [DagS10]; · iexact DagS10
      isplitl [DagS20]; · iexact DagS20
      isplitl [DagS01]; · iexact DagS01
      isplitl [DagS11]; · iexact DagS11
      iexact DagS21
    isplitl [DagR00]; · iexact DagR00
    isplitl [DagR10]; · iexact DagR10
    isplitl [DagR20]; · iexact DagR20
    isplitl [DagR01]; · iexact DagR01
    isplitl [DagR11]; · iexact DagR11
    iexact DagR21
  isplitl [Hx Hq HK HV Hw]
  · isplitl [Hx]; · iexact Hx
    isplitl [Hq]; · iexact Hq
    isplitl [HK]; · iexact HK
    isplitl [HV]; · iexact HV
    iexact Hw
  isplitl [Ho]; · iexact Ho
  isplitl [Sk]; · iexact Sk
  isplitl [Sv]; · iexact Sv
  isplitl [K0]; · iapply (Entails.of_eq (any_kb0M c).symm); iexists _; iexact K0
  isplitl [V0]; · iapply (Entails.of_eq (any_vb0M c).symm); iexists _; iexact V0
  isplitl [K1]; · iapply (Entails.of_eq (any_kb1M c).symm); iexists _; iexact K1
  isplitl [V1]; · iapply (Entails.of_eq (any_vb1M c).symm); iexists _; iexact V1
  isplitl [S00 S10 S20 S01 S11 S21 Hs]
  · iapply (rs_join m c)
    isplitr [Hs]
    · isplitl [S00]; · iexact S00
      isplitl [S10]; · iexact S10
      isplitl [S20]; · iexact S20
      isplitl [S01]; · iexact S01
      isplitl [S11]; · iexact S11
      iexact S21
    iexists _; iexact Hs
  isplitl [R00 R10 R20 R01 R11 R21 Hrr]
  · iapply (rr_join m c)
    isplitr [Hrr]
    · isplitl [R00]; · iexact R00
      isplitl [R10]; · iexact R10
      isplitl [R20]; · iexact R20
      isplitl [R01]; · iexact R01
      isplitl [R11]; · iexact R11
      iexact R21
    iexact Hrr
  isplitl [G00 G10 G20 G01 G11 G21 Ha]
  · iapply (ag_join m c)
    isplitr [Ha]
    · isplitl [G00]; · iexact G00
      isplitl [G10]; · iexact G10
      isplitl [G20]; · iexact G20
      isplitl [G01]; · iexact G01
      isplitl [G11]; · iexact G11
      iexact G21
    iexact Ha
  iapply (ar_join m c)
  isplitr [Har]
  · isplitl [A00]; · iexact A00
    isplitl [A10]; · iexact A10
    isplitl [A20]; · iexact A20
    isplitl [A01]; · iexact A01
    isplitl [A11]; · iexact A11
    iexact A21
  iexact Har

end Cert.KernelIdeal.Gen

end
-- ==== Proof.Deal.lean ====
/- What the launch deals each device: its places, the tokens of the duties it pays, its receive credits. -/
module

public import proofs.«01_k».proof.Proof.Body

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

variable (m : (ℓ : Loc nD τ sig) → Buf (Elt F) ℓ)

/-! ## All a device's semaphores -/

/-- A statement of every semaphore of a device, kind by kind. -/
abbrev kinds (Φ : Kind → sProp 𝕄) : sProp 𝕄 :=
  iprop(Φ .bar ∗ (six fun j t => Φ (.kvS j t)) ∗ (Φ (.kvR 0 0) ∗ Φ (.kvR 0 1) ∗ Φ (.kvR 1 0) ∗ Φ (.kvR 1 1))
    ∗ (six fun p b => Φ (.rsS p b)) ∗ (six fun p b => Φ (.rsR p b)) ∗ (six fun p b => Φ (.agS p b)) ∗ (six fun p b => Φ (.agR p b)))

def kindL : List Kind :=
  [.bar, .kvS 0 0, .kvS 1 0, .kvS 2 0, .kvS 0 1, .kvS 1 1, .kvS 2 1, .kvR 0 0, .kvR 0 1, .kvR 1 0, .kvR 1 1, .rsS 0 0, .rsS 1 0, .rsS 2 0, .rsS 0 1, .rsS 1 1, .rsS 2 1, .rsR 0 0, .rsR 1 0, .rsR 2 0, .rsR 0 1, .rsR 1 1, .rsR 2 1, .agS 0 0, .agS 1 0, .agS 2 0, .agS 0 1, .agS 1 1, .agS 2 1, .agR 0 0, .agR 1 0, .agR 2 0, .agR 0 1, .agR 1 1, .agR 2 1]

omit [FloatOps F] [Named F] in
theorem kinds_elim (Φ : Kind → sProp 𝕄) : bigSep Finset.univ Φ ⊢ kinds (F := F) Φ := by
  rw [bigSep_univ_eq_bigSepL kindL (by decide) (by decide) Φ]
  show iprop(Φ (.bar) ∗ Φ (.kvS 0 0) ∗ Φ (.kvS 1 0) ∗ Φ (.kvS 2 0) ∗ Φ (.kvS 0 1) ∗ Φ (.kvS 1 1) ∗ Φ (.kvS 2 1) ∗ Φ (.kvR 0 0) ∗ Φ (.kvR 0 1) ∗ Φ (.kvR 1 0) ∗ Φ (.kvR 1 1) ∗ Φ (.rsS 0 0) ∗ Φ (.rsS 1 0) ∗ Φ (.rsS 2 0) ∗ Φ (.rsS 0 1) ∗ Φ (.rsS 1 1) ∗ Φ (.rsS 2 1) ∗ Φ (.rsR 0 0) ∗ Φ (.rsR 1 0) ∗ Φ (.rsR 2 0) ∗ Φ (.rsR 0 1) ∗ Φ (.rsR 1 1) ∗ Φ (.rsR 2 1) ∗ Φ (.agS 0 0) ∗ Φ (.agS 1 0) ∗ Φ (.agS 2 0) ∗ Φ (.agS 0 1) ∗ Φ (.agS 1 1) ∗ Φ (.agS 2 1) ∗ Φ (.agR 0 0) ∗ Φ (.agR 1 0) ∗ Φ (.agR 2 0) ∗ Φ (.agR 0 1) ∗ Φ (.agR 1 1) ∗ Φ (.agR 2 1)) ⊢ _
  iintro ⟨B, S0, S1, S2, S3, S4, S5, R0, R1, R2, R3, C0, C1, C2, C3, C4, C5, D0, D1, D2, D3, D4, D5, E0, E1, E2, E3, E4, E5, G0, G1, G2, G3, G4, G5⟩
  isplitl [B]; · iexact B
  isplitl [S0 S1 S2 S3 S4 S5]
  · isplitl [S0]; · iexact S0
    isplitl [S1]; · iexact S1
    isplitl [S2]; · iexact S2
    isplitl [S3]; · iexact S3
    isplitl [S4]; · iexact S4
    iexact S5
  isplitl [R0 R1 R2 R3]
  · isplitl [R0]; · iexact R0
    isplitl [R1]; · iexact R1
    isplitl [R2]; · iexact R2
    iexact R3
  isplitl [C0 C1 C2 C3 C4 C5]
  · isplitl [C0]; · iexact C0
    isplitl [C1]; · iexact C1
    isplitl [C2]; · iexact C2
    isplitl [C3]; · iexact C3
    isplitl [C4]; · iexact C4
    iexact C5
  isplitl [D0 D1 D2 D3 D4 D5]
  · isplitl [D0]; · iexact D0
    isplitl [D1]; · iexact D1
    isplitl [D2]; · iexact D2
    isplitl [D3]; · iexact D3
    isplitl [D4]; · iexact D4
    iexact D5
  isplitl [E0 E1 E2 E3 E4 E5]
  · isplitl [E0]; · iexact E0
    isplitl [E1]; · iexact E1
    isplitl [E2]; · iexact E2
    isplitl [E3]; · iexact E3
    isplitl [E4]; · iexact E4
    iexact E5
  isplitl [G0]; · iexact G0
  isplitl [G1]; · iexact G1
  isplitl [G2]; · iexact G2
  isplitl [G3]; · iexact G3
  isplitl [G4]; · iexact G4
  iexact G5

omit [FloatOps F] [Named F] in
theorem kinds_intro (Φ : Kind → sProp 𝕄) : kinds (F := F) Φ ⊢ bigSep Finset.univ Φ := by
  rw [bigSep_univ_eq_bigSepL kindL (by decide) (by decide) Φ]
  show _ ⊢ iprop(Φ (.bar) ∗ Φ (.kvS 0 0) ∗ Φ (.kvS 1 0) ∗ Φ (.kvS 2 0) ∗ Φ (.kvS 0 1) ∗ Φ (.kvS 1 1) ∗ Φ (.kvS 2 1) ∗ Φ (.kvR 0 0) ∗ Φ (.kvR 0 1) ∗ Φ (.kvR 1 0) ∗ Φ (.kvR 1 1) ∗ Φ (.rsS 0 0) ∗ Φ (.rsS 1 0) ∗ Φ (.rsS 2 0) ∗ Φ (.rsS 0 1) ∗ Φ (.rsS 1 1) ∗ Φ (.rsS 2 1) ∗ Φ (.rsR 0 0) ∗ Φ (.rsR 1 0) ∗ Φ (.rsR 2 0) ∗ Φ (.rsR 0 1) ∗ Φ (.rsR 1 1) ∗ Φ (.rsR 2 1) ∗ Φ (.agS 0 0) ∗ Φ (.agS 1 0) ∗ Φ (.agS 2 0) ∗ Φ (.agS 0 1) ∗ Φ (.agS 1 1) ∗ Φ (.agS 2 1) ∗ Φ (.agR 0 0) ∗ Φ (.agR 1 0) ∗ Φ (.agR 2 0) ∗ Φ (.agR 0 1) ∗ Φ (.agR 1 1) ∗ Φ (.agR 2 1))
  iintro ⟨B, ⟨S0, S1, S2, S3, S4, S5⟩, ⟨R0, R1, R2, R3⟩, ⟨C0, C1, C2, C3, C4, C5⟩, ⟨D0, D1, D2, D3, D4, D5⟩, ⟨E0, E1, E2, E3, E4, E5⟩, ⟨G0, G1, G2, G3, G4, G5⟩⟩
  isplitl [B]; · iexact B
  isplitl [S0]; · iexact S0
  isplitl [S1]; · iexact S1
  isplitl [S2]; · iexact S2
  isplitl [S3]; · iexact S3
  isplitl [S4]; · iexact S4
  isplitl [S5]; · iexact S5
  isplitl [R0]; · iexact R0
  isplitl [R1]; · iexact R1
  isplitl [R2]; · iexact R2
  isplitl [R3]; · iexact R3
  isplitl [C0]; · iexact C0
  isplitl [C1]; · iexact C1
  isplitl [C2]; · iexact C2
  isplitl [C3]; · iexact C3
  isplitl [C4]; · iexact C4
  isplitl [C5]; · iexact C5
  isplitl [D0]; · iexact D0
  isplitl [D1]; · iexact D1
  isplitl [D2]; · iexact D2
  isplitl [D3]; · iexact D3
  isplitl [D4]; · iexact D4
  isplitl [D5]; · iexact D5
  isplitl [E0]; · iexact E0
  isplitl [E1]; · iexact E1
  isplitl [E2]; · iexact E2
  isplitl [E3]; · iexact E3
  isplitl [E4]; · iexact E4
  isplitl [E5]; · iexact E5
  isplitl [G0]; · iexact G0
  isplitl [G1]; · iexact G1
  isplitl [G2]; · iexact G2
  isplitl [G3]; · iexact G3
  isplitl [G4]; · iexact G4
  iexact G5

omit [FloatOps F] [Named F] in
theorem six_sep (P Q : Fin 3 → Fin 2 → sProp 𝕄) : iprop(six (F := F) P ∗ six (F := F) Q) ⊢ six (F := F) fun p b => iprop(P p b ∗ Q p b) := by
  iintro ⟨⟨A0, A1, A2, A3, A4, A5⟩, ⟨B0, B1, B2, B3, B4, B5⟩⟩
  isplitl [A0 B0]
  · isplitl [A0] <;> iassumption
  isplitl [A1 B1]
  · isplitl [A1] <;> iassumption
  isplitl [A2 B2]
  · isplitl [A2] <;> iassumption
  isplitl [A3 B3]
  · isplitl [A3] <;> iassumption
  isplitl [A4 B4]
  · isplitl [A4] <;> iassumption
  isplitl [A5] <;> iassumption

omit [FloatOps F] [Named F] in
theorem six_mono {P Q : Fin 3 → Fin 2 → sProp 𝕄} (h : ∀ p b, P p b ⊢ Q p b) : six (F := F) P ⊢ six (F := F) Q :=
  BIClass.sep_mono (h _ _) (BIClass.sep_mono (h _ _) (BIClass.sep_mono (h _ _) (BIClass.sep_mono (h _ _) (BIClass.sep_mono (h _ _) (h _ _)))))

/-! ## The receive credits -/

/-- How many duties of the semaphore the devices owe at launch. -/
def want (c : Dev nD) : Kind → ℕ
  | .bar => 3
  | .kvR s _ => if c.val = s.val then 0 else 1
  | .rsR _ _ => 1
  | .agR _ _ => 1
  | _ => 0

theorem owedL_cell (l : List (Dev nD × Kind)) (c : Dev nD) (k : Kind) : owedL l (cell c k) () = l.count (c, k) * amt c k := by
  induction l with
  | nil => rw [owedL_nil, List.count_nil, Nat.zero_mul]; rfl
  | cons x l ih =>
    rw [owedL_cons, Pi.add_apply, Finsupp.add_apply, tallyAt_apply, ih, List.count_cons, Nat.add_mul]
    congr 1
    by_cases h : x = (c, k)
    · subst h; rw [if_pos ⟨rfl, rfl⟩, if_pos (by exact beq_self_eq_true _), Nat.one_mul]
    · rw [if_neg (fun h' => h ?_), if_neg (by rw [beq_iff_eq]; exact h), Nat.zero_mul]
      have h1 : c = x.1 := congrArg (fun g : GSem nD τ sig => g.1.1) h'.1
      have h2 : k = x.2 := sem_injective (congrArg Prod.snd h'.1)
      rw [h1, h2]

theorem owed_count : ∀ (c : Dev nD) (k : Kind), ∑ d : Dev nD, (L0 d).count (c, k) = want c k := by decide +kernel

abbrev O₀ (c : Dev nD) : CellTallies nD τ sig Unit := owedL (L0 c)

theorem launch_cell (c : Dev nD) (k : Kind) :
    tallyOn (cell c k) (launchCredit (Pipeline.owing O₀) 0 (cell c k)) = (tallyAt (cell c k) () (want c k * amt c k) : CellTallies nD τ sig Unit) := by
  unfold tallyAt; refine congrArg _ (Finsupp.ext fun u => ?_); cases u
  rw [Pipeline.launchCredit_owing, Finsupp.single_eq_same, Finset.sum_congr rfl fun d _ => owedL_cell (L0 d) c k, ← Finset.sum_mul, owed_count]

abbrev credK (c : Dev nD) (k : Kind) : sProp 𝕄 := cred (tallyAt (cell c k) () (want c k * amt c k))

omit [FloatOps F] [Named F] in
theorem creds (c : Dev nD) : (Pipeline.launchCred O₀ c : sProp 𝕄) ⊢ bigSep Finset.univ fun k => credK (F := F) c k := by
  unfold Pipeline.launchCred
  refine (BI.bigSep_subset (Finset.subset_univ (Finset.univ.map ⟨sem, sem_injective⟩))).trans ?_
  rw [bigSep_map]
  exact bigSep_mono fun k _ => Entails.of_eq (congrArg (fun t => (cred t : sProp 𝕄)) (launch_cell c k))

/-! ## The tokens, dealt to who pays them -/

/-- The tokens of device `c`'s own semaphores. -/
def barO (c : Dev nD) : sProp 𝕄 := iprop(tok c .bar 0 ∗ tok c .bar 1 ∗ tok c .bar 2)
def kvRO (c : Dev nD) : sProp 𝕄 := iprop(tok c (.kvR 0 0) ∗ tok c (.kvR 0 1) ∗ tok c (.kvR 1 0) ∗ tok c (.kvR 1 1))
def toks (c : Dev nD) : sProp 𝕄 :=
  iprop(barO (F := F) c ∗ (six fun j t => tok c (.kvS j t)) ∗ kvRO (F := F) c ∗ (six fun p b => tok c (.rsS p b)) ∗ (six fun p b => tok c (.rsR p b))
    ∗ (six fun p b => tok c (.agS p b)) ∗ (six fun p b => tok c (.agR p b)))
/-- The tokens of the duties device `c` pays. -/
def barT (c : Dev nD) : sProp 𝕄 := iprop(tok (fwd c 1) .bar 2 ∗ tok (fwd c 2) .bar 1 ∗ tok (fwd c 3) .bar 0)
def kvT (c : Dev nD) : sProp 𝕄 :=
  if c = 0 then six fun j t => iprop(tok 0 (.kvS j t) ∗ tok (tgt0 j) (.kvR 0 t))
  else if c = 1 then six fun j t => iprop(tok 1 (.kvS j t) ∗ tok (tgt1 j) (.kvR 1 t))
  else iprop(emp)
def payToks (c : Dev nD) : sProp 𝕄 :=
  iprop(barT (F := F) c ∗ kvT (F := F) c ∗ (six fun p b => tok c (.rsS p b)) ∗ (six fun p b => tok (fwd c (p.val + 1)) (.rsR p b))
    ∗ (six fun p b => tok c (.agS p b)) ∗ (six fun p b => tok (fwd c (p.val + 1)) (.agR p b)))

/-- Turning the ring by `n` places. -/
def turn (n : Fin 4) : Dev nD ≃ Dev nD where
  toFun c := fwd c n.val
  invFun c := fwd c (4 - n.val)
  left_inv c := by revert c n; decide
  right_inv c := by revert c n; decide

omit [FloatOps F] [Named F] in
theorem turned (n : Fin 4) (Ψ : Dev nD → sProp 𝕄) : bigSep Finset.univ Ψ = bigSep Finset.univ fun c => Ψ (fwd c n.val) :=
  bigSep_univ_equiv (turn n) Ψ

omit [FloatOps F] [Named F] in
theorem six_around (Ψ : Dev nD → Fin 3 → Fin 2 → sProp 𝕄) :
    (bigSep Finset.univ fun c => six (F := F) fun p b => Ψ c p b) ⊢ bigSep Finset.univ fun c => six (F := F) fun p b => Ψ (fwd c (p.val + 1)) p b := by
  simp only [bigSep_sep']
  refine BIClass.sep_mono ?_ (BIClass.sep_mono ?_ (BIClass.sep_mono ?_ (BIClass.sep_mono ?_ (BIClass.sep_mono ?_ ?_))))
  · exact Entails.of_eq (turned 1 fun c => Ψ c 0 0)
  · exact Entails.of_eq (turned 2 fun c => Ψ c 1 0)
  · exact Entails.of_eq (turned 3 fun c => Ψ c 2 0)
  · exact Entails.of_eq (turned 1 fun c => Ψ c 0 1)
  · exact Entails.of_eq (turned 2 fun c => Ψ c 1 1)
  · exact Entails.of_eq (turned 3 fun c => Ψ c 2 1)

omit [FloatOps F] [Named F] in
theorem bar_around : (bigSep Finset.univ fun c => barO (F := F) c) ⊢ bigSep Finset.univ fun c => barT (F := F) c := by
  unfold barO barT
  simp only [bigSep_sep']
  rw [turned 3 (fun c => (tok c .bar 0 : sProp 𝕄)), turned 2 (fun c => (tok c .bar 1 : sProp 𝕄)), turned 1 (fun c => (tok c .bar 2 : sProp 𝕄))]
  iintro ⟨A, B, C⟩
  isplitl [C]; · iexact C
  isplitl [B]; · iexact B
  iexact A

omit [FloatOps F] [Named F] in
theorem devs (Ψ : Dev nD → sProp 𝕄) : bigSep Finset.univ Ψ = iprop(Ψ 0 ∗ Ψ 1 ∗ Ψ 2 ∗ Ψ 3) :=
  bigSep_univ_eq_bigSepL [(0 : Dev nD), 1, 2, 3] (by decide) (by decide) Ψ

omit [FloatOps F] [Named F] in
theorem kv_around :
    iprop((bigSep Finset.univ fun c => six (F := F) fun j t => tok c (.kvS j t)) ∗ (bigSep Finset.univ fun c => kvRO (F := F) c))
      ⊢ bigSep Finset.univ fun c => kvT (F := F) c := by
  rw [devs, devs, devs]
  unfold kvRO kvT
  rw [if_pos rfl, if_neg (by decide), if_pos rfl, if_neg (by decide), if_neg (by decide), if_neg (by decide), if_neg (by decide)]
  iintro ⟨⟨S0, S1, -, -⟩, ⟨-, -, R02, R03⟩, ⟨R10, R11, -, -⟩, ⟨R20, R21, R22, R23⟩, ⟨R30, R31, R32, R33⟩⟩
  isplitl [S0 R10 R11 R20 R21 R30 R31]
  · iapply (six_sep (F := F) _ _)
    isplitl [S0]; · iexact S0
    isplitl [R10]; · iexact R10
    isplitl [R20]; · iexact R20
    isplitl [R30]; · iexact R30
    isplitl [R11]; · iexact R11
    isplitl [R21]; · iexact R21
    iexact R31
  isplitl [S1 R02 R03 R22 R23 R32 R33]
  · iapply (six_sep (F := F) _ _)
    isplitl [S1]; · iexact S1
    isplitl [R02]; · iexact R02
    isplitl [R22]; · iexact R22
    isplitl [R32]; · iexact R32
    isplitl [R03]; · iexact R03
    isplitl [R23]; · iexact R23
    iexact R33
  isplitl
  · iempintro
  · iempintro

omit [FloatOps F] [Named F] in
theorem seps6 (P A B C D E : Dev nD → sProp 𝕄) : (bigSep Finset.univ fun c => iprop(P c ∗ A c ∗ B c ∗ C c ∗ D c ∗ E c))
    = iprop(bigSep Finset.univ (fun c => P c) ∗ bigSep Finset.univ (fun c => A c) ∗ bigSep Finset.univ (fun c => B c) ∗ bigSep Finset.univ (fun c => C c)
        ∗ bigSep Finset.univ (fun c => D c) ∗ bigSep Finset.univ (fun c => E c)) := by
  simp only [bigSep_sep']
omit [FloatOps F] [Named F] in
theorem seps7 (P A B C D E G : Dev nD → sProp 𝕄) : (bigSep Finset.univ fun c => iprop(P c ∗ A c ∗ B c ∗ C c ∗ D c ∗ E c ∗ G c))
    = iprop(bigSep Finset.univ (fun c => P c) ∗ bigSep Finset.univ (fun c => A c) ∗ bigSep Finset.univ (fun c => B c) ∗ bigSep Finset.univ (fun c => C c)
        ∗ bigSep Finset.univ (fun c => D c) ∗ bigSep Finset.univ (fun c => E c) ∗ bigSep Finset.univ (fun c => G c)) := by
  simp only [bigSep_sep']

omit [FloatOps F] [Named F] in
/-- Every token goes to the device that pays its duty. -/
theorem toks_around : (bigSep Finset.univ fun c : Dev nD => (toks (F := F) c : sProp 𝕄)) ⊢ bigSep Finset.univ fun c : Dev nD => payToks (F := F) c := by
  unfold toks payToks
  rw [seps7 (fun c => barO (F := F) c), seps6 (fun c => barT (F := F) c)]
  iintro ⟨HB, HS, HR, HC, HD, HE, HG⟩
  isplitl [HB]; · iapply (bar_around (F := F)); iexact HB
  isplitl [HS HR]
  · iapply (kv_around (F := F)); isplitl [HS] <;> iassumption
  isplitl [HC]; · iexact HC
  isplitl [HD]; · iapply (six_around (F := F) fun c p b => tok c (.rsR p b)); iexact HD
  isplitl [HE]; · iexact HE
  iapply (six_around (F := F) fun c p b => tok c (.agR p b)); iexact HG

/-- The tokens as minted, one for each semaphore and duty; -/
def tokOf (x : Dev nD × Kind × Fin 3) : GSem nD τ sig × ℕ × Fin 3 := (cell x.1 x.2.1, 0, x.2.2)
theorem tokOf_injective : Function.Injective tokOf := by
  rintro ⟨c, k, d⟩ ⟨c', k', d'⟩ h
  have h1 : c = c' := congrArg (fun x : GSem nD τ sig × ℕ × Fin 3 => x.1.1.1) h
  have h2 : k = k' := sem_injective (congrArg (fun x : GSem nD τ sig × ℕ × Fin 3 => x.1.2) h)
  have h3 : d = d' := congrArg (fun x : GSem nD τ sig × ℕ × Fin 3 => x.2.2) h
  rw [h1, h2, h3]
/-- those of them any duty has. -/
def tokK (c : Dev nD) : Kind → sProp 𝕄
  | .bar => barO (F := F) c
  | k => tok c k

omit [FloatOps F] [Named F] in
theorem tokK_intro (c : Dev nD) (k : Kind) : (bigSep Finset.univ fun d : Fin 3 => (tok c k d : sProp 𝕄)) ⊢ tokK (F := F) c k := by
  unfold tokK
  split
  · exact Entails.of_eq (bigSep_univ_eq_bigSepL [(0 : Fin 3), 1, 2] (by decide) (by decide) _)
  · exact bigSep_elim (Finset.mem_univ (0 : Fin 3))

omit [FloatOps F] [Named F] in
theorem toks_intro (c : Dev nD) : (bigSep Finset.univ fun kd : Kind × Fin 3 => (tok c kd.1 kd.2 : sProp 𝕄)) ⊢ toks (F := F) c := by
  rw [bigSep_univ_prod]
  exact (bigSep_mono fun k _ => tokK_intro c k).trans (kinds_elim (F := F) _)

/-! ## A device's rights -/

omit [FloatOps F] [Named F] in
theorem credK_one (c : Dev nD) (k : Kind) (h : want c k = 1) : credK (F := F) c k ⊢ cred (tallyAt (cell c k) () (amt c k)) :=
  Entails.of_eq (by unfold credK; rw [h, Nat.one_mul])

omit [FloatOps F] [Named F] in
theorem kvR_intro (c : Dev nD) (s t : Fin 2) : iprop(credK (F := F) c (.kvR s t) ∗ pos c (.kvR s t)) ⊢ kvRP (F := F) c s t := by
  unfold kvRP
  by_cases h : c.val = s.val
  · rw [if_pos h]; iintro ⟨-, H⟩; iexact H
  · rw [if_neg h]; exact BIClass.sep_mono (credK_one c _ (if_neg h)) .rfl

omit [FloatOps F] [Named F] in
theorem kv_intro (c : Dev nD) : iprop(kvT (F := F) c ∗ six (F := F) fun j t => pos c (.kvS j t)) ⊢ kvTok (F := F) c := by
  unfold kvT kvTok
  by_cases h0 : c = 0
  · subst h0
    rw [if_pos rfl, if_pos rfl]
    refine (six_sep (F := F) _ _).trans (six_mono (F := F) fun j t => ?_)
    iintro ⟨⟨A, B⟩, C⟩
    isplitl [A C]
    · isplitl [A] <;> iassumption
    iexact B
  by_cases h1 : c = 1
  · subst h1
    rw [if_neg h0, if_neg h0, if_pos rfl, if_pos rfl]
    refine (six_sep (F := F) _ _).trans (six_mono (F := F) fun j t => ?_)
    iintro ⟨⟨A, B⟩, C⟩
    isplitl [A C]
    · isplitl [A] <;> iassumption
    iexact B
  rw [if_neg h0, if_neg h0, if_neg h1, if_neg h1]
  iintro ⟨-, H⟩; iexact H

omit [FloatOps F] [Named F] in
theorem six_rights (tS pS tR cR cR' pR : Fin 3 → Fin 2 → sProp 𝕄) (h : ∀ p b, cR p b ⊢ cR' p b) :
    iprop(six (F := F) tS ∗ six (F := F) pS ∗ six (F := F) tR ∗ six (F := F) cR ∗ six (F := F) pR)
      ⊢ six (F := F) fun p b => iprop((tS p b ∗ pS p b) ∗ tR p b ∗ cR' p b ∗ pR p b) := by
  iintro ⟨H1, H2, H3, H4, H5⟩
  ihave H12 := (six_sep (F := F) tS pS) $$ [H1 H2]
  · isplitl [H1] <;> iassumption
  ihave H4' := (six_mono (F := F) h) $$ H4
  ihave H45 := (six_sep (F := F) cR' pR) $$ [H4' H5]
  · isplitl [H4'] <;> iassumption
  ihave H345 := (six_sep (F := F) tR _) $$ [H3 H45]
  · isplitl [H3] <;> iassumption
  iapply (six_sep (F := F) _ _)
  isplitl [H12] <;> iassumption

omit [FloatOps F] [Named F] in
/-- Places, tokens and credits together are what the body asks for. -/
theorem rights_intro (c : Dev nD) :
    iprop((bigSep Finset.univ fun k => pos c k) ∗ payToks (F := F) c ∗ (bigSep Finset.univ fun k => credK (F := F) c k)) ⊢ rights (F := F) c := by
  unfold payToks
  iintro ⟨HP, ⟨TB, TK, TC, TD, TE, TG⟩, HC⟩
  ihave HP' := (kinds_elim (F := F) fun k => pos c k) $$ HP
  icases HP' with ⟨PB, PS, ⟨P0, P1, P2, P3⟩, PC, PD, PE, PG⟩
  ihave HC' := (kinds_elim (F := F) fun k => credK (F := F) c k) $$ HC
  icases HC' with ⟨CB, -, ⟨C0, C1, C2, C3⟩, -, CD, -, CG⟩
  unfold rights
  isplitl [TB CB PB]
  · isplitl [TB]
    · ihave H := (Entails.of_eq (show barT (F := F) c = iprop(tok (fwd c 1) .bar 2 ∗ tok (fwd c 2) .bar 1 ∗ tok (fwd c 3) .bar 0) from rfl)) $$ TB
      iexact H
    isplitl [CB]; · iexact CB
    iexact PB
  isplitl [TK PS]
  · iapply (kv_intro (F := F) c); isplitl [TK] <;> iassumption
  isplitl [P0 P1 P2 P3 C0 C1 C2 C3]
  · isplitl [P0 C0]
    · iapply (kvR_intro (F := F) c 0 0); isplitl [C0] <;> iassumption
    isplitl [P1 C1]
    · iapply (kvR_intro (F := F) c 0 1); isplitl [C1] <;> iassumption
    isplitl [P2 C2]
    · iapply (kvR_intro (F := F) c 1 0); isplitl [C2] <;> iassumption
    iapply (kvR_intro (F := F) c 1 1); isplitl [C3] <;> iassumption
  isplitl [TC PC TD CD PD]
  · iapply (six_rights (F := F) (fun p b => tok c (.rsS p b)) (fun p b => pos c (.rsS p b)) (fun p b => tok (fwd c (p.val + 1)) (.rsR p b))
      (fun p b => credK (F := F) c (.rsR p b)) (fun p b => cred (tallyAt (cell c (.rsR p b)) () (amt c (.rsR p b)))) (fun p b => pos c (.rsR p b))
      (fun p b => credK_one c _ rfl))
    isplitl [TC]; · iexact TC
    isplitl [PC]; · iexact PC
    isplitl [TD]; · iexact TD
    isplitl [CD]; · iexact CD
    iexact PD
  · iapply (six_rights (F := F) (fun p b => tok c (.agS p b)) (fun p b => pos c (.agS p b)) (fun p b => tok (fwd c (p.val + 1)) (.agR p b))
      (fun p b => credK (F := F) c (.agR p b)) (fun p b => cred (tallyAt (cell c (.agR p b)) () (amt c (.agR p b)))) (fun p b => pos c (.agR p b))
      (fun p b => credK_one c _ rfl))
    isplitl [TE]; · iexact TE
    isplitl [PE]; · iexact PE
    isplitl [TG]; · iexact TG
    isplitl [CG]; · iexact CG
    iexact PG

end Cert.KernelIdeal.Gen

end
-- ==== Proof.RunA.lean ====
/- The launch and the run: from any memory with zero counters every execution ends with the result arrays at the
   values of `Values`, the arguments unchanged and every counter at zero. -/
module

public import proofs.«01_k».proof.Proof.Deal
public import proofs.«01_k».proof.Proof.Gen.KernelIdeal.Frame

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

variable (ρ : Dev nD → PrngReg)

/-- The kernel's own semaphores: its transfers'. -/
def osem (i : Fin 34) : SemLoc sig := .dma (⟨6 + i.val, by omega⟩ : Fin 40)

theorem ownSemFacts : Pipeline.OwnSemFacts cfg0.spec osem := by decide

omit [FloatOps F] [Named F] in
theorem ownSems0_eq (c : Dev nD) : (Pipeline.ownSems0 (Ix := Unit) (Name := ℕ) (U := UU) (Lvl := ℕ) (Val := Elt F) (τ := τ) osem c : sProp 𝕄)
    = iprop(done c (.kvS 0 0) ∗ done c (.kvS 0 1) ∗ done c (.kvS 1 0) ∗ done c (.kvS 1 1) ∗ done c (.kvS 2 0) ∗ done c (.kvS 2 1) ∗ done c (.kvR 0 0) ∗ done c (.kvR 0 1) ∗ done c (.kvR 1 0) ∗ done c (.kvR 1 1) ∗ done c (.rsS 0 0) ∗ done c (.rsS 0 1) ∗ done c (.rsS 1 0) ∗ done c (.rsS 1 1) ∗ done c (.rsS 2 0) ∗ done c (.rsS 2 1) ∗ done c (.rsR 0 0) ∗ done c (.rsR 0 1) ∗ done c (.rsR 1 0) ∗ done c (.rsR 1 1) ∗ done c (.rsR 2 0) ∗ done c (.rsR 2 1) ∗ done c (.agS 0 0) ∗ done c (.agS 0 1) ∗ done c (.agS 1 0) ∗ done c (.agS 1 1) ∗ done c (.agS 2 0) ∗ done c (.agS 2 1) ∗ done c (.agR 0 0) ∗ done c (.agR 0 1) ∗ done c (.agR 1 0) ∗ done c (.agR 1 1) ∗ done c (.agR 2 0) ∗ done c (.agR 2 1)) := by
  rw [Pipeline.ownSems0_eq_of_list c osem [0, 1, 2, 3, 4, 5, 6, 7, 8, 9, 10, 11, 12, 13, 14, 15, 16, 17, 18, 19, 20, 21, 22, 23, 24, 25, 26, 27, 28, 29, 30, 31, 32, 33] (by decide) (by decide)]; rfl
omit [FloatOps F] [Named F] in
theorem unscopedSems0_eq (c : Dev nD) : (unscopedSems0 c : sProp 𝕄) = done c .bar := by
  unfold unscopedSems0; rw [bigSep_eq_bigSepL_of_eq [SemLoc.reg barS] (by decide) (by decide)]; rfl

omit [FloatOps F] [Named F] in
theorem sems_in (c : Dev nD) :
    iprop(Pipeline.ownSems0 (Ix := Unit) (Name := ℕ) (U := UU) (Lvl := ℕ) (Val := Elt F) (τ := τ) osem c ∗ unscopedSems0 c)
      ⊢ (bigSep Finset.univ fun k : Kind => semVal (cell c k) 0 : sProp 𝕄) := by
  rw [ownSems0_eq, unscopedSems0_eq]
  iintro ⟨⟨S00, S01, S10, S11, S20, S21, R00, R01, R10, R11, C00, C01, C10, C11, C20, C21, D00, D01, D10, D11, D20, D21, E00, E01, E10, E11, E20, E21, G00, G01, G10, G11, G20, G21⟩, B⟩
  iapply (kinds_intro (F := F) fun k => semVal (cell c k) 0)
  isplitl [B]; · iexact B
  isplitl [S00 S10 S20 S01 S11 S21]
  · isplitl [S00]; · iexact S00
    isplitl [S10]; · iexact S10
    isplitl [S20]; · iexact S20
    isplitl [S01]; · iexact S01
    isplitl [S11]; · iexact S11
    iexact S21
  isplitl [R00 R01 R10 R11]
  · isplitl [R00]; · iexact R00
    isplitl [R01]; · iexact R01
    isplitl [R10]; · iexact R10
    iexact R11
  isplitl [C00 C10 C20 C01 C11 C21]
  · isplitl [C00]; · iexact C00
    isplitl [C10]; · iexact C10
    isplitl [C20]; · iexact C20
    isplitl [C01]; · iexact C01
    isplitl [C11]; · iexact C11
    iexact C21
  isplitl [D00 D10 D20 D01 D11 D21]
  · isplitl [D00]; · iexact D00
    isplitl [D10]; · iexact D10
    isplitl [D20]; · iexact D20
    isplitl [D01]; · iexact D01
    isplitl [D11]; · iexact D11
    iexact D21
  isplitl [E00 E10 E20 E01 E11 E21]
  · isplitl [E00]; · iexact E00
    isplitl [E10]; · iexact E10
    isplitl [E20]; · iexact E20
    isplitl [E01]; · iexact E01
    isplitl [E11]; · iexact E11
    iexact E21
  isplitl [G00]; · iexact G00
  isplitl [G10]; · iexact G10
  isplitl [G20]; · iexact G20
  isplitl [G01]; · iexact G01
  isplitl [G11]; · iexact G11
  iexact G21

omit [FloatOps F] [Named F] in
theorem sems_out (c : Dev nD) :
    doneAll (F := F) c ⊢ iprop(unscopedSems0 c ∗ Pipeline.ownSems0 (Ix := Unit) (Name := ℕ) (U := UU) (Lvl := ℕ) (Val := Elt F) (τ := τ) osem c) := by
  rw [ownSems0_eq, unscopedSems0_eq]
  iintro ⟨B, ⟨S00, S10, S20, S01, S11, S21⟩, ⟨R00, R01, R10, R11⟩, ⟨C00, C10, C20, C01, C11, C21⟩, ⟨D00, D10, D20, D01, D11, D21⟩, ⟨E00, E10, E20, E01, E11, E21⟩, ⟨G00, G10, G20, G01, G11, G21⟩⟩
  isplitl [B]; · iexact B
  isplitl [S00]; · iexact S00
  isplitl [S01]; · iexact S01
  isplitl [S10]; · iexact S10
  isplitl [S11]; · iexact S11
  isplitl [S20]; · iexact S20
  isplitl [S21]; · iexact S21
  isplitl [R00]; · iexact R00
  isplitl [R01]; · iexact R01
  isplitl [R10]; · iexact R10
  isplitl [R11]; · iexact R11
  isplitl [C00]; · iexact C00
  isplitl [C01]; · iexact C01
  isplitl [C10]; · iexact C10
  isplitl [C11]; · iexact C11
  isplitl [C20]; · iexact C20
  isplitl [C21]; · iexact C21
  isplitl [D00]; · iexact D00
  isplitl [D01]; · iexact D01
  isplitl [D10]; · iexact D10
  isplitl [D11]; · iexact D11
  isplitl [D20]; · iexact D20
  isplitl [D21]; · iexact D21
  isplitl [E00]; · iexact E00
  isplitl [E01]; · iexact E01
  isplitl [E10]; · iexact E10
  isplitl [E11]; · iexact E11
  isplitl [E20]; · iexact E20
  isplitl [E21]; · iexact E21
  isplitl [G00]; · iexact G00
  isplitl [G01]; · iexact G01
  isplitl [G10]; · iexact G10
  isplitl [G11]; · iexact G11
  isplitl [G20]; · iexact G20
  iexact G21

/-! ## The proof data of the one point -/

/-- What device `c` starts with. -/
def start (c : Dev nD) : sProp 𝕄 := iprop((∃ K, recs m K) ∗ levAts L lv ∗ rights (F := F) c)

def Φ₀ (c : Dev nD) : sProp 𝕄 := iprop(start m c ∗ scr (F := F) c)
def Φ₁ (c : Dev nD) : sProp 𝕄 := iprop(doneAll (F := F) c ∗ scr (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xb m c
    | ⟨1, _⟩ => wqb m c
    | ⟨2, _⟩ => kb m c
    | ⟨3, _⟩ => vb m c
    | ⟨4, _⟩ => wob m c
    | ⟨5, _⟩ => O9 m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

theorem share_eq (c : Dev nD) (w : Fin cfg0.W) : (dats m ρ 0 c).share w = fullShare := by unfold Dat.share; split <;> rfl

theorem fetch0_w (w : Fin 6) (h : w ≠ 5) : (cfg0.win w).fetch t0_0 = true := by
  revert w; decide

theorem before_0 (c : Dev nD) (d) : (dats m ρ 0 c).before (0 : Fin 6) t0_0 d = xb m c := by
  unfold Dat.before; rw [if_pos (fetch0_w 0 (by decide))]; rfl
theorem before_1 (c : Dev nD) (d) : (dats m ρ 0 c).before (1 : Fin 6) t0_0 d = wqb m c := by
  unfold Dat.before; rw [if_pos (fetch0_w 1 (by decide))]; rfl
theorem before_2 (c : Dev nD) (d) : (dats m ρ 0 c).before (2 : Fin 6) t0_0 d = kb m c := by
  unfold Dat.before; rw [if_pos (fetch0_w 2 (by decide))]; rfl
theorem before_3 (c : Dev nD) (d) : (dats m ρ 0 c).before (3 : Fin 6) t0_0 d = vb m c := by
  unfold Dat.before; rw [if_pos (fetch0_w 3 (by decide))]; rfl
theorem before_4 (c : Dev nD) (d) : (dats m ρ 0 c).before (4 : Fin 6) t0_0 d = wob m c := by
  unfold Dat.before; rw [if_pos (fetch0_w 4 (by decide))]; rfl

/-- A whole buffer at given contents, as the launch holds a staging buffer. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] [Named F] in
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(Φ₀ m c ∗ (dats m ρ 0 c).owesAt () (t0_0 : Fin cfg0.N).castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))
def bodyPost (c : Dev nD) : sProp 𝕄 :=
  iprop(Φ₁ (F := F) c ∗ (dats m ρ 0 c).owesAt () (t0_0 : Fin cfg0.N).succ
    ∗ stg c cc0_stg0_0 (xb m c) ∗ stg c cc0_stg1_0 (wqb m c) ∗ stg c cc0_stg2_0 (kb m c) ∗ stg c cc0_stg3_0 (vb m c) ∗ stg c cc0_stg4_0 (wob m c)
    ∗ stg c cc0_stg5_0 (O9 m c))

theorem owes_in (c : Dev nD) : (dats m ρ 0 c).owesAt () (t0_0 : Fin cfg0.N).castSucc ⊢ owesL (F := F) c (L0 c) := by
  unfold Dat.owesAt Pipeline.owesWithin owesL
  rw [show (dats m ρ 0 c).owed (t0_0 : Fin cfg0.N).castSucc = O₀ c from rfl]
  iintro ⟨%W, -, H⟩
  iexists W; iexact H
theorem owes_out (c : Dev nD) : owesL (F := F) c [] ⊢ (dats m ρ 0 c).owesAt () (t0_0 : Fin cfg0.N).succ := by
  unfold Dat.owesAt Pipeline.owesWithin owesL
  rw [show (dats m ρ 0 c).owed (t0_0 : Fin cfg0.N).succ = owedL [] from rfl]
  iintro ⟨%W, H⟩
  iexists W
  isplitr; · ipureintro; exact fun _ _ => Or.inl trivial
  iexact H

theorem sound_body (c : Dev nD) :
    bodyPre m ρ c ⊢ WP c (cc0_body xM (Memref.isWhole_whole _) wqM (Memref.isWhole_whole _) kM (Memref.isWhole_whole _) vM (Memref.isWhole_whole _) woM (Memref.isWhole_whole _) oM (Memref.isWhole_whole _) ksM (Memref.isWhole_whole _) vsM (Memref.isWhole_whole _) kb0M (Memref.isWhole_whole _) vb0M (Memref.isWhole_whole _) kb1M (Memref.isWhole_whole _) vb1M (Memref.isWhole_whole _) rsM (Memref.isWhole_whole _) rrM (Memref.isWhole_whole _) agM (Memref.isWhole_whole _) arM (Memref.isWhole_whole _) cc0_scratch10 cc0_scratch11 cc0_scratch12 cc0_scratch13 cc0_scratch14 cc0_scratch15) (fun _ => bodyPost m ρ c) := by
  unfold bodyPre Φ₀ start
  iintro ⟨⟨⟨⟨%K, #HR⟩, #HL, HT⟩, Hscr⟩, HO, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩⟩
  rw [before_0] at h0; rw [before_1] at h1; rw [before_2] at h2; rw [before_3] at h3; rw [before_4] at h4
  subst h0 h1 h2 h3 h4
  ihave HO' := (owes_in m ρ c) $$ HO
  iapply (body m K c) $$ [HO' HT Hscr H0 H1 H2 H3 H4 H5]
  · isplitr
    · unfold env; isplitr; · iexact HR
      iexact HL
    isplitl [HO']; · iexact HO'
    isplitl [HT]; · iexact HT
    isplitl [H0 H1 H2 H3 H4]
    · isplitl [H0]; · iexact H0
      isplitl [H1]; · iexact H1
      isplitl [H2]; · iexact H2
      isplitl [H3]; · iexact H3
      iexact H4
    isplitl [H5]
    · iexists f5; iexact H5
    iexact Hscr
  iintro ⟨HO, HD, ⟨H0, H1, H2, H3, H4⟩, H5, Hscr⟩
  unfold bodyPost Φ₁
  isplitl [HD Hscr]
  · isplitl [HD] <;> iassumption
  isplitl [HO]
  · iapply (owes_out m ρ c); iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

set_option maxRecDepth 8000 in
set_option maxHeartbeats 4000000 in
/-- The library's obligation for the one point. -/
theorem body_obligation (c : Dev nD) : BodyObligation (dats (F := F) m ρ 0 c) (defs₀ (F := F)) 𝒱₀ () Set.univ := fun t => by
  rw [fin_N0 t]
  rw [bigSep_W0, bigSep_W0]
  simp only [owns_stg]
  show bodyPre m ρ c ⊢ WP c (cc0_body xM (Memref.isWhole_whole _) wqM (Memref.isWhole_whole _) kM (Memref.isWhole_whole _) vM (Memref.isWhole_whole _) woM (Memref.isWhole_whole _) oM (Memref.isWhole_whole _) ksM (Memref.isWhole_whole _) vsM (Memref.isWhole_whole _) kb0M (Memref.isWhole_whole _) vb0M (Memref.isWhole_whole _) kb1M (Memref.isWhole_whole _) vb1M (Memref.isWhole_whole _) rsM (Memref.isWhole_whole _) rrM (Memref.isWhole_whole _) agM (Memref.isWhole_whole _) arM (Memref.isWhole_whole _) cc0_scratch10 cc0_scratch11 cc0_scratch12 cc0_scratch13 cc0_scratch14 cc0_scratch15) (fun _ => bodyPost m ρ c)
  exact sound_body m ρ c

end Cert.KernelIdeal.Gen

end
-- ==== Proof.Run.lean ====
/- The launch and the run: from any memory with zero counters every execution ends with the result arrays at the
   values of `Values`, the arguments unchanged and every counter at zero. -/
module

public import proofs.«01_k».proof.Proof.RunA
public import Idealize.ShloMosaic.Lib.Pipeline.CollectiveSegs

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

variable (ρ : Dev nD → PrngReg)

/-! ## Funding the protocol -/

theorem cellP_injective : Function.Injective (fun ck : Dev nD × Kind => cell ck.1 ck.2) := by
  rintro ⟨c, k⟩ ⟨c', k'⟩ h
  have h1 : c = c' := congrArg (fun g : GSem nD τ sig => g.1.1) h
  have h2 : k = k' := sem_injective (congrArg Prod.snd h)
  rw [h1, h2]
def kCells : Finset (GSem nD τ sig) := Finset.univ.map ⟨fun ck : Dev nD × Kind => cell ck.1 ck.2, cellP_injective⟩
def kToks : Finset (GSem nD τ sig × ℕ × Fin 3) := Finset.univ.map ⟨tokOf, tokOf_injective⟩

def u₀ : UU :=
  (initOf (Pipeline.cells cfgs cellOf_inj) (Pipeline.launchToks cfgs cellOf_inj), initOf kCells kToks)

/-- What the launch deals device `c`: its semaphores' round states and places, the tokens of their duties. -/
def G (c : Dev nD) : sProp 𝕄 :=
  iprop((bigSep Finset.univ fun k : Kind => roundState ER (Rd m) (cell c k) 0)
    ∗ (bigSep Finset.univ fun k : Kind => pos c k) ∗ (bigSep Finset.univ fun k : Kind => reached ER (cell c k) 0) ∗ toks (F := F) c)

/-- What is left of it to device `c`, the semaphores' invariants set up and the tokens dealt out. -/
def G' (c : Dev nD) : sProp 𝕄 := iprop((∃ K, recs m K) ∗ (bigSep Finset.univ fun k : Kind => pos c k) ∗ payToks (F := F) c)

theorem fund_kernel : BI.own (ER (initOf kCells kToks)) ⊢ (|==> bigSep Finset.univ (G m) : sProp 𝕄) := by
  have hX (Φ : GSem nD τ sig → sProp 𝕄) : bigSep kCells Φ = bigSep Finset.univ fun c : Dev nD => bigSep Finset.univ fun k : Kind => Φ (cell c k) := by
    unfold kCells; rw [bigSep_map, bigSep_univ_prod]; rfl
  have hT : bigSep kToks (fun x => (dutyTok ER x.1 x.2.1 x.2.2 : sProp 𝕄)) ⊢ bigSep Finset.univ fun c : Dev nD => toks (F := F) c := by
    unfold kToks; rw [bigSep_map, bigSep_univ_prod]
    exact bigSep_mono fun c _ => toks_intro (F := F) c
  iintro HX
  imod (Rounds.fund ER (Rd m) kCells kToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; rw [bigSep_sep', bigSep_sep', bigSep_sep']
  isplitl [Hst']; · iexact Hst'
  isplitl [Hat']; · iexact Hat'
  isplitl [Hr']; · iexact Hr'
  iexact Htok'

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (cell c k)))
          ∗ (bigSep Finset.univ fun k : Kind => pos c k) ∗ (bigSep Finset.univ fun k : Kind => reached ER (cell c k) 0) ∗ toks (F := F) c) := by
  unfold G
  iintro ⟨Hos, Hus, Hst, Hat, Hr, Htok⟩
  ihave Hv := (sems_in (F := F) c) $$ [Hos Hus]
  · isplitl [Hos] <;> iassumption
  imod (show iprop((bigSep Finset.univ fun k : Kind => semVal (cell c k) 0) ∗ bigSep Finset.univ fun k : Kind => roundState ER (Rd m) (cell c k) 0)
      ⊢ (|={Set.univ}=> bigSep Finset.univ fun k => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  iexact Htok

omit [FloatOps F] [Named F] in
theorem with_persistent {R : sProp 𝕄} [BI.Persistent R] {Φ : Dev nD → sProp 𝕄} :
    iprop(R ∗ bigSep Finset.univ Φ) ⊢ bigSep Finset.univ fun c => iprop(R ∗ Φ c) :=
  (sep_mono_left (BI.bigSep_of_persistent Finset.univ R)).trans (by rw [← bigSep_sep'])

theorem regroup :
    (bigSep Finset.univ fun c : Dev nD => iprop((bigSep Finset.univ fun k => iprop(∃ κ : ℕ, cellInv ER (Rd m) κ (cell c k)))
          ∗ (bigSep Finset.univ fun k : Kind => pos c k) ∗ (bigSep Finset.univ fun k : Kind => reached ER (cell c k) 0) ∗ toks (F := F) c) : sProp 𝕄)
      ⊢ bigSep Finset.univ (G' m) := by
  rw [bigSep_sep', bigSep_sep', bigSep_sep', ← bigSep_univ_prod (fun ck : Dev nD × Kind => iprop(∃ κ : ℕ, cellInv ER (Rd m) κ (cell ck.1 ck.2))),
    ← bigSep_univ_prod (fun ck : Dev nD × Kind => (reached ER (cell ck.1 ck.2) 0 : sProp 𝕄))]
  iintro ⟨HI, Hat, #HR, Htok⟩
  ihave HK := (BI.bigSep_exists_pi Finset.univ (fun (ck : Dev nD × Kind) (κ : ℕ) => (cellInv ER (Rd m) κ (cell ck.1 ck.2) : sProp 𝕄))) $$ HI
  icases HK with ⟨%K, #HI⟩
  ihave Htk := (toks_around (F := F)) $$ Htok
  iapply ((with_persistent (R := recs m K) (Φ := fun c => iprop((bigSep Finset.univ fun k : Kind => pos c k) ∗ payToks (F := F) c))).trans
    (bigSep_mono fun c _ => show _ ⊢ G' m c from by
      unfold G'
      iintro ⟨#H, HP, HT⟩
      isplitr; · iexists K; iexact H
      isplitl [HP] <;> iassumption))
  isplitr
  · unfold recs; isplitl; · iexact HI
    iexact HR
  rw [bigSep_sep']
  isplitl [Hat]; · iexact Hat
  iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' start
  iintro ⟨-, Hlev, Hcr, -, HK, HP, HT⟩
  ihave Hc := (creds (F := F) c) $$ Hcr
  imodintro
  isplitl
  · isplitl [HK]; · iexact HK
    isplitl [Hlev]; · iexact Hlev
    iapply (rights_intro (F := F) c)
    isplitl [HP]; · iexact HP
    isplitl [HT]; · iexact HT
    iexact Hc
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁
  iintro ⟨HD, Hr⟩
  ihave H := (sems_out (F := F) c) $$ HD
  icases H with ⟨HB, HO⟩
  isplitl [HB]; · iexact HB
  isplitl [HO]; · iexact HO
  iexact Hr

theorem lvs (c : Dev nD) : ∀ x ∈ L0 c, 0 < lvK x.2 := by revert c; decide +kernel

theorem stage_lv (c : Dev nD) (w : Fin 6) (s : Fin (cfg0.win w).nbuf) : lv ((c : Thread nD τ), .dma ((cfg0.win w).sem s)) () = 0 := by
  revert w s; revert c; decide +kernel

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_at c _ (L0 c) fun x hx => by rw [stage_lv c w s]; exact lvs c x hx
    · exact mayWait_at c _ [] fun x hx => absurd hx List.not_mem_nil

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_kernel m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The frame, any float values: arguments unchanged, counters at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c (0 : Fin 6)).trans ((dats (F := F) m ρ 0 c).arrAt_in (0 : Fin 6) rfl _), (h.1 c (1 : Fin 6)).trans ((dats (F := F) m ρ 0 c).arrAt_in (1 : Fin 6) rfl _),
    (h.1 c (2 : Fin 6)).trans ((dats (F := F) m ρ 0 c).arrAt_in (2 : Fin 6) rfl _), (h.1 c (3 : Fin 6)).trans ((dats (F := F) m ρ 0 c).arrAt_in (3 : Fin 6) rfl _), (h.1 c (4 : Fin 6)).trans ((dats (F := F) m ρ 0 c).arrAt_in (4 : Fin 6) rfl _)⟩, h.2⟩) (run_main m ρ)

end Cert.KernelIdeal.Gen

end
-- ==== Proof.FrameK.lean ====
/- The frame of the kernel itself. Its text is the idealized kernel's but for the two mask constants, and those are
   equal where the named constant is read back as the constant's own bits; so the run of `Run` is the kernel's too. -/
module

public import proofs.«01_k».proof.Proof.Run
public import proofs.«01_k».proof.Proof.Gen.Kernel
public import proofs.«01_k».proof.Defs

@[expose] public section

noncomputable section

namespace Cert.KernelIdeal.Gen

open Idealize.ShloMosaic Idealize.ShloMosaic.TcCoe
open Idealize.SL Idealize.SL.Sem

/-- At words of bits a named constant is its bits. -/
local instance namedBits : Named Bits where
  named _ _ φ b := FloatOps.ofBits φ b

/-- The two bodies are one program; -/
theorem body_same : HEq (Cert.Kernel.cc0_body (F := Bits)) (Cert.KernelIdeal.cc0_body (F := Bits)) := HEq.rfl

/-- so are the tables of bodies, -/
theorem defs₀_same : (Cert.Kernel.defs₀ (F := Bits) : Defs nD τ sig (Elt Bits) Λ₀) = Cert.KernelIdeal.defs₀ (F := Bits) := by
  unfold Cert.Kernel.defs₀ Cert.KernelIdeal.defs₀
  refine congrArg Defs.onTc (funext fun l => funext fun x => ?_)
  match l, x with
  | 0, (t, s) => exact eq_of_heq (HEq.refl _)
  | ⟨n + 1, h⟩, x => exact absurd h (Nat.not_lt.2 (Nat.le_add_left _ _))
/-- with the regions. -/
theorem defs_same : (Cert.Kernel.defs (F := Bits) : Defs nD τ sig (Elt Bits) (Pipeline.Sig Λ₀ (Fin 1) fun p => (pcfgs (F := Bits) p).Adm)) = Cert.KernelIdeal.defs (F := Bits) :=
  congrArg (Pipeline.defs (pcfgs (F := Bits))) defs₀_same

set_option maxRecDepth 8000 in
theorem frame_kernel : Cert.quiescent_Kernel (hKernel := Cert.Kernel.Gen.facts) := fun m ρ _ => by
  have h := run_frame (F := Bits) m ρ
  rw [← defs_same] at h
  exact h

end Cert.KernelIdeal.Gen

end
-- ==== Proof.BlockVal.lean ====
/- What one device's partial products hold at an index: the queries, the exponentials of the scores against the two
   key blocks, the weighted values over the weights' total, and their product with the output weights. -/
module

public import proofs.«01_k».proof.Proof.Values
public import Idealize.ShloMosaic.PureOps.Ideal
public import Idealize.ShloMosaic.Lib.Pointwise
public import Idealize.ShloMosaic.Lib.Pipeline.ValueKit

@[expose] public section

set_option maxRecDepth 16384

noncomputable section

namespace Cert.KernelIdeal.Gen

open Idealize.ShloMosaic Idealize.ShloMosaic.TcCoe
open Idealize.SL.Sem

/-- Column `d` of head `h` among the 256 columns of four heads. -/
def hd (h : Fin 4) (d : Fin 64) : Fin 256 := ⟨64 * h.val + d.val, by omega⟩
theorem hd_zero (d : Fin 64) : hd 0 d = ⟨d.val, by omega⟩ := Fin.ext (by simp [hd])
theorem hd_one (d : Fin 64) : hd 1 d = ⟨64 + d.val, by omega⟩ := Fin.ext (by simp [hd])
theorem hd_two (d : Fin 64) : hd 2 d = ⟨128 + d.val, by omega⟩ := Fin.ext (by simp [hd])
theorem hd_three (d : Fin 64) : hd 3 d = ⟨192 + d.val, by omega⟩ := Fin.ext (by simp [hd])

variable (m : (ℓ : Loc nD τ sig) → Buf (Elt Ideal) ℓ)

/-! ## The arrays read, as arrays of extended reals -/

def xv (c : Dev nD) : S2x256x512.Idx → EReal := xb m c
def wqv (c : Dev nD) : S512x256.Idx → EReal := wqb m c
def wov (c : Dev nD) : S256x512.Idx → EReal := wob m c
def K0v (c : Dev nD) : S2x256x256.Idx → EReal := KB0 m c
def V0v (c : Dev nD) : S2x256x256.Idx → EReal := VB0 m c
def K1v (c : Dev nD) : S2x128x256.Idx → EReal := KB1 m c
def V1v (c : Dev nD) : S2x128x256.Idx → EReal := VB1 m c

/-! ## The stages -/

/-- The scaled query of device `c`'s heads: batch `b`, row `r`, column `k`. -/
def qv (c : Dev nD) (b : Fin 2) (r k : Fin 256) : EReal :=
  ∑ t : Fin 512, xv m c (ix3 b r t) * (wqv m c (ix2 t k) * Ideal.ofBits .f32 0x3E000000#32)
/-- The exponential of the score of row `r` against key `j` of the first key block. -/
def e0 (c : Dev nD) (b : Fin 2) (h : Fin 4) (r j : Fin 256) : EReal :=
  Ideal.exp (∑ d : Fin 64, qv m c b r (hd h d) * K0v m c (ix3 b j (hd h d)) + k0_pay30 (F := Ideal) (ix2 r j))
/-- The exponential of the score of row `r` against key `j` of the second key block. -/
def e1 (c : Dev nD) (b : Fin 2) (h : Fin 4) (r : Fin 256) (j : Fin 128) : EReal :=
  Ideal.exp (∑ d : Fin 64, qv m c b r (hd h d) * K1v m c (ix3 b j (hd h d)) + k0_pay58 (F := Ideal) (ix2 r j))
/-- The row's total weight. -/
def tot (c : Dev nD) (b : Fin 2) (h : Fin 4) (r : Fin 256) : EReal := ∑ j, e0 m c b h r j + ∑ j, e1 m c b h r j
/-- The row's weighted values, before the division. -/
def pv (c : Dev nD) (b : Fin 2) (h : Fin 4) (r : Fin 256) (d : Fin 64) : EReal :=
  ∑ j, e0 m c b h r j * V0v m c (ix3 b j (hd h d)) + ∑ j, e1 m c b h r j * V1v m c (ix3 b j (hd h d))
/-- The attention's output for column `k` of the device's four heads. -/
def cx (c : Dev nD) (b : Fin 2) (r k : Fin 256) : EReal :=
  Ideal.div (pv m c b ⟨k.val / 64, by omega⟩ r ⟨k.val % 64, by omega⟩) (tot m c b ⟨k.val / 64, by omega⟩ r)
/-- The device's partial product. -/
def part (c : Dev nD) (b : Fin 2) (r : Fin 256) (n : Fin 512) : EReal :=
  ∑ k : Fin 256, cx m c b r k * wov m c (ix2 k n)

/-! ## The loads -/

theorem V49_apply (c : Dev nD) (t : Fin 512) (k : Fin 256) : V49 m c (ix2 t k) = wqv m c (ix2 t k) := by
  unfold V49
  exact View.ld_unit_apply_of _ _ _ _ _ (ix2 t k) (by intro a; fin_cases a <;> simp)
theorem V54_apply (c : Dev nD) (k : Fin 256) (n : Fin 512) : V54 m c (ix2 k n) = wov m c (ix2 k n) := by
  unfold V54
  exact View.ld_unit_apply_of _ _ _ _ _ (ix2 k n) (by intro a; fin_cases a <;> simp)
theorem V57_apply (c : Dev nD) (r : Fin 256) (t : Fin 512) : V57 m c (ix3 0 r t) = xv m c (ix3 0 r t) := by
  unfold V57
  exact View.ld_unit_apply_of _ _ _ _ _ (ix3 0 r t) (by intro a; fin_cases a <;> simp)
theorem V61_apply (c : Dev nD) (r : Fin 256) (t : Fin 512) : V61 m c (ix3 0 r t) = xv m c (ix3 1 r t) := by
  unfold V61
  exact View.ld_unit_apply_of _ _ _ _ _ (ix3 1 r t) (by intro a; fin_cases a <;> simp)
theorem V95_apply (c : Dev nD) (j : Fin 256) (k : Fin 256) : V95 m c (ix3 0 j k) = K0v m c (ix3 0 j k) := by
  unfold V95
  exact View.ld_unit_apply_of _ _ _ _ _ (ix3 0 j k) (by intro a; fin_cases a <;> simp)
theorem V125_apply (c : Dev nD) (j : Fin 256) (k : Fin 256) : V125 m c (ix3 0 j k) = K0v m c (ix3 1 j k) := by
  unfold V125
  exact View.ld_unit_apply_of _ _ _ _ _ (ix3 1 j k) (by intro a; fin_cases a <;> simp)
theorem V169_apply (c : Dev nD) (j : Fin 128) (k : Fin 256) : V169 m c (ix3 0 j k) = K1v m c (ix3 0 j k) := by
  unfold V169
  exact View.ld_unit_apply_of _ _ _ _ _ (ix3 0 j k) (by intro a; fin_cases a <;> simp)
theorem V199_apply (c : Dev nD) (j : Fin 128) (k : Fin 256) : V199 m c (ix3 0 j k) = K1v m c (ix3 1 j k) := by
  unfold V199
  exact View.ld_unit_apply_of _ _ _ _ _ (ix3 1 j k) (by intro a; fin_cases a <;> simp)
theorem V240_apply (c : Dev nD) (j : Fin 256) (k : Fin 256) : V240 m c (ix3 0 j k) = V0v m c (ix3 0 j k) := by
  unfold V240
  exact View.ld_unit_apply_of _ _ _ _ _ (ix3 0 j k) (by intro a; fin_cases a <;> simp)
theorem V250_apply (c : Dev nD) (j : Fin 256) (k : Fin 256) : V250 m c (ix3 0 j k) = V0v m c (ix3 1 j k) := by
  unfold V250
  exact View.ld_unit_apply_of _ _ _ _ _ (ix3 1 j k) (by intro a; fin_cases a <;> simp)
theorem V263_apply (c : Dev nD) (j : Fin 128) (k : Fin 256) : V263 m c (ix3 0 j k) = V1v m c (ix3 0 j k) := by
  unfold V263
  exact View.ld_unit_apply_of _ _ _ _ _ (ix3 0 j k) (by intro a; fin_cases a <;> simp)
theorem V361_apply (c : Dev nD) (j : Fin 128) (k : Fin 256) : V361 m c (ix3 0 j k) = V1v m c (ix3 1 j k) := by
  unfold V361
  exact View.ld_unit_apply_of _ _ _ _ _ (ix3 1 j k) (by intro a; fin_cases a <;> simp)
/-! ## The stages of the program are the stages above -/

theorem V53_apply (c : Dev nD) (t : Fin 512) (k : Fin 256) : V53 m c (ix2 t k) = wqv m c (ix2 t k) * Ideal.ofBits .f32 0x3E000000#32 := by
  unfold V53
  pointwise [k0_pay17]
  rw [V49_apply]
theorem V56_apply (c : Dev nD) (k : Fin 256) (n : Fin 512) : V56 m c (ix2 k n) = wov m c (ix2 k n) := by
  unfold V56
  pointwise [k0_pay18]
  rw [V54_apply]
theorem V62_apply (c : Dev nD) (r : Fin 256) (t : Fin 512) : V62 m c (ix2 r t) = xv m c (ix3 1 r t) := by
  unfold V62
  pointwise [k0_pay20]
  rw [V61_apply]
theorem V60_apply (c : Dev nD) (r k : Fin 256) : V60 m c (ix2 r k) = qv m c 0 r k := by
  unfold V60 qv
  pointwise [k0_pay19, k0_pay17]
  simp only [V57_apply, V49_apply]
theorem V94_apply (c : Dev nD) (r j : Fin 256) : V94 (F := Ideal) c (ix2 r j) = k0_pay30 (F := Ideal) (ix2 r j) := rfl
theorem V168_apply (c : Dev nD) (r : Fin 256) (j : Fin 128) : V168 (F := Ideal) c (ix2 r j) = k0_pay58 (F := Ideal) (ix2 r j) := rfl
theorem V96_apply (c : Dev nD) (j k : Fin 256) : V96 m c (ix2 j k) = K0v m c (ix3 0 j k) := by
  unfold V96
  pointwise [k0_pay31]
  rw [V95_apply]
theorem V264_apply (c : Dev nD) (j : Fin 128) (k : Fin 256) : V264 m c (ix2 j k) = V1v m c (ix3 0 j k) := by
  unfold V264
  pointwise [k0_pay95]
  rw [V263_apply]
theorem V66_apply (c : Dev nD) (r : Fin 256) (d : Fin 64) : V66 m c (ix2 r d) = qv m c 0 r (hd 0 d) := by
  unfold V66
  pointwise [k0_pay22]
  simp only [hd_zero, hd_one, hd_two, hd_three, V60_apply]
theorem V68_apply (c : Dev nD) (r : Fin 256) (d : Fin 64) : V68 m c (ix2 r d) = qv m c 0 r (hd 1 d) := by
  unfold V68
  pointwise [k0_pay23]
  simp only [hd_zero, hd_one, hd_two, hd_three, V60_apply]
theorem V70_apply (c : Dev nD) (r : Fin 256) (d : Fin 64) : V70 m c (ix2 r d) = qv m c 0 r (hd 2 d) := by
  unfold V70
  pointwise [k0_pay24]
  simp only [hd_zero, hd_one, hd_two, hd_three, V60_apply]
theorem V72_apply (c : Dev nD) (r : Fin 256) (d : Fin 64) : V72 m c (ix2 r d) = qv m c 0 r (hd 3 d) := by
  unfold V72
  pointwise [k0_pay25]
  simp only [hd_zero, hd_one, hd_two, hd_three, V60_apply]
theorem V74_apply (c : Dev nD) (r : Fin 256) (d : Fin 64) : V74 m c (ix2 r d) = qv m c 1 r (hd 0 d) := by
  unfold V74
  pointwise [k0_pay26, k0_pay21]
  simp only [hd_zero, hd_one, hd_two, hd_three, V53_apply, V62_apply, qv]
theorem V76_apply (c : Dev nD) (r : Fin 256) (d : Fin 64) : V76 m c (ix2 r d) = qv m c 1 r (hd 1 d) := by
  unfold V76
  pointwise [k0_pay27, k0_pay21]
  simp only [hd_zero, hd_one, hd_two, hd_three, V53_apply, V62_apply, qv]
theorem V78_apply (c : Dev nD) (r : Fin 256) (d : Fin 64) : V78 m c (ix2 r d) = qv m c 1 r (hd 2 d) := by
  unfold V78
  pointwise [k0_pay28, k0_pay21]
  simp only [hd_zero, hd_one, hd_two, hd_three, V53_apply, V62_apply, qv]
theorem V80_apply (c : Dev nD) (r : Fin 256) (d : Fin 64) : V80 m c (ix2 r d) = qv m c 1 r (hd 3 d) := by
  unfold V80
  pointwise [k0_pay29, k0_pay21]
  simp only [hd_zero, hd_one, hd_two, hd_three, V53_apply, V62_apply, qv]
theorem V103_apply (c : Dev nD) (r j : Fin 256) : V103 m c (ix2 r j) = e0 m c 0 0 r j := by
  unfold V103
  pointwise [k0_pay34, k0_pay32, k0_pay22, k0_pay31]
  simp only [hd_zero, hd_one, hd_two, hd_three, V60_apply, V95_apply, e0]
theorem V102_apply (c : Dev nD) (r : Fin 256)  : V102 m c (ix2 r 0) = ∑ j, e0 m c 0 0 r j := by
  unfold V102
  pointwise [k0_pay33, k0_pay32, k0_pay22, k0_pay31]
  simp only [hd_zero, hd_one, hd_two, hd_three, V60_apply, V95_apply, e0]
theorem V107_apply (c : Dev nD) (r j : Fin 256) : V107 m c (ix2 r j) = e0 m c 0 1 r j := by
  unfold V107
  pointwise [k0_pay35, k0_pay23, k0_pay31]
  simp only [hd_zero, hd_one, hd_two, hd_three, V60_apply, V95_apply, e0]
theorem V110_apply (c : Dev nD) (r j : Fin 256) : V110 m c (ix2 r j) = e0 m c 0 1 r j := by
  unfold V110
  pointwise [k0_pay37]
  simp only [hd_zero, hd_one, hd_two, hd_three, V107_apply, e0]
theorem V109_apply (c : Dev nD) (r : Fin 256)  : V109 m c (ix2 r 0) = ∑ j, e0 m c 0 1 r j := by
  unfold V109
  pointwise [k0_pay36]
  simp only [hd_zero, hd_one, hd_two, hd_three, V107_apply, e0]
theorem V117_apply (c : Dev nD) (r j : Fin 256) : V117 m c (ix2 r j) = e0 m c 0 2 r j := by
  unfold V117
  pointwise [k0_pay40, k0_pay38]
  simp only [hd_zero, hd_one, hd_two, hd_three, V70_apply, V94_apply, V96_apply, e0]
theorem V116_apply (c : Dev nD) (r : Fin 256)  : V116 m c (ix2 r 0) = ∑ j, e0 m c 0 2 r j := by
  unfold V116
  pointwise [k0_pay39, k0_pay38]
  simp only [hd_zero, hd_one, hd_two, hd_three, V70_apply, V94_apply, V96_apply, e0]
theorem V124_apply (c : Dev nD) (r j : Fin 256) : V124 m c (ix2 r j) = e0 m c 0 3 r j := by
  unfold V124
  pointwise [k0_pay43, k0_pay41]
  simp only [hd_zero, hd_one, hd_two, hd_three, V72_apply, V94_apply, V96_apply, e0]
theorem V123_apply (c : Dev nD) (r : Fin 256)  : V123 m c (ix2 r 0) = ∑ j, e0 m c 0 3 r j := by
  unfold V123
  pointwise [k0_pay42, k0_pay41]
  simp only [hd_zero, hd_one, hd_two, hd_three, V72_apply, V94_apply, V96_apply, e0]
theorem V133_apply (c : Dev nD) (r j : Fin 256) : V133 m c (ix2 r j) = e0 m c 1 0 r j := by
  unfold V133
  pointwise [k0_pay47, k0_pay45, k0_pay44]
  simp only [hd_zero, hd_one, hd_two, hd_three, V74_apply, V94_apply, V125_apply, e0]
theorem V132_apply (c : Dev nD) (r : Fin 256)  : V132 m c (ix2 r 0) = ∑ j, e0 m c 1 0 r j := by
  unfold V132
  pointwise [k0_pay46, k0_pay45, k0_pay44]
  simp only [hd_zero, hd_one, hd_two, hd_three, V74_apply, V94_apply, V125_apply, e0]
theorem V140_apply (c : Dev nD) (r j : Fin 256) : V140 m c (ix2 r j) = e0 m c 1 1 r j := by
  unfold V140
  pointwise [k0_pay50, k0_pay48, k0_pay44]
  simp only [hd_zero, hd_one, hd_two, hd_three, V76_apply, V94_apply, V125_apply, e0]
theorem V139_apply (c : Dev nD) (r : Fin 256)  : V139 m c (ix2 r 0) = ∑ j, e0 m c 1 1 r j := by
  unfold V139
  pointwise [k0_pay49, k0_pay48, k0_pay44]
  simp only [hd_zero, hd_one, hd_two, hd_three, V76_apply, V94_apply, V125_apply, e0]
theorem V147_apply (c : Dev nD) (r j : Fin 256) : V147 m c (ix2 r j) = e0 m c 1 2 r j := by
  unfold V147
  pointwise [k0_pay53, k0_pay51, k0_pay44]
  simp only [hd_zero, hd_one, hd_two, hd_three, V78_apply, V94_apply, V125_apply, e0]
theorem V146_apply (c : Dev nD) (r : Fin 256)  : V146 m c (ix2 r 0) = ∑ j, e0 m c 1 2 r j := by
  unfold V146
  pointwise [k0_pay52, k0_pay51, k0_pay44]
  simp only [hd_zero, hd_one, hd_two, hd_three, V78_apply, V94_apply, V125_apply, e0]
theorem V151_apply (c : Dev nD) (r j : Fin 256) : V151 m c (ix2 r j) = e0 m c 1 3 r j := by
  unfold V151
  pointwise [k0_pay54, k0_pay44]
  simp only [hd_zero, hd_one, hd_two, hd_three, V80_apply, V94_apply, V125_apply, e0]
theorem V152_apply (c : Dev nD) (r : Fin 256)  : V152 m c (ix1 r) = ∑ j, e0 m c 1 3 r j := by
  unfold V152
  pointwise [k0_pay55, k0_pay54, k0_pay44]
  simp only [hd_zero, hd_one, hd_two, hd_three, V80_apply, V94_apply, V125_apply, e0]
theorem V153_apply (c : Dev nD) (r : Fin 256)  : V153 m c (ix2 r 0) = ∑ j, e0 m c 1 3 r j := by
  unfold V153
  pointwise [k0_pay56]
  simp only [hd_zero, hd_one, hd_two, hd_three, V152_apply, e0]
theorem V154_apply (c : Dev nD) (r j : Fin 256) : V154 m c (ix2 r j) = e0 m c 1 3 r j := by
  unfold V154
  pointwise [k0_pay57]
  simp only [hd_zero, hd_one, hd_two, hd_three, V151_apply, e0]
theorem V177_apply (c : Dev nD) (r : Fin 256) (j : Fin 128) : V177 m c (ix2 r j) = e1 m c 0 0 r j := by
  unfold V177
  pointwise [k0_pay62, k0_pay60, k0_pay59]
  simp only [hd_zero, hd_one, hd_two, hd_three, V66_apply, V169_apply, e1]
theorem V176_apply (c : Dev nD) (r : Fin 256)  : V176 m c (ix2 r 0) = ∑ j, e1 m c 0 0 r j := by
  unfold V176
  pointwise [k0_pay61, k0_pay60, k0_pay59]
  simp only [hd_zero, hd_one, hd_two, hd_three, V66_apply, V169_apply, e1]
theorem V184_apply (c : Dev nD) (r : Fin 256) (j : Fin 128) : V184 m c (ix2 r j) = e1 m c 0 1 r j := by
  unfold V184
  pointwise [k0_pay65, k0_pay63, k0_pay59]
  simp only [hd_zero, hd_one, hd_two, hd_three, V68_apply, V169_apply, e1]
theorem V183_apply (c : Dev nD) (r : Fin 256)  : V183 m c (ix2 r 0) = ∑ j, e1 m c 0 1 r j := by
  unfold V183
  pointwise [k0_pay64, k0_pay63, k0_pay59]
  simp only [hd_zero, hd_one, hd_two, hd_three, V68_apply, V169_apply, e1]
theorem V191_apply (c : Dev nD) (r : Fin 256) (j : Fin 128) : V191 m c (ix2 r j) = e1 m c 0 2 r j := by
  unfold V191
  pointwise [k0_pay68, k0_pay66, k0_pay59]
  simp only [hd_zero, hd_one, hd_two, hd_three, V70_apply, V169_apply, e1]
theorem V190_apply (c : Dev nD) (r : Fin 256)  : V190 m c (ix2 r 0) = ∑ j, e1 m c 0 2 r j := by
  unfold V190
  pointwise [k0_pay67, k0_pay66, k0_pay59]
  simp only [hd_zero, hd_one, hd_two, hd_three, V70_apply, V169_apply, e1]
theorem V195_apply (c : Dev nD) (r : Fin 256) (j : Fin 128) : V195 m c (ix2 r j) = e1 m c 0 3 r j := by
  unfold V195
  pointwise [k0_pay69, k0_pay59]
  simp only [hd_zero, hd_one, hd_two, hd_three, V72_apply, V169_apply, e1]
theorem V198_apply (c : Dev nD) (r : Fin 256) (j : Fin 128) : V198 m c (ix2 r j) = e1 m c 0 3 r j := by
  unfold V198
  pointwise [k0_pay70]
  simp only [hd_zero, hd_one, hd_two, hd_three, V195_apply, e1]
theorem V207_apply (c : Dev nD) (r : Fin 256) (j : Fin 128) : V207 m c (ix2 r j) = e1 m c 1 0 r j := by
  unfold V207
  pointwise [k0_pay73, k0_pay72, k0_pay71]
  simp only [hd_zero, hd_one, hd_two, hd_three, V74_apply, V168_apply, V199_apply, e1]
theorem V214_apply (c : Dev nD) (r : Fin 256) (j : Fin 128) : V214 m c (ix2 r j) = e1 m c 1 1 r j := by
  unfold V214
  pointwise [k0_pay75, k0_pay74, k0_pay71]
  simp only [hd_zero, hd_one, hd_two, hd_three, V76_apply, V168_apply, V199_apply, e1]
theorem V221_apply (c : Dev nD) (r : Fin 256) (j : Fin 128) : V221 m c (ix2 r j) = e1 m c 1 2 r j := by
  unfold V221
  pointwise [k0_pay77, k0_pay76, k0_pay71]
  simp only [hd_zero, hd_one, hd_two, hd_three, V78_apply, V168_apply, V199_apply, e1]
theorem V228_apply (c : Dev nD) (r : Fin 256) (j : Fin 128) : V228 m c (ix2 r j) = e1 m c 1 3 r j := by
  unfold V228
  pointwise [k0_pay79, k0_pay78, k0_pay71]
  simp only [hd_zero, hd_one, hd_two, hd_three, V80_apply, V168_apply, V199_apply, e1]
theorem V229_apply (c : Dev nD) (r : Fin 256)  : V229 m c (ix2 r 0) = tot m c 0 0 r := by
  unfold V229
  pointwise [k0_pay80]
  simp only [hd_zero, hd_one, hd_two, hd_three, V102_apply, V176_apply, tot]
theorem V230_apply (c : Dev nD) (r : Fin 256)  : V230 m c (ix2 r 0) = tot m c 0 1 r := by
  unfold V230
  pointwise [k0_pay81]
  simp only [hd_zero, hd_one, hd_two, hd_three, V109_apply, V183_apply, tot]
theorem V231_apply (c : Dev nD) (r : Fin 256)  : V231 m c (ix2 r 0) = tot m c 0 2 r := by
  unfold V231
  pointwise [k0_pay82]
  simp only [hd_zero, hd_one, hd_two, hd_three, V116_apply, V190_apply, tot]
theorem V232_apply (c : Dev nD) (r : Fin 256)  : V232 m c (ix2 r 0) = tot m c 0 3 r := by
  unfold V232
  pointwise [k0_pay83]
  simp only [hd_zero, hd_one, hd_two, hd_three, V123_apply, V195_apply, tot]
theorem V233_apply (c : Dev nD) (r : Fin 256)  : V233 m c (ix2 r 0) = tot m c 1 0 r := by
  unfold V233
  pointwise [k0_pay84, k0_pay72, k0_pay71]
  simp only [hd_zero, hd_one, hd_two, hd_three, V132_apply, V74_apply, V168_apply, V199_apply, tot, e1]
theorem V234_apply (c : Dev nD) (r : Fin 256)  : V234 m c (ix2 r 0) = tot m c 1 1 r := by
  unfold V234
  pointwise [k0_pay85, k0_pay74, k0_pay71]
  simp only [hd_zero, hd_one, hd_two, hd_three, V139_apply, V76_apply, V168_apply, V199_apply, tot, e1]
theorem V235_apply (c : Dev nD) (r : Fin 256)  : V235 m c (ix2 r 0) = tot m c 1 2 r := by
  unfold V235
  pointwise [k0_pay86, k0_pay76, k0_pay71]
  simp only [hd_zero, hd_one, hd_two, hd_three, V146_apply, V78_apply, V168_apply, V199_apply, tot, e1]
theorem V236_apply (c : Dev nD) (r : Fin 256)  : V236 m c (ix2 r 0) = tot m c 1 3 r := by
  unfold V236
  pointwise [k0_pay87, k0_pay78, k0_pay71]
  simp only [hd_zero, hd_one, hd_two, hd_three, V153_apply, V80_apply, V168_apply, V199_apply, tot, e1]
theorem V249_apply (c : Dev nD) (r : Fin 256) (d : Fin 64) : V249 m c (ix2 r d) = ∑ j, e0 m c 0 3 r j * V0v m c (ix3 0 j (hd 3 d)) := by
  unfold V249
  pointwise [k0_pay89, k0_pay88]
  simp only [hd_zero, hd_one, hd_two, hd_three, V124_apply, V240_apply]
theorem V253_apply (c : Dev nD) (r : Fin 256) (d : Fin 64) : V253 m c (ix2 r d) = ∑ j, e0 m c 1 0 r j * V0v m c (ix3 1 j (hd 0 d)) := by
  unfold V253
  pointwise [k0_pay91, k0_pay90]
  simp only [hd_zero, hd_one, hd_two, hd_three, V133_apply, V250_apply]
theorem V255_apply (c : Dev nD) (r : Fin 256) (d : Fin 64) : V255 m c (ix2 r d) = ∑ j, e0 m c 1 1 r j * V0v m c (ix3 1 j (hd 1 d)) := by
  unfold V255
  pointwise [k0_pay92, k0_pay90]
  simp only [hd_zero, hd_one, hd_two, hd_three, V140_apply, V250_apply]
theorem V257_apply (c : Dev nD) (r : Fin 256) (d : Fin 64) : V257 m c (ix2 r d) = ∑ j, e0 m c 1 2 r j * V0v m c (ix3 1 j (hd 2 d)) := by
  unfold V257
  pointwise [k0_pay93, k0_pay90]
  simp only [hd_zero, hd_one, hd_two, hd_three, V147_apply, V250_apply]
theorem V259_apply (c : Dev nD) (r : Fin 256) (d : Fin 64) : V259 m c (ix2 r d) = ∑ j, e0 m c 1 3 r j * V0v m c (ix3 1 j (hd 3 d)) := by
  unfold V259
  pointwise [k0_pay94, k0_pay90]
  simp only [hd_zero, hd_one, hd_two, hd_three, V154_apply, V250_apply]
theorem V269_apply (c : Dev nD) (r : Fin 256) (d : Fin 64) : V269 m c (ix2 r d) = Ideal.div (pv m c 0 0 r d) (tot m c 0 0 r) := by
  unfold V269
  pointwise [k0_pay96, k0_pay88, k0_pay95]
  simp only [hd_zero, hd_one, hd_two, hd_three, V103_apply, V177_apply, V229_apply, V240_apply, V263_apply, pv]
theorem V274_apply (c : Dev nD) (r : Fin 256) (d : Fin 64) : V274 m c (ix2 r d) = Ideal.div (pv m c 0 1 r d) (tot m c 0 1 r) := by
  unfold V274
  pointwise [k0_pay97, k0_pay88, k0_pay95]
  simp only [hd_zero, hd_one, hd_two, hd_three, V110_apply, V184_apply, V230_apply, V240_apply, V263_apply, pv]
theorem V277_apply (c : Dev nD) (r : Fin 256) (d : Fin 64) : V277 m c (ix2 r d) = pv m c 0 2 r d := by
  unfold V277
  pointwise [k0_pay98, k0_pay88, k0_pay95]
  simp only [hd_zero, hd_one, hd_two, hd_three, V117_apply, V191_apply, V240_apply, V263_apply, pv]
theorem V367_apply (c : Dev nD) (r : Fin 256) (d : Fin 64) : V367 m c (ix2 r d) = Ideal.div (pv m c 1 0 r d) (tot m c 1 0 r) := by
  unfold V367
  pointwise [k0_pay103, k0_pay102]
  simp only [hd_zero, hd_one, hd_two, hd_three, V207_apply, V233_apply, V253_apply, V361_apply, pv]
theorem V372_apply (c : Dev nD) (r : Fin 256) (d : Fin 64) : V372 m c (ix2 r d) = Ideal.div (pv m c 1 1 r d) (tot m c 1 1 r) := by
  unfold V372
  pointwise [k0_pay104, k0_pay102]
  simp only [hd_zero, hd_one, hd_two, hd_three, V214_apply, V234_apply, V255_apply, V361_apply, pv]
theorem V377_apply (c : Dev nD) (r : Fin 256) (d : Fin 64) : V377 m c (ix2 r d) = Ideal.div (pv m c 1 2 r d) (tot m c 1 2 r) := by
  unfold V377
  pointwise [k0_pay105, k0_pay102]
  simp only [hd_zero, hd_one, hd_two, hd_three, V221_apply, V235_apply, V257_apply, V361_apply, pv]
theorem V378_apply (c : Dev nD) (j : Fin 128) (d : Fin 64) : V378 m c (ix2 j d) = V1v m c (ix3 1 j (hd 3 d)) := by
  unfold V378
  pointwise [k0_pay106, k0_pay102]
  simp only [hd_zero, hd_one, hd_two, hd_three, V361_apply]
/-- A column is its place in its head. -/
theorem cx_hd (c : Dev nD) (b : Fin 2) (h : Fin 4) (r : Fin 256) (d : Fin 64) :
    cx m c b r (hd h d) = Ideal.div (pv m c b h r d) (tot m c b h r) := by
  have h1 : (⟨(hd h d).val / 64, by omega⟩ : Fin 4) = h := Fin.ext (by simp only [hd]; omega)
  have h2 : (⟨(hd h d).val % 64, by omega⟩ : Fin 64) = d := Fin.ext (by simp only [hd]; omega)
  unfold cx
  rw [h1, h2]
theorem exists_hd (k : Fin 256) : ∃ h d, k = hd h d :=
  ⟨⟨k.val / 64, by omega⟩, ⟨k.val % 64, by omega⟩, Fin.ext (by simp only [hd]; omega)⟩
theorem ladder0 (c : Dev nD) (r k : Fin 256) :
    (if h : k.val < 64 then V269 m c (ix2 r ⟨k.val, h⟩)
      else if h : k.val - 64 < 64 then V274 m c (ix2 r ⟨k.val - 64, h⟩)
      else if h : k.val - 64 - 64 < 64 then Ideal.div (V277 m c (ix2 r ⟨k.val - 64 - 64, h⟩)) (V231 m c (ix2 r 0))
      else Ideal.div (V249 m c (ix2 r ⟨k.val - 64 - 64 - 64, by omega⟩) +
          ∑ j, V198 m c (ix2 r j) * V264 m c (ix2 j ⟨192 + (k.val - 64 - 64 - 64), by omega⟩)) (V232 m c (ix2 r 0))) = cx m c 0 r k := by
  obtain ⟨h, d, rfl⟩ := exists_hd k
  rw [cx_hd]
  fin_cases h
  · rw [dif_pos (by simp [hd]), V269_apply]
    simp [hd]
  · rw [dif_neg (by simp [hd]), dif_pos (by simp [hd]), V274_apply]
    simp [hd]
  · rw [dif_neg (by simp [hd] <;> omega), dif_neg (by simp [hd] <;> omega), dif_pos (by simp [hd] <;> omega)]
    simp only [V277_apply, V231_apply]
    simp [hd, Nat.sub_sub]
  · rw [dif_neg (by simp [hd] <;> omega), dif_neg (by simp [hd] <;> omega), dif_neg (by simp [hd] <;> omega)]
    simp only [V249_apply, V198_apply, V264_apply, V232_apply]
    simp [hd, pv, Nat.sub_sub]
theorem part0_apply (c : Dev nD) (r : Fin 256) (n : Fin 512) : P101 m c (ix3 0 r n) = part m c 0 r n := by
  unfold P101 part
  pointwise [k0_pay101, k0_pay99]
  exact Finset.sum_congr rfl fun k _ => by rw [V56_apply, ← ladder0]
theorem ladder1 (c : Dev nD) (r k : Fin 256) :
    (if h : k.val < 64 then V367 m c (ix2 r ⟨k.val, h⟩)
      else if h : k.val - 64 < 64 then V372 m c (ix2 r ⟨k.val - 64, h⟩)
      else if h : k.val - 64 - 64 < 64 then V377 m c (ix2 r ⟨k.val - 64 - 64, h⟩)
      else Ideal.div (V259 m c (ix2 r ⟨k.val - 64 - 64 - 64, by omega⟩) +
          ∑ j, V228 m c (ix2 r j) * V378 m c (ix2 j ⟨k.val - 64 - 64 - 64, by omega⟩)) (V236 m c (ix2 r 0))) = cx m c 1 r k := by
  obtain ⟨h, d, rfl⟩ := exists_hd k
  rw [cx_hd]
  fin_cases h
  · rw [dif_pos (by simp [hd]), V367_apply]
    simp [hd]
  · rw [dif_neg (by simp [hd]), dif_pos (by simp [hd]), V372_apply]
    simp [hd]
  · rw [dif_neg (by simp [hd] <;> omega), dif_neg (by simp [hd] <;> omega), dif_pos (by simp [hd] <;> omega)]
    simp only [V377_apply]
    simp [hd, Nat.sub_sub]
  · rw [dif_neg (by simp [hd] <;> omega), dif_neg (by simp [hd] <;> omega), dif_neg (by simp [hd] <;> omega)]
    simp only [V259_apply, V228_apply, V378_apply, V236_apply]
    simp [hd, pv, Nat.sub_sub]
theorem part1_apply (c : Dev nD) (r : Fin 256) (n : Fin 512) : P109 m c (ix3 0 r n) = part m c 1 r n := by
  unfold P109 part
  pointwise [k0_pay109, k0_pay107]
  exact Finset.sum_congr rfl fun k _ => by rw [V56_apply, ← ladder1]
theorem part0_apply_bf16 (c : Dev nD) (r : Fin 256) (n : Fin 512) : P100 m c (ix3 0 r n) = part m c 0 r n := by
  rw [← part0_apply]
  unfold P100 P101
  pointwise [k0_pay100, k0_pay101]
theorem part1_apply_bf16 (c : Dev nD) (r : Fin 256) (n : Fin 512) : P108 m c (ix3 0 r n) = part m c 1 r n := by
  rw [← part1_apply]
  unfold P108 P109
  pointwise [k0_pay108, k0_pay109]

end Cert.KernelIdeal.Gen

end
-- ==== Proof.OutVal.lean ====
/- What every device's output holds in the end: at each index, the sum over the four devices of their partial products. -/
module

public import proofs.«01_k».proof.Proof.Sets
public import proofs.«01_k».proof.Proof.BlockVal
public import Idealize.ShloMosaic.Lib.ValueLayout

@[expose] public section

set_option maxRecDepth 16384

noncomputable section

namespace Cert.KernelIdeal.Gen

open Idealize.ShloMosaic Idealize.ShloMosaic.TcCoe
open Idealize.SL.Sem

variable (m : (ℓ : Loc nD τ sig) → Buf (Elt Ideal) ℓ)

/-- The sum of the four devices' partial products. -/
def full (b : Fin 2) (r : Fin 256) (n : Fin 512) : EReal := ∑ q : Dev nD, part m q b r n
/-- Row `ρ` of device `q`'s 64 rows. -/
def rowOf (q : Dev nD) (ρ : Fin 64) : Fin 256 := ⟨64 * q.val + ρ.val, by have := q.isLt; simp only [nD] at this; omega⟩

/-! ## Stores at an index -/

/-- A unit axis put back before two axes. -/
theorem squeeze3 (h : (⟨2, ![64, 512]⟩ : Shape).numel = (⟨3, ![1, 64, 512]⟩ : Shape).numel) (ρ : Fin 64) (n : Fin 512) :
    Shape.reshapeEquiv h (ix2 ρ n) = ix3 0 ρ n :=
  Shape.reshapeEquiv_eq_of_rowMajor h (by
    rw [Shape.rowMajor_val_three, Shape.rowMajor_val_two]
    show (0 * 64 + ρ.val) * 512 + n.val = ρ.val * 512 + n.val
    omega)
/-- Two unit axes put back before two axes. -/
theorem squeeze4 (h : (⟨2, ![64, 512]⟩ : Shape).numel = (⟨4, ![1, 1, 64, 512]⟩ : Shape).numel) (ρ : Fin 64) (n : Fin 512) :
    Shape.reshapeEquiv h (ix2 ρ n) = ix4 0 0 ρ n :=
  Shape.reshapeEquiv_eq_of_rowMajor h (by
    rw [Shape.rowMajor_val_four, Shape.rowMajor_val_two]
    show ((0 * 1 + 0) * 64 + ρ.val) * 512 + n.val = ρ.val * 512 + n.val
    omega)
/-- A store through a view, at the place of one of its indices. -/
theorem write_hit {κ : Idealize.ShloMosaic.Kind} {sp : Space} {s : Shape} {e : EltTy} (v : View sig κ sp s e)
    (f : v.ty.Contents (Elt Ideal)) (w : s.Idx → Elt Ideal e) (i : v.ty.Idx) (x : s.Idx) (h : v.emb x = i) :
    v.write (Elt Ideal) f w Finset.univ i = _root_.cast (congrArg (Elt Ideal) v.elt_eq.symm) (w x) := by
  rw [← h, View.write_emb_of_mem _ _ (Finset.mem_univ _)]

/-- A store of 64 rows of one batch, at an index. -/
theorem write_rows (off : Fin 3 → ℕ) (inb : ∀ a, off a + S1x64x512.size a ≤ S2x256x512.size a) (b : Fin 2) (q : Dev nD)
    (h : off = ![b.val, 64 * q.val, 0]) (f : cc0_stg5_0.ty.Contents (Elt Ideal)) (p : Vec Ideal S1x64x512 .f32)
    (b' : Fin 2) (q' : Dev nD) (ρ : Fin 64) (n : Fin 512) :
    (oM.access (Rect.unit (s := S2x256x512) off S1x64x512.size inb)).write (Elt Ideal) f p Finset.univ (ix3 b' (rowOf q' ρ) n)
      = if b' = b ∧ q' = q then p (ix3 0 ρ n) else f (ix3 b' (rowOf q' ρ) n) := by
  subst h
  split_ifs with hc
  · obtain ⟨rfl, rfl⟩ := hc
    refine (write_hit _ _ _ _ (ix3 0 ρ n) ?_).trans rfl
    funext a
    apply Fin.ext
    refine (Rect.idx_unit_val _ _ _ _ a).trans ?_
    fin_cases a <;> simp [rowOf]
  · refine write_off _ _ _ fun hi => hc ?_
    have hi' : ix3 b' (rowOf q' ρ) n ∈ (Rect.unit (s := S2x256x512) ![b.val, 64 * q.val, 0] S1x64x512.size inb).set := by
      simpa only [Memref.access, Memref.view_whole, View.set_slice_whole] using hi
    have h' := Rect.mem_set_unit.1 hi'
    have h0 := h' 0
    have h1 := h' 1
    simp [S1x64x512, rowOf] at h0 h1
    constructor <;> apply Fin.ext <;> omega

/-- The partial sums staged for the scatter, at an index. -/
theorem RS_apply (c : Dev nD) (b : Fin 2) (r : Fin 256) (n : Fin 512) : RS m c (ix3 b r n) = part m c b r n := by
  have he : (rsM.access (half b)).emb (ix3 0 r n) = ix3 b r n := by
    funext a; fin_cases a <;> apply Fin.ext <;> simp [Rect.idx_unit_val] <;> rfl
  unfold RS
  rcases two b with rfl | rfl
  · rw [if_pos (by rfl)]
    exact (write_hit _ _ _ _ _ he).trans (part0_apply_bf16 m c r n)
  · rw [if_neg (by simp)]
    exact (write_hit _ _ _ _ _ he).trans (part1_apply_bf16 m c r n)

/-- The output's two partial sums, at an index. -/
theorem O1_apply (c : Dev nD) (b : Fin 2) (r : Fin 256) (n : Fin 512) : O1 m c (ix3 b r n) = part m c b r n := by
  have he : (oM.access (half b)).emb (ix3 0 r n) = ix3 b r n := by
    funext a; fin_cases a <;> apply Fin.ext <;> simp [Rect.idx_unit_val] <;> rfl
  unfold O1
  rcases two b with rfl | rfl
  · rw [if_pos (by rfl)]
    exact (write_hit _ _ _ _ _ he).trans (part0_apply m c r n)
  · rw [if_neg (by simp)]
    exact (write_hit _ _ _ _ _ he).trans (part1_apply m c r n)

theorem srcOf_place : ∀ (c : Dev nD) (p : Fin 3), ((srcOf c p).val + (p.val + 1)) % 4 = c.val := by decide

/-- What the scatter lands, at an index: the sender's partial product of the receiver's rows. -/
theorem RR_apply (c : Dev nD) (p : Fin 3) (b : Fin 2) (ρ : Fin 64) (n : Fin 512) :
    RR m c (ix4 p b ρ n) = part m (srcOf c p) b (rowOf c ρ) n := by
  have he : (rrSlot p b).view.emb (ix2 ρ n) = ix4 p b ρ n := by
    show (rrM.view.slice (slotR p b)).emb (Shape.reshapeEquiv _ (ix2 ρ n)) = _
    erw [squeeze4]
    funext a; fin_cases a <;> apply Fin.ext <;> simp [Rect.idx_unit_val] <;> rfl
  have hr : (rsSrc (srcOf c p) p b).view.emb (ix2 ρ n) = ix3 b (rowOf c ρ) n := by
    show (rsM.view.slice (Rect.unit (s := S2x256x512) (rsOff (srcOf c p) p b) S1x64x512.size (rsOff_inb (srcOf c p) p b))).emb (Shape.reshapeEquiv _ (ix2 ρ n)) = _
    erw [squeeze3]
    have := srcOf_place c p
    funext a
    apply Fin.ext
    refine (Rect.idx_unit_val _ _ _ _ a).trans ?_
    refine (congrArg (· + _) (congrFun (rsOff_eq (srcOf c p) p b) a)).trans ?_
    rw [this]
    fin_cases a <;> simp [rowOf]
  refine (write_hit (rrSlot p b).view _ _ _ _ he).trans ?_
  exact (congrArg (RS m (srcOf c p)) hr).trans (RS_apply m _ b _ n)

/-! ## The sums of the received blocks -/

theorem V491_apply (c : Dev nD) (ρ : Fin 64) (n : Fin 512) : V491 m c (ix3 0 ρ n) = O1 m c (ix3 0 (rowOf c ρ) n) := by
  unfold V491
  exact View.ld_unit_apply_of _ _ _ _ _ (ix3 0 (rowOf c ρ) n) (by
    intro a
    refine Eq.trans ?_ (congrArg (· + _) (congrFun (k0_off3_eq c) a).symm)
    fin_cases a <;> simp [rowOf])
theorem V493_apply (c : Dev nD) (ρ : Fin 64) (n : Fin 512) : V493 m c (ix4 0 0 ρ n) = RR m c (ix4 0 0 ρ n) := by
  unfold V493
  exact View.ld_unit_apply_of _ _ _ _ _ (ix4 0 0 ρ n) (by intro a; fin_cases a <;> simp)
theorem V497_apply (c : Dev nD) (ρ : Fin 64) (n : Fin 512) : V497 m c (ix4 0 0 ρ n) = RR m c (ix4 1 0 ρ n) := by
  unfold V497
  exact View.ld_unit_apply_of _ _ _ _ _ (ix4 1 0 ρ n) (by intro a; fin_cases a <;> simp)
theorem V501_apply (c : Dev nD) (ρ : Fin 64) (n : Fin 512) : V501 m c (ix4 0 0 ρ n) = RR m c (ix4 2 0 ρ n) := by
  unfold V501
  exact View.ld_unit_apply_of _ _ _ _ _ (ix4 2 0 ρ n) (by intro a; fin_cases a <;> simp)
theorem V605_apply (c : Dev nD) (ρ : Fin 64) (n : Fin 512) : V605 m c (ix4 0 0 ρ n) = RR m c (ix4 0 1 ρ n) := by
  unfold V605
  exact View.ld_unit_apply_of _ _ _ _ _ (ix4 0 1 ρ n) (by intro a; fin_cases a <;> simp)
theorem V609_apply (c : Dev nD) (ρ : Fin 64) (n : Fin 512) : V609 m c (ix4 0 0 ρ n) = RR m c (ix4 1 1 ρ n) := by
  unfold V609
  exact View.ld_unit_apply_of _ _ _ _ _ (ix4 1 1 ρ n) (by intro a; fin_cases a <;> simp)
theorem V613_apply (c : Dev nD) (ρ : Fin 64) (n : Fin 512) : V613 m c (ix4 0 0 ρ n) = RR m c (ix4 2 1 ρ n) := by
  unfold V613
  exact View.ld_unit_apply_of _ _ _ _ _ (ix4 2 1 ρ n) (by intro a; fin_cases a <;> simp)
theorem sum_src (c : Dev nD) (f : Dev nD → EReal) :
    f c + f (srcOf c 0) + f (srcOf c 1) + f (srcOf c 2) = ∑ q, f q := by
  have e : (∑ q, f q) = f 0 + f 1 + f 2 + f 3 := Fin.sum_univ_four f
  rw [e]
  fin_cases c
  · show f 0 + f 3 + f 2 + f 1 = _
    ac_rfl
  · show f 1 + f 0 + f 3 + f 2 = _
    ac_rfl
  · show f 2 + f 1 + f 0 + f 3 = _
    ac_rfl
  · show f 3 + f 2 + f 1 + f 0 = _
    ac_rfl

/-- The device's rows of batch 0, summed. -/
theorem P112_apply (c : Dev nD) (ρ : Fin 64) (n : Fin 512) : P112 m c (ix3 0 ρ n) = full m 0 (rowOf c ρ) n := by
  unfold P112 V492 full
  pointwise [k0_pay112, k0_pay111, k0_pay110]
  rw [V491_apply, V493_apply, V497_apply, V501_apply, O1_apply, RR_apply, RR_apply, RR_apply]
  exact sum_src c fun q => part m q 0 (rowOf c ρ) n
theorem P113_apply (c : Dev nD) (ρ : Fin 64) (n : Fin 512) : P113 m c (ix3 0 ρ n) = full m 0 (rowOf c ρ) n := by
  rw [← P112_apply]
  unfold P112 P113
  pointwise [k0_pay112, k0_pay113]
theorem O2_apply (c : Dev nD) (b : Fin 2) (q : Dev nD) (ρ : Fin 64) (n : Fin 512) :
    O2 m c (ix3 b (rowOf q ρ) n) = if b = 0 ∧ q = c then full m 0 (rowOf c ρ) n else part m c b (rowOf q ρ) n := by
  unfold O2
  have ho : k0_off3 c = ![(0 : Fin 2).val, 64 * c.val, 0] := k0_off3_eq c
  rw [write_rows _ _ 0 c ho, P112_apply, O1_apply]
theorem rows_load (c : Dev nD) (f : cc0_stg5_0.ty.Contents (Elt Ideal)) (ρ : Fin 64) (n : Fin 512) :
    (oM).view.readAt (Elt Ideal) (Rect.unit (s := S2x256x512) (k0_off4 c) S1x64x512.size (k0_off4_inb c)).toLoadRect f (ix3 0 ρ n)
      = f (ix3 1 (rowOf c ρ) n) :=
  View.ld_unit_apply_of _ _ _ _ _ (ix3 1 (rowOf c ρ) n) (by
    intro a
    refine Eq.trans ?_ (congrArg (· + _) (congrFun (k0_off4_eq c) a).symm)
    fin_cases a <;> simp [rowOf])
theorem V603_apply (c : Dev nD) (ρ : Fin 64) (n : Fin 512) : V603 m c (ix3 0 ρ n) = O2 m c (ix3 1 (rowOf c ρ) n) := by
  unfold V603
  rw [rows_load]
/-- The device's rows of batch 1, summed. -/
theorem P116_apply (c : Dev nD) (ρ : Fin 64) (n : Fin 512) : P116 m c (ix3 0 ρ n) = full m 1 (rowOf c ρ) n := by
  unfold P116 V608 full
  pointwise [k0_pay116, k0_pay115, k0_pay114]
  rw [V603_apply, V605_apply, V609_apply, V613_apply, O2_apply, if_neg (by simp), RR_apply, RR_apply, RR_apply]
  exact sum_src c fun q => part m q 1 (rowOf c ρ) n
theorem P117_apply (c : Dev nD) (ρ : Fin 64) (n : Fin 512) : P117 m c (ix3 0 ρ n) = full m 1 (rowOf c ρ) n := by
  rw [← P116_apply]
  unfold P116 P117
  pointwise [k0_pay116, k0_pay117]

/-! ## The gather -/

/-- The summed blocks staged for the gather, at an index. -/
theorem AG_apply (c : Dev nD) (b : Fin 2) (ρ : Fin 64) (n : Fin 512) : AG m c (ix3 b ρ n) = full m b (rowOf c ρ) n := by
  have he : (agM.access (agHalf b)).emb (ix3 0 ρ n) = ix3 b ρ n := by
    funext a; fin_cases a <;> apply Fin.ext <;> simp [Rect.idx_unit_val] <;> rfl
  unfold AG
  rcases two b with rfl | rfl
  · rw [if_pos (by rfl)]
    exact (write_hit _ _ _ _ _ he).trans (P113_apply m c ρ n)
  · rw [if_neg (by simp)]
    exact (write_hit _ _ _ _ _ he).trans (P117_apply m c ρ n)

/-- What the gather lands, at an index: the sender's summed rows. -/
theorem AR_apply (c : Dev nD) (p : Fin 3) (b : Fin 2) (ρ : Fin 64) (n : Fin 512) :
    AR m c (ix4 p b ρ n) = full m b (rowOf (srcOf c p) ρ) n := by
  have he : (arSlot p b).view.emb (ix2 ρ n) = ix4 p b ρ n := by
    show (arM.view.slice (slotR p b)).emb (Shape.reshapeEquiv _ (ix2 ρ n)) = _
    erw [squeeze4]
    funext a; fin_cases a <;> apply Fin.ext <;> simp [Rect.idx_unit_val] <;> rfl
  have hr : (agSrc b).view.emb (ix2 ρ n) = ix3 b ρ n := by
    show (agM.view.slice (agHalf b)).emb (Shape.reshapeEquiv _ (ix2 ρ n)) = _
    erw [squeeze3]
    funext a; fin_cases a <;> apply Fin.ext <;> simp [Rect.idx_unit_val] <;> rfl
  refine (write_hit (arSlot p b).view _ _ _ _ he).trans ?_
  exact (congrArg (AG m (srcOf c p)) hr).trans (AG_apply m _ b _ n)
theorem V748_apply (c : Dev nD) (ρ : Fin 64) (n : Fin 512) : V748 m c (ix4 0 0 ρ n) = AR m c (ix4 0 0 ρ n) := by
  unfold V748
  exact View.ld_unit_apply_of _ _ _ _ _ (ix4 0 0 ρ n) (by intro a; fin_cases a <;> simp)
theorem V756_apply (c : Dev nD) (ρ : Fin 64) (n : Fin 512) : V756 m c (ix4 0 0 ρ n) = AR m c (ix4 0 1 ρ n) := by
  unfold V756
  exact View.ld_unit_apply_of _ _ _ _ _ (ix4 0 1 ρ n) (by intro a; fin_cases a <;> simp)
theorem V775_apply (c : Dev nD) (ρ : Fin 64) (n : Fin 512) : V775 m c (ix4 0 0 ρ n) = AR m c (ix4 1 0 ρ n) := by
  unfold V775
  exact View.ld_unit_apply_of _ _ _ _ _ (ix4 1 0 ρ n) (by intro a; fin_cases a <;> simp)
theorem V783_apply (c : Dev nD) (ρ : Fin 64) (n : Fin 512) : V783 m c (ix4 0 0 ρ n) = AR m c (ix4 1 1 ρ n) := by
  unfold V783
  exact View.ld_unit_apply_of _ _ _ _ _ (ix4 1 1 ρ n) (by intro a; fin_cases a <;> simp)
theorem V802_apply (c : Dev nD) (ρ : Fin 64) (n : Fin 512) : V802 m c (ix4 0 0 ρ n) = AR m c (ix4 2 0 ρ n) := by
  unfold V802
  exact View.ld_unit_apply_of _ _ _ _ _ (ix4 2 0 ρ n) (by intro a; fin_cases a <;> simp)
theorem V810_apply (c : Dev nD) (ρ : Fin 64) (n : Fin 512) : V810 m c (ix4 0 0 ρ n) = AR m c (ix4 2 1 ρ n) := by
  unfold V810
  exact View.ld_unit_apply_of _ _ _ _ _ (ix4 2 1 ρ n) (by intro a; fin_cases a <;> simp)

/-! ## The output -/

theorem O3_apply (c : Dev nD) (b : Fin 2) (q : Dev nD) (ρ : Fin 64) (n : Fin 512) (h : q = c) :
    O3 m c (ix3 b (rowOf q ρ) n) = full m b (rowOf q ρ) n := by
  subst h
  unfold O3
  have ho : k0_off4 q = ![(1 : Fin 2).val, 64 * q.val, 0] := k0_off4_eq q
  rw [write_rows _ _ 1 q ho, P116_apply, O2_apply]
  rcases two b with rfl | rfl <;> simp
theorem O4_step (c : Dev nD) (b : Fin 2) (q : Dev nD) (ρ : Fin 64) (n : Fin 512) :
    O4 m c (ix3 b (rowOf q ρ) n) = if b = 0 ∧ q = srcOf c 0 then full m 0 (rowOf q ρ) n else O3 m c (ix3 b (rowOf q ρ) n) := by
  have e : k0_pay118 (V748 m c) (ix3 0 ρ n) = full m 0 (rowOf (srcOf c 0) ρ) n := by
    pointwise [k0_pay118]
    rw [V748_apply, AR_apply]
  unfold O4
  have ho : k0_off5 c 1#32 = ![(0 : Fin 2).val, 64 * (srcOf c 0).val, 0] := off5_eq c 0
  rw [write_rows _ _ 0 (srcOf c 0) ho, e]
  split_ifs with h
  · rw [h.2]
  · rfl
theorem O5_step (c : Dev nD) (b : Fin 2) (q : Dev nD) (ρ : Fin 64) (n : Fin 512) :
    O5 m c (ix3 b (rowOf q ρ) n) = if b = 1 ∧ q = srcOf c 0 then full m 1 (rowOf q ρ) n else O4 m c (ix3 b (rowOf q ρ) n) := by
  have e : k0_pay119 (V756 m c) (ix3 0 ρ n) = full m 1 (rowOf (srcOf c 0) ρ) n := by
    pointwise [k0_pay119]
    rw [V756_apply, AR_apply]
  unfold O5
  have ho : k0_off6 c 1#32 = ![(1 : Fin 2).val, 64 * (srcOf c 0).val, 0] := off6_eq c 0
  rw [write_rows _ _ 1 (srcOf c 0) ho, e]
  split_ifs with h
  · rw [h.2]
  · rfl
theorem O6_step (c : Dev nD) (b : Fin 2) (q : Dev nD) (ρ : Fin 64) (n : Fin 512) :
    O6 m c (ix3 b (rowOf q ρ) n) = if b = 0 ∧ q = srcOf c 1 then full m 0 (rowOf q ρ) n else O5 m c (ix3 b (rowOf q ρ) n) := by
  have e : k0_pay120 (V775 m c) (ix3 0 ρ n) = full m 0 (rowOf (srcOf c 1) ρ) n := by
    pointwise [k0_pay120]
    rw [V775_apply, AR_apply]
  unfold O6
  have ho : k0_off5 c 2#32 = ![(0 : Fin 2).val, 64 * (srcOf c 1).val, 0] := off5_eq c 1
  rw [write_rows _ _ 0 (srcOf c 1) ho, e]
  split_ifs with h
  · rw [h.2]
  · rfl
theorem O7_step (c : Dev nD) (b : Fin 2) (q : Dev nD) (ρ : Fin 64) (n : Fin 512) :
    O7 m c (ix3 b (rowOf q ρ) n) = if b = 1 ∧ q = srcOf c 1 then full m 1 (rowOf q ρ) n else O6 m c (ix3 b (rowOf q ρ) n) := by
  have e : k0_pay121 (V783 m c) (ix3 0 ρ n) = full m 1 (rowOf (srcOf c 1) ρ) n := by
    pointwise [k0_pay121]
    rw [V783_apply, AR_apply]
  unfold O7
  have ho : k0_off6 c 2#32 = ![(1 : Fin 2).val, 64 * (srcOf c 1).val, 0] := off6_eq c 1
  rw [write_rows _ _ 1 (srcOf c 1) ho, e]
  split_ifs with h
  · rw [h.2]
  · rfl
theorem O8_step (c : Dev nD) (b : Fin 2) (q : Dev nD) (ρ : Fin 64) (n : Fin 512) :
    O8 m c (ix3 b (rowOf q ρ) n) = if b = 0 ∧ q = srcOf c 2 then full m 0 (rowOf q ρ) n else O7 m c (ix3 b (rowOf q ρ) n) := by
  have e : k0_pay123 (V804 m c) (ix3 0 ρ n) = full m 0 (rowOf (srcOf c 2) ρ) n := by
    unfold V804
    pointwise [k0_pay123, k0_pay122]
    rw [V802_apply, AR_apply]
  unfold O8
  have ho : k0_off5 c 3#32 = ![(0 : Fin 2).val, 64 * (srcOf c 2).val, 0] := off5_eq c 2
  rw [write_rows _ _ 0 (srcOf c 2) ho, e]
  split_ifs with h
  · rw [h.2]
  · rfl
theorem O9_step (c : Dev nD) (b : Fin 2) (q : Dev nD) (ρ : Fin 64) (n : Fin 512) :
    O9 m c (ix3 b (rowOf q ρ) n) = if b = 1 ∧ q = srcOf c 2 then full m 1 (rowOf q ρ) n else O8 m c (ix3 b (rowOf q ρ) n) := by
  have e : k0_pay124 (V810 m c) (ix3 0 ρ n) = full m 1 (rowOf (srcOf c 2) ρ) n := by
    pointwise [k0_pay124]
    rw [V810_apply, AR_apply]
  unfold O9
  have ho : k0_off6 c 3#32 = ![(1 : Fin 2).val, 64 * (srcOf c 2).val, 0] := off6_eq c 2
  rw [write_rows _ _ 1 (srcOf c 2) ho, e]
  split_ifs with h
  · rw [h.2]
  · rfl
theorem place_cases : ∀ c q : Dev nD, q = c ∨ q = srcOf c 0 ∨ q = srcOf c 1 ∨ q = srcOf c 2 := by decide

/-- Every device's output, at an index: the sum of the four devices' partial products. -/
theorem O9_rows (c : Dev nD) (b : Fin 2) (q : Dev nD) (ρ : Fin 64) (n : Fin 512) :
    O9 m c (ix3 b (rowOf q ρ) n) = full m b (rowOf q ρ) n := by
  rw [O9_step, O8_step, O7_step, O6_step, O5_step, O4_step]
  rcases place_cases c q with h | h | h | h
  · rw [O3_apply m c b q ρ n h]
    rcases two b with rfl | rfl <;> simp
  all_goals rcases two b with rfl | rfl <;> simp [h]
theorem O9_apply (c : Dev nD) (b : Fin 2) (r : Fin 256) (n : Fin 512) : O9 m c (ix3 b r n) = full m b r n := by
  have e : r = rowOf (⟨r.val / 64, by have := r.isLt; simp only [nD]; omega⟩ : Dev nD) ⟨r.val % 64, by omega⟩ :=
    Fin.ext (by simp only [rowOf]; omega)
  rw [e]
  exact O9_rows m c b _ _ n

end Cert.KernelIdeal.Gen

end
-- ==== Proof.Final.lean ====
/- The kernel's run read at its result: every device ends holding the sum of the devices' parts. -/
module

public import proofs.«01_k».proof.Proof.Run
public import proofs.«01_k».proof.Proof.OutVal

@[expose] public section

set_option maxRecDepth 16384

noncomputable section

namespace Cert.KernelIdeal.Gen

open Idealize.ShloMosaic Idealize.ShloMosaic.TcCoe Idealize.ShloMosaic.Pipeline
open Idealize.SL Idealize.SL.Sem

variable (m : (ℓ : Loc nD τ sig) → Buf (Elt Ideal) ℓ) (ρ : Dev nD → PrngReg)

/-- The result's window is cut nowhere. -/
theorem cut_out (X : S2x256x512.Idx → Elt Ideal .f32) : (cfg0.win (5 : Fin 6)).cut (cfg0.grid.coords (0 : Fin 1)) X = X := rfl
/-- What the body leaves in it. -/
theorem after_out (c : Dev nD) : (dats m ρ 0 c).after (5 : Fin 6) (0 : Fin 1) = O9 m c := by
  unfold dats
  dsimp only

/-- The result's one block, the whole array, is what the body left. -/
theorem final_out (c : Dev nD) : finalA m ρ c (5 : Fin 6) = O9 m c := by
  have hz : (fun a => (win0_5.index (0 : Fin 1)) a * main_v1.ty.shape.size a) = fun _ => 0 :=
    funext fun a => by fin_cases a <;> decide
  have hr := fun f => Memref.read_access_unit_zero (Elt Ideal) main_v1 hz (fun a => by fin_cases a <;> decide) f
  have ho : (win0_5.blk (0 : Fin 1)).view.read (Elt Ideal) (finalA m ρ c (5 : Fin 6)) = O9 m c := by
    unfold finalA
    rw [show cfg0.N = ((0 : Fin 1) : Fin cfg0.N).val + 1 from rfl, (dats m ρ 0 c).arrAt_succ (5 : Fin 6) (0 : Fin 1)]
    rw [show (cfg0.win (5 : Fin 6)).flush (0 : Fin 1) = true from by decide, if_pos rfl]
    refine (View.read_write_univ _ _).trans ?_
    exact (congrArg _ (after_out m ρ c)).trans (cut_out (O9 m c))
  rw [hr] at ho
  exact ho

/-- The run: each device's result is what its body left, and its arguments are unchanged. -/
theorem run_value : θ_run defs (onTc (τ := τ) (main (F := Ideal))) ⟨m, fun _ => 0, ρ⟩ (fun r => ∀ c : Dev nD,
      r.2.mem ((c.tc : Thread nD τ).loc main_v1) = O9 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c (5 : Fin 6)).trans (final_out m ρ c),
    (h.1 c (0 : Fin 6)).trans ((dats (F := Ideal) m ρ 0 c).arrAt_in (0 : Fin 6) rfl _), (h.1 c (1 : Fin 6)).trans ((dats (F := Ideal) m ρ 0 c).arrAt_in (1 : Fin 6) rfl _),
    (h.1 c (2 : Fin 6)).trans ((dats (F := Ideal) m ρ 0 c).arrAt_in (2 : Fin 6) rfl _), (h.1 c (3 : Fin 6)).trans ((dats (F := Ideal) m ρ 0 c).arrAt_in (3 : Fin 6) rfl _), (h.1 c (4 : Fin 6)).trans ((dats (F := Ideal) m ρ 0 c).arrAt_in (4 : Fin 6) rfl _)⟩) (run_main m ρ)

end Cert.KernelIdeal.Gen

end
-- ==== Proof.Keys.lean ====
/- What each device reads: its arguments as arrays, and the key and value blocks of its four heads. -/
module

public import proofs.«01_k».proof.Proof.BlockVal

@[expose] public section

set_option maxRecDepth 16384

noncomputable section

namespace Cert.KernelIdeal.Gen

open Idealize.ShloMosaic Idealize.ShloMosaic.TcCoe
open Idealize.SL.Sem

variable (m : (ℓ : Loc nD τ sig) → Buf (Elt Ideal) ℓ)

/-! ## The arguments -/

def argX (c : Dev nD) : S2x256x512.Idx → EReal := m ((c : Thread nD τ).loc main_arg0)
theorem xb_eq (c : Dev nD) : xb m c = m ((c : Thread nD τ).loc main_arg0) := by
  have hz : (fun a => (win0_0.index (0 : Fin 1)) a * main_arg0.ty.shape.size a) = fun _ => 0 :=
    funext fun a => by fin_cases a <;> decide
  exact Memref.read_access_unit_zero (Elt Ideal) main_arg0 hz (fun a => by fin_cases a <;> decide) _
theorem xv_eq (c : Dev nD) : xv m c = argX m c := xb_eq m c
def argWq (c : Dev nD) : S512x256.Idx → EReal := m ((c : Thread nD τ).loc main_arg1)
theorem wqb_eq (c : Dev nD) : wqb m c = m ((c : Thread nD τ).loc main_arg1) := by
  have hz : (fun a => (win0_1.index (0 : Fin 1)) a * main_arg1.ty.shape.size a) = fun _ => 0 :=
    funext fun a => by fin_cases a <;> decide
  exact Memref.read_access_unit_zero (Elt Ideal) main_arg1 hz (fun a => by fin_cases a <;> decide) _
theorem wqv_eq (c : Dev nD) : wqv m c = argWq m c := wqb_eq m c
def argK (c : Dev nD) : S2x256x16x64.Idx → EReal := m ((c : Thread nD τ).loc main_arg2)
theorem kb_eq (c : Dev nD) : kb m c = m ((c : Thread nD τ).loc main_arg2) := by
  have hz : (fun a => (win0_2.index (0 : Fin 1)) a * main_arg2.ty.shape.size a) = fun _ => 0 :=
    funext fun a => by fin_cases a <;> decide
  exact Memref.read_access_unit_zero (Elt Ideal) main_arg2 hz (fun a => by fin_cases a <;> decide) _
def argV (c : Dev nD) : S2x256x16x64.Idx → EReal := m ((c : Thread nD τ).loc main_arg3)
theorem vb_eq (c : Dev nD) : vb m c = m ((c : Thread nD τ).loc main_arg3) := by
  have hz : (fun a => (win0_3.index (0 : Fin 1)) a * main_arg3.ty.shape.size a) = fun _ => 0 :=
    funext fun a => by fin_cases a <;> decide
  exact Memref.read_access_unit_zero (Elt Ideal) main_arg3 hz (fun a => by fin_cases a <;> decide) _
def argWo (c : Dev nD) : S256x512.Idx → EReal := m ((c : Thread nD τ).loc main_arg4)
theorem wob_eq (c : Dev nD) : wob m c = m ((c : Thread nD τ).loc main_arg4) := by
  have hz : (fun a => (win0_4.index (0 : Fin 1)) a * main_arg4.ty.shape.size a) = fun _ => 0 :=
    funext fun a => by fin_cases a <;> decide
  exact Memref.read_access_unit_zero (Elt Ideal) main_arg4 hz (fun a => by fin_cases a <;> decide) _
theorem wov_eq (c : Dev nD) : wov m c = argWo m c := wob_eq m c

/-! ## The key and value blocks -/

/-- Head `h` of device `c`, among the sixteen. -/
def gh (c : Dev nD) (h : Fin 4) : Fin 16 := ⟨4 * c.val + h.val, by have := c.isLt; simp only [nD] at this; omega⟩
/-- The heads of group `g`, at an index. -/
theorem heads256_apply (f : S2x256x16x64.Idx → Elt Ideal .f32) (g : Dev nD) (b : Fin 2) (j : Fin 256) (h : Fin 4) (d : Fin 64) :
    heads256 f g (ix4 b j h d) = f (ix4 b j (gh g h) d) :=
  View.ld_unit_apply_of _ _ _ _ _ (ix4 b j (gh g h) d) (by intro a; fin_cases a <;> simp [gh])
theorem heads128_apply (f : S2x256x16x64.Idx → Elt Ideal .f32) (g : Dev nD) (b : Fin 2) (j : Fin 128) (h : Fin 4) (d : Fin 64) :
    heads128 f g (ix4 b j h d) = f (ix4 b ⟨j.val, by omega⟩ (gh g h) d) :=
  View.ld_unit_apply_of _ _ _ _ _ (ix4 b ⟨j.val, by omega⟩ (gh g h) d) (by intro a; fin_cases a <;> simp [gh])
theorem hd_div (h : Fin 4) (d : Fin 64) (p : (hd h d).val / 64 < 4) : (⟨(hd h d).val / 64, p⟩ : Fin 4) = h := Fin.ext (by simp only [hd]; omega)
theorem hd_mod (h : Fin 4) (d : Fin 64) (p : (hd h d).val % 64 < 64) : (⟨(hd h d).val % 64, p⟩ : Fin 64) = d := Fin.ext (by simp only [hd]; omega)
theorem pay13_apply (f : Vec Ideal S2x256x4x64 .f32) (b : Fin 2) (j : Fin 256) (h : Fin 4) (d : Fin 64) :
    k0_pay13 f (ix3 b j (hd h d)) = f (ix4 b j h d) := by
  pointwise [k0_pay13]
  simp only [hd_div, hd_mod]
theorem pay1_apply (f : Vec Ideal S2x256x4x64 .f32) (b : Fin 2) (j : Fin 256) (h : Fin 4) (d : Fin 64) :
    k0_pay1 f (ix3 b j (hd h d)) = f (ix4 b j h d) := by
  pointwise [k0_pay1]
  simp only [hd_div, hd_mod]
theorem pay2_apply (f : Vec Ideal S2x256x4x64 .f32) (b : Fin 2) (j : Fin 256) (h : Fin 4) (d : Fin 64) :
    k0_pay2 f (ix3 b j (hd h d)) = f (ix4 b j h d) := by
  pointwise [k0_pay2]
  simp only [hd_div, hd_mod]
theorem pay3_apply (f : Vec Ideal S2x256x4x64 .f32) (b : Fin 2) (j : Fin 256) (h : Fin 4) (d : Fin 64) :
    k0_pay3 f (ix3 b j (hd h d)) = f (ix4 b j h d) := by
  pointwise [k0_pay3]
  simp only [hd_div, hd_mod]
theorem pay14_apply (f : Vec Ideal S2x256x4x64 .f32) (b : Fin 2) (j : Fin 256) (h : Fin 4) (d : Fin 64) :
    k0_pay14 f (ix3 b j (hd h d)) = f (ix4 b j h d) := by
  pointwise [k0_pay14]
  simp only [hd_div, hd_mod]
theorem pay4_apply (f : Vec Ideal S2x256x4x64 .f32) (b : Fin 2) (j : Fin 256) (h : Fin 4) (d : Fin 64) :
    k0_pay4 f (ix3 b j (hd h d)) = f (ix4 b j h d) := by
  pointwise [k0_pay4]
  simp only [hd_div, hd_mod]
theorem pay5_apply (f : Vec Ideal S2x256x4x64 .f32) (b : Fin 2) (j : Fin 256) (h : Fin 4) (d : Fin 64) :
    k0_pay5 f (ix3 b j (hd h d)) = f (ix4 b j h d) := by
  pointwise [k0_pay5]
  simp only [hd_div, hd_mod]
theorem pay6_apply (f : Vec Ideal S2x256x4x64 .f32) (b : Fin 2) (j : Fin 256) (h : Fin 4) (d : Fin 64) :
    k0_pay6 f (ix3 b j (hd h d)) = f (ix4 b j h d) := by
  pointwise [k0_pay6]
  simp only [hd_div, hd_mod]
theorem pay7_apply (f : Vec Ideal S2x128x4x64 .f32) (b : Fin 2) (j : Fin 128) (h : Fin 4) (d : Fin 64) :
    k0_pay7 f (ix3 b j (hd h d)) = f (ix4 b j h d) := by
  pointwise [k0_pay7]
  simp only [hd_div, hd_mod]
theorem pay15_apply (f : Vec Ideal S2x128x4x64 .f32) (b : Fin 2) (j : Fin 128) (h : Fin 4) (d : Fin 64) :
    k0_pay15 f (ix3 b j (hd h d)) = f (ix4 b j h d) := by
  pointwise [k0_pay15]
  simp only [hd_div, hd_mod]
theorem pay8_apply (f : Vec Ideal S2x128x4x64 .f32) (b : Fin 2) (j : Fin 128) (h : Fin 4) (d : Fin 64) :
    k0_pay8 f (ix3 b j (hd h d)) = f (ix4 b j h d) := by
  pointwise [k0_pay8]
  simp only [hd_div, hd_mod]
theorem pay9_apply (f : Vec Ideal S2x128x4x64 .f32) (b : Fin 2) (j : Fin 128) (h : Fin 4) (d : Fin 64) :
    k0_pay9 f (ix3 b j (hd h d)) = f (ix4 b j h d) := by
  pointwise [k0_pay9]
  simp only [hd_div, hd_mod]
theorem pay10_apply (f : Vec Ideal S2x128x4x64 .f32) (b : Fin 2) (j : Fin 128) (h : Fin 4) (d : Fin 64) :
    k0_pay10 f (ix3 b j (hd h d)) = f (ix4 b j h d) := by
  pointwise [k0_pay10]
  simp only [hd_div, hd_mod]
theorem pay16_apply (f : Vec Ideal S2x128x4x64 .f32) (b : Fin 2) (j : Fin 128) (h : Fin 4) (d : Fin 64) :
    k0_pay16 f (ix3 b j (hd h d)) = f (ix4 b j h d) := by
  pointwise [k0_pay16]
  simp only [hd_div, hd_mod]
theorem pay11_apply (f : Vec Ideal S2x128x4x64 .f32) (b : Fin 2) (j : Fin 128) (h : Fin 4) (d : Fin 64) :
    k0_pay11 f (ix3 b j (hd h d)) = f (ix4 b j h d) := by
  pointwise [k0_pay11]
  simp only [hd_div, hd_mod]
theorem pay12_apply (f : Vec Ideal S2x128x4x64 .f32) (b : Fin 2) (j : Fin 128) (h : Fin 4) (d : Fin 64) :
    k0_pay12 f (ix3 b j (hd h d)) = f (ix4 b j h d) := by
  pointwise [k0_pay12]
  simp only [hd_div, hd_mod]
theorem KB0_0 : KB0 m 0 = k0_pay13 (heads256 (kb m 0) 0) := rfl
theorem KB0_1 : KB0 m 1 = k0_pay1 (heads256 (kb m 0) 1) := rfl
theorem KB0_2 : KB0 m 2 = k0_pay2 (heads256 (kb m 0) 2) := rfl
theorem KB0_3 : KB0 m 3 = k0_pay3 (heads256 (kb m 0) 3) := rfl
theorem KB0_apply (b : Fin 2) (j : Fin 256) (h : Fin 4) (d : Fin 64) :
    ∀ c : Dev nD, KB0 m c (ix3 b j (hd h d)) = kb m 0 (ix4 b j (gh c h) d)
  | 0 => by rw [KB0_0, pay13_apply, heads256_apply]
  | 1 => by rw [KB0_1, pay1_apply, heads256_apply]
  | 2 => by rw [KB0_2, pay2_apply, heads256_apply]
  | 3 => by rw [KB0_3, pay3_apply, heads256_apply]
theorem K0v_apply (c : Dev nD) (b : Fin 2) (j : Fin 256) (h : Fin 4) (d : Fin 64) :
    K0v m c (ix3 b j (hd h d)) = argK m 0 (ix4 b j (gh c h) d) :=
  (KB0_apply m b j h d c).trans (congrFun (kb_eq m 0) _)
theorem VB0_0 : VB0 m 0 = k0_pay14 (heads256 (vb m 0) 0) := rfl
theorem VB0_1 : VB0 m 1 = k0_pay4 (heads256 (vb m 0) 1) := rfl
theorem VB0_2 : VB0 m 2 = k0_pay5 (heads256 (vb m 0) 2) := rfl
theorem VB0_3 : VB0 m 3 = k0_pay6 (heads256 (vb m 0) 3) := rfl
theorem VB0_apply (b : Fin 2) (j : Fin 256) (h : Fin 4) (d : Fin 64) :
    ∀ c : Dev nD, VB0 m c (ix3 b j (hd h d)) = vb m 0 (ix4 b j (gh c h) d)
  | 0 => by rw [VB0_0, pay14_apply, heads256_apply]
  | 1 => by rw [VB0_1, pay4_apply, heads256_apply]
  | 2 => by rw [VB0_2, pay5_apply, heads256_apply]
  | 3 => by rw [VB0_3, pay6_apply, heads256_apply]
theorem V0v_apply (c : Dev nD) (b : Fin 2) (j : Fin 256) (h : Fin 4) (d : Fin 64) :
    V0v m c (ix3 b j (hd h d)) = argV m 0 (ix4 b j (gh c h) d) :=
  (VB0_apply m b j h d c).trans (congrFun (vb_eq m 0) _)
theorem KB1_0 : KB1 m 0 = k0_pay7 (heads128 (kb m 1) 0) := rfl
theorem KB1_1 : KB1 m 1 = k0_pay15 (heads128 (kb m 1) 1) := rfl
theorem KB1_2 : KB1 m 2 = k0_pay8 (heads128 (kb m 1) 2) := rfl
theorem KB1_3 : KB1 m 3 = k0_pay9 (heads128 (kb m 1) 3) := rfl
theorem KB1_apply (b : Fin 2) (j : Fin 128) (h : Fin 4) (d : Fin 64) :
    ∀ c : Dev nD, KB1 m c (ix3 b j (hd h d)) = kb m 1 (ix4 b ⟨j.val, by omega⟩ (gh c h) d)
  | 0 => by rw [KB1_0, pay7_apply, heads128_apply]
  | 1 => by rw [KB1_1, pay15_apply, heads128_apply]
  | 2 => by rw [KB1_2, pay8_apply, heads128_apply]
  | 3 => by rw [KB1_3, pay9_apply, heads128_apply]
theorem K1v_apply (c : Dev nD) (b : Fin 2) (j : Fin 128) (h : Fin 4) (d : Fin 64) :
    K1v m c (ix3 b j (hd h d)) = argK m 1 (ix4 b ⟨j.val, by omega⟩ (gh c h) d) :=
  (KB1_apply m b j h d c).trans (congrFun (kb_eq m 1) _)
theorem VB1_0 : VB1 m 0 = k0_pay10 (heads128 (vb m 1) 0) := rfl
theorem VB1_1 : VB1 m 1 = k0_pay16 (heads128 (vb m 1) 1) := rfl
theorem VB1_2 : VB1 m 2 = k0_pay11 (heads128 (vb m 1) 2) := rfl
theorem VB1_3 : VB1 m 3 = k0_pay12 (heads128 (vb m 1) 3) := rfl
theorem VB1_apply (b : Fin 2) (j : Fin 128) (h : Fin 4) (d : Fin 64) :
    ∀ c : Dev nD, VB1 m c (ix3 b j (hd h d)) = vb m 1 (ix4 b ⟨j.val, by omega⟩ (gh c h) d)
  | 0 => by rw [VB1_0, pay10_apply, heads128_apply]
  | 1 => by rw [VB1_1, pay16_apply, heads128_apply]
  | 2 => by rw [VB1_2, pay11_apply, heads128_apply]
  | 3 => by rw [VB1_3, pay12_apply, heads128_apply]
theorem V1v_apply (c : Dev nD) (b : Fin 2) (j : Fin 128) (h : Fin 4) (d : Fin 64) :
    V1v m c (ix3 b j (hd h d)) = argV m 1 (ix4 b ⟨j.val, by omega⟩ (gh c h) d) :=
  (VB1_apply m b j h d c).trans (congrFun (vb_eq m 1) _)

end Cert.KernelIdeal.Gen

end
-- ==== Proof.Maths.lean ====
/- The mathematics of the two attentions: the mask as an inequality, sums of reals, and the softmax with and without
   its row maximum. -/
module

public import Idealize.ShloMosaic.PureOps.Ideal
public import Idealize.ShloMosaic.Lib.Pointwise
public import Idealize.ShloMosaic.Lib.StableHlo.Predicate

@[expose] public section

set_option maxRecDepth 16384

noncomputable section

namespace Cert.Attention

open Idealize.ShloMosaic

/-- Row and key at most 128 apart. -/
def Near (r j : ℕ) : Prop := r ≤ j + 128 ∧ j ≤ r + 128
instance (r j : ℕ) : Decidable (Near r j) := by unfold Near; infer_instance

/-- The distance of two small words. -/
theorem absi_subi (r j : ℕ) (hr : r < 1024) (hj : j < 1024) :
    IntOp.absi (IntOp.subi (BitVec.ofNat 32 r) (BitVec.ofNat 32 j)) = BitVec.ofNat 32 (if j ≤ r then r - j else j - r) := by
  show (if (BitVec.ofNat 32 r - BitVec.ofNat 32 j).msb then -(BitVec.ofNat 32 r - BitVec.ofNat 32 j) else BitVec.ofNat 32 r - BitVec.ofNat 32 j) = _
  have hn : (BitVec.ofNat 32 r - BitVec.ofNat 32 j).toNat = if j ≤ r then r - j else 2 ^ 32 + r - j := by
    simp only [BitVec.toNat_sub, BitVec.toNat_ofNat]
    split <;> omega
  by_cases h : j ≤ r
  · rw [if_pos h] at hn ⊢
    rw [BitVec.msb_eq_false_iff_two_mul_lt.mpr (by omega)]
    refine BitVec.eq_of_toNat_eq ?_
    simp only [Bool.false_eq_true, if_false, hn, BitVec.toNat_ofNat]
    omega
  · rw [if_neg h] at hn ⊢
    rw [BitVec.msb_eq_true_iff_two_mul_ge.mpr (by omega)]
    refine BitVec.eq_of_toNat_eq ?_
    simp only [if_true, BitVec.toNat_neg, hn, BitVec.toNat_ofNat]
    omega

/-- The programs' comparison of words is that inequality. -/
theorem near_word (r j : ℕ) (hr : r < 1024) (hj : j < 1024) :
    IntOp.cmpi CmpIPredicate.sle (IntOp.absi (IntOp.subi (BitVec.ofNat 32 r) (BitVec.ofNat 32 j))) 128#32
      = BitVec.ofBool (decide (Near r j)) := by
  rw [absi_subi r j hr hj]
  show BitVec.ofBool (BitVec.sle _ (BitVec.ofNat 32 128)) = _
  refine congrArg BitVec.ofBool ?_
  have hk : (if j ≤ r then r - j else j - r) < 2 ^ 31 := by split <;> omega
  simp only [BitVec.sle, Idealize.ShloMosaic.StableHlo.Predicate.toInt_ofNat_small _ hk, Idealize.ShloMosaic.StableHlo.Predicate.toInt_ofNat_small 128 (by decide)]
  refine decide_eq_decide.mpr ?_
  unfold Near
  split <;> omega

/-- An eighth. -/
theorem eighth : Ideal.ofBits .f32 0x3E000000#32 = ((1 / 8 : ℝ) : EReal) := by
  simp [Ideal.ofBits, Ideal.ieee, -EReal.coe_mul]; norm_num
/-- Minus infinity. -/
theorem minus_inf : Ideal.ofBits .f32 0xFF800000#32 = ⊥ := by simp [Ideal.ofBits, Ideal.ieee]
/-- Plus infinity. -/
theorem plus_inf : Ideal.ofBits .f32 0x7F800000#32 = ⊤ := by simp [Ideal.ofBits, Ideal.ieee]

/-- A sum of reals, in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor comes out of a sum of extended reals. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

section Softmax
variable {n : ℕ} (M : Fin n → Prop) [DecidablePred M] (S : Fin n → ℝ)

/-- The masked score. -/
def masked (j : Fin n) : EReal := if M j then (S j : EReal) else ⊥
/-- The exponential of the masked score, a real. -/
def mexp (j : Fin n) : ℝ := if M j then Real.exp (S j) else 0
theorem exp_masked (j : Fin n) : Ideal.exp (masked M S j) = (mexp M S j : EReal) := by
  unfold masked mexp; split_ifs <;> simp
theorem exp_masked_sub (μ : ℝ) (j : Fin n) : Ideal.exp (masked M S j - (μ : EReal)) = (mexp M S j * Real.exp (-μ) : ℝ) := by
  unfold masked mexp
  split_ifs
  · rw [← EReal.coe_sub, Ideal.exp_coe, ← Real.exp_add, sub_eq_add_neg]
  · simp
theorem mexp_nonneg (j : Fin n) : 0 ≤ mexp M S j := by unfold mexp; split_ifs <;> positivity
theorem mexp_pos (j0 : Fin n) (h0 : M j0) : 0 < ∑ j, mexp M S j :=
  Finset.sum_pos' (fun j _ => mexp_nonneg M S j) ⟨j0, Finset.mem_univ _, by unfold mexp; rw [if_pos h0]; exact Real.exp_pos _⟩

/-- A row with an unmasked key has a real maximum. -/
theorem max_real (j0 : Fin n) (h0 : M j0) : ∃ μ : ℝ, Finset.univ.fold max (⊥ : EReal) (masked M S) = μ := by
  have hs : Finset.univ.fold max (⊥ : EReal) (masked M S) = Finset.univ.sup (masked M S) := rfl
  obtain ⟨i, -, hi⟩ := Finset.exists_mem_eq_sup Finset.univ ⟨j0, Finset.mem_univ _⟩ (masked M S)
  have hle : masked M S j0 ≤ Finset.univ.sup (masked M S) := Finset.le_sup (Finset.mem_univ j0)
  rw [hs, hi]
  rw [hi] at hle
  by_cases hM : M i
  · exact ⟨S i, if_pos hM⟩
  · exfalso
    unfold masked at hle
    rw [if_pos h0, if_neg hM] at hle
    simp at hle

/-- The weights normalised after the maximum's subtraction weigh as the exponentials do, divided at the end. -/
theorem softmax (j0 : Fin n) (h0 : M j0) (v : Fin n → EReal) :
    ∑ j, v j * Ideal.div (Ideal.exp (masked M S j - Finset.univ.fold max (⊥ : EReal) (masked M S)))
        (∑ i, Ideal.exp (masked M S i - Finset.univ.fold max (⊥ : EReal) (masked M S)))
      = Ideal.div (∑ j, Ideal.exp (masked M S j) * v j) (∑ j, Ideal.exp (masked M S j)) := by
  obtain ⟨μ, hμ⟩ := max_real M S j0 h0
  rw [hμ]
  simp only [exp_masked, exp_masked_sub, ← coe_sum]
  have hD := mexp_pos M S j0 h0
  have hE := Real.exp_pos (-μ)
  rw [← Finset.sum_mul, Ideal.div_coe hD.ne', sum_mul_real _ _ _ (by positivity)]
  refine Finset.sum_congr rfl fun j _ => ?_
  rw [Ideal.div_coe (by positivity), ← EReal.coe_mul]
  have : mexp M S j * Real.exp (-μ) * (1 / ((∑ i, mexp M S i) * Real.exp (-μ))) = mexp M S j * (1 / ∑ i, mexp M S i) := by
    field_simp
  rw [this, EReal.coe_mul, mul_comm (v j), mul_assoc, mul_assoc, mul_comm _ (v j)]
end Softmax

/-- A sum over 1024 keys of terms that vanish from the 384th on. -/
theorem sum_keys (f : Fin 1024 → EReal) (h : ∀ j : Fin 1024, 384 ≤ j.val → f j = 0) :
    ∑ j, f j = ∑ j : Fin 256, f ⟨j.val, by omega⟩ + ∑ j : Fin 128, f ⟨256 + j.val, by omega⟩ := by
  have e1 : ∑ j, f j = ∑ j : Fin 256, f ⟨j.val, by omega⟩ + ∑ j : Fin 768, f ⟨256 + j.val, by omega⟩ :=
    Fin.sum_univ_add (a := 256) (b := 768) f
  have e2 : ∑ j : Fin 768, f ⟨256 + j.val, by omega⟩ = ∑ j : Fin 128, f ⟨256 + j.val, by omega⟩ + ∑ j : Fin 640, f ⟨256 + (128 + j.val), by omega⟩ :=
    Fin.sum_univ_add (a := 128) (b := 640) (fun j : Fin 768 => f ⟨256 + j.val, by omega⟩)
  rw [e1, e2, Finset.sum_eq_zero (s := (Finset.univ : Finset (Fin 640))) (fun j _ => h _ (by simp only; omega)), add_zero]

/-- A sum over 1024 is a sum over four times 256. -/
theorem sum_devices (f : Fin 1024 → EReal) :
    ∑ j, f j = ∑ q : Fin 4, ∑ k : Fin 256, f ⟨256 * q.val + k.val, by omega⟩ := by
  have e : ∑ p : Fin 4 × Fin 256, f ⟨256 * p.1.val + p.2.val, by omega⟩ = ∑ j, f j :=
    Fintype.sum_equiv (finProdFinEquiv (m := 4) (n := 256)) _ f fun p => congrArg f (Fin.ext (by simp [finProdFinEquiv]; omega))
  exact e.symm.trans (Fintype.sum_prod_type' (fun (q : Fin 4) (k : Fin 256) => f ⟨256 * q.val + k.val, by omega⟩))

end Cert.Attention

end
-- ==== Proof.RefVal.lean ====
/- What the reference computes, stage by stage and at an index: the masked scores, their row maximum, the exponentials,
   the weights, the weighted values and their product with the output weights. -/
module

public import proofs.«01_k».proof.Proof.Gen.ReferenceIdeal.Run
public import proofs.«01_k».proof.Proof.Maths
public import Idealize.ShloMosaic.PureOps.Ideal
public import Idealize.ShloMosaic.Lib.Pointwise
public import Idealize.ShloMosaic.Lib.Routing.OpsOrder
public import Idealize.ShloMosaic.Lib.Tactic.CleanTypes

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo Idealize.ShloMosaic.Routing Cert.Attention

/-- The mask: row and key at most 128 apart. -/
def msk : IVec S256x1024 1 :=
  cmpi .sle (absi (subi (broadcastInDim S256x1024 ![0, 1] bcast_S256x1_S256x1024_0_1 (broadcastInDim S256x1 ![0] bcast_S256_S256x1_0 (iotaInDim S256 32 0))) (broadcastInDim S256x1024 ![0, 1] bcast_S1x1024_S256x1024_0_1 (broadcastInDim S1x1024 ![1] bcast_S1024_S1x1024_1 (iotaInDim S1024 32 0))))) (broadcastInDim S256x1024 ![] bcast_S_S256x1024 (constantI S_ 32 128#32))
/-- Whether a row has an unmasked key. -/
def anyM : IVec S256 1 := Host.reduce IntOp.ori msk (constantI S_ 1 0#1) reducesTo_S256x1024_S256_d1 h_S_
/-- The masked scores. -/
def scr (x : FVec Ideal S2x256x512 .f32) (wq : FVec Ideal S512x1024 .f32) (k : FVec Ideal S2x1024x16x64 .f32) : FVec Ideal S2x16x256x1024 .f32 :=
  select (broadcastInDim S2x16x256x1024 ![0, 1, 2, 3] bcast_S1x1x256x1024_S2x16x256x1024_0_1_2_3 (broadcastInDim S1x1x256x1024 ![2, 3] bcast_S256x1024_S1x1x256x1024_2_3 msk))
    (mulf (Host.dotGeneral dot_S2x256x16x64_S2x1024x16x64_S2x16x256x1024_3_3_1_1_02_02 none (shapeCast S2x256x16x64 (Host.dotGeneral dot_S2x256x512_S512x1024_S2x256x1024_2_0_01_1_n_n none x wq) shapeCasts_S2x256x1024_S2x256x16x64) k) (broadcastInDim S2x16x256x1024 ![] bcast_S_S2x16x256x1024 (constant S_ .f32 0x3E000000#32)))
    (broadcastInDim S2x16x256x1024 ![] bcast_S_S2x16x256x1024 (id (constant S_ .f32 0xFF800000#32)))
/-- A row's maximum. -/
def mxr (s : FVec Ideal S2x16x256x1024 .f32) : FVec Ideal S2x16x256 .f32 :=
  Host.reduce FloatOps.maximumf s (constant S_ .f32 0xFF800000#32) reducesTo_S2x16x256x1024_S2x16x256_d3 h_S_
/-- The exponentials of the scores less their row's maximum. -/
def ew (s : FVec Ideal S2x16x256x1024 .f32) : FVec Ideal S2x16x256x1024 .f32 :=
  Host.exp (subf s (broadcastInDim S2x16x256x1024 ![0, 1, 2, 3] bcast_S2x16x256x1_S2x16x256x1024_0_1_2_3 (broadcastInDim S2x16x256x1 ![0, 1, 2] bcast_S2x16x256_S2x16x256x1_0_1_2 (mxr s))))
/-- A row's total, one for a row with no unmasked key. -/
def den (e : FVec Ideal S2x16x256x1024 .f32) : FVec Ideal S2x16x256x1 .f32 :=
  select (broadcastInDim S2x16x256x1 ![0, 1, 2, 3] bcast_S1x1x256x1_S2x16x256x1_0_1_2_3 (broadcastInDim S1x1x256x1 ![2] bcast_S256_S1x1x256x1_2 anyM))
    (broadcastInDim S2x16x256x1 ![0, 1, 2] bcast_S2x16x256_S2x16x256x1_0_1_2 (Host.reduceAdd e (constant S_ .f32 0x00000000#32) reducesTo_S2x16x256x1024_S2x16x256_d3 h_S_))
    (broadcastInDim S2x16x256x1 ![] bcast_S_S2x16x256x1 (id (constant S_ .f32 0x3F800000#32)))
/-- The weights. -/
def wt (e : FVec Ideal S2x16x256x1024 .f32) : FVec Ideal S2x16x256x1024 .f32 :=
  select (broadcastInDim S2x16x256x1024 ![0, 1, 2, 3] bcast_S1x1x256x1_S2x16x256x1024_0_1_2_3 (broadcastInDim S1x1x256x1 ![2] bcast_S256_S1x1x256x1_2 anyM))
    (Host.divf e (broadcastInDim S2x16x256x1024 ![0, 1, 2, 3] bcast_S2x16x256x1_S2x16x256x1024_0_1_2_3 (den e)))
    (broadcastInDim S2x16x256x1024 ![] bcast_S_S2x16x256x1024 (id (constant S_ .f32 0x00000000#32)))
/-- The weighted values times the output weights. -/
def outv (w : FVec Ideal S2x16x256x1024 .f32) (v : FVec Ideal S2x1024x16x64 .f32) (wo : FVec Ideal S1024x512 .f32) : FVec Ideal S2x256x512 .f32 :=
  Host.dotGeneral dot_S2x256x1024_S1024x512_S2x256x512_2_0_01_1_n_n none (shapeCast S2x256x1024 (transpose S2x256x16x64 [0, 3, 1, 2] (Host.dotGeneral dot_S2x1024x16x64_S2x16x256x1024_S2x16x64x256_1_3_3_2_02_01 none v w) transposes_S2x16x64x256_S2x256x16x64_0_3_1_2) shapeCasts_S2x256x16x64_S2x256x1024) wo

/-- The reference's result is those stages composed. -/
theorem res_stages (m : (ℓ : Loc nD τ sig) → Buf (Elt Ideal) ℓ) (c : Dev nD) :
    res_main_v34 m c = outv (wt (ew (scr (m ((c.tc : Thread nD τ).loc main_arg0)) (m ((c.tc : Thread nD τ).loc main_arg1)) (m ((c.tc : Thread nD τ).loc main_arg2)))))
      (m ((c.tc : Thread nD τ).loc main_arg3)) (m ((c.tc : Thread nD τ).loc main_arg4)) := rfl

/-- The mask at an index. -/
theorem msk_apply (r : Fin 256) (j : Fin 1024) : msk (ix2 r j) = BitVec.ofBool (decide (Near r.val j.val)) := by
  unfold msk
  pointwise []
  exact near_word r.val j.val (by omega) j.isLt

/-- Every row has an unmasked key: its own. -/
theorem anyM_apply (r : Fin 256) : anyM (ix1 r) = 1#1 := by
  unfold anyM
  pointwise []
  refine (fold_ori _ _).2 ⟨⟨r.val, by omega⟩, Finset.mem_univ _, ?_⟩
  rw [msk_apply, decide_eq_true (by unfold Near; simp only; omega)]
  rfl

/-- The masked score of a row and a key. -/
theorem scr_apply (x : FVec Ideal S2x256x512 .f32) (wq : FVec Ideal S512x1024 .f32) (k : FVec Ideal S2x1024x16x64 .f32)
    (b : Fin 2) (h : Fin 16) (r : Fin 256) (j : Fin 1024) :
    scr x wq k (ix4 b h r j) = if Near r.val j.val then
      (∑ d : Fin 64, (∑ t : Fin 512, x (ix3 b r t) * wq (ix2 t (⟨h.val * 64 + d.val, by omega⟩ : Fin 1024))) * k (ix4 b j h d)) * ((1 / 8 : ℝ) : EReal)
      else ⊥ := by
  unfold scr
  pointwise []
  rw [msk_apply, eighth]
  by_cases hn : Near r.val j.val
  · rw [decide_eq_true hn, if_pos hn]
    rfl
  · rw [decide_eq_false hn, if_neg hn]
    exact minus_inf

/-- A row's maximum at an index. -/
theorem mxr_apply (s : FVec Ideal S2x16x256x1024 .f32) (b : Fin 2) (h : Fin 16) (r : Fin 256) :
    mxr s (ix3 b h r) = Finset.fold max ⊥ (fun x : Fin 1024 => (s (ix4 b h r x) : EReal)) Finset.univ := by
  unfold mxr
  pointwise []
  rw [minus_inf]

/-- An exponential at an index. -/
theorem ew_apply (s : FVec Ideal S2x16x256x1024 .f32) (b : Fin 2) (h : Fin 16) (r : Fin 256) (j : Fin 1024) :
    ew s (ix4 b h r j) = Ideal.exp (s (ix4 b h r j) - Finset.fold max ⊥ (fun x : Fin 1024 => (s (ix4 b h r x) : EReal)) Finset.univ) := by
  unfold ew
  pointwise []
  rw [mxr_apply]

/-- A row's total at an index. -/
theorem den_apply (s : FVec Ideal S2x16x256x1024 .f32) (b : Fin 2) (h : Fin 16) (r : Fin 256) :
    den s (ix4 b h r 0) = ∑ x : Fin 1024, (s (ix4 b h r x) : EReal) := by
  unfold den
  pointwise []
  rw [anyM_apply]
  rfl

/-- A weight at an index. -/
theorem wt_apply (s : FVec Ideal S2x16x256x1024 .f32) (b : Fin 2) (h : Fin 16) (r : Fin 256) (j : Fin 1024) :
    wt s (ix4 b h r j) = Ideal.div (s (ix4 b h r j)) (∑ x : Fin 1024, (s (ix4 b h r x) : EReal)) := by
  unfold wt
  pointwise []
  rw [anyM_apply, den_apply]
  rfl

/-- The result at an index, from the weights, the values and the output weights. -/
theorem outv_apply (w : FVec Ideal S2x16x256x1024 .f32) (v : FVec Ideal S2x1024x16x64 .f32) (wo : FVec Ideal S1024x512 .f32) (b : Fin 2) (r : Fin 256) (n : Fin 512) :
    outv w v wo (ix3 b r n) = ∑ k : Fin 1024, (∑ j : Fin 1024, v (ix4 b j (⟨k.val / 64, by omega⟩ : Fin 16) (⟨k.val % 64, by omega⟩ : Fin 64)) * w (ix4 b (⟨k.val / 64, by omega⟩ : Fin 16) r j)) * wo (ix2 k n) := by
  unfold outv
  pointwise []

end Cert.ReferenceIdeal.Value

end
-- ==== Proof.Spec.lean ====
/- The attention both programs compute, over the whole arrays, and the reference's result as that attention. -/
module

public import proofs.«01_k».proof.Proof.RefVal

@[expose] public section

set_option maxRecDepth 16384

noncomputable section

namespace Cert.Attention

open Idealize.ShloMosaic

/-- Every element a real. -/
def AllReal {ι : Type} (f : ι → EReal) : Prop := ∀ i, ∃ a : ℝ, f i = (a : EReal)

section Attn
variable (X : (⟨3, ![2, 256, 512]⟩ : Shape).Idx → EReal) (WQ : (⟨2, ![512, 1024]⟩ : Shape).Idx → EReal)
  (K V : (⟨4, ![2, 1024, 16, 64]⟩ : Shape).Idx → EReal) (WO : (⟨2, ![1024, 512]⟩ : Shape).Idx → EReal)

/-- The score of a row and a key under a head. -/
def score (b : Fin 2) (g : Fin 16) (r : Fin 256) (j : Fin 1024) : EReal :=
  (∑ d : Fin 64, (∑ t : Fin 512, X (ix3 b r t) * WQ (ix2 t (⟨g.val * 64 + d.val, by omega⟩ : Fin 1024))) * K (ix4 b j g d)) * ((1 / 8 : ℝ) : EReal)
/-- The score, minus infinity where row and key are more than 128 apart. -/
def mscore (b : Fin 2) (g : Fin 16) (r : Fin 256) (j : Fin 1024) : EReal :=
  if Near r.val j.val then score X WQ K b g r j else ⊥
/-- A head's weighted values. -/
def context (b : Fin 2) (g : Fin 16) (r : Fin 256) (d : Fin 64) : EReal :=
  Ideal.div (∑ j : Fin 1024, Ideal.exp (mscore X WQ K b g r j) * V (ix4 b j g d)) (∑ j : Fin 1024, Ideal.exp (mscore X WQ K b g r j))
/-- The heads' values side by side, times the output weights. -/
def attention (b : Fin 2) (r : Fin 256) (n : Fin 512) : EReal :=
  ∑ k : Fin 1024, context X WQ K V b (⟨k.val / 64, by omega⟩ : Fin 16) r (⟨k.val % 64, by omega⟩ : Fin 64) * WO (ix2 k n)

/-- A product of reals contracted twice is a real, and an eighth may be taken of the weights or of the score. -/
theorem score_eighth (x : Fin 512 → EReal) (w : Fin 64 → Fin 512 → EReal) (k : Fin 64 → EReal)
    (hx : AllReal x) (hw : ∀ d, AllReal (w d)) (hk : AllReal k) :
    (∃ a : ℝ, (∑ d, (∑ t, x t * w d t) * k d) * ((1 / 8 : ℝ) : EReal) = (a : EReal))
      ∧ ∑ d, (∑ t, x t * (w d t * ((1 / 8 : ℝ) : EReal))) * k d = (∑ d, (∑ t, x t * w d t) * k d) * ((1 / 8 : ℝ) : EReal) := by
  choose xr hx using hx
  choose wr hw using hw
  choose kr hk using hk
  simp only [hx, hw, hk, ← EReal.coe_mul, ← coe_sum]
  refine ⟨⟨_, rfl⟩, congrArg _ ?_⟩
  rw [Finset.sum_mul]
  refine Finset.sum_congr rfl fun d _ => ?_
  have e : ∑ t, xr t * (wr d t * (1 / 8)) = (∑ t, xr t * wr d t) * (1 / 8) := by
    rw [Finset.sum_mul]
    exact Finset.sum_congr rfl fun t _ => (mul_assoc _ _ _).symm
  rw [e, mul_right_comm]

variable {X WQ K V WO}

/-- Over reals the score is a real. -/
theorem score_real (hX : AllReal X) (hW : AllReal WQ) (hK : AllReal K) (b : Fin 2) (g : Fin 16) (r : Fin 256) (j : Fin 1024) :
    ∃ a : ℝ, score X WQ K b g r j = (a : EReal) :=
  (score_eighth (fun t => X (ix3 b r t)) (fun d t => WQ (ix2 t (⟨g.val * 64 + d.val, by omega⟩ : Fin 1024))) (fun d => K (ix4 b j g d))
    (fun _ => hX _) (fun _ _ => hW _) (fun _ => hK _)).1

/-- Weights with the maximum subtracted weigh the values as the plain exponentials do. -/
theorem softmax_context (hX : AllReal X) (hW : AllReal WQ) (hK : AllReal K) (b : Fin 2) (g : Fin 16) (r : Fin 256) (d : Fin 64) :
    ∑ j : Fin 1024, V (ix4 b j g d) * Ideal.div (Ideal.exp (mscore X WQ K b g r j - Finset.univ.fold max (⊥ : EReal) (mscore X WQ K b g r)))
        (∑ i : Fin 1024, Ideal.exp (mscore X WQ K b g r i - Finset.univ.fold max (⊥ : EReal) (mscore X WQ K b g r)))
      = context X WQ K V b g r d := by
  choose S hS using fun j => score_real hX hW hK b g r j
  have hm : mscore X WQ K b g r = masked (fun j : Fin 1024 => Near r.val j.val) S := by
    funext j
    unfold mscore masked
    rw [hS]
  unfold context
  rw [hm]
  exact softmax (fun j : Fin 1024 => Near r.val j.val) S ⟨r.val, by omega⟩ (by unfold Near; simp only; omega) fun j => V (ix4 b j g d)

end Attn

end Cert.Attention

namespace Cert.ReferenceIdeal.Value

open Cert.ReferenceIdeal Cert.ReferenceIdeal.Gen Idealize.ShloMosaic Cert.Attention

/-- Over real activations, query weights and keys the reference's result is the attention. -/
theorem out_attention (x : FVec Ideal S2x256x512 .f32) (wq : FVec Ideal S512x1024 .f32) (k v : FVec Ideal S2x1024x16x64 .f32) (wo : FVec Ideal S1024x512 .f32)
    (hX : AllReal x) (hW : AllReal wq) (hK : AllReal k) (b : Fin 2) (r : Fin 256) (n : Fin 512) :
    outv (wt (ew (scr x wq k))) v wo (ix3 b r n) = attention x wq k v wo b r n := by
  have hs : ∀ (h : Fin 16) (j : Fin 1024), scr x wq k (ix4 b h r j) = mscore x wq k b h r j := fun h j => scr_apply x wq k b h r j
  rw [outv_apply]
  unfold attention
  refine Finset.sum_congr rfl fun i _ => congrArg (· * _) ?_
  refine Eq.trans (Finset.sum_congr rfl fun j _ => ?_) (softmax_context (V := v) hX hW hK b _ r _)
  rw [wt_apply, ew_apply]
  simp only [ew_apply, hs]

end Cert.ReferenceIdeal.Value

end
-- ==== Proof.Equal.lean ====
/- The kernel's result is the attention: each device's keys cover every unmasked key of its rows, its four heads are four
   of the sixteen, and the devices' parts sum to the product with the output weights. -/
module

public import proofs.«01_k».proof.Proof.Keys
public import proofs.«01_k».proof.Proof.OutVal
public import proofs.«01_k».proof.Proof.Spec

@[expose] public section

set_option maxRecDepth 16384

noncomputable section

namespace Cert.KernelIdeal.Gen

open Idealize.ShloMosaic Idealize.ShloMosaic.TcCoe Cert.Attention
open Idealize.SL.Sem

/-- Column `k` of device `c`'s block, among the 1024. -/
def gk (c : Dev nD) (k : Fin 256) : Fin 1024 := ⟨256 * c.val + k.val, by have := c.isLt; simp only [nD] at this; omega⟩

/-- The kernel's mask over the first 256 keys. -/
theorem bias0_apply (r j : Fin 256) : k0_pay30 (F := Ideal) (ix2 r j) = if Near r.val j.val then (0 : EReal) else ⊥ := by
  pointwise [k0_pay30]
  rw [show IntOp.addi (BitVec.ofNat 32 j.val) 0#32 = BitVec.ofNat 32 j.val from BitVec.add_zero _, near_word r.val j.val (by omega) (by omega)]
  by_cases hn : Near r.val j.val
  · rw [decide_eq_true hn, if_pos hn]; rfl
  · rw [decide_eq_false hn, if_neg hn]; rfl
/-- The kernel's mask over the next 128 keys. -/
theorem bias1_apply (r : Fin 256) (j : Fin 128) : k0_pay58 (F := Ideal) (ix2 r j) = if Near r.val (256 + j.val) then (0 : EReal) else ⊥ := by
  pointwise [k0_pay58]
  rw [show IntOp.addi (BitVec.ofNat 32 j.val) 256#32 = BitVec.ofNat 32 (256 + j.val) from by
    rw [Nat.add_comm]; exact (BitVec.ofNat_add _ _).symm, near_word r.val (256 + j.val) (by omega) (by omega)]
  by_cases hn : Near r.val (256 + j.val)
  · rw [decide_eq_true hn, if_pos hn]; rfl
  · rw [decide_eq_false hn, if_neg hn]; rfl

section Equal
variable (m : (ℓ : Loc nD τ sig) → Buf (Elt Ideal) ℓ)
variable (X : (⟨3, ![2, 256, 512]⟩ : Shape).Idx → EReal) (WQ : (⟨2, ![512, 1024]⟩ : Shape).Idx → EReal)
  (K V : (⟨4, ![2, 1024, 16, 64]⟩ : Shape).Idx → EReal) (WO : (⟨2, ![1024, 512]⟩ : Shape).Idx → EReal)

/-- The devices' arguments are their parts of the whole arrays: of the keys and values only the first two devices' are
    read. -/
structure Parts : Prop where
  x : ∀ c, argX m c = X
  wq : ∀ c t k, argWq m c (ix2 t k) = WQ (ix2 t (gk c k))
  k0 : ∀ b j g d, argK m 0 (ix4 b j g d) = K (ix4 b (⟨j.val, by omega⟩ : Fin 1024) g d)
  k1 : ∀ b j g d, argK m 1 (ix4 b j g d) = K (ix4 b (⟨256 + j.val, by omega⟩ : Fin 1024) g d)
  v0 : ∀ b j g d, argV m 0 (ix4 b j g d) = V (ix4 b (⟨j.val, by omega⟩ : Fin 1024) g d)
  v1 : ∀ b j g d, argV m 1 (ix4 b j g d) = V (ix4 b (⟨256 + j.val, by omega⟩ : Fin 1024) g d)
  wo : ∀ c k n, argWo m c (ix2 k n) = WO (ix2 (gk c k) n)

variable {m X WQ K V WO} (A : Parts m X WQ K V WO) (hX : AllReal X) (hW : AllReal WQ) (hK : AllReal K)
include A hX hW hK

/-- A scaled query times a key is the score. -/
theorem query_key (c : Dev nD) (b : Fin 2) (h : Fin 4) (r : Fin 256) (j : Fin 1024) (k : Fin 64 → EReal)
    (hk : ∀ d, k d = K (ix4 b j (gh c h) d)) :
    ∑ d : Fin 64, qv m c b r (hd h d) * k d = score X WQ K b (gh c h) r j := by
  refine Eq.trans ?_ (score_eighth (fun t => X (ix3 b r t)) (fun d t => WQ (ix2 t (⟨(gh c h).val * 64 + d.val, by omega⟩ : Fin 1024)))
    (fun d => K (ix4 b j (gh c h) d)) (fun _ => hX _) (fun _ _ => hW _) (fun _ => hK _)).2
  refine Finset.sum_congr rfl fun d _ => ?_
  rw [hk d]
  refine congrArg (· * _) ?_
  unfold qv
  refine Finset.sum_congr rfl fun t _ => ?_
  rw [xv_eq, A.x, wqv_eq, A.wq, eighth]
  refine congrArg (fun i => X (ix3 b r t) * (WQ (ix2 t i) * _)) (Fin.ext ?_)
  simp only [gk, hd, gh]
  omega

/-- The exponentials over the first 256 keys. -/
theorem e0_eq (c : Dev nD) (b : Fin 2) (h : Fin 4) (r j : Fin 256) :
    e0 m c b h r j = Ideal.exp (mscore X WQ K b (gh c h) r (⟨j.val, by omega⟩ : Fin 1024)) := by
  unfold e0
  rw [query_key A hX hW hK c b h r (⟨j.val, by omega⟩ : Fin 1024) _ (fun d => (K0v_apply m c b j h d).trans (A.k0 b j (gh c h) d)), bias0_apply]
  unfold mscore
  by_cases hn : Near r.val j.val
  · rw [if_pos hn, if_pos hn, add_zero]
  · rw [if_neg hn, if_neg hn, EReal.add_bot]
/-- The exponentials over the next 128 keys. -/
theorem e1_eq (c : Dev nD) (b : Fin 2) (h : Fin 4) (r : Fin 256) (j : Fin 128) :
    e1 m c b h r j = Ideal.exp (mscore X WQ K b (gh c h) r (⟨256 + j.val, by omega⟩ : Fin 1024)) := by
  unfold e1
  rw [query_key A hX hW hK c b h r (⟨256 + j.val, by omega⟩ : Fin 1024) _ (fun d => (K1v_apply m c b j h d).trans (A.k1 b (⟨j.val, by omega⟩ : Fin 256) (gh c h) d)), bias1_apply]
  unfold mscore
  by_cases hn : Near r.val (256 + j.val)
  · rw [if_pos hn, if_pos hn, add_zero]
  · rw [if_neg hn, if_neg hn, EReal.add_bot]

omit A hX hW hK in
/-- No row reaches a key past the 384th. -/
theorem far_key (b : Fin 2) (g : Fin 16) (r : Fin 256) (j : Fin 1024) (hj : 384 ≤ j.val) :
    Ideal.exp (mscore X WQ K b g r j) = 0 := by
  unfold mscore
  rw [if_neg (by unfold Near; omega)]
  exact Ideal.exp_bot

/-- The row's total weight is the sum over every key. -/
theorem tot_eq (c : Dev nD) (b : Fin 2) (h : Fin 4) (r : Fin 256) :
    tot m c b h r = ∑ j : Fin 1024, Ideal.exp (mscore X WQ K b (gh c h) r j) := by
  unfold tot
  rw [sum_keys _ (fun j hj => far_key b (gh c h) r j hj)]
  simp only [e0_eq A hX hW hK, e1_eq A hX hW hK]
/-- So are the weighted values. -/
theorem pv_eq (c : Dev nD) (b : Fin 2) (h : Fin 4) (r : Fin 256) (d : Fin 64) :
    pv m c b h r d = ∑ j : Fin 1024, Ideal.exp (mscore X WQ K b (gh c h) r j) * V (ix4 b j (gh c h) d) := by
  unfold pv
  rw [sum_keys _ (fun j hj => by rw [far_key b (gh c h) r j hj, zero_mul])]
  simp only [e0_eq A hX hW hK, e1_eq A hX hW hK, V0v_apply, V1v_apply, A.v0, A.v1]
/-- A device's head is one of the sixteen. -/
theorem cx_eq (c : Dev nD) (b : Fin 2) (h : Fin 4) (r : Fin 256) (d : Fin 64) :
    cx m c b r (hd h d) = context X WQ K V b (gh c h) r d := by
  rw [cx_hd, tot_eq A hX hW hK, pv_eq A hX hW hK]
  rfl

/-- The devices' parts sum to the attention. -/
theorem full_eq (b : Fin 2) (r : Fin 256) (n : Fin 512) : full m b r n = attention X WQ K V WO b r n := by
  unfold full attention
  rw [sum_devices]
  refine Finset.sum_congr rfl fun q _ => ?_
  unfold part
  refine Finset.sum_congr rfl fun k _ => ?_
  obtain ⟨h, d, rfl⟩ := exists_hd k
  rw [cx_eq A hX hW hK, wov_eq, A.wo]
  have hg : ∀ p, (⟨(256 * q.val + (hd h d).val) / 64, p⟩ : Fin 16) = gh q h := fun p => Fin.ext (by simp only [gh, hd]; omega)
  have hm : ∀ p, (⟨(256 * q.val + (hd h d).val) % 64, p⟩ : Fin 64) = d := fun p => Fin.ext (by simp only [hd]; omega)
  simp only [hg, hm]
  rfl

end Equal

end Cert.KernelIdeal.Gen

end
-- ==== Proof.Whole.lean ====
/- From the claim's hypotheses to the kernel's: what the precondition says of the arguments, and the devices' arguments
   as their parts of the whole arrays. -/
module

public import proofs.«01_k».proof.Pre_finite_scores_KernelIdeal
public import proofs.«01_k».proof.Proof.Equal
public import Idealize.ShloMosaic.Lib.ReduceAll
public import Idealize.ShloMosaic.Lib.LayoutAt

@[expose] public section

set_option maxRecDepth 16384

noncomputable section

namespace Cert.Attention

open Idealize.ShloMosaic

/-- A value whose absolute value is below plus infinity is a real. -/
theorem real_of_abs (a : EReal) (h : Ideal.cmp .olt (max a (-a)) (Ideal.ofBits .f32 0x7F800000#32) = 1#1) : ∃ r : ℝ, a = (r : EReal) := by
  rw [plus_inf] at h
  have h' : max a (-a) < ⊤ := by
    by_contra hn
    have : Ideal.cmp .olt (max a (-a)) ⊤ = 0#1 := by
      show BitVec.ofBool (decide (max a (-a) < ⊤)) = 0#1
      rw [decide_eq_false hn]
      rfl
    rw [this] at h
    exact absurd h (by decide)
  have h1 : a ≠ ⊤ := fun e => by rw [e] at h'; simp at h'
  have h2 : a ≠ ⊥ := fun e => by rw [e] at h'; simp at h'
  exact ⟨a.toReal, (EReal.coe_toReal h1 h2).symm⟩

/-- A reduction by «and» of such comparisons over a whole array: every element is a real. -/
theorem allReal_of_reduce {s : Shape} {axes : List (Fin s.rank)} {u : Shape} (x y : FVec Ideal s .f32) (init : IVec u 1)
    (hy : ∀ i, y i = Ideal.ofBits .f32 0x7F800000#32) (h : s.ReducesTo axes ⟨0, ![]⟩) (hu : 0 < u.numel) (j : (⟨0, ![]⟩ : Shape).Idx)
    (e : Host.reduce IntOp.andi (cmpf .olt (Host.absf x) y) init h hu j = 1#1) : AllReal (x : s.Idx → EReal) := fun i => by
  haveI : Subsingleton (⟨0, ![]⟩ : Shape).Idx := ⟨fun a b => funext fun k => k.elim0⟩
  have e' := Host.reduce_andi_all (cmpf .olt (Host.absf x) y) init h hu j e i
  refine real_of_abs (x i) ?_
  rw [← hy i]
  exact e'

/-- The precondition: the activations, the query weights and the keys are real. -/
theorem finite_of [Cert.Pre_finite_scores_KernelIdeal.Facts] (x0 : FVec Ideal ⟨3, ![2, 256, 512]⟩ .f32) (x1 : FVec Ideal ⟨2, ![512, 256]⟩ .f32)
    (x2 x3 : FVec Ideal ⟨4, ![2, 256, 16, 64]⟩ .f32) (x4 : FVec Ideal ⟨2, ![256, 512]⟩ .f32)
    (h : Cert.Pre_finite_scores_KernelIdeal.fn (F := Ideal) x0 x1 x2 x3 x4 = fun _ => 1#1) :
    AllReal (x0 : _ → EReal) ∧ AllReal (x1 : _ → EReal) ∧ AllReal (x2 : _ → EReal) := by
  have h0 := congrFun h ix0
  unfold Cert.Pre_finite_scores_KernelIdeal.fn at h0
  obtain ⟨ha, hk⟩ := IntOp.andi_eq_one.1 h0
  obtain ⟨hx, hw⟩ := IntOp.andi_eq_one.1 ha
  exact ⟨allReal_of_reduce _ _ _ (fun _ => rfl) _ _ _ hx, allReal_of_reduce _ _ _ (fun _ => rfl) _ _ _ hw, allReal_of_reduce _ _ _ (fun _ => rfl) _ _ _ hk⟩

end Cert.Attention

namespace Cert.KernelIdeal.Gen

open Idealize.ShloMosaic Idealize.ShloMosaic.TcCoe Cert.Attention
open Idealize.SL.Sem

variable {m : (ℓ : Loc nD τ sig) → Buf (Elt Ideal) ℓ}
variable {X : (⟨3, ![2, 256, 512]⟩ : Shape).Idx → EReal} {WQ : (⟨2, ![512, 1024]⟩ : Shape).Idx → EReal}
  {K V : (⟨4, ![2, 1024, 16, 64]⟩ : Shape).Idx → EReal} {WO : (⟨2, ![1024, 512]⟩ : Shape).Idx → EReal}

/-- Columns of a matrix cut in four along its columns. -/
theorem cols_apply (c : Dev nD) (f : (⟨2, ![512, 1024]⟩ : Shape).Idx → EReal) (t : Fin 512) (k : Fin 256) :
    Layout.block ⟨2, ![512, 256]⟩ ⟨2, ![512, 1024]⟩ 1 4 c f (by decide) (ix2 t k) = f (ix2 t (gk c k)) := by
  refine congrArg f (Layout.idx_ext fun a => ?_)
  fin_cases a
  · exact Layout.Tiles.idx_val_of_ne _ _ _ _ (by decide)
  · exact (Layout.Tiles.idx_val_self _ _ _ _ (by decide)).trans (congrArg (· + k.val) (Nat.mul_comm _ _))
/-- Rows of a matrix cut in four along its rows. -/
theorem rows_apply (c : Dev nD) (f : (⟨2, ![1024, 512]⟩ : Shape).Idx → EReal) (k : Fin 256) (n : Fin 512) :
    Layout.block ⟨2, ![256, 512]⟩ ⟨2, ![1024, 512]⟩ 0 4 c f (by decide) (ix2 k n) = f (ix2 (gk c k) n) := by
  refine congrArg f (Layout.idx_ext fun a => ?_)
  fin_cases a
  · exact (Layout.Tiles.idx_val_self _ _ _ _ (by decide)).trans (congrArg (· + k.val) (Nat.mul_comm _ _))
  · exact Layout.Tiles.idx_val_of_ne _ _ _ _ (by decide)
/-- Keys (or values) cut in four along the key axis. -/
theorem keys_apply (c : Dev nD) (f : (⟨4, ![2, 1024, 16, 64]⟩ : Shape).Idx → EReal) (b : Fin 2) (j : Fin 256) (g : Fin 16) (d : Fin 64) :
    Layout.block ⟨4, ![2, 256, 16, 64]⟩ ⟨4, ![2, 1024, 16, 64]⟩ 1 4 c f (by decide) (ix4 b j g d) = f (ix4 b (gk c j) g d) := by
  refine congrArg f (Layout.idx_ext fun a => ?_)
  fin_cases a
  · exact Layout.Tiles.idx_val_of_ne _ _ _ _ (by decide)
  · exact (Layout.Tiles.idx_val_self _ _ _ _ (by decide)).trans (congrArg (· + j.val) (Nat.mul_comm _ _))
  · exact Layout.Tiles.idx_val_of_ne _ _ _ _ (by decide)
  · exact Layout.Tiles.idx_val_of_ne _ _ _ _ (by decide)

/-- The claim's agreement of the memories, array by array. -/
structure Agree (m : (ℓ : Loc nD τ sig) → Buf (Elt Ideal) ℓ) (X : (⟨3, ![2, 256, 512]⟩ : Shape).Idx → EReal) (WQ : (⟨2, ![512, 1024]⟩ : Shape).Idx → EReal)
    (K V : (⟨4, ![2, 1024, 16, 64]⟩ : Shape).Idx → EReal) (WO : (⟨2, ![1024, 512]⟩ : Shape).Idx → EReal) : Prop where
  x : ∀ c, argX m c = X
  wq : ∀ c : Dev nD, argWq m c = Layout.block ⟨2, ![512, 256]⟩ ⟨2, ![512, 1024]⟩ 1 4 c WQ (by decide)
  k : ∀ c : Dev nD, argK m c = Layout.block ⟨4, ![2, 256, 16, 64]⟩ ⟨4, ![2, 1024, 16, 64]⟩ 1 4 c K (by decide)
  v : ∀ c : Dev nD, argV m c = Layout.block ⟨4, ![2, 256, 16, 64]⟩ ⟨4, ![2, 1024, 16, 64]⟩ 1 4 c V (by decide)
  wo : ∀ c : Dev nD, argWo m c = Layout.block ⟨2, ![256, 512]⟩ ⟨2, ![1024, 512]⟩ 0 4 c WO (by decide)

theorem gk_zero (j : Fin 256) : gk 0 j = ⟨j.val, by omega⟩ := Fin.ext (by simp [gk])
theorem gk_one (j : Fin 256) : gk 1 j = ⟨256 + j.val, by omega⟩ := Fin.ext (by simp [gk, nD])
/-- Every column is some device's. -/
theorem exists_gk (k : Fin 1024) : ∃ (c : Dev nD) (j : Fin 256), k = gk c j :=
  ⟨⟨k.val / 256, by have := k.isLt; simp only [nD]; omega⟩, ⟨k.val % 256, by omega⟩, Fin.ext (by simp only [gk]; omega)⟩

variable (G : Agree m X WQ K V WO)
include G

theorem Agree.parts : Parts m X WQ K V WO where
  x := G.x
  wq c t k := (congrFun (G.wq c) _).trans (cols_apply c WQ t k)
  k0 b j g d := ((congrFun (G.k 0) _).trans (keys_apply 0 K b j g d)).trans (by rw [gk_zero])
  k1 b j g d := ((congrFun (G.k 1) _).trans (keys_apply 1 K b j g d)).trans (by rw [gk_one])
  v0 b j g d := ((congrFun (G.v 0) _).trans (keys_apply 0 V b j g d)).trans (by rw [gk_zero])
  v1 b j g d := ((congrFun (G.v 1) _).trans (keys_apply 1 V b j g d)).trans (by rw [gk_one])
  wo c k n := (congrFun (G.wo c) _).trans (rows_apply c WO k n)

/-- The whole activations are real when a device's are, -/
theorem Agree.realX (h : AllReal (argX m 0)) : AllReal X := by rw [← G.x 0]; exact h
/-- the whole query weights when every device's are, -/
theorem Agree.realWQ (h : ∀ c, AllReal (argWq m c)) : AllReal WQ := fun i => by
  obtain ⟨c, k, hk⟩ := exists_gk (i 1)
  obtain ⟨a, ha⟩ := h c (ix2 (i 0) k)
  refine ⟨a, Eq.trans ?_ (((congrFun (G.wq c) _).trans (cols_apply c WQ (i 0) k)).symm.trans ha)⟩
  rw [← hk]
  exact congrArg WQ (eq_ix2 i)
/-- and the whole keys. -/
theorem Agree.realK (h : ∀ c, AllReal (argK m c)) : AllReal K := fun i => by
  obtain ⟨c, j, hj⟩ := exists_gk (i 1)
  obtain ⟨a, ha⟩ := h c (ix4 (i 0) j (i 2) (i 3))
  refine ⟨a, Eq.trans ?_ (((congrFun (G.k c) _).trans (keys_apply c K (i 0) j (i 2) (i 3))).symm.trans ha)⟩
  rw [← hj]
  exact congrArg K (eq_ix4 i)

end Cert.KernelIdeal.Gen

end
-- ==== Proof.lean ====
/- The certificate: the claims of Defs.lean, each from the module that proves it.
   * The kernel's two frames are one run (Proof/Run.lean `run_frame`), stated over any float values; Proof/FrameK.lean
     reads it at words of bits.
   * The reference's frame is its generated run.
   * The algebraic claim joins the kernel's run read at its result (Proof/Final.lean), the kernel's result as the
     attention (Proof/Equal.lean, Proof/Whole.lean) and the reference's (Proof/Spec.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.FrameK
public import proofs.«01_k».proof.Proof.Final
public import proofs.«01_k».proof.Proof.Whole
public import Idealize.ShloMosaic.Adequacy
public import Idealize.ShloMosaic.Init

@[expose] public section

noncomputable section

namespace Cert.Proof

open Idealize.ShloMosaic Idealize.SL.Sem

/-- The idealized kernel terminates with its arguments unchanged and every counter at zero. -/
theorem frame_ideal : Cert.quiescent_KernelIdeal (hKernelIdeal := Cert.KernelIdeal.Gen.facts) :=
  fun m ρ _ => Cert.KernelIdeal.Gen.run_frame (F := Ideal) m ρ

/-- So does the reference, which has no counters. -/
theorem frame_reference : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩)
    (Cert.ReferenceIdeal.Value.run (F := Ideal) m ρ)

/-- The idealized kernel is the kernel with its mask's constant read as −∞. -/
theorem preserves : Cert.preserves_Kernel_KernelIdeal :=
  IdealRules.named_const.statement Cert.KernelIdeal.κ "mask" .f32 0xCE6E6B28#32 ⊥ rfl

/-- The precondition's side conditions, over the kernel's arguments, -/
theorem pre_kernel : Cert.Pre_finite_scores_KernelIdeal.Facts where
  bcast_S_S2x256x512 := by decide
  reducesTo_S2x256x512_S_d0_1_2 := by decide
  h_S_ := by decide
  bcast_S_S512x256 := by decide
  reducesTo_S512x256_S_d0_1 := by decide
  bcast_S_S2x256x16x64 := by decide
  reducesTo_S2x256x16x64_S_d0_1_2_3 := by decide

/-- and over the reference's. -/
theorem pre_reference : Cert.Pre_finite_scores_ReferenceIdeal.Facts where
  bcast_S_S2x256x512 := by decide
  reducesTo_S2x256x512_S_d0_1_2 := by decide
  h_S_ := by decide
  bcast_S_S512x1024 := by decide
  reducesTo_S512x1024_S_d0_1 := by decide
  bcast_S_S2x1024x16x64 := by decide
  reducesTo_S2x1024x16x64_S_d0_1_2_3 := by decide

/-- The idealized kernel's frame under the precondition, -/
theorem frame_ideal_pre : Cert.quiescent_KernelIdeal_pre_finite_scores_KernelIdeal (hKernelIdeal := Cert.KernelIdeal.Gen.facts)
    (hPre_finite_scores_KernelIdeal := pre_kernel) :=
  fun m ρ _ => Cert.KernelIdeal.Gen.run_frame (F := Ideal) m ρ

/-- and the reference's. -/
theorem frame_reference_pre : Cert.quiescent_ReferenceIdeal_pre_finite_scores_ReferenceIdeal (hReferenceIdeal := Cert.ReferenceIdeal.Gen.facts)
    (hPre_finite_scores_ReferenceIdeal := pre_reference) :=
  fun m ρ _ => frame_reference m ρ trivial

/-- From memories whose arguments agree and are finite as the precondition says, every device of the kernel ends
    holding the reference's result. -/
theorem algebraic : Cert.algebraic_KernelIdeal_ReferenceIdeal_pre_finite_scores_KernelIdeal (hKernelIdeal := Cert.KernelIdeal.Gen.facts)
    (hReferenceIdeal := Cert.ReferenceIdeal.Gen.facts) (hPre_finite_scores_KernelIdeal := pre_kernel) := by
  intro m ρ m' ρ' hp ha
  have G : Cert.KernelIdeal.Gen.Agree m
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    ⟨fun c => (ha c).1, fun c => (ha c).2.1, fun c => (ha c).2.2.1, fun c => (ha c).2.2.2.1, fun c => (ha c).2.2.2.2⟩
  have hf := fun c => @Cert.Attention.finite_of pre_kernel _ _ _ _ _ (hp c)
  have hX := G.realX (hf 0).1
  have hW := G.realWQ fun c => (hf c).2.1
  have hK := G.realK fun c => (hf c).2.2
  have he : ∀ c, Cert.KernelIdeal.Gen.O9 m c = Cert.ReferenceIdeal.Value.res_main_v34 m' 0 := fun c => by
    rw [Cert.ReferenceIdeal.Value.res_stages]
    funext i
    rw [eq_ix3 i]
    exact ((Cert.KernelIdeal.Gen.O9_apply m c _ _ _).trans (Cert.KernelIdeal.Gen.full_eq G.parts hX hW hK _ _ _)).trans
      (Cert.ReferenceIdeal.Value.out_attention _ _ _ _ _ hX hW hK _ _ _).symm
  refine ⟨Cert.ReferenceIdeal.Value.res_main_v34 m' 0, ?_, ?_⟩
  · exact (θ_run Cert.KernelIdeal.defs _ _).mono (fun r h c => ⟨(h c).1.trans (he c), (h c).2⟩) (Cert.KernelIdeal.Gen.run_value m ρ)
  · exact (θ_run Cert.ReferenceIdeal.defs _ _).mono (fun r h => h 0) (Cert.ReferenceIdeal.Value.run (F := Ideal) m' ρ')

/-- Every claim of the certificate. -/
theorem claim : Cert.Claim := ⟨Cert.Kernel.Gen.facts, Cert.KernelIdeal.Gen.facts, Cert.ReferenceIdeal.Gen.facts, pre_kernel, pre_reference,
  Cert.KernelIdeal.Gen.frame_kernel, frame_ideal, frame_ideal_pre, frame_reference, frame_reference_pre, preserves, algebraic⟩

end Cert.Proof

end
